-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_of_ones [hPre_mask_of_ones : Cert.Pre_mask_of_ones.Facts] (m : (ℓ : Loc Cert.KernelIdeal.nD Cert.KernelIdeal.τ Cert.KernelIdeal.sig) → Buf (Elt Ideal) ℓ) : Prop :=
  ∀ c : Dev Cert.KernelIdeal.nD,
    (Cert.Pre_mask_of_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_of_ones [hPre_mask_of_ones : Cert.Pre_mask_of_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_of_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_scores_above [hPre_scores_above : Cert.Pre_scores_above.Facts] (m : (ℓ : Loc Cert.TopKIdeal.nD Cert.TopKIdeal.τ Cert.TopKIdeal.sig) → Buf (Elt Ideal) ℓ) : Prop :=
  ∀ c : Dev Cert.TopKIdeal.nD,
    (Cert.Pre_scores_above.fn (F := Ideal) (m ((c.tc : Thread Cert.TopKIdeal.nD Cert.TopKIdeal.τ).loc Cert.TopKIdeal.main_arg0))) = (fun _ => 1#1)

def Pre_TopKReferenceIdeal (m : (ℓ : Loc Cert.TopKReferenceIdeal.nD Cert.TopKReferenceIdeal.τ Cert.TopKReferenceIdeal.sig) → Buf (Elt Ideal) ℓ) : Prop :=
  True

def Pre_TopKReferenceIdeal_scores_above [hPre_scores_above : Cert.Pre_scores_above.Facts] (m : (ℓ : Loc Cert.TopKReferenceIdeal.nD Cert.TopKReferenceIdeal.τ Cert.TopKReferenceIdeal.sig) → Buf (Elt Ideal) ℓ) : Prop :=
  ∀ c : Dev Cert.TopKReferenceIdeal.nD,
    (Cert.Pre_scores_above.fn (F := Ideal) (m ((c.tc : Thread Cert.TopKReferenceIdeal.nD Cert.TopKReferenceIdeal.τ).loc Cert.TopKReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mask_of_ones [hKernelIdeal : Cert.KernelIdeal.Facts] [hPre_mask_of_ones : Cert.Pre_mask_of_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_of_ones m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mask_of_ones [hReferenceIdeal : Cert.ReferenceIdeal.Facts] [hPre_mask_of_ones : Cert.Pre_mask_of_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_of_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (Cert.TopK.threads (F := Bits)) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (Cert.TopKIdeal.threads (F := Ideal)) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKIdeal_pre_scores_above [hTopKIdeal : Cert.TopKIdeal.Facts] [hPre_scores_above : Cert.Pre_scores_above.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_scores_above m →
    θ_run (Cert.TopKIdeal.defs (F := Ideal)) (Cert.TopKIdeal.threads (F := Ideal)) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKReferenceIdeal [hTopKReferenceIdeal : Cert.TopKReferenceIdeal.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def quiescent_TopKReferenceIdeal_pre_scores_above [hTopKReferenceIdeal : Cert.TopKReferenceIdeal.Facts] [hPre_scores_above : Cert.Pre_scores_above.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal_scores_above m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def preserves_Kernel_KernelIdeal : Prop :=
  True

def algebraic_KernelIdeal_ReferenceIdeal_pre_mask_of_ones [hKernelIdeal : Cert.KernelIdeal.Facts] [hReferenceIdeal : Cert.ReferenceIdeal.Facts] [hPre_mask_of_ones : Cert.Pre_mask_of_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_of_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_TopK_TopKIdeal : Prop :=
  True

def algebraic_TopKIdeal_TopKReferenceIdeal_pre_scores_above [hTopKIdeal : Cert.TopKIdeal.Facts] [hTopKReferenceIdeal : Cert.TopKReferenceIdeal.Facts] [hPre_scores_above : Cert.Pre_scores_above.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKReferenceIdeal.nD Cert.TopKReferenceIdeal.τ Cert.TopKReferenceIdeal.sig) → Buf (Elt Ideal) ℓ) (g' : Dev Cert.TopKReferenceIdeal.nD → PrngReg), Pre_TopKIdeal_scores_above m →
    (∀ c : Dev Cert.TopKIdeal.nD,
      m' ((c.tc : Thread Cert.TopKReferenceIdeal.nD Cert.TopKReferenceIdeal.τ).loc Cert.TopKReferenceIdeal.main_arg0) = m ((c.tc : Thread Cert.TopKIdeal.nD Cert.TopKIdeal.τ).loc Cert.TopKIdeal.main_arg0)) →
    ∃ (v0 : (c : Dev Cert.TopKIdeal.nD) → Buf (Elt Ideal) ((c.tc : Thread Cert.TopKIdeal.nD Cert.TopKIdeal.τ).loc Cert.TopKIdeal.main_v3)) (v1 : (c : Dev Cert.TopKIdeal.nD) → Buf (Elt Ideal) ((c.tc : Thread Cert.TopKIdeal.nD Cert.TopKIdeal.τ).loc Cert.TopKIdeal.main_v6)) (v2 : (c : Dev Cert.TopKIdeal.nD) → Buf (Elt Ideal) ((c.tc : Thread Cert.TopKIdeal.nD Cert.TopKIdeal.τ).loc Cert.TopKIdeal.main_v9)),
      θ_run (Cert.TopKIdeal.defs (F := Ideal)) (Cert.TopKIdeal.threads (F := Ideal)) ⟨m, fun _ => 0, g⟩ (fun r => ∀ c : Dev Cert.TopKIdeal.nD,
          r.2.mem ((c.tc : Thread Cert.TopKIdeal.nD Cert.TopKIdeal.τ).loc Cert.TopKIdeal.main_v3) = v0 c
          ∧ r.2.mem ((c.tc : Thread Cert.TopKIdeal.nD Cert.TopKIdeal.τ).loc Cert.TopKIdeal.main_v6) = v1 c
          ∧ r.2.mem ((c.tc : Thread Cert.TopKIdeal.nD Cert.TopKIdeal.τ).loc Cert.TopKIdeal.main_v9) = v2 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ θ_run (Cert.TopKReferenceIdeal.defs (F := Ideal)) (onTc (τ := Cert.TopKReferenceIdeal.τ) (Cert.TopKReferenceIdeal.main (F := Ideal))) ⟨m', fun _ => 0, g'⟩ (fun r => ∀ c : Dev Cert.TopKReferenceIdeal.nD,
          r.2.mem ((c.tc : Thread Cert.TopKReferenceIdeal.nD Cert.TopKReferenceIdeal.τ).loc Cert.TopKReferenceIdeal.main_v10) = v0 c
          ∧ r.2.mem ((c.tc : Thread Cert.TopKReferenceIdeal.nD Cert.TopKReferenceIdeal.τ).loc Cert.TopKReferenceIdeal.main_v11) = v1 c
          ∧ r.2.mem ((c.tc : Thread Cert.TopKReferenceIdeal.nD Cert.TopKReferenceIdeal.τ).loc Cert.TopKReferenceIdeal.main_indices) = v2 c
          ∧ r.2.mem ((c.tc : Thread Cert.TopKReferenceIdeal.nD Cert.TopKReferenceIdeal.τ).loc Cert.TopKReferenceIdeal.main_arg0) = m' ((c.tc : Thread Cert.TopKReferenceIdeal.nD Cert.TopKReferenceIdeal.τ).loc Cert.TopKReferenceIdeal.main_arg0))

def Claim : Prop :=
  ∃ (hKernel : Cert.Kernel.Facts) (hKernelIdeal : Cert.KernelIdeal.Facts) (hReferenceIdeal : Cert.ReferenceIdeal.Facts) (hTopK : Cert.TopK.Facts) (hTopKIdeal : Cert.TopKIdeal.Facts) (hTopKReferenceIdeal : Cert.TopKReferenceIdeal.Facts) (hPre_mask_of_ones : Cert.Pre_mask_of_ones.Facts) (hPre_scores_above : Cert.Pre_scores_above.Facts),
    quiescent_Kernel (hKernel := hKernel)
    ∧ quiescent_KernelIdeal (hKernelIdeal := hKernelIdeal)
    ∧ quiescent_KernelIdeal_pre_mask_of_ones (hKernelIdeal := hKernelIdeal) (hPre_mask_of_ones := hPre_mask_of_ones)
    ∧ quiescent_ReferenceIdeal (hReferenceIdeal := hReferenceIdeal)
    ∧ quiescent_ReferenceIdeal_pre_mask_of_ones (hReferenceIdeal := hReferenceIdeal) (hPre_mask_of_ones := hPre_mask_of_ones)
    ∧ quiescent_TopK (hTopK := hTopK)
    ∧ quiescent_TopKIdeal (hTopKIdeal := hTopKIdeal)
    ∧ quiescent_TopKIdeal_pre_scores_above (hTopKIdeal := hTopKIdeal) (hPre_scores_above := hPre_scores_above)
    ∧ quiescent_TopKReferenceIdeal (hTopKReferenceIdeal := hTopKReferenceIdeal)
    ∧ quiescent_TopKReferenceIdeal_pre_scores_above (hTopKReferenceIdeal := hTopKReferenceIdeal) (hPre_scores_above := hPre_scores_above)
    ∧ preserves_Kernel_KernelIdeal
    ∧ algebraic_KernelIdeal_ReferenceIdeal_pre_mask_of_ones (hKernelIdeal := hKernelIdeal) (hReferenceIdeal := hReferenceIdeal) (hPre_mask_of_ones := hPre_mask_of_ones)
    ∧ preserves_TopK_TopKIdeal
    ∧ algebraic_TopKIdeal_TopKReferenceIdeal_pre_scores_above (hTopKIdeal := hTopKIdeal) (hTopKReferenceIdeal := hTopKReferenceIdeal) (hPre_scores_above := hPre_scores_above)
-- ==== Pre_mask_of_ones.lean ====
abbrev S128x50x32x128 : Shape := ⟨4, ![128, 50, 32, 128]⟩
abbrev S128x1x128 : Shape := ⟨3, ![128, 1, 128]⟩
abbrev S128x50x32 : Shape := ⟨3, ![128, 50, 32]⟩
abbrev S_ : Shape := ⟨0, ![]⟩

class Facts : Prop where
  bcast_S_S128x50x32 : S_.BroadcastsInDim S128x50x32 (![] : Fin 0 → Fin S128x50x32.rank)

variable [Facts]

def fn {F : FTy → Type} [FloatOps F] (main_arg0 : FVec F S128x50x32x128 .f32) (main_arg1 : FVec F S128x50x32x128 .f32) (main_arg2 : FVec F S128x1x128 .f32) (main_arg3 : FVec F S128x50x32 .f32) : IVec S128x50x32 1 :=
  let main_cst : FVec F S_ .f32 := constant S_ .f32 0x3F800000#32
  let main_v0 : FVec F S128x50x32 .f32 := broadcastInDim S128x50x32 ![] bcast_S_S128x50x32 main_cst
  let main_v1 : IVec S128x50x32 1 := cmpf .oeq main_arg3 main_v0
  main_v1
-- ==== Pre_scores_above.lean ====
abbrev S32x32x208 : Shape := ⟨3, ![32, 32, 208]⟩
abbrev S32x31x200 : Shape := ⟨3, ![32, 31, 200]⟩
abbrev S_ : Shape := ⟨0, ![]⟩

class Facts : Prop where
  slices_S32x32x208_S32x31x200_0_1_0 : S32x32x208.Slices ![0, 1, 0] S32x31x200
  bcast_S_S32x31x200 : S_.BroadcastsInDim S32x31x200 (![] : Fin 0 → Fin S32x31x200.rank)

variable [Facts]

def fn {F : FTy → Type} [FloatOps F] (main_arg0 : FVec F S32x32x208 .f32) : IVec S32x31x200 1 :=
  let main_v0 : FVec F S32x31x200 .f32 := (extractStridedSlice S32x31x200 ![0, 1, 0] · slices_S32x32x208_S32x31x200_0_1_0) main_arg0
  let main_cst : FVec F S_ .f32 := constant S_ .f32 0xFF800000#32
  let main_v1 : FVec F S32x31x200 .f32 := broadcastInDim S32x31x200 ![] bcast_S_S32x31x200 main_cst
  let main_v2 : IVec S32x31x200 1 := cmpf .ogt main_v0 main_v1
  main_v2
-- ==== Kernel.lean ====
abbrev S128x50x32x128 : Shape := ⟨4, ![128, 50, 32, 128]⟩
abbrev S128x1x128 : Shape := ⟨3, ![128, 1, 128]⟩
abbrev S128x50x32 : Shape := ⟨3, ![128, 50, 32]⟩
abbrev S32x32x208 : Shape := ⟨3, ![32, 32, 208]⟩
abbrev S4x50x32x128 : Shape := ⟨4, ![4, 50, 32, 128]⟩
abbrev S4x1x128 : Shape := ⟨3, ![4, 1, 128]⟩
abbrev S1x32x208 : Shape := ⟨3, ![1, 32, 208]⟩
abbrev S1x1x128 : Shape := ⟨3, ![1, 1, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x50x32x128 : Shape := ⟨4, ![1, 50, 32, 128]⟩
abbrev S50x32x128 : Shape := ⟨3, ![50, 32, 128]⟩
abbrev S50x32 : Shape := ⟨2, ![50, 32]⟩
abbrev S50x32x1 : Shape := ⟨3, ![50, 32, 1]⟩
abbrev S1600x128 : Shape := ⟨2, ![1600, 128]⟩
abbrev S128x1 : Shape := ⟨2, ![128, 1]⟩
abbrev S1600x1 : Shape := ⟨2, ![1600, 1]⟩
abbrev S32x50 : Shape := ⟨2, ![32, 50]⟩
abbrev S1x32x50 : Shape := ⟨3, ![1, 32, 50]⟩
abbrev S32x5x208 : Shape := ⟨3, ![32, 5, 208]⟩
abbrev S32x208 : Shape := ⟨2, ![32, 208]⟩
abbrev S5x208 : Shape := ⟨2, ![5, 208]⟩
abbrev S_ : Shape := ⟨0, ![]⟩
abbrev S16 : Shape := ⟨1, ![16]⟩
abbrev S1x16 : Shape := ⟨2, ![1, 16]⟩
abbrev S1x5x208 : Shape := ⟨3, ![1, 5, 208]⟩
abbrev S32x5x200 : Shape := ⟨3, ![32, 5, 200]⟩
abbrev S32x200x5 : Shape := ⟨3, ![32, 200, 5]⟩
abbrev S32x1000 : Shape := ⟨2, ![32, 1000]⟩
abbrev S128x50x5 : Shape := ⟨3, ![128, 50, 5]⟩
abbrev S204800x128 : Shape := ⟨2, ![204800, 128]⟩
abbrev S32000x128 : Shape := ⟨2, ![32000, 128]⟩
abbrev S1000 : Shape := ⟨1, ![1000]⟩
abbrev S128x128 : Shape := ⟨2, ![128, 128]⟩
abbrev S1x1000 : Shape := ⟨2, ![1, 1000]⟩
abbrev S104x128 : Shape := ⟨2, ![104, 128]⟩
abbrev S104 : Shape := ⟨1, ![104]⟩
abbrev S128x50x5x128 : Shape := ⟨4, ![128, 50, 5, 128]⟩

abbrev nBuf : Table → Nat
  | .hbm => 20
  | .local .tc .vmem => 6
  | .local .scVector .vmem => 8
  | _ => 0

abbrev bufTy : (tb : Table) → Fin (nBuf tb) → BufTy
  | .hbm, ⟨0, _⟩ => ⟨S128x50x32x128, .f32⟩
  | .hbm, ⟨1, _⟩ => ⟨S128x50x32x128, .f32⟩
  | .hbm, ⟨2, _⟩ => ⟨S128x1x128, .f32⟩
  | .hbm, ⟨3, _⟩ => ⟨S128x50x32, .f32⟩
  | .hbm, ⟨4, _⟩ => ⟨S32x32x208, .f32⟩
  | .hbm, ⟨5, _⟩ => ⟨S32x5x208, .f32⟩
  | .hbm, ⟨6, _⟩ => ⟨S32x5x208, .i32⟩
  | .hbm, ⟨7, _⟩ => ⟨S32x5x208, .i32⟩
  | .hbm, ⟨8, _⟩ => ⟨S32x5x200, .i32⟩
  | .hbm, ⟨9, _⟩ => ⟨S32x200x5, .i32⟩
  | .hbm, ⟨10, _⟩ => ⟨S32x1000, .i32⟩
  | .hbm, ⟨11, _⟩ => ⟨S32x5x200, .f32⟩
  | .hbm, ⟨12, _⟩ => ⟨S32x200x5, .f32⟩
  | .hbm, ⟨13, _⟩ => ⟨S32x1000, .f32⟩
  | .hbm, ⟨14, _⟩ => ⟨S32x5x200, .i32⟩
  | .hbm, ⟨15, _⟩ => ⟨S32x200x5, .i32⟩
  | .hbm, ⟨16, _⟩ => ⟨S128x50x5, .i32⟩
  | .hbm, ⟨17, _⟩ => ⟨S204800x128, .f32⟩
  | .hbm, ⟨18, _⟩ => ⟨S32000x128, .f32⟩
  | .hbm, ⟨19, _⟩ => ⟨S128x50x5x128, .f32⟩
  | .local .tc .vmem, ⟨0, _⟩ => ⟨S4x50x32x128, .f32⟩
  | .local .tc .vmem, ⟨1, _⟩ => ⟨S4x50x32x128, .f32⟩
  | .local .tc .vmem, ⟨2, _⟩ => ⟨S4x1x128, .f32⟩
  | .local .tc .vmem, ⟨3, _⟩ => ⟨S4x1x128, .f32⟩
  | .local .tc .vmem, ⟨4, _⟩ => ⟨S1x32x208, .f32⟩
  | .local .tc .vmem, ⟨5, _⟩ => ⟨S1x32x208, .f32⟩
  | .local .scVector .vmem, ⟨0, _⟩ => ⟨S32x208, .f32⟩
  | .local .scVector .vmem, ⟨1, _⟩ => ⟨S5x208, .f32⟩
  | .local .scVector .vmem, ⟨2, _⟩ => ⟨S5x208, .i32⟩
  | .local .scVector .vmem, ⟨3, _⟩ => ⟨S5x208, .i32⟩
  | .local .scVector .vmem, ⟨4, _⟩ => ⟨S1000, .i32⟩
  | .local .scVector .vmem, ⟨5, _⟩ => ⟨S1000, .f32⟩
  | .local .scVector .vmem, ⟨6, _⟩ => ⟨S128x128, .f32⟩
  | .local .scVector .vmem, ⟨7, _⟩ => ⟨S128x128, .f32⟩
  | _, _ => ⟨S128x50x32x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v0_scv : Ref sig .scVector := ⟨.hbm, 4, rfl⟩
abbrev main_v1_0_scv : Ref sig .scVector := ⟨.hbm, 5, rfl⟩
abbrev main_v1_1_scv : Ref sig .scVector := ⟨.hbm, 6, rfl⟩
abbrev main_v1_2_scv : Ref sig .scVector := ⟨.hbm, 7, rfl⟩
abbrev main_v11_scv : Ref sig .scVector := ⟨.hbm, 17, rfl⟩
abbrev main_v4_scv : Ref sig .scVector := ⟨.hbm, 10, rfl⟩
abbrev main_v7_scv : Ref sig .scVector := ⟨.hbm, 13, rfl⟩
abbrev main_v12_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x50x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x208 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6495_r0 : BitVec 32 := 0#32
  let c0_i32_6496_r0 : BitVec 32 := 0#32
  ![v1.toNat, 0, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6495_r1 : BitVec 32 := 0#32
  let c0_i32_6496_r1 : BitVec 32 := 0#32
  ![v1.toNat, 0, 0]
abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_357_r0 : BitVec 32 := 0#32
  ![v1.toNat, 0]
@[reducible] def k2_t1_loop : Scf.Loop 32 :=
  let c0_i32_14 : BitVec 32 := 0#32
  let c8_i32 : BitVec 32 := 8#32
  let v12 : BitVec 32 := Scalar.addi c0_i32_14 c8_i32
  let c1_i32 : BitVec 32 := 1#32
  ⟨c0_i32_14, v12, c1_i32⟩
def k2_off2 (k2_t1 : Fin k2_t1_loop.trips) : Fin 1 → Nat :=
  let c0_i32_357 : BitVec 32 := 0#32
  let c0_i32_14 : BitVec 32 := 0#32
  let c1_i32 : BitVec 32 := 1#32
  let arg13 : BitVec 32 := Scf.iv c0_i32_14 c1_i32 k2_t1
  let c16_i32 : BitVec 32 := 16#32
  let v613 : BitVec 32 := Scalar.muli arg13 c16_i32
  let v614 : BitVec 32 := Scalar.addi c0_i32_357 v613
  let v615 : Index := Scalar.indexCast v614
  ![v615.toNat]
def k2_off3 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off4 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off5 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off6 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off7 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off8 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off9 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off10 (k2_t1 : Fin k2_t1_loop.trips) (c0_i32_359 : BitVec 32) : Fin 2 → Nat :=
  let c0_i32_14 : BitVec 32 := 0#32
  let c1_i32 : BitVec 32 := 1#32
  let arg13 : BitVec 32 := Scf.iv c0_i32_14 c1_i32 k2_t1
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
def k2_off11 (i : grid2.Coords) (c0_i32_16 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1000_i32 : BitVec 32 := 1000#32
  let v2 : BitVec 32 := Scalar.muli v1 c1000_i32
  let v14 : BitVec 32 := Scalar.addi v2 c0_i32_16
  let c0_i32_359_r2 : BitVec 32 := 0#32
  ![v14.toNat, 0]
@[reducible] def k2_t2_loop : Scf.Loop 32 :=
  let c0_i32_27 : BitVec 32 := 0#32
  let c8_i32_28 : BitVec 32 := 8#32
  let v21 : BitVec 32 := Scalar.addi c0_i32_27 c8_i32_28
  let c1_i32_29 : BitVec 32 := 1#32
  ⟨c0_i32_27, v21, c1_i32_29⟩
def k2_off12 (k2_t2 : Fin k2_t2_loop.trips) : Fin 1 → Nat :=
  let c128_i32_357 : BitVec 32 := 128#32
  let c0_i32_27 : BitVec 32 := 0#32
  let c1_i32_29 : BitVec 32 := 1#32
  let arg13 : BitVec 32 := Scf.iv c0_i32_27 c1_i32_29 k2_t2
  let c16_i32 : BitVec 32 := 16#32
  let v613 : BitVec 32 := Scalar.muli arg13 c16_i32
  let v614 : BitVec 32 := Scalar.addi c128_i32_357 v613
  let v615 : Index := Scalar.indexCast v614
  ![v615.toNat]
def k2_off13 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off14 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off15 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off16 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off17 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off18 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off19 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off20 (k2_t2 : Fin k2_t2_loop.trips) (c0_i32_359 : BitVec 32) : Fin 2 → Nat :=
  let c0_i32_27 : BitVec 32 := 0#32
  let c1_i32_29 : BitVec 32 := 1#32
  let arg13 : BitVec 32 := Scf.iv c0_i32_27 c1_i32_29 k2_t2
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
@[reducible] def k2_t3_loop : Scf.Loop 32 :=
  let c0_i32_42 : BitVec 32 := 0#32
  let c8_i32_43 : BitVec 32 := 8#32
  let v30 : BitVec 32 := Scalar.addi c0_i32_42 c8_i32_43
  let c1_i32_44 : BitVec 32 := 1#32
  ⟨c0_i32_42, v30, c1_i32_44⟩
def k2_off21 (k2_t3 : Fin k2_t3_loop.trips) : Fin 1 → Nat :=
  let c256_i32_357 : BitVec 32 := 256#32
  let c0_i32_42 : BitVec 32 := 0#32
  let c1_i32_44 : BitVec 32 := 1#32
  let arg13 : BitVec 32 := Scf.iv c0_i32_42 c1_i32_44 k2_t3
  let c16_i32 : BitVec 32 := 16#32
  let v613 : BitVec 32 := Scalar.muli arg13 c16_i32
  let v614 : BitVec 32 := Scalar.addi c256_i32_357 v613
  let v615 : Index := Scalar.indexCast v614
  ![v615.toNat]
def k2_off22 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off23 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off24 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off25 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off26 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off27 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off28 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off29 (k2_t3 : Fin k2_t3_loop.trips) (c0_i32_359 : BitVec 32) : Fin 2 → Nat :=
  let c0_i32_42 : BitVec 32 := 0#32
  let c1_i32_44 : BitVec 32 := 1#32
  let arg13 : BitVec 32 := Scf.iv c0_i32_42 c1_i32_44 k2_t3
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
@[reducible] def k2_t4_loop : Scf.Loop 32 :=
  let c0_i32_57 : BitVec 32 := 0#32
  let c8_i32_58 : BitVec 32 := 8#32
  let v39 : BitVec 32 := Scalar.addi c0_i32_57 c8_i32_58
  let c1_i32_59 : BitVec 32 := 1#32
  ⟨c0_i32_57, v39, c1_i32_59⟩
def k2_off30 (k2_t4 : Fin k2_t4_loop.trips) : Fin 1 → Nat :=
  let c384_i32_357 : BitVec 32 := 384#32
  let c0_i32_57 : BitVec 32 := 0#32
  let c1_i32_59 : BitVec 32 := 1#32
  let arg13 : BitVec 32 := Scf.iv c0_i32_57 c1_i32_59 k2_t4
  let c16_i32 : BitVec 32 := 16#32
  let v613 : BitVec 32 := Scalar.muli arg13 c16_i32
  let v614 : BitVec 32 := Scalar.addi c384_i32_357 v613
  let v615 : Index := Scalar.indexCast v614
  ![v615.toNat]
def k2_off31 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off32 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off33 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off34 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off35 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off36 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off37 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off38 (k2_t4 : Fin k2_t4_loop.trips) (c0_i32_359 : BitVec 32) : Fin 2 → Nat :=
  let c0_i32_57 : BitVec 32 := 0#32
  let c1_i32_59 : BitVec 32 := 1#32
  let arg13 : BitVec 32 := Scf.iv c0_i32_57 c1_i32_59 k2_t4
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
@[reducible] def k2_t5_loop : Scf.Loop 32 :=
  let c0_i32_72 : BitVec 32 := 0#32
  let c8_i32_73 : BitVec 32 := 8#32
  let v48 : BitVec 32 := Scalar.addi c0_i32_72 c8_i32_73
  let c1_i32_74 : BitVec 32 := 1#32
  ⟨c0_i32_72, v48, c1_i32_74⟩
def k2_off39 (k2_t5 : Fin k2_t5_loop.trips) : Fin 1 → Nat :=
  let c512_i32_357 : BitVec 32 := 512#32
  let c0_i32_72 : BitVec 32 := 0#32
  let c1_i32_74 : BitVec 32 := 1#32
  let arg13 : BitVec 32 := Scf.iv c0_i32_72 c1_i32_74 k2_t5
  let c16_i32 : BitVec 32 := 16#32
  let v613 : BitVec 32 := Scalar.muli arg13 c16_i32
  let v614 : BitVec 32 := Scalar.addi c512_i32_357 v613
  let v615 : Index := Scalar.indexCast v614
  ![v615.toNat]
def k2_off40 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off41 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off42 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off43 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off44 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off45 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off46 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off47 (k2_t5 : Fin k2_t5_loop.trips) (c0_i32_359 : BitVec 32) : Fin 2 → Nat :=
  let c0_i32_72 : BitVec 32 := 0#32
  let c1_i32_74 : BitVec 32 := 1#32
  let arg13 : BitVec 32 := Scf.iv c0_i32_72 c1_i32_74 k2_t5
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
@[reducible] def k2_t6_loop : Scf.Loop 32 :=
  let c0_i32_87 : BitVec 32 := 0#32
  let c8_i32_88 : BitVec 32 := 8#32
  let v57 : BitVec 32 := Scalar.addi c0_i32_87 c8_i32_88
  let c1_i32_89 : BitVec 32 := 1#32
  ⟨c0_i32_87, v57, c1_i32_89⟩
def k2_off48 (k2_t6 : Fin k2_t6_loop.trips) : Fin 1 → Nat :=
  let c640_i32_357 : BitVec 32 := 640#32
  let c0_i32_87 : BitVec 32 := 0#32
  let c1_i32_89 : BitVec 32 := 1#32
  let arg13 : BitVec 32 := Scf.iv c0_i32_87 c1_i32_89 k2_t6
  let c16_i32 : BitVec 32 := 16#32
  let v613 : BitVec 32 := Scalar.muli arg13 c16_i32
  let v614 : BitVec 32 := Scalar.addi c640_i32_357 v613
  let v615 : Index := Scalar.indexCast v614
  ![v615.toNat]
def k2_off49 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off50 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off51 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off52 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off53 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off54 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off55 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off56 (k2_t6 : Fin k2_t6_loop.trips) (c0_i32_359 : BitVec 32) : Fin 2 → Nat :=
  let c0_i32_87 : BitVec 32 := 0#32
  let c1_i32_89 : BitVec 32 := 1#32
  let arg13 : BitVec 32 := Scf.iv c0_i32_87 c1_i32_89 k2_t6
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
@[reducible] def k2_t7_loop : Scf.Loop 32 :=
  let c0_i32_102 : BitVec 32 := 0#32
  let c8_i32_103 : BitVec 32 := 8#32
  let v66 : BitVec 32 := Scalar.addi c0_i32_102 c8_i32_103
  let c1_i32_104 : BitVec 32 := 1#32
  ⟨c0_i32_102, v66, c1_i32_104⟩
def k2_off57 (k2_t7 : Fin k2_t7_loop.trips) : Fin 1 → Nat :=
  let c768_i32_357 : BitVec 32 := 768#32
  let c0_i32_102 : BitVec 32 := 0#32
  let c1_i32_104 : BitVec 32 := 1#32
  let arg13 : BitVec 32 := Scf.iv c0_i32_102 c1_i32_104 k2_t7
  let c16_i32 : BitVec 32 := 16#32
  let v613 : BitVec 32 := Scalar.muli arg13 c16_i32
  let v614 : BitVec 32 := Scalar.addi c768_i32_357 v613
  let v615 : Index := Scalar.indexCast v614
  ![v615.toNat]
def k2_off58 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off59 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off60 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off61 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off62 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off63 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off64 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off65 (k2_t7 : Fin k2_t7_loop.trips) (c0_i32_359 : BitVec 32) : Fin 2 → Nat :=
  let c0_i32_102 : BitVec 32 := 0#32
  let c1_i32_104 : BitVec 32 := 1#32
  let arg13 : BitVec 32 := Scf.iv c0_i32_102 c1_i32_104 k2_t7
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
@[reducible] def k2_t8_loop : Scf.Loop 32 :=
  let c0_i32_113 : BitVec 32 := 0#32
  let c6_i32 : BitVec 32 := 6#32
  let v72 : BitVec 32 := Scalar.addi c0_i32_113 c6_i32
  let c1_i32_114 : BitVec 32 := 1#32
  ⟨c0_i32_113, v72, c1_i32_114⟩
def k2_off66 (k2_t8 : Fin k2_t8_loop.trips) : Fin 1 → Nat :=
  let c896_i32_357 : BitVec 32 := 896#32
  let c0_i32_113 : BitVec 32 := 0#32
  let c1_i32_114 : BitVec 32 := 1#32
  let arg13 : BitVec 32 := Scf.iv c0_i32_113 c1_i32_114 k2_t8
  let c16_i32 : BitVec 32 := 16#32
  let v613 : BitVec 32 := Scalar.muli arg13 c16_i32
  let v614 : BitVec 32 := Scalar.addi c896_i32_357 v613
  let v615 : Index := Scalar.indexCast v614
  ![v615.toNat]
def k2_off67 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v623 : Index := Scalar.indexCast v619
  let c0_360 : Index := 0#32
  ![v623.toNat, 0]
def k2_off68 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v631 : Index := Scalar.indexCast v619
  let c16_362 : Index := 16#32
  ![v631.toNat, 16]
def k2_off69 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v639 : Index := Scalar.indexCast v619
  let c32_364 : Index := 32#32
  ![v639.toNat, 32]
def k2_off70 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v647 : Index := Scalar.indexCast v619
  let c48_366 : Index := 48#32
  ![v647.toNat, 48]
def k2_off71 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v655 : Index := Scalar.indexCast v619
  let c64_368 : Index := 64#32
  ![v655.toNat, 64]
def k2_off72 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v663 : Index := Scalar.indexCast v619
  let c80_370 : Index := 80#32
  ![v663.toNat, 80]
def k2_off73 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v671 : Index := Scalar.indexCast v619
  let c96_372 : Index := 96#32
  ![v671.toNat, 96]
def k2_off74 (k2_t8 : Fin k2_t8_loop.trips) (c0_i32_359 : BitVec 32) : Fin 2 → Nat :=
  let c0_i32_113 : BitVec 32 := 0#32
  let c1_i32_114 : BitVec 32 := 1#32
  let arg13 : BitVec 32 := Scf.iv c0_i32_113 c1_i32_114 k2_t8
  let c16_i32_358 : BitVec 32 := 16#32
  let v618 : BitVec 32 := Scalar.muli arg13 c16_i32_358
  let v619 : BitVec 32 := Scalar.addi v618 c0_i32_359
  let v679 : Index := Scalar.indexCast v619
  let c112_374 : Index := 112#32
  ![v679.toNat, 112]
def k2_off75 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1000_i32 : BitVec 32 := 1000#32
  let v2 : BitVec 32 := Scalar.muli v1 c1000_i32
  let c896_i32_356 : BitVec 32 := 896#32
  let v612 : BitVec 32 := Scalar.addi v2 c896_i32_356
  let c0_i32_359_r9 : BitVec 32 := 0#32
  ![v612.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S128x50x32x128 : Shape := ⟨4, ![128, 50, 32, 128]⟩
abbrev S128x1x128 : Shape := ⟨3, ![128, 1, 128]⟩
abbrev S128x50x32 : Shape := ⟨3, ![128, 50, 32]⟩
abbrev S128x50x31x128 : Shape := ⟨4, ![128, 50, 31, 128]⟩
abbrev S_ : Shape := ⟨0, ![]⟩
abbrev S128x50x31 : Shape := ⟨3, ![128, 50, 31]⟩
abbrev S128x50x31x1 : Shape := ⟨4, ![128, 50, 31, 1]⟩
abbrev S128x1 : Shape := ⟨2, ![128, 1]⟩
abbrev S128x1x1 : Shape := ⟨3, ![128, 1, 1]⟩
abbrev S128x128x1 : Shape := ⟨3, ![128, 128, 1]⟩
abbrev S128x1x128x1 : Shape := ⟨4, ![128, 1, 128, 1]⟩
abbrev S128x50x5 : Shape := ⟨3, ![128, 50, 5]⟩
abbrev S128x50x5x1 : Shape := ⟨4, ![128, 50, 5, 1]⟩
abbrev S1 : Shape := ⟨1, ![1]⟩
abbrev S1x1x1x1 : Shape := ⟨4, ![1, 1, 1, 1]⟩
abbrev S128x50x5x128 : Shape := ⟨4, ![128, 50, 5, 128]⟩

abbrev nBuf : Space → Nat
  | .hbm => 66
  | .vmem => 0
  | .smem => 0
  | _ => 0

abbrev bufTy : (tb : Table) → Fin (tcTables nBuf tb) → BufTy
  | .hbm, ⟨0, _⟩ => ⟨S128x50x32x128, .f32⟩
  | .hbm, ⟨1, _⟩ => ⟨S128x50x32x128, .f32⟩
  | .hbm, ⟨2, _⟩ => ⟨S128x1x128, .f32⟩
  | .hbm, ⟨3, _⟩ => ⟨S128x50x32, .f32⟩
  | .hbm, ⟨4, _⟩ => ⟨S128x50x31x128, .f32⟩
  | .hbm, ⟨5, _⟩ => ⟨S128x50x31x128, .f32⟩
  | .hbm, ⟨6, _⟩ => ⟨S_, .f32⟩
  | .hbm, ⟨7, _⟩ => ⟨S128x50x31, .f32⟩
  | .hbm, ⟨8, _⟩ => ⟨S128x50x31x1, .f32⟩
  | .hbm, ⟨9, _⟩ => ⟨S128x50x31x1, .f32⟩
  | .hbm, ⟨10, _⟩ => ⟨S_, .f32⟩
  | .hbm, ⟨11, _⟩ => ⟨S128x50x31x1, .f32⟩
  | .hbm, ⟨12, _⟩ => ⟨S128x50x31x1, .f32⟩
  | .hbm, ⟨13, _⟩ => ⟨S128x50x31x128, .f32⟩
  | .hbm, ⟨14, _⟩ => ⟨S128x50x31x128, .f32⟩
  | .hbm, ⟨15, _⟩ => ⟨S128x1x128, .f32⟩
  | .hbm, ⟨16, _⟩ => ⟨S_, .f32⟩
  | .hbm, ⟨17, _⟩ => ⟨S128x1, .f32⟩
  | .hbm, ⟨18, _⟩ => ⟨S128x1x1, .f32⟩
  | .hbm, ⟨19, _⟩ => ⟨S128x1x1, .f32⟩
  | .hbm, ⟨20, _⟩ => ⟨S_, .f32⟩
  | .hbm, ⟨21, _⟩ => ⟨S128x1x1, .f32⟩
  | .hbm, ⟨22, _⟩ => ⟨S128x1x1, .f32⟩
  | .hbm, ⟨23, _⟩ => ⟨S128x1x128, .f32⟩
  | .hbm, ⟨24, _⟩ => ⟨S128x1x128, .f32⟩
  | .hbm, ⟨25, _⟩ => ⟨S128x128x1, .f32⟩
  | .hbm, ⟨26, _⟩ => ⟨S128x1x128x1, .f32⟩
  | .hbm, ⟨27, _⟩ => ⟨S128x128x1, .f32⟩
  | .hbm, ⟨28, _⟩ => ⟨S128x50x31x1, .f32⟩
  | .hbm, ⟨29, _⟩ => ⟨S128x50x31, .f32⟩
  | .hbm, ⟨30, _⟩ => ⟨S128x50x31, .f32⟩
  | .hbm, ⟨31, _⟩ => ⟨S128x50x31, .f32⟩
  | .hbm, ⟨32, _⟩ => ⟨S128x50x5, .f32⟩
  | .hbm, ⟨33, _⟩ => ⟨S128x50x5, .i32⟩
  | .hbm, ⟨34, _⟩ => ⟨S128x50x5x1, .i32⟩
  | .hbm, ⟨35, _⟩ => ⟨S_, .i32⟩
  | .hbm, ⟨36, _⟩ => ⟨S128x50x5x1, .i32⟩
  | .hbm, ⟨37, _⟩ => ⟨S128x50x5x1, .i1⟩
  | .hbm, ⟨38, _⟩ => ⟨S_, .i32⟩
  | .hbm, ⟨39, _⟩ => ⟨S128x50x5x1, .i32⟩
  | .hbm, ⟨40, _⟩ => ⟨S128x50x5x1, .i32⟩
  | .hbm, ⟨41, _⟩ => ⟨S128x50x5x1, .i32⟩
  | .hbm, ⟨42, _⟩ => ⟨S1, .i32⟩
  | .hbm, ⟨43, _⟩ => ⟨S_, .i32⟩
  | .hbm, ⟨44, _⟩ => ⟨S128x50x5x1, .i32⟩
  | .hbm, ⟨45, _⟩ => ⟨S128x50x5x1, .i1⟩
  | .hbm, ⟨46, _⟩ => ⟨S1x1x1x1, .i32⟩
  | .hbm, ⟨47, _⟩ => ⟨S128x50x5x1, .i32⟩
  | .hbm, ⟨48, _⟩ => ⟨S128x50x5x1, .i1⟩
  | .hbm, ⟨49, _⟩ => ⟨S128x50x5x1, .i1⟩
  | .hbm, ⟨50, _⟩ => ⟨S_, .i1⟩
  | .hbm, ⟨51, _⟩ => ⟨S128x50x5, .i1⟩
  | .hbm, ⟨52, _⟩ => ⟨S128x50x5x128, .f32⟩
  | .hbm, ⟨53, _⟩ => ⟨S128x50x5x128, .i1⟩
  | .hbm, ⟨54, _⟩ => ⟨S_, .f32⟩
  | .hbm, ⟨55, _⟩ => ⟨S128x50x5x128, .f32⟩
  | .hbm, ⟨56, _⟩ => ⟨S128x50x5x128, .f32⟩
  | .hbm, ⟨57, _⟩ => ⟨S_, .f32⟩
  | .hbm, ⟨58, _⟩ => ⟨S128x50x5, .f32⟩
  | .hbm, ⟨59, _⟩ => ⟨S128x50x5, .i1⟩
  | .hbm, ⟨60, _⟩ => ⟨S_, .f32⟩
  | .hbm, ⟨61, _⟩ => ⟨S128x50x5, .f32⟩
  | .hbm, ⟨62, _⟩ => ⟨S128x50x5, .f32⟩
  | .hbm, ⟨63, _⟩ => ⟨S128x50x5x1, .f32⟩
  | .hbm, ⟨64, _⟩ => ⟨S128x50x5x128, .f32⟩
  | .hbm, ⟨65, _⟩ => ⟨S128x50x5x128, .f32⟩
  | _, _ => ⟨S128x50x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_values : Ref sig .tc := ⟨.hbm, 32, rfl⟩
abbrev main_indices : Ref sig .tc := ⟨.hbm, 33, rfl⟩
abbrev main_v18 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_c_1 : Ref sig .tc := ⟨.hbm, 42, rfl⟩
abbrev main_call2_c_2 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_c_3 : Ref sig .tc := ⟨.hbm, 50, rfl⟩
abbrev main_call2_v11 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩

abbrev nD : Nat := 1
abbrev τ : Topo := Topo.v7x

variable {F : FTy → Type} [FloatOps F]
-- ==== TopK.lean ====
abbrev S32x32x208 : Shape := ⟨3, ![32, 32, 208]⟩
abbrev S32x5x208 : Shape := ⟨3, ![32, 5, 208]⟩
abbrev S32x208 : Shape := ⟨2, ![32, 208]⟩
abbrev S5x208 : Shape := ⟨2, ![5, 208]⟩
abbrev S_ : Shape := ⟨0, ![]⟩
abbrev S1x32x208 : Shape := ⟨3, ![1, 32, 208]⟩
abbrev S16 : Shape := ⟨1, ![16]⟩
abbrev S1x16 : Shape := ⟨2, ![1, 16]⟩
abbrev S1x5x208 : Shape := ⟨3, ![1, 5, 208]⟩
abbrev S32x5x200 : Shape := ⟨3, ![32, 5, 200]⟩
abbrev S32x200x5 : Shape := ⟨3, ![32, 200, 5]⟩
abbrev S32x1000 : Shape := ⟨2, ![32, 1000]⟩
abbrev S128x50x5 : Shape := ⟨3, ![128, 50, 5]⟩

abbrev nBuf : Table → Nat
  | .hbm => 13
  | .local .scVector .vmem => 4
  | _ => 0

abbrev bufTy : (tb : Table) → Fin (nBuf tb) → BufTy
  | .hbm, ⟨0, _⟩ => ⟨S32x32x208, .f32⟩
  | .hbm, ⟨1, _⟩ => ⟨S32x5x208, .f32⟩
  | .hbm, ⟨2, _⟩ => ⟨S32x5x208, .i32⟩
  | .hbm, ⟨3, _⟩ => ⟨S32x5x208, .i32⟩
  | .hbm, ⟨4, _⟩ => ⟨S32x5x200, .i32⟩
  | .hbm, ⟨5, _⟩ => ⟨S32x200x5, .i32⟩
  | .hbm, ⟨6, _⟩ => ⟨S32x1000, .i32⟩
  | .hbm, ⟨7, _⟩ => ⟨S32x5x200, .f32⟩
  | .hbm, ⟨8, _⟩ => ⟨S32x200x5, .f32⟩
  | .hbm, ⟨9, _⟩ => ⟨S32x1000, .f32⟩
  | .hbm, ⟨10, _⟩ => ⟨S32x5x200, .i32⟩
  | .hbm, ⟨11, _⟩ => ⟨S32x200x5, .i32⟩
  | .hbm, ⟨12, _⟩ => ⟨S128x50x5, .i32⟩
  | .local .scVector .vmem, ⟨0, _⟩ => ⟨S32x208, .f32⟩
  | .local .scVector .vmem, ⟨1, _⟩ => ⟨S5x208, .f32⟩
  | .local .scVector .vmem, ⟨2, _⟩ => ⟨S5x208, .i32⟩
  | .local .scVector .vmem, ⟨3, _⟩ => ⟨S5x208, .i32⟩
  | _, _ => ⟨S32x32x208, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev main_v0_2_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6495_r0 : BitVec 32 := 0#32
  let c0_i32_6496_r0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6495_r1 : BitVec 32 := 0#32
  let c0_i32_6496_r1 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TopKReferenceIdeal.lean ====
abbrev S32x32x208 : Shape := ⟨3, ![32, 32, 208]⟩
abbrev S32x31x200 : Shape := ⟨3, ![32, 31, 200]⟩
abbrev S32x200x31 : Shape := ⟨3, ![32, 200, 31]⟩
abbrev S128x50x31 : Shape := ⟨3, ![128, 50, 31]⟩
abbrev S128x50x5 : Shape := ⟨3, ![128, 50, 5]⟩
abbrev S6400 : Shape := ⟨1, ![6400]⟩
abbrev S128x50 : Shape := ⟨2, ![128, 50]⟩
abbrev S128x50x1 : Shape := ⟨3, ![128, 50, 1]⟩
abbrev S_ : Shape := ⟨0, ![]⟩
abbrev S32x1000 : Shape := ⟨2, ![32, 1000]⟩

abbrev nBuf : Space → Nat
  | .hbm => 16
  | .vmem => 0
  | .smem => 0
  | _ => 0

abbrev bufTy : (tb : Table) → Fin (tcTables nBuf tb) → BufTy
  | .hbm, ⟨0, _⟩ => ⟨S32x32x208, .f32⟩
  | .hbm, ⟨1, _⟩ => ⟨S32x31x200, .f32⟩
  | .hbm, ⟨2, _⟩ => ⟨S32x200x31, .f32⟩
  | .hbm, ⟨3, _⟩ => ⟨S128x50x31, .f32⟩
  | .hbm, ⟨4, _⟩ => ⟨S128x50x5, .f32⟩
  | .hbm, ⟨5, _⟩ => ⟨S128x50x5, .i32⟩
  | .hbm, ⟨6, _⟩ => ⟨S6400, .i32⟩
  | .hbm, ⟨7, _⟩ => ⟨S128x50, .i32⟩
  | .hbm, ⟨8, _⟩ => ⟨S128x50x1, .i32⟩
  | .hbm, ⟨9, _⟩ => ⟨S_, .i32⟩
  | .hbm, ⟨10, _⟩ => ⟨S128x50x1, .i32⟩
  | .hbm, ⟨11, _⟩ => ⟨S128x50x1, .i32⟩
  | .hbm, ⟨12, _⟩ => ⟨S128x50x5, .i32⟩
  | .hbm, ⟨13, _⟩ => ⟨S128x50x5, .i32⟩
  | .hbm, ⟨14, _⟩ => ⟨S32x1000, .i32⟩
  | .hbm, ⟨15, _⟩ => ⟨S32x1000, .f32⟩
  | _, _ => ⟨S32x32x208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_values : Ref sig .tc := ⟨.hbm, 4, rfl⟩
abbrev main_indices : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.BestProg.lean ====
module

public import proofs.«01_k».proof.Defs
public import Idealize.ShloMosaic.Lib.SparseCore.Stream
public import proofs.«01_k».proof.Proof.Gen.KernelIdeal

@[expose] public section

set_option synthInstance.maxSize 4096

noncomputable section

namespace Cert.Proof.Best

open Cert.KernelIdeal Cert.KernelIdeal.Gen
open Idealize.ShloMosaic Idealize.SL.Sem

variable {F : FTy → Type} [FloatOps F]

/-- The programs of one vector subcore. -/
abbrev TProg (F : FTy → Type) (i : grid1.Coords) (α : Type) : Type 1 :=
  Prog (TpuEff nD τ sig (Elt F) Λ₀ (.scVector ((i 0).castLE hcore1) ((i 1).castLE hsub1))) α

/-- Sixteen scores. -/
abbrev Lanes (F : FTy → Type) : Type := FVec F S16 .f32

/-- Sixteen whole numbers. -/
abbrev Ints : Type := IVec S16 32

/-- The scratch arrays of a subcore: its scores, and its five best scores, their places in the row, and their rows. -/
structure Bufs where
  scs : Memref sig .scVector .vmem S32x208 .f32
  hscs : scs.IsWhole
  top : Memref sig .scVector .vmem S5x208 .f32
  htop : top.IsWhole
  kid : Memref sig .scVector .vmem S5x208 .i32
  hkid : kid.IsWhole
  idx : Memref sig .scVector .vmem S5x208 .i32
  hidx : idx.IsWhole

theorem inb_row {s st : ℕ} (hs : s < 32) (ht : st ≤ 192) : ∀ a, (![s, st] : Fin 2 → ℕ) a + S1x16.size a ≤ S32x208.size a := by
  intro a
  fin_cases a
  · show s + 1 ≤ 32; omega
  · show st + 16 ≤ 208; omega

theorem inb_best {k st : ℕ} (hk : k < 5) (ht : st ≤ 192) : ∀ a, (![k, st] : Fin 2 → ℕ) a + S1x16.size a ≤ S5x208.size a := by
  intro a
  fin_cases a
  · show k + 1 ≤ 5; omega
  · show st + 16 ≤ 208; omega

/-- Sixteen scores of row `s` are read, from column `st`. -/
def rd {α : Type} (i : grid1.Coords) (b : Bufs) {st : ℕ} (ht : st ≤ 192) {s : ℕ} (hs : s < 32) (k : Lanes F → TProg F i α) : TProg F i α :=
  Prog.lift (.load b.scs (Rect.unit (s := S32x208) ![s, st] S1x16.size (inb_row hs ht)).toLoadRect (View.loadsAt_vmem h_S1x16)) >>= fun v =>
  k (shapeCast S16 v shapeCasts_S1x16_S16)

/-- Rows of scores, each with its number. -/
abbrev Rows (F : FTy → Type) : Type := List (BitVec 32 × Lanes F)

/-- The rows from 3 to 31 are read, in order; `k` goes on with all from 1. -/
def readFrom3 {α : Type} (i : grid1.Coords) (b : Bufs) {st : ℕ} (ht : st ≤ 192) (r1 r2 : Lanes F) (k : Rows F → TProg F i α) : TProg F i α :=
  rd i b ht (s := 3) (by omega) fun r3 =>
  rd i b ht (s := 4) (by omega) fun r4 =>
  rd i b ht (s := 5) (by omega) fun r5 =>
  rd i b ht (s := 6) (by omega) fun r6 =>
  rd i b ht (s := 7) (by omega) fun r7 =>
  rd i b ht (s := 8) (by omega) fun r8 =>
  rd i b ht (s := 9) (by omega) fun r9 =>
  rd i b ht (s := 10) (by omega) fun r10 =>
  rd i b ht (s := 11) (by omega) fun r11 =>
  rd i b ht (s := 12) (by omega) fun r12 =>
  rd i b ht (s := 13) (by omega) fun r13 =>
  rd i b ht (s := 14) (by omega) fun r14 =>
  rd i b ht (s := 15) (by omega) fun r15 =>
  rd i b ht (s := 16) (by omega) fun r16 =>
  rd i b ht (s := 17) (by omega) fun r17 =>
  rd i b ht (s := 18) (by omega) fun r18 =>
  rd i b ht (s := 19) (by omega) fun r19 =>
  rd i b ht (s := 20) (by omega) fun r20 =>
  rd i b ht (s := 21) (by omega) fun r21 =>
  rd i b ht (s := 22) (by omega) fun r22 =>
  rd i b ht (s := 23) (by omega) fun r23 =>
  rd i b ht (s := 24) (by omega) fun r24 =>
  rd i b ht (s := 25) (by omega) fun r25 =>
  rd i b ht (s := 26) (by omega) fun r26 =>
  rd i b ht (s := 27) (by omega) fun r27 =>
  rd i b ht (s := 28) (by omega) fun r28 =>
  rd i b ht (s := 29) (by omega) fun r29 =>
  rd i b ht (s := 30) (by omega) fun r30 =>
  rd i b ht (s := 31) (by omega) fun r31 =>
  k [(1#32, r1), (2#32, r2), (3#32, r3), (4#32, r4), (5#32, r5), (6#32, r6), (7#32, r7), (8#32, r8), (9#32, r9), (10#32, r10), (11#32, r11), (12#32, r12), (13#32, r13), (14#32, r14), (15#32, r15), (16#32, r16), (17#32, r17), (18#32, r18), (19#32, r19), (20#32, r20), (21#32, r21), (22#32, r22), (23#32, r23), (24#32, r24), (25#32, r25), (26#32, r26), (27#32, r27), (28#32, r28), (29#32, r29), (30#32, r30), (31#32, r31)]

/-- The rows from 2 to 31 are read. -/
def readFrom2 {α : Type} (i : grid1.Coords) (b : Bufs) {st : ℕ} (ht : st ≤ 192) (r1 : Lanes F) (k : Rows F → TProg F i α) : TProg F i α :=
  rd i b ht (s := 2) (by omega) fun r2 => readFrom3 i b ht r1 r2 k

/-- The rows from 1 to 31 are read. -/
def readRows {α : Type} (i : grid1.Coords) (b : Bufs) {st : ℕ} (ht : st ≤ 192) (k : Rows F → TProg F i α) : TProg F i α :=
  rd i b ht (s := 1) (by omega) fun r1 => readFrom2 i b ht r1 k

/-- The greatest of the scores so far and which row it stands in, after the rows of the list. -/
def scan : Rows F → Lanes F → Ints → Lanes F × Ints
  | [], m, am => (m, am)
  | p :: l, m, am => scan l (maximumf (F := F) (φ := .f32) m p.2) (select (cmpf (F := F) (φ := .f32) .ogt p.2 m) (broadcast S16 p.1) am)

/-- The greatest of all the rows and which row it stands in: the first where several are the greatest. -/
def best : Rows F → Lanes F × Ints
  | [] => (broadcast S16 (Scalar.ofBits .f32 0xFF800000#32), broadcast S16 1#32)
  | p :: l => scan l p.2 (broadcast S16 p.1)

/-- The rows with the scores that were taken struck out. -/
def knock (am : Ints) : Rows F → Rows F
  | [] => []
  | p :: l => (p.1, select (cmpi .eq am (broadcast S16 p.1)) (broadcast S16 (Scalar.ofBits .f32 0xFF800000#32)) p.2) :: knock am l

/-- Sixteen places of row `k`, from column `st`, are read. -/
def look (i : grid1.Coords) {e : EltTy} (buf : Memref sig .scVector .vmem S5x208 e) {k st : ℕ} (hk : k < 5) (ht : st ≤ 192) : TProg F i (Vec F S1x16 e) :=
  Prog.lift (.load buf (Rect.unit (s := S5x208) ![k, st] S1x16.size (inb_best hk ht)).toLoadRect (View.loadsAt_vmem h_S1x16))

/-- Sixteen values are stored at row `k`, from column `st`. -/
def place (i : grid1.Coords) {e : EltTy} (buf : Memref sig .scVector .vmem S5x208 e) {k st : ℕ} (hk : k < 5) (ht : st ≤ 192)
    (he : e.bits = 32) (v : Vec F S1x16 e) : TProg F i PUnit :=
  Prog.lift (.store buf (Rect.unit (s := S5x208) ![k, st] S1x16.size (inb_best hk ht)) v
    Finset.univ (View.stores_vmem_bits_univ h_S1x16 he) (.inl rfl))

/-- Sixteen values are stored; their place is read before. -/
def put (i : grid1.Coords) {e : EltTy} (buf : Memref sig .scVector .vmem S5x208 e) {k st : ℕ} (hk : k < 5) (ht : st ≤ 192)
    (he : e.bits = 32) (v : Vec F S1x16 e) : TProg F i PUnit :=
  look i buf hk ht >>= fun _ => place i buf hk ht he v

/-- A round's three values are stored. -/
def putRound (i : grid1.Coords) (b : Bufs) {st : ℕ} (ht : st ≤ 192) (gb : Ints) {k : ℕ} (hk : k < 5) (m : Lanes F) (am : Ints) : TProg F i PUnit :=
  put i b.top hk ht rfl (shapeCast S1x16 m shapeCasts_S16_S1x16) >>= fun _ =>
  put i b.kid hk ht rfl (shapeCast S1x16 (subi am (broadcast S16 1#32)) shapeCasts_S16_S1x16) >>= fun _ =>
  put i b.idx hk ht rfl (shapeCast S1x16 (addi gb am) shapeCasts_S16_S1x16)

/-- One round over the rows, and what follows it. -/
def round {α : Type} (i : grid1.Coords) (b : Bufs) {st : ℕ} (ht : st ≤ 192) (gb : Ints) {k : ℕ} (hk : k < 5) (l : Rows F)
    (c : Rows F → TProg F i α) : TProg F i α :=
  putRound i b ht gb hk (best l).1 (best l).2 >>= fun _ => c (knock (best l).2 l)

/-- The number of the subcore. -/
def wid (i : grid1.Coords) : BitVec 32 := Scalar.addi (Scalar.muli (BitVec.ofNat 32 (i 1).val) 2#32) (BitVec.ofNat 32 (i 0).val)

/-- The numbers from 0 to 15. -/
def lanes : Ints := iota .scVector S16 32 [0] iota_S16_d0_w32_scVector

/-- The row before the first of each of the sixteen columns from `st`. -/
def gbase (w : BitVec 32) (io : Ints) (st : ℕ) : Ints :=
  subi (muli (addi (broadcast S16 (Scalar.addi (Scalar.muli w 200#32) (BitVec.ofNat 32 st))) io) (broadcast S16 32#32)) (broadcast S16 1#32)

/-- The first four rounds, and the fifth's choice. -/
def choose {α : Type} (i : grid1.Coords) (b : Bufs) {st : ℕ} (ht : st ≤ 192) (gb : Ints) (l : Rows F) (k : Lanes F → Ints → TProg F i α) : TProg F i α :=
  round i b ht gb (k := 0) (by omega) l fun l =>
  round i b ht gb (k := 1) (by omega) l fun l =>
  round i b ht gb (k := 2) (by omega) l fun l =>
  round i b ht gb (k := 3) (by omega) l fun l =>
  k (best l).1 (best l).2

/-- A group of sixteen columns up to the last round's choice. -/
def groupFront {α : Type} (i : grid1.Coords) (b : Bufs) {st : ℕ} (ht : st ≤ 192) (gb : Ints) (k : Lanes F → Ints → TProg F i α) : TProg F i α :=
  readRows i b ht fun l => choose i b ht gb l k

/-- A group of sixteen columns. -/
def group (i : grid1.Coords) (b : Bufs) {st : ℕ} (ht : st ≤ 192) : TProg F i PUnit :=
  groupFront i b ht (gbase (wid i) lanes st) fun m am => putRound i b ht (gbase (wid i) lanes st) (k := 4) (by omega) m am

/-- The copy of a subcore's scores into its scratch. -/
def copyIn (i : grid1.Coords) (b : Bufs) (src : Memref sig .scVector .hbm S32x32x208 .f32) (sem : DmaSems sig S_) : TProg F i PUnit :=
  Prog.lift (.enqueueDma ((src.slice (Rect.unit (s := S32x32x208) (k1_off1 i) S1x32x208.size (k1_off1_inb i)) (fun _ => rfl)).squeeze S32x208 squeezes_S1x32x208_S32x208)
    (.here b.scs) (.dma sem.sem) ((View.wordExact_bits rfl).reshape _ _) b.hscs.wordExact ⟨Or.inl rfl, trivial⟩) >>= fun _ =>
  Prog.lift (.waitDma2 sem.sem ((src.slice (Rect.unit (s := S32x32x208) (k1_off1 i) S1x32x208.size (k1_off1_inb i)) (fun _ => rfl)).squeeze S32x208 squeezes_S1x32x208_S32x208)
    b.scs ((View.wordExact_bits rfl).reshape _ _) b.hscs.wordExact)

/-- A scratch array of results sets out to the subcore's part of a result. -/
def sendOut (i : grid1.Coords) {e : EltTy} (he : e.bits = 32) (buf : Memref sig .scVector .vmem S5x208 e) (hbuf : buf.IsWhole)
    (dst : Memref sig .scVector .hbm S32x5x208 e) (sem : DmaSems sig S_) : TProg F i PUnit :=
  Prog.lift (.enqueueDma buf (.here ((dst.slice (Rect.unit (s := S32x5x208) (k1_off2 i) S1x5x208.size (k1_off2_inb i)) (fun _ => rfl)).squeeze S5x208 squeezes_S1x5x208_S5x208))
    (.dma sem.sem) hbuf.wordExact ((View.wordExact_bits he).reshape _ _) ⟨Or.inl rfl, trivial⟩)

/-- And its arrival is waited for. -/
def awaitOut (i : grid1.Coords) {e : EltTy} (he : e.bits = 32) (buf : Memref sig .scVector .vmem S5x208 e) (hbuf : buf.IsWhole)
    (dst : Memref sig .scVector .hbm S32x5x208 e) (sem : DmaSems sig S_) : TProg F i PUnit :=
  Prog.lift (.waitDma2 sem.sem buf ((dst.slice (Rect.unit (s := S32x5x208) (k1_off2 i) S1x5x208.size (k1_off2_inb i)) (fun _ => rfl)).squeeze S5x208 squeezes_S1x5x208_S5x208)
    hbuf.wordExact ((View.wordExact_bits he).reshape _ _))

/-- What one vector subcore does. -/
def tile (i : grid1.Coords) (b : Bufs) (src : Memref sig .scVector .hbm S32x32x208 .f32) (out3 : Memref sig .scVector .hbm S32x5x208 .f32)
    (out4 out5 : Memref sig .scVector .hbm S32x5x208 .i32) (r0 r1 r2 r3 : DmaSems sig S_) : TProg F i PUnit :=
  copyIn i b src r0 >>= fun _ =>
  group i b (st := 0) (by omega) >>= fun _ =>
  group i b (st := 16) (by omega) >>= fun _ =>
  group i b (st := 32) (by omega) >>= fun _ =>
  group i b (st := 48) (by omega) >>= fun _ =>
  group i b (st := 64) (by omega) >>= fun _ =>
  group i b (st := 80) (by omega) >>= fun _ =>
  group i b (st := 96) (by omega) >>= fun _ =>
  group i b (st := 112) (by omega) >>= fun _ =>
  group i b (st := 128) (by omega) >>= fun _ =>
  group i b (st := 144) (by omega) >>= fun _ =>
  group i b (st := 160) (by omega) >>= fun _ =>
  group i b (st := 176) (by omega) >>= fun _ =>
  group i b (st := 192) (by omega) >>= fun _ =>
  sendOut i rfl b.top b.htop out3 r1 >>= fun _ =>
  awaitOut i rfl b.top b.htop out3 r1 >>= fun _ =>
  sendOut i rfl b.kid b.hkid out4 r2 >>= fun _ =>
  awaitOut i rfl b.kid b.hkid out4 r2 >>= fun _ =>
  sendOut i rfl b.idx b.hidx out5 r3 >>= fun _ =>
  awaitOut i rfl b.idx b.hidx out5 r3 >>= fun _ =>
  pure ⟨⟩

end Cert.Proof.Best
-- ==== Proof.Resources.lean ====
module

public import proofs.«01_k».proof.Proof.Gen.KernelIdeal
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.Pipeline.Kit

/-!
What the proofs of the program's three kernels share: the resources they are stated over, and the two SparseCore calls of the program.
-/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The handshakes of the SparseCore calls, the pipeline's staging cells, and the counters of the transfers. -/
abbrev UH : Type := URounds (GSem nD τ sig) ℕ
abbrev UP : Type := URounds (GSem nD τ sig) Unit
abbrev UU : Type := UH × (UP × Counters)

abbrev 𝒱₀ : Variants := Variants.none

variable [FloatOps F]

abbrev ΛP : Labels := Pipeline.Sig Λ₀ (Fin 1) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 2) (Elt F) ℕ UU ℕ) := embL
abbrev EP : Emb UP (MT nD τ sig (HIx 2) (Elt F) ℕ UU ℕ) := (Emb.inl : Emb UP (UP × Counters)).trans embR

omit [FloatOps F] in
instance EP_landsIn : (EP (F := F)).LandsIn (upEmb : UEmb _ (MT nD τ sig (HIx 2) (Elt F) ℕ UU ℕ)) := by
  unfold EP embR; infer_instance

theorem nCore_zero : (K (F := F)).nCore 0 = 2 := rfl
theorem nSub_zero : (K (F := F)).nSub 0 = 16 := rfl
theorem nCore_one : (K (F := F)).nCore 1 = 2 := rfl
theorem nSub_one : (K (F := F)).nSub 1 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun q => match q with | 0 => rfl | 1 => rfl⟩

end Cert.Proof
-- ==== Proof.BestTile.lean ====
module

public import proofs.«01_k».proof.Proof.BestProg
public import proofs.«01_k».proof.Proof.Resources
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic

@[expose] public section

noncomputable section

namespace Cert.Proof.Best

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What is computed -/

/-- Row `s`, column `c` of a subcore's scores. -/
def spot (s c : ℕ) : S32x208.Idx := fun a => match a with
  | 0 => ⟨s % 32, Nat.mod_lt _ (by decide)⟩
  | 1 => ⟨c % 208, Nat.mod_lt _ (by decide)⟩

/-- Lane `n` of sixteen. -/
def lane (n : ℕ) : S16.Idx := fun a => match a with
  | 0 => ⟨n % 16, Nat.mod_lt _ (by decide)⟩

/-- Sixteen scores of row `s`, from column `st`. -/
def rowOf (X : S32x208.Idx → F .f32) (s st : ℕ) : Lanes F := fun j => X (spot s (st + (j 0).val))

/-- The rows from 1 to 31, each with its number. -/
def rowsAt (X : S32x208.Idx → F .f32) (st : ℕ) : Rows F := (List.range' 1 31).map fun s => (BitVec.ofNat 32 s, rowOf X s st)

/-- The rows after `k` rounds. -/
def after : ℕ → Rows F → Rows F
  | 0, l => l
  | k + 1, l => knock (best (after k l)).2 (after k l)

/-- What round `k` chooses at the columns from `st`. -/
def chosen (X : S32x208.Idx → F .f32) (k st : ℕ) : Lanes F × Ints := best (after k (rowsAt X st))

/-- The best scores of a column, -/
def tops (X : S32x208.Idx → F .f32) : S5x208.Idx → F .f32 := fun y =>
  (chosen X (y 0).val ((y 1).val / 16 * 16)).1 (lane ((y 1).val % 16))
/-- their places, -/
def kids (X : S32x208.Idx → F .f32) : S5x208.Idx → BitVec 32 := fun y =>
  (subi (chosen X (y 0).val ((y 1).val / 16 * 16)).2 (broadcast S16 1#32)) (lane ((y 1).val % 16))
/-- and their rows in the table, for the subcore of number `w`. -/
def idxs (w : BitVec 32) (X : S32x208.Idx → F .f32) : S5x208.Idx → BitVec 32 := fun y =>
  (addi (gbase w lanes ((y 1).val / 16 * 16)) (chosen X (y 0).val ((y 1).val / 16 * 16)).2) (lane ((y 1).val % 16))

/-! ## The resources -/

local notation "𝕄" => MT nD τ sig (HIx 2) (Elt F) ℕ UU ℕ

/-- The thread of the vector subcore at the place `i`. -/
abbrev thr (d : Dev nD) (i : grid1.Coords) : Thread nD τ := V d ((i 0).castLE hcore1) ((i 1).castLE hsub1)

/-- The weakest precondition of a subcore's program. -/
abbrev tileWp {α : Type} (d : Dev nD) (i : grid1.Coords) (p : TProg F i α) (Q : α → sProp 𝕄) : sProp 𝕄 :=
  wp frame (wpE (defs₀ (F := F)) 𝒱₀ (thr d i) none) Set.univ p Q

/-- What is read through `b` of a share of it. -/
def shares {sp : Space} {s : Shape} {e : EltTy} (d : Dev nD) (i : grid1.Coords) (q : PosShare TreeShare) (b : Memref sig .scVector sp s e) (g : s.Idx → Elt F e) : sProp 𝕄 :=
  iprop(∃ f : Buf (Elt F) (b.view.loc (thr d i)), ⌜b.view.read (Elt F) f = g⌝ ∗ (b.view.loc (thr d i) ↦[b.view.set]{q} f))

/-- The entries of the columns below `st`, and of the sixteen columns from `st` those of the rows below `k`, are as they shall be. -/
def upTo {α : Type} (st k : ℕ) (g spec : S5x208.Idx → α) : Prop :=
  ∀ y : S5x208.Idx, ((y 1).val < st ∨ (y 1).val < st + 16 ∧ (y 0).val < k) → g y = spec y

/-- An array of results, filled so far. -/
def filled {e : EltTy} (d : Dev nD) (i : grid1.Coords) (b : Memref sig .scVector .vmem S5x208 e) (spec : S5x208.Idx → Elt F e) (st k : ℕ) : sProp 𝕄 :=
  iprop(∃ g : S5x208.Idx → Elt F e, ⌜upTo st k g spec⌝ ∗ shares d i fullShare b g)

/-- What comes after a part, from what the part leaves. -/
theorem wp_then {α β : Type} (d : Dev nD) (i : grid1.Coords) {p : TProg F i α} {k : α → TProg F i β} {P : sProp 𝕄} {R : α → sProp 𝕄} {Q : β → sProp 𝕄}
    (h : P ⊢ tileWp d i p R) : P ⊢ iprop((∀ x, R x -∗ tileWp d i (k x) Q) -∗ tileWp d i (p >>= k) Q) := by
  unfold tileWp at h ⊢
  rw [wp_bind]
  iintro H HK
  iapply (wp_wand_r frame (wpE (defs₀ (F := F)) 𝒱₀ (thr d i) none) Set.univ)
  isplitl [H]
  · iapply h; iexact H
  · iexact HK

/-! ## Reading -/

/-- Sixteen scores are read. -/
theorem wp_rd {α : Type} (d : Dev nD) (i : grid1.Coords) (b : Bufs) (X : S32x208.Idx → F .f32) {st : ℕ} (ht : st ≤ 192) {s : ℕ} (hs : s < 32)
    (Fr : sProp 𝕄) (k : Lanes F → TProg F i α) (Q : α → sProp 𝕄)
    (hk : iprop(shares d i fullShare b.scs X ∗ Fr) ⊢ tileWp d i (k (rowOf X s st)) Q) :
    iprop(shares d i fullShare b.scs X ∗ Fr) ⊢ tileWp d i (rd i b ht hs k) Q := by
  have hval : ∀ f : Buf (Elt F) (b.scs.view.loc (thr d i)), b.scs.view.read (Elt F) f = X →
      shapeCast S16 ((b.scs.access (Rect.unit (s := S32x208) ![s, st] S1x16.size (inb_row hs ht))).read (Elt F) f) shapeCasts_S1x16_S16 = rowOf X s st := by
    intro f hf
    funext j
    have hj : (j 0).val < 16 := (j 0).isLt
    have hr : Shape.reshapeEquiv (shapeCasts_S1x16_S16 : S16.numel = S1x16.numel) j = (fun a => match a with | 0 => (0 : Fin 1) | 1 => j 0 : S1x16.Idx) :=
      Shape.reshapeEquiv_eq_of_rowMajor _ (by rw [Shape.rowMajor_val_two, Shape.rowMajor_val_one]; show 0 * 16 + (j 0).val = (j 0).val; omega)
    show (b.scs.access (Rect.unit (s := S32x208) ![s, st] S1x16.size (inb_row hs ht))).read (Elt F) f (Shape.reshapeEquiv shapeCasts_S1x16_S16 j) = _
    rw [hr]
    unfold rowOf
    rw [← hf]
    show View.read (Elt F) b.scs.view f ((Rect.unit (s := S32x208) ![s, st] S1x16.size (inb_row hs ht)).emb _) = _
    congr 1
    funext a
    apply Fin.ext
    match a with
    | 0 => show s + 1 * 0 = s % 32; omega
    | 1 => show st + 1 * (j 0).val = (st + (j 0).val) % 208; omega
  unfold rd
  simp only [Prog.lift, Prog.bind]
  iintro ⟨H, HF⟩
  unfold shares at hk ⊢
  icases H with ⟨%f, %hf, H⟩
  have hsub : (b.scs.access (Rect.unit (s := S32x208) ![s, st] S1x16.size (inb_row hs ht))).set ⊆ b.scs.view.set := View.set_slice_subset _ _
  iapply (wp_load_rect 𝒱₀ (thr d i) none Set.univ hsub) $$ H
  iintro H
  have hk' := hk
  rw [← hval f hf] at hk'
  iapply hk'
  isplitl [H]
  · iexists f; isplitr
    · ipureintro; exact hf
    iexact H
  iexact HF

/-! ## Storing -/

theorem reshape_there (j : S1x16.Idx) :
    Shape.reshapeEquiv (shapeCasts_S16_S1x16 : S1x16.numel = S16.numel) j = lane (j 1).val := by
  have hj : (j 1).val < 16 := (j 1).isLt
  have hj0 : (j 0).val < 1 := (j 0).isLt
  refine Shape.reshapeEquiv_eq_of_rowMajor _ ?_
  rw [Shape.rowMajor_val_two, Shape.rowMajor_val_one]
  show (j 1).val % 16 = (j 0).val * 16 + (j 1).val
  omega

/-- Sixteen values are stored. -/
theorem wp_put (d : Dev nD) (i : grid1.Coords) {e : EltTy} (b : Memref sig .scVector .vmem S5x208 e) (spec : S5x208.Idx → Elt F e) {k st : ℕ} (hk : k < 5)
    (ht : st ≤ 192) (he : e.bits = 32) (v : S16.Idx → Elt F e)
    (hv : ∀ y : S5x208.Idx, (y 0).val = k → st ≤ (y 1).val → (y 1).val < st + 16 → v (lane ((y 1).val - st)) = spec y) :
    filled d i b spec st k ⊢ tileWp d i (put i b hk ht he (shapeCast S1x16 v shapeCasts_S16_S1x16)) fun _ => filled d i b spec st (k + 1) := by
  unfold filled put look place
  simp only [Prog.lift, Prog.bind]
  unfold shares
  iintro ⟨%g, %hg, %f, %hf, H⟩
  have hsub : (b.access (Rect.unit (s := S5x208) ![k, st] S1x16.size (inb_best hk ht))).set ⊆ b.view.set := View.set_slice_subset _ _
  iapply (wp_load_rect 𝒱₀ (thr d i) none Set.univ hsub) $$ H
  iintro H
  iapply (wp_store_writes₀ 𝒱₀ (thr d i) none Set.univ hsub) $$ H
  iintro H
  rw [wp_ret]; imodintro
  iexists _; isplitr
  swap
  · iexists _; isplitr
    swap; · iexact H
    ipureintro; rfl
  ipureintro
  intro y hy
  refine (View.read_writes_cons_unit (off' := ![k, st]) b.view f (inb_best hk ht) _ [] y rfl).trans ?_
  have hyy : (∀ a, (![k, st] : Fin 2 → ℕ) a ≤ (y a).val ∧ (y a).val < (![k, st] : Fin 2 → ℕ) a + S1x16.size a)
      ↔ ((y 0).val = k ∧ st ≤ (y 1).val ∧ (y 1).val < st + 16) := by
    rw [Fin.forall_fin_two]
    show (k ≤ (y 0).val ∧ (y 0).val < k + 1) ∧ (st ≤ (y 1).val ∧ (y 1).val < st + 16) ↔ _
    omega
  by_cases hin : (y 0).val = k ∧ st ≤ (y 1).val ∧ (y 1).val < st + 16
  · rw [dif_pos (hyy.mpr hin), ← hv y hin.1 hin.2.1 hin.2.2]
    show v (Shape.reshapeEquiv shapeCasts_S16_S1x16 _) = _
    rw [reshape_there]
    congr 2
  · rw [dif_neg (fun hc => hin (hyy.mp hc)), View.writes_nil, hf]
    exact hg y (by omega)

/-! ## Rounds -/

variable (d : Dev nD) (i : grid1.Coords) (b : Bufs) (X : S32x208.Idx → F .f32)

/-- A subcore's scratch in the middle of its work. -/
def state (st k : ℕ) : sProp 𝕄 :=
  iprop(shares d i fullShare b.scs X ∗ filled d i b.top (tops X) st k ∗ filled d i b.kid (kids X) st k ∗ filled d i b.idx (idxs (wid i) X) st k)

/-- A round's values are stored. -/
theorem wp_putRound {st k : ℕ} (ht : st ≤ 192) (ha : st % 16 = 0) (hk : k < 5) :
    state d i b X st k ⊢ tileWp d i (putRound i b ht (gbase (wid i) lanes st) hk (best (after k (rowsAt X st))).1 (best (after k (rowsAt X st))).2)
      fun _ => state d i b X st (k + 1) := by
  have hy : ∀ y : S5x208.Idx, st ≤ (y 1).val → (y 1).val < st + 16 → (y 1).val / 16 * 16 = st ∧ (y 1).val % 16 = (y 1).val - st := by
    intro y h1 h2; omega
  unfold state putRound
  iintro ⟨Hs, Ht, Hk, Hi⟩
  iapply (wp_then d i (wp_put d i b.top (tops X) hk ht rfl _ (fun y h0 h1 h2 => by
    unfold tops chosen; rw [(hy y h1 h2).1, (hy y h1 h2).2, h0]))) $$ Ht
  iintro %_ Ht
  iapply (wp_then d i (wp_put d i b.kid (kids X) hk ht rfl _ (fun y h0 h1 h2 => by
    unfold kids chosen; rw [(hy y h1 h2).1, (hy y h1 h2).2, h0]))) $$ Hk
  iintro %_ Hk
  unfold tileWp
  iapply (wp_wand_r frame (wpE (defs₀ (F := F)) 𝒱₀ (thr d i) none) Set.univ)
  isplitl [Hi]
  · iapply (wp_put d i b.idx (idxs (wid i) X) hk ht rfl _ (fun y h0 h1 h2 => by
      unfold idxs chosen; rw [(hy y h1 h2).1, (hy y h1 h2).2, h0])); iexact Hi
  iintro %_ Hi
  isplitl [Hs]; · iexact Hs
  isplitl [Ht]; · iexact Ht
  isplitl [Hk]; · iexact Hk
  iexact Hi

/-- A round, and what follows it. -/
theorem wp_round {α : Type} {st k : ℕ} (ht : st ≤ 192) (ha : st % 16 = 0) (hk : k < 5) (c : Rows F → TProg F i α) (Q : α → sProp 𝕄)
    (hc : state d i b X st (k + 1) ⊢ tileWp d i (c (after (k + 1) (rowsAt X st))) Q) :
    state d i b X st k ⊢ tileWp d i (round i b ht (gbase (wid i) lanes st) hk (after k (rowsAt X st)) c) Q := by
  unfold round
  iintro H
  iapply (wp_then d i (wp_putRound d i b X ht ha hk)) $$ H
  iintro %_ H
  iapply hc
  iexact H

/-- Five rounds fill sixteen columns. -/
theorem filled_next {e : EltTy} (B : Memref sig .scVector .vmem S5x208 e) (spec : S5x208.Idx → Elt F e) (st : ℕ) :
    filled d i B spec st 5 ⊢ (filled d i B spec (st + 16) 0 : sProp 𝕄) := by
  unfold filled
  iintro ⟨%g, %hg, H⟩
  iexists g; isplitr
  · ipureintro
    intro y hy
    have h0 : (y 0).val < 5 := (y 0).isLt
    exact hg y (by omega)
  iexact H

theorem state_next (st : ℕ) : state d i b X st 5 ⊢ (state d i b X (st + 16) 0 : sProp 𝕄) := by
  unfold state
  iintro ⟨Hs, Ht, Hk, Hi⟩
  isplitl [Hs]; · iexact Hs
  isplitl [Ht]; · iapply (filled_next d i b.top (tops X) st); iexact Ht
  isplitl [Hk]; · iapply (filled_next d i b.kid (kids X) st); iexact Hk
  iapply (filled_next d i b.idx (idxs (wid i) X) st); iexact Hi

/-- The five rounds. -/
theorem wp_rounds {st : ℕ} (ht : st ≤ 192) (ha : st % 16 = 0) :
    state d i b X st 0 ⊢ tileWp d i (choose i b ht (gbase (wid i) lanes st) (rowsAt X st) fun m am => putRound i b ht (gbase (wid i) lanes st) (k := 4) (by omega) m am)
      fun _ => state d i b X (st + 16) 0 := by
  unfold choose
  refine wp_round d i b X ht ha (k := 0) (by omega) _ _ ?_
  refine wp_round d i b X ht ha (k := 1) (by omega) _ _ ?_
  refine wp_round d i b X ht ha (k := 2) (by omega) _ _ ?_
  refine wp_round d i b X ht ha (k := 3) (by omega) _ _ ?_
  exact (wp_putRound d i b X ht ha (k := 4) (by omega)).trans (wp_mono frame _ _ fun _ => state_next d i b X st)

/-- A group of sixteen columns. -/
theorem wp_group {st : ℕ} (ht : st ≤ 192) (ha : st % 16 = 0) :
    state d i b X st 0 ⊢ tileWp d i (group i b ht) fun _ => state d i b X (st + 16) 0 := by
  have h := wp_rounds d i b X ht ha
  unfold group groupFront readRows readFrom2 readFrom3
  generalize hQ : (fun _ : PUnit => state d i b X (st + 16) 0) = Q at h ⊢
  unfold state at h ⊢
  iterate 31 refine wp_rd d i b X ht _ _ _ _ ?_
  exact h

end Cert.Proof.Best
-- ==== Proof.BestCopy.lean ====
module

public import proofs.«01_k».proof.Proof.BestTile

@[expose] public section

noncomputable section

namespace Cert.Proof.Best

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Copies waited for at once -/

/-- A transfer under way on a semaphore: when it is done, `R`. -/
def flying (d : Dev nD) (i : grid1.Coords) (sem : DmaSems sig S_) (N : ℕ) (R : sProp 𝕄) : sProp 𝕄 :=
  iprop(∃ D, Transfers.Flight countersEmb (thr d i) (.dma sem.sem) (none : HIx 2) N D ∗ (D -∗ R))

/-- What a subcore owes, having waited on some more of its own semaphores. -/
def owing (d : Dev nD) (i : grid1.Coords) (O : CellTallies nD τ sig (HIx 2)) (W : Waits sig (HIx 2)) : sProp 𝕄 :=
  iprop(∃ W' : Waits sig (HIx 2), ⌜∀ p ∈ W', p ∈ W ∨ p.2 = none⌝ ∗ owes (thr d i) O W')

/-- The semaphore at zero, and what is owed. -/
def idle (d : Dev nD) (i : grid1.Coords) (sem : DmaSems sig S_) : sProp 𝕄 := semVal (thr d i, SemLoc.dma sem.sem) 0

/-- A transfer under way, waited for. -/
theorem wp_land {α : Type} (d : Dev nD) (i : grid1.Coords) (O : CellTallies nD τ sig (HIx 2)) (W : Waits sig (HIx 2)) (sem : DmaSems sig S_)
    {κ' : Kind} {sp sp' : Space} {s s' : Shape} {e e' : EltTy} (srcw : Memref sig .scVector sp' s' e') (dstw : Memref sig κ' sp s e) (hsrc) (hdst)
    {N : ℕ} (hN : dstw.view.dmaCredit = N) (R : sProp 𝕄) {k : PUnit → TProg F i α} {Q : α → sProp 𝕄} :
    iprop(Transfers.MayWaits (thr d i) (none : HIx 2) O ∗ flying d i sem N R ∗ owing d i O W)
      ⊢ iprop((iprop(R ∗ idle d i sem ∗ owing d i O W) -∗ tileWp d i (k ⟨⟩) Q)
        -∗ tileWp d i (.op (.waitDma2 sem.sem srcw dstw hsrc hdst) k) Q) := by
  unfold flying owing idle
  iintro ⟨#HM, ⟨%D, Hfl, HD⟩, ⟨%W', %hW', HO⟩⟩ HK
  iapply (Transfers.wp_waitLocalO countersEmb 𝒱₀ (thr d i) none (none : HIx 2) hN) $$ [Hfl HO]
  · isplitl [Hfl]; · iexact Hfl
    isplitl [HO]; · iexact HO
    iapply (Transfers.MayWaits.elim (.dma sem.sem)); iexact HM
  iintro ⟨H, Hv, HO⟩
  iapply HK
  isplitl [H HD]
  · iapply HD; iexact H
  isplitl [Hv]; · iexact Hv
  iexists _
  isplitr
  swap
  · iexact HO
  · ipureintro
    intro p hp
    rcases Finset.mem_insert.mp hp with rfl | hp
    · exact Or.inr rfl
    · exact hW' p hp

/-- A local transfer and its wait. -/
theorem wp_copy (d : Dev nD) (i : grid1.Coords) (O : CellTallies nD τ sig (HIx 2)) (W : Waits sig (HIx 2)) (sem : DmaSems sig S_)
    {sp sp' : Space} {s : Shape} {e : EltTy} (src : Memref sig .scVector sp s e) (dst : Memref sig .scVector sp' s e) (hsrc) (hdst) (hsem) (hsrc') (hdst')
    (hpos : 0 < s.numel) (q : PosShare TreeShare) (fs : Buf (Elt F) (src.view.loc (thr d i))) (Sd : Finset (Idx (dst.view.loc (thr d i))))
    (hS : dst.view.set ⊆ Sd) (fd : Buf (Elt F) (dst.view.loc (thr d i))) :
    iprop(Transfers.MayWaits (thr d i) (none : HIx 2) O ∗ (src.view.loc (thr d i) ↦[src.view.set]{q} fs) ∗ (dst.view.loc (thr d i) ↦[Sd]{fullShare} fd)
        ∗ idle d i sem ∗ owing d i O W)
      ⊢ (tileWp d i (Prog.lift (.enqueueDma src (.here dst) (.dma sem.sem) hsrc hdst hsem) >>= fun _ => Prog.lift (.waitDma2 sem.sem src dst hsrc' hdst'))
          (fun _ => iprop((dst.view.loc (thr d i) ↦[Sd]{fullShare} dst.view.write (Elt F) fd (src.view.read (Elt F) fs) Finset.univ)
            ∗ (src.view.loc (thr d i) ↦[src.view.set]{q} fs) ∗ idle d i sem ∗ owing d i O W)) : sProp 𝕄) := by
  simp only [Prog.lift, Prog.bind]
  iintro ⟨#HM, Hs, Hd, Hi, HO⟩
  unfold idle
  iapply (Transfers.wp_dmaLocal countersEmb 𝒱₀ (thr d i) none (none : HIx 2) dst.view.dmaCredit rfl (View.dmaCredit_pos _ hpos) hS) $$ [Hs Hd Hi]
  · isplitl [Hs]; · iexact Hs
    isplitl [Hd]; · iexact Hd
    iexact Hi
  iintro Hfl
  iapply (wp_land d i O W sem src dst hsrc' hdst' (N := dst.view.dmaCredit) rfl
    iprop((dst.view.loc (thr d i) ↦[Sd]{fullShare} dst.view.write (Elt F) fd (src.view.read (Elt F) fs) Finset.univ)
      ∗ (src.view.loc (thr d i) ↦[src.view.set]{q} fs))) $$ [Hfl HO]
  · isplitr; · iexact HM
    isplitl [Hfl]
    · unfold flying
      iexists _
      isplitl [Hfl]; · iexact Hfl
      iintro H; iexact H
    · iexact HO
  iintro ⟨⟨Hd, Hs⟩, Hi, HO⟩
  unfold tileWp idle
  rw [wp_ret]
  imodintro
  isplitl [Hd]; · iexact Hd
  isplitl [Hs]; · iexact Hs
  isplitl [Hi]; · iexact Hi
  iexact HO

/-- Two contents read alike through a view agree on its elements. -/
theorem agree_of_read {sp : Space} {s : Shape} {e : EltTy} (v : View sig .scVector sp s e) {f f' : v.ty.Contents (Elt F)}
    (h : v.read (Elt F) f = v.read (Elt F) f') : ∀ j ∈ v.set, f j = f' j := by
  intro j hj
  obtain ⟨x, -, rfl⟩ := Finset.mem_map.mp hj
  have hx := congrFun h x
  rw [View.read_apply, View.read_apply] at hx
  exact (cast_inj _).mp hx

/-- One array copied into another, at a share of the one. -/
theorem wp_fill (d : Dev nD) (i : grid1.Coords) (O : CellTallies nD τ sig (HIx 2)) (W : Waits sig (HIx 2)) (sem : DmaSems sig S_)
    {sp sp' : Space} {s : Shape} {e : EltTy} (src : Memref sig .scVector sp s e) (dst : Memref sig .scVector sp' s e) (hsrc) (hdst) (hsem) (hsrc') (hdst')
    (hpos : 0 < s.numel) (q : PosShare TreeShare) (x : s.Idx → Elt F e) :
    iprop(Transfers.MayWaits (thr d i) (none : HIx 2) O ∗ shares d i q src x ∗ (∃ g, shares d i fullShare dst g) ∗ idle d i sem ∗ owing d i O W)
      ⊢ (tileWp d i (Prog.lift (.enqueueDma src (.here dst) (.dma sem.sem) hsrc hdst hsem) >>= fun _ => Prog.lift (.waitDma2 sem.sem src dst hsrc' hdst'))
          (fun _ => iprop(shares d i q src x ∗ shares d i fullShare dst x ∗ idle d i sem ∗ owing d i O W)) : sProp 𝕄) := by
  unfold shares
  iintro ⟨#HM, ⟨%fs, %hfs, Hs⟩, ⟨%g, %fd, %hfd, Hd⟩, Hi, HO⟩
  iapply (wp_wand_r frame (wpE (defs₀ (F := F)) 𝒱₀ (thr d i) none) Set.univ)
  isplitl [Hs Hd Hi HO]
  · iapply (wp_copy d i O W sem src dst hsrc hdst hsem hsrc' hdst' hpos q fs dst.view.set (Finset.Subset.refl _) fd)
    isplitr; · iexact HM
    isplitl [Hs]; · iexact Hs
    isplitl [Hd]; · iexact Hd
    isplitl [Hi]; · iexact Hi
    iexact HO
  iintro %_ ⟨Hd, Hs, Hi, HO⟩
  isplitl [Hs]
  · iexists fs; isplitr
    · ipureintro; exact hfs
    · iexact Hs
  isplitl [Hd]
  · iexists _
    isplitr
    swap
    · iexact Hd
    · ipureintro; rw [View.read_write_univ, hfs]
  isplitl [Hi]; · iexact Hi
  iexact HO

/-! ## A subcore's work -/

/-- The subcore's part of the scores, and of a result. -/
abbrev planeIn (i : grid1.Coords) (src : Memref sig .scVector .hbm S32x32x208 .f32) : Memref sig .scVector .hbm S32x208 .f32 :=
  (src.slice (Rect.unit (s := S32x32x208) (k1_off1 i) S1x32x208.size (k1_off1_inb i)) (fun _ => rfl)).squeeze S32x208 squeezes_S1x32x208_S32x208
abbrev planeOut (i : grid1.Coords) {e : EltTy} (dst : Memref sig .scVector .hbm S32x5x208 e) : Memref sig .scVector .hbm S5x208 e :=
  (dst.slice (Rect.unit (s := S32x5x208) (k1_off2 i) S1x5x208.size (k1_off2_inb i)) (fun _ => rfl)).squeeze S5x208 squeezes_S1x5x208_S5x208

/-- An array, whatever it holds. -/
def loose {sp : Space} {s : Shape} {e : EltTy} (d : Dev nD) (i : grid1.Coords) (b : Memref sig .scVector sp s e) : sProp 𝕄 :=
  iprop(∃ g : s.Idx → Elt F e, shares d i fullShare b g)

variable (d : Dev nD) (i : grid1.Coords) (O : CellTallies nD τ sig (HIx 2)) (W : Waits sig (HIx 2))

theorem filled_none {e : EltTy} (B : Memref sig .scVector .vmem S5x208 e) (spec : S5x208.Idx → Elt F e) :
    loose d i B ⊢ (filled d i B spec 0 0 : sProp 𝕄) := by
  unfold filled loose
  iintro ⟨%g, H⟩
  iexists g; isplitr
  · ipureintro
    intro y hy
    exfalso; omega
  iexact H

theorem filled_all {e : EltTy} (B : Memref sig .scVector .vmem S5x208 e) (spec : S5x208.Idx → Elt F e) :
    filled d i B spec 208 0 ⊢ (shares d i fullShare B spec : sProp 𝕄) := by
  unfold filled
  iintro ⟨%g, %hg, H⟩
  have h : g = spec := funext fun y => hg y (Or.inl (show (y 1).val < 208 from (y 1).isLt))
  subst h
  iexact H

/-- A scratch array of results goes out, and its arrival is waited for. -/
theorem wp_out {e : EltTy} (he : e.bits = 32) (buf : Memref sig .scVector .vmem S5x208 e) (hbuf : buf.IsWhole)
    (dst : Memref sig .scVector .hbm S32x5x208 e) (sem : DmaSems sig S_) (x : S5x208.Idx → Elt F e)
    (k : PUnit → TProg F i PUnit) (Q : PUnit → sProp 𝕄) :
    iprop(Transfers.MayWaits (thr d i) (none : HIx 2) O ∗ shares d i fullShare buf x ∗ loose d i (planeOut i dst) ∗ idle d i sem ∗ owing d i O W)
      ⊢ iprop((iprop(shares d i fullShare buf x ∗ shares d i fullShare (planeOut i dst) x ∗ idle d i sem ∗ owing d i O W) -∗ tileWp d i (k ⟨⟩) Q)
        -∗ tileWp d i (sendOut i he buf hbuf dst sem >>= fun _ => awaitOut i he buf hbuf dst sem >>= k) Q) := by
  rw [show (sendOut (F := F) i he buf hbuf dst sem >>= fun _ => awaitOut i he buf hbuf dst sem >>= k)
    = (sendOut i he buf hbuf dst sem >>= fun _ => awaitOut i he buf hbuf dst sem) >>= k from (Prog.bind_assoc _ _ _).symm]
  unfold loose
  iintro H HK
  iapply (wp_then d i (wp_fill d i O W sem buf (planeOut i dst) hbuf.wordExact ((View.wordExact_bits he).reshape _ _) ⟨Or.inl rfl, trivial⟩
    hbuf.wordExact ((View.wordExact_bits he).reshape _ _) (by decide) fullShare x)) $$ H
  iintro %_ H
  iapply HK
  iexact H

theorem wp_groupThen (b : Bufs) (X : S32x208.Idx → F .f32) {st : ℕ} (ht : st ≤ 192) (ha : st % 16 = 0)
    (k : PUnit → TProg F i PUnit) (Q : PUnit → sProp 𝕄) :
    state d i b X st 0 ⊢ iprop((state d i b X (st + 16) 0 -∗ tileWp d i (k ⟨⟩) Q) -∗ tileWp d i (group i b ht >>= k) Q) := by
  iintro H HK
  iapply (wp_then d i (wp_group d i b X ht ha)) $$ H
  iintro %_ H
  iapply HK
  iexact H

/-- What one vector subcore does. -/
theorem wp_tile (b : Bufs) (src : Memref sig .scVector .hbm S32x32x208 .f32) (out3 : Memref sig .scVector .hbm S32x5x208 .f32)
    (out4 out5 : Memref sig .scVector .hbm S32x5x208 .i32) (r0 r1 r2 r3 : DmaSems sig S_) (q : PosShare TreeShare) (X : S32x208.Idx → F .f32) :
    iprop(Transfers.MayWaits (thr d i) (none : HIx 2) O ∗ shares d i q (planeIn i src) X
        ∗ loose d i b.scs ∗ loose d i b.top ∗ loose d i b.kid ∗ loose d i b.idx
        ∗ loose d i (planeOut i out3) ∗ loose d i (planeOut i out4) ∗ loose d i (planeOut i out5)
        ∗ idle d i r0 ∗ idle d i r1 ∗ idle d i r2 ∗ idle d i r3 ∗ owing d i O W)
      ⊢ tileWp d i (tile i b src out3 out4 out5 r0 r1 r2 r3) fun _ =>
        iprop(shares d i q (planeIn i src) X
          ∗ loose d i b.scs ∗ loose d i b.top ∗ loose d i b.kid ∗ loose d i b.idx
          ∗ shares d i fullShare (planeOut i out3) (tops X) ∗ shares d i fullShare (planeOut i out4) (kids X)
          ∗ shares d i fullShare (planeOut i out5) (idxs (wid i) X)
          ∗ idle d i r0 ∗ idle d i r1 ∗ idle d i r2 ∗ idle d i r3 ∗ owing d i O W) := by
  unfold tile
  iintro ⟨#HM, Hx, Hs, Ht, Hk, Hi, O3, O4, O5, R0, R1, R2, R3, HO⟩
  iapply (wp_then d i (wp_fill d i O W r0 (planeIn i src) b.scs ((View.wordExact_bits rfl).reshape _ _) b.hscs.wordExact ⟨Or.inl rfl, trivial⟩
    ((View.wordExact_bits rfl).reshape _ _) b.hscs.wordExact (by decide) q X)) $$ [Hx Hs R0 HO]
  · isplitr; · iexact HM
    isplitl [Hx]; · iexact Hx
    isplitl [Hs]; · unfold loose; iexact Hs
    isplitl [R0]; · iexact R0
    iexact HO
  iintro %_ ⟨Hx, Hs, R0, HO⟩
  ihave HS : state d i b X 0 0 $$ [Hs Ht Hk Hi]
  · unfold state
    isplitl [Hs]; · iexact Hs
    isplitl [Ht]; · iapply (filled_none d i b.top (tops X)); iexact Ht
    isplitl [Hk]; · iapply (filled_none d i b.kid (kids X)); iexact Hk
    iapply (filled_none d i b.idx (idxs (wid i) X)); iexact Hi
  iapply (wp_groupThen d i b X (st := 0) _ (by decide)) $$ HS
  iintro HS
  iapply (wp_groupThen d i b X (st := 16) _ (by decide)) $$ HS
  iintro HS
  iapply (wp_groupThen d i b X (st := 32) _ (by decide)) $$ HS
  iintro HS
  iapply (wp_groupThen d i b X (st := 48) _ (by decide)) $$ HS
  iintro HS
  iapply (wp_groupThen d i b X (st := 64) _ (by decide)) $$ HS
  iintro HS
  iapply (wp_groupThen d i b X (st := 80) _ (by decide)) $$ HS
  iintro HS
  iapply (wp_groupThen d i b X (st := 96) _ (by decide)) $$ HS
  iintro HS
  iapply (wp_groupThen d i b X (st := 112) _ (by decide)) $$ HS
  iintro HS
  iapply (wp_groupThen d i b X (st := 128) _ (by decide)) $$ HS
  iintro HS
  iapply (wp_groupThen d i b X (st := 144) _ (by decide)) $$ HS
  iintro HS
  iapply (wp_groupThen d i b X (st := 160) _ (by decide)) $$ HS
  iintro HS
  iapply (wp_groupThen d i b X (st := 176) _ (by decide)) $$ HS
  iintro HS
  iapply (wp_groupThen d i b X (st := 192) _ (by decide)) $$ HS
  iintro HS
  unfold state
  icases HS with ⟨Hs, Ht, Hk, Hi⟩
  ihave Ht := (filled_all d i b.top (tops X)) $$ Ht
  ihave Hk := (filled_all d i b.kid (kids X)) $$ Hk
  ihave Hi := (filled_all d i b.idx (idxs (wid i) X)) $$ Hi
  iapply (wp_out d i O W rfl b.top b.htop out3 r1 (tops X)) $$ [Ht O3 R1 HO]
  · isplitr; · iexact HM
    isplitl [Ht]; · iexact Ht
    isplitl [O3]; · iexact O3
    isplitl [R1]; · iexact R1
    iexact HO
  iintro ⟨Ht, O3, R1, HO⟩
  iapply (wp_out d i O W rfl b.kid b.hkid out4 r2 (kids X)) $$ [Hk O4 R2 HO]
  · isplitr; · iexact HM
    isplitl [Hk]; · iexact Hk
    isplitl [O4]; · iexact O4
    isplitl [R2]; · iexact R2
    iexact HO
  iintro ⟨Hk, O4, R2, HO⟩
  iapply (wp_out d i O W rfl b.idx b.hidx out5 r3 (idxs (wid i) X)) $$ [Hi O5 R3 HO]
  · isplitr; · iexact HM
    isplitl [Hi]; · iexact Hi
    isplitl [O5]; · iexact O5
    isplitl [R3]; · iexact R3
    iexact HO
  iintro ⟨Hi, O5, R3, HO⟩
  unfold tileWp
  rw [wp_pure]
  imodintro
  isplitl [Hx]; · iexact Hx
  isplitl [Hs]; · unfold loose; iexists X; iexact Hs
  isplitl [Ht]; · unfold loose; iexists (tops X); iexact Ht
  isplitl [Hk]; · unfold loose; iexists (kids X); iexact Hk
  isplitl [Hi]; · unfold loose; iexists (idxs (wid i) X); iexact Hi
  isplitl [O3]; · iexact O3
  isplitl [O4]; · iexact O4
  isplitl [O5]; · iexact O5
  isplitl [R0]; · iexact R0
  isplitl [R1]; · iexact R1
  isplitl [R2]; · iexact R2
  isplitl [R3]; · iexact R3
  iexact HO

end Cert.Proof.Best
-- ==== Proof.BestWin1.lean ====
module

public import proofs.«01_k».proof.Proof.BestProg

@[expose] public section

set_option synthInstance.maxSize 4096

noncomputable section

namespace Cert.Proof.Best

open Cert.KernelIdeal Cert.KernelIdeal.Gen
open Idealize.ShloMosaic Idealize.SL.Sem

variable {F : FTy → Type} [FloatOps F]

set_option maxRecDepth 100000
set_option maxHeartbeats 0

/-- Part 1 of 7 of the printed body. -/
theorem win1 (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_)  : k1_part391 (F := F) i arg2 harg2 arg3 harg3 arg4 harg4 arg5 harg5 arg6 harg6 arg7 harg7 arg8 harg8 arg9 harg9 v16616_r0 v16616_r1 v16616_r2 v16616_r3  = (
  copyIn i ⟨arg6, harg6, arg7, harg7, arg8, harg8, arg9, harg9⟩ arg2 v16616_r0 >>= fun _ =>
  groupFront i ⟨arg6, harg6, arg7, harg7, arg8, harg8, arg9, harg9⟩ (st := 0) (by omega) (gbase (wid i) lanes 0) fun m am =>
  putRound i ⟨arg6, harg6, arg7, harg7, arg8, harg8, arg9, harg9⟩ (st := 0) (by omega) (gbase (wid i) lanes 0) (k := 4) (by omega) m am >>= fun _ =>
  groupFront i ⟨arg6, harg6, arg7, harg7, arg8, harg8, arg9, harg9⟩ (st := 16) (by omega) (gbase (wid i) lanes 16) fun m am =>
  put i arg7 (k := 4) (st := 16) (by omega) (by omega) rfl (shapeCast S1x16 m shapeCasts_S16_S1x16) >>= fun _ =>
  pure ⟨wid i, (gbase (wid i) lanes 16), am, 1#32⟩) := by
  unfold k1_part391 k1_part1 k1_part2 k1_part3 k1_part4 k1_part5 k1_part6 k1_part7 k1_part8 k1_part9 k1_part10 k1_part11 k1_part12 k1_part13 k1_part14 k1_part15 k1_part16 k1_part17 k1_part18 k1_part19 k1_part20 k1_part21 k1_part22 k1_part23 k1_part24 k1_part25 k1_part26 k1_part27 k1_part28 k1_part29 k1_part30 k1_part31 k1_part32 k1_part33 k1_part34 k1_part35 k1_part36 k1_part37 k1_part38 k1_part39 k1_part40 k1_part41 k1_part42 k1_part43 k1_part44 k1_part45 k1_part46 k1_part47 k1_part48 k1_part49 k1_part50 k1_part51 k1_part52 k1_part53 k1_part54 k1_part55 k1_part56 k1_part57 k1_part58 k1_part59 k1_part60 copyIn groupFront choose round putRound put
  simp (config := { iota := true, proj := true }) only [Prog.bind_assoc]
  exact rfl

end Cert.Proof.Best
-- ==== Proof.BestWin2.lean ====
module

public import proofs.«01_k».proof.Proof.BestProg

@[expose] public section

set_option synthInstance.maxSize 4096

noncomputable section

namespace Cert.Proof.Best

open Cert.KernelIdeal Cert.KernelIdeal.Gen
open Idealize.ShloMosaic Idealize.SL.Sem

variable {F : FTy → Type} [FloatOps F]

set_option maxRecDepth 100000
set_option maxHeartbeats 0

/-- Part 2 of 7 of the printed body. -/
theorem win2 (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (gb am : Ints) (one : BitVec 32) : k1_part392 (F := F) i arg2 harg2 arg3 harg3 arg4 harg4 arg5 harg5 arg6 harg6 arg7 harg7 arg8 harg8 arg9 harg9 v16616_r0 v16616_r1 v16616_r2 v16616_r3 v1 gb am one = (
  put i arg8 (k := 4) (st := 16) (by omega) (by omega) rfl (shapeCast S1x16 (subi am (broadcast S16 one)) shapeCasts_S16_S1x16) >>= fun _ =>
  put i arg9 (k := 4) (st := 16) (by omega) (by omega) rfl (shapeCast S1x16 (addi gb am) shapeCasts_S16_S1x16) >>= fun _ =>
  groupFront i ⟨arg6, harg6, arg7, harg7, arg8, harg8, arg9, harg9⟩ (st := 32) (by omega) (gbase v1 lanes 32) fun m am =>
  putRound i ⟨arg6, harg6, arg7, harg7, arg8, harg8, arg9, harg9⟩ (st := 32) (by omega) (gbase v1 lanes 32) (k := 4) (by omega) m am >>= fun _ =>
  groupFront i ⟨arg6, harg6, arg7, harg7, arg8, harg8, arg9, harg9⟩ (st := 48) (by omega) (gbase v1 lanes 48) fun m am =>
  put i arg7 (k := 4) (st := 48) (by omega) (by omega) rfl (shapeCast S1x16 m shapeCasts_S16_S1x16) >>= fun _ =>
  look i arg8 (k := 4) (st := 48) (by omega) (by omega) >>= fun old =>
  pure ⟨(gbase v1 lanes 48), am, subi am (broadcast S16 1#32), old⟩) := by
  unfold k1_part392 k1_part61 k1_part62 k1_part63 k1_part64 k1_part65 k1_part66 k1_part67 k1_part68 k1_part69 k1_part70 k1_part71 k1_part72 k1_part73 k1_part74 k1_part75 k1_part76 k1_part77 k1_part78 k1_part79 k1_part80 k1_part81 k1_part82 k1_part83 k1_part84 k1_part85 k1_part86 k1_part87 k1_part88 k1_part89 k1_part90 k1_part91 k1_part92 k1_part93 k1_part94 k1_part95 k1_part96 k1_part97 k1_part98 k1_part99 k1_part100 k1_part101 k1_part102 k1_part103 k1_part104 k1_part105 k1_part106 k1_part107 k1_part108 k1_part109 k1_part110 k1_part111 k1_part112 k1_part113 k1_part114 k1_part115 k1_part116 k1_part117 k1_part118 k1_part119 k1_part120 groupFront choose round putRound put
  simp (config := { iota := true, proj := true }) only [Prog.bind_assoc]
  exact rfl

end Cert.Proof.Best
-- ==== Proof.BestWin3.lean ====
module

public import proofs.«01_k».proof.Proof.BestProg

@[expose] public section

set_option synthInstance.maxSize 4096

noncomputable section

namespace Cert.Proof.Best

open Cert.KernelIdeal Cert.KernelIdeal.Gen
open Idealize.ShloMosaic Idealize.SL.Sem

variable {F : FTy → Type} [FloatOps F]

set_option maxRecDepth 100000
set_option maxHeartbeats 0

/-- Part 3 of 7 of the printed body. -/
theorem win3 (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (gb am kid : Ints) (old : Vec F S1x16 .i32) : k1_part393 (F := F) i arg2 harg2 arg3 harg3 arg4 harg4 arg5 harg5 arg6 harg6 arg7 harg7 arg8 harg8 arg9 harg9 v16616_r0 v16616_r1 v16616_r2 v16616_r3 v1 gb am kid old = (
  place i arg8 (k := 4) (st := 48) (by omega) (by omega) rfl (shapeCast S1x16 kid shapeCasts_S16_S1x16) >>= fun _ =>
  put i arg9 (k := 4) (st := 48) (by omega) (by omega) rfl (shapeCast S1x16 (addi gb am) shapeCasts_S16_S1x16) >>= fun _ =>
  groupFront i ⟨arg6, harg6, arg7, harg7, arg8, harg8, arg9, harg9⟩ (st := 64) (by omega) (gbase v1 lanes 64) fun m am =>
  putRound i ⟨arg6, harg6, arg7, harg7, arg8, harg8, arg9, harg9⟩ (st := 64) (by omega) (gbase v1 lanes 64) (k := 4) (by omega) m am >>= fun _ =>
  groupFront i ⟨arg6, harg6, arg7, harg7, arg8, harg8, arg9, harg9⟩ (st := 80) (by omega) (gbase v1 lanes 80) fun m am =>
  put i arg7 (k := 4) (st := 80) (by omega) (by omega) rfl (shapeCast S1x16 m shapeCasts_S16_S1x16) >>= fun _ =>
  put i arg8 (k := 4) (st := 80) (by omega) (by omega) rfl (shapeCast S1x16 (subi am (broadcast S16 1#32)) shapeCasts_S16_S1x16) >>= fun _ =>
  pure (addi (gbase v1 lanes 80) am)) := by
  unfold k1_part393 k1_part121 k1_part122 k1_part123 k1_part124 k1_part125 k1_part126 k1_part127 k1_part128 k1_part129 k1_part130 k1_part131 k1_part132 k1_part133 k1_part134 k1_part135 k1_part136 k1_part137 k1_part138 k1_part139 k1_part140 k1_part141 k1_part142 k1_part143 k1_part144 k1_part145 k1_part146 k1_part147 k1_part148 k1_part149 k1_part150 k1_part151 k1_part152 k1_part153 k1_part154 k1_part155 k1_part156 k1_part157 k1_part158 k1_part159 k1_part160 k1_part161 k1_part162 k1_part163 k1_part164 k1_part165 k1_part166 k1_part167 k1_part168 k1_part169 k1_part170 k1_part171 k1_part172 k1_part173 k1_part174 k1_part175 k1_part176 k1_part177 k1_part178 k1_part179 k1_part180 groupFront choose round putRound put
  simp (config := { iota := true, proj := true }) only [Prog.bind_assoc]
  exact rfl

end Cert.Proof.Best
-- ==== Proof.BestWin4.lean ====
module

public import proofs.«01_k».proof.Proof.BestProg

@[expose] public section

set_option synthInstance.maxSize 4096

noncomputable section

namespace Cert.Proof.Best

open Cert.KernelIdeal Cert.KernelIdeal.Gen
open Idealize.ShloMosaic Idealize.SL.Sem

variable {F : FTy → Type} [FloatOps F]

set_option maxRecDepth 100000
set_option maxHeartbeats 0

/-- Part 4 of 7 of the printed body. -/
theorem win4 (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (x : Ints) : k1_part394 (F := F) i arg2 harg2 arg3 harg3 arg4 harg4 arg5 harg5 arg6 harg6 arg7 harg7 arg8 harg8 arg9 harg9 v16616_r0 v16616_r1 v16616_r2 v16616_r3 v1 x = (
  put i arg9 (k := 4) (st := 80) (by omega) (by omega) rfl (shapeCast S1x16 x shapeCasts_S16_S1x16) >>= fun _ =>
  groupFront i ⟨arg6, harg6, arg7, harg7, arg8, harg8, arg9, harg9⟩ (st := 96) (by omega) (gbase v1 lanes 96) fun m am =>
  putRound i ⟨arg6, harg6, arg7, harg7, arg8, harg8, arg9, harg9⟩ (st := 96) (by omega) (gbase v1 lanes 96) (k := 4) (by omega) m am >>= fun _ =>
  groupFront i ⟨arg6, harg6, arg7, harg7, arg8, harg8, arg9, harg9⟩ (st := 112) (by omega) (gbase v1 lanes 112) fun m am =>
  putRound i ⟨arg6, harg6, arg7, harg7, arg8, harg8, arg9, harg9⟩ (st := 112) (by omega) (gbase v1 lanes 112) (k := 4) (by omega) m am >>= fun _ =>
  pure lanes) := by
  unfold k1_part394 k1_part181 k1_part182 k1_part183 k1_part184 k1_part185 k1_part186 k1_part187 k1_part188 k1_part189 k1_part190 k1_part191 k1_part192 k1_part193 k1_part194 k1_part195 k1_part196 k1_part197 k1_part198 k1_part199 k1_part200 k1_part201 k1_part202 k1_part203 k1_part204 k1_part205 k1_part206 k1_part207 k1_part208 k1_part209 k1_part210 k1_part211 k1_part212 k1_part213 k1_part214 k1_part215 k1_part216 k1_part217 k1_part218 k1_part219 k1_part220 k1_part221 k1_part222 k1_part223 k1_part224 k1_part225 k1_part226 k1_part227 k1_part228 k1_part229 k1_part230 k1_part231 k1_part232 k1_part233 k1_part234 k1_part235 k1_part236 k1_part237 k1_part238 k1_part239 k1_part240 groupFront choose round putRound put
  simp (config := { iota := true, proj := true }) only [Prog.bind_assoc]
  exact rfl

end Cert.Proof.Best
-- ==== Proof.BestWin5.lean ====
module

public import proofs.«01_k».proof.Proof.BestProg

@[expose] public section

set_option synthInstance.maxSize 4096

noncomputable section

namespace Cert.Proof.Best

open Cert.KernelIdeal Cert.KernelIdeal.Gen
open Idealize.ShloMosaic Idealize.SL.Sem

variable {F : FTy → Type} [FloatOps F]

set_option maxRecDepth 100000
set_option maxHeartbeats 0

/-- Part 5 of 7 of the printed body. -/
theorem win5 (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (io : Ints) : k1_part395 (F := F) i arg2 harg2 arg3 harg3 arg4 harg4 arg5 harg5 arg6 harg6 arg7 harg7 arg8 harg8 arg9 harg9 v16616_r0 v16616_r1 v16616_r2 v16616_r3 v1 io = (
  groupFront i ⟨arg6, harg6, arg7, harg7, arg8, harg8, arg9, harg9⟩ (st := 128) (by omega) (gbase v1 io 128) fun m am =>
  putRound i ⟨arg6, harg6, arg7, harg7, arg8, harg8, arg9, harg9⟩ (st := 128) (by omega) (gbase v1 io 128) (k := 4) (by omega) m am >>= fun _ =>
  groupFront i ⟨arg6, harg6, arg7, harg7, arg8, harg8, arg9, harg9⟩ (st := 144) (by omega) (gbase v1 lanes 144) fun m am =>
  putRound i ⟨arg6, harg6, arg7, harg7, arg8, harg8, arg9, harg9⟩ (st := 144) (by omega) (gbase v1 lanes 144) (k := 4) (by omega) m am >>= fun _ =>
  rd i ⟨arg6, harg6, arg7, harg7, arg8, harg8, arg9, harg9⟩ (st := 160) (by omega) (s := 1) (by omega) fun r1 =>
  pure ⟨lanes, r1, 2#32⟩) := by
  unfold k1_part395 k1_part241 k1_part242 k1_part243 k1_part244 k1_part245 k1_part246 k1_part247 k1_part248 k1_part249 k1_part250 k1_part251 k1_part252 k1_part253 k1_part254 k1_part255 k1_part256 k1_part257 k1_part258 k1_part259 k1_part260 k1_part261 k1_part262 k1_part263 k1_part264 k1_part265 k1_part266 k1_part267 k1_part268 k1_part269 k1_part270 k1_part271 k1_part272 k1_part273 k1_part274 k1_part275 k1_part276 k1_part277 k1_part278 k1_part279 k1_part280 k1_part281 k1_part282 k1_part283 k1_part284 k1_part285 k1_part286 k1_part287 k1_part288 k1_part289 k1_part290 k1_part291 k1_part292 k1_part293 k1_part294 k1_part295 k1_part296 k1_part297 k1_part298 k1_part299 k1_part300 groupFront choose round putRound put
  simp (config := { iota := true, proj := true }) only [Prog.bind_assoc]
  exact rfl

end Cert.Proof.Best
-- ==== Proof.BestWin6.lean ====
module

public import proofs.«01_k».proof.Proof.BestProg

@[expose] public section

set_option synthInstance.maxSize 4096

noncomputable section

namespace Cert.Proof.Best

open Cert.KernelIdeal Cert.KernelIdeal.Gen
open Idealize.ShloMosaic Idealize.SL.Sem

variable {F : FTy → Type} [FloatOps F]

set_option maxRecDepth 100000
set_option maxHeartbeats 0

/-- Part 6 of 7 of the printed body. -/
theorem win6 (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (io : Ints) (r1 : Lanes F) (two : BitVec 32) : k1_part396 (F := F) i arg2 harg2 arg3 harg3 arg4 harg4 arg5 harg5 arg6 harg6 arg7 harg7 arg8 harg8 arg9 harg9 v16616_r0 v16616_r1 v16616_r2 v16616_r3 v1 io r1 two = (
  readFrom2 i ⟨arg6, harg6, arg7, harg7, arg8, harg8, arg9, harg9⟩ (st := 160) (by omega) r1 fun l =>
  choose i ⟨arg6, harg6, arg7, harg7, arg8, harg8, arg9, harg9⟩ (st := 160) (by omega) (gbase v1 io 160) l fun m am =>
  putRound i ⟨arg6, harg6, arg7, harg7, arg8, harg8, arg9, harg9⟩ (st := 160) (by omega) (gbase v1 io 160) (k := 4) (by omega) m am >>= fun _ =>
  groupFront i ⟨arg6, harg6, arg7, harg7, arg8, harg8, arg9, harg9⟩ (st := 176) (by omega) (gbase v1 lanes 176) fun m am =>
  putRound i ⟨arg6, harg6, arg7, harg7, arg8, harg8, arg9, harg9⟩ (st := 176) (by omega) (gbase v1 lanes 176) (k := 4) (by omega) m am >>= fun _ =>
  rd i ⟨arg6, harg6, arg7, harg7, arg8, harg8, arg9, harg9⟩ (st := 192) (by omega) (s := 1) (by omega) fun r1 =>
  rd i ⟨arg6, harg6, arg7, harg7, arg8, harg8, arg9, harg9⟩ (st := 192) (by omega) (s := 2) (by omega) fun r2 =>
  pure ⟨lanes, r1, r2⟩) := by
  unfold k1_part396 k1_part301 k1_part302 k1_part303 k1_part304 k1_part305 k1_part306 k1_part307 k1_part308 k1_part309 k1_part310 k1_part311 k1_part312 k1_part313 k1_part314 k1_part315 k1_part316 k1_part317 k1_part318 k1_part319 k1_part320 k1_part321 k1_part322 k1_part323 k1_part324 k1_part325 k1_part326 k1_part327 k1_part328 k1_part329 k1_part330 k1_part331 k1_part332 k1_part333 k1_part334 k1_part335 k1_part336 k1_part337 k1_part338 k1_part339 k1_part340 k1_part341 k1_part342 k1_part343 k1_part344 k1_part345 k1_part346 k1_part347 k1_part348 k1_part349 k1_part350 k1_part351 k1_part352 k1_part353 k1_part354 k1_part355 k1_part356 k1_part357 k1_part358 k1_part359 k1_part360 groupFront choose round putRound put readFrom2
  simp (config := { iota := true, proj := true }) only [Prog.bind_assoc]
  exact rfl

end Cert.Proof.Best
-- ==== Proof.BestWin7.lean ====
module

public import proofs.«01_k».proof.Proof.BestProg

@[expose] public section

set_option synthInstance.maxSize 4096

noncomputable section

namespace Cert.Proof.Best

open Cert.KernelIdeal Cert.KernelIdeal.Gen
open Idealize.ShloMosaic Idealize.SL.Sem

variable {F : FTy → Type} [FloatOps F]

set_option maxRecDepth 100000
set_option maxHeartbeats 0

/-- Part 7 of 7 of the printed body. -/
theorem win7 (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (io : Ints) (r1 r2 : Lanes F) : k1_part397 (F := F) i arg2 harg2 arg3 harg3 arg4 harg4 arg5 harg5 arg6 harg6 arg7 harg7 arg8 harg8 arg9 harg9 v16616_r0 v16616_r1 v16616_r2 v16616_r3 v1 io r1 r2 = (
  readFrom3 i ⟨arg6, harg6, arg7, harg7, arg8, harg8, arg9, harg9⟩ (st := 192) (by omega) r1 r2 fun l =>
  choose i ⟨arg6, harg6, arg7, harg7, arg8, harg8, arg9, harg9⟩ (st := 192) (by omega) (gbase v1 io 192) l fun m am =>
  putRound i ⟨arg6, harg6, arg7, harg7, arg8, harg8, arg9, harg9⟩ (st := 192) (by omega) (gbase v1 io 192) (k := 4) (by omega) m am >>= fun _ =>
  sendOut i rfl arg7 harg7 arg3 v16616_r1 >>= fun _ =>
  awaitOut i rfl arg7 harg7 arg3 v16616_r1 >>= fun _ =>
  sendOut i rfl arg8 harg8 arg4 v16616_r2 >>= fun _ =>
  awaitOut i rfl arg8 harg8 arg4 v16616_r2 >>= fun _ =>
  sendOut i rfl arg9 harg9 arg5 v16616_r3 >>= fun _ =>
  pure ⟨⟩) := by
  unfold k1_part397 k1_part361 k1_part362 k1_part363 k1_part364 k1_part365 k1_part366 k1_part367 k1_part368 k1_part369 k1_part370 k1_part371 k1_part372 k1_part373 k1_part374 k1_part375 k1_part376 k1_part377 k1_part378 k1_part379 k1_part380 k1_part381 k1_part382 k1_part383 k1_part384 k1_part385 k1_part386 k1_part387 k1_part388 k1_part389 k1_part390 choose round putRound put
  simp (config := { iota := true, proj := true }) only [Prog.bind_assoc]
  exact rfl

end Cert.Proof.Best
-- ==== Proof.BestBody.lean ====
module

public import proofs.«01_k».proof.Proof.BestWin1
public import proofs.«01_k».proof.Proof.BestWin2
public import proofs.«01_k».proof.Proof.BestWin3
public import proofs.«01_k».proof.Proof.BestWin4
public import proofs.«01_k».proof.Proof.BestWin5
public import proofs.«01_k».proof.Proof.BestWin6
public import proofs.«01_k».proof.Proof.BestWin7

@[expose] public section

set_option synthInstance.maxSize 4096

noncomputable section

namespace Cert.Proof.Best

open Cert.KernelIdeal Cert.KernelIdeal.Gen
open Idealize.ShloMosaic Idealize.SL.Sem

variable {F : FTy → Type} [FloatOps F]

section
variable {α β : Type} (i : grid1.Coords) (b : Bufs) {st : ℕ} (ht : st ≤ 192) (f : α → TProg F i β)

theorem rd_bind {s : ℕ} (hs : s < 32) (k : Lanes F → TProg F i α) : rd i b ht hs k >>= f = rd i b ht hs fun r => k r >>= f := by
  simp only [rd, Prog.bind_assoc]

theorem readFrom3_bind (r1 r2 : Lanes F) (k : Rows F → TProg F i α) : readFrom3 i b ht r1 r2 k >>= f = readFrom3 i b ht r1 r2 fun l => k l >>= f := by
  simp only [readFrom3, rd_bind]

theorem readFrom2_bind (r1 : Lanes F) (k : Rows F → TProg F i α) : readFrom2 i b ht r1 k >>= f = readFrom2 i b ht r1 fun l => k l >>= f := by
  simp only [readFrom2, rd_bind, readFrom3_bind]

theorem readRows_bind (k : Rows F → TProg F i α) : readRows i b ht k >>= f = readRows i b ht fun l => k l >>= f := by
  simp only [readRows, rd_bind, readFrom2_bind]

theorem choose_bind (gb : Ints) (l : Rows F) (k : Lanes F → Ints → TProg F i α) :
    choose i b ht gb l k >>= f = choose i b ht gb l fun m am => k m am >>= f := by
  simp only [choose, round, Prog.bind_assoc]

theorem groupFront_bind (gb : Ints) (k : Lanes F → Ints → TProg F i α) :
    groupFront i b ht gb k >>= f = groupFront i b ht gb fun m am => k m am >>= f := by
  simp only [groupFront, readRows_bind, choose_bind]

end

set_option maxRecDepth 100000 in
/-- The printed body is that program. -/
theorem body_eq (i : grid1.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) :
    cc1__sc_topk_body (F := F) i arg2 harg2 arg3 harg3 arg4 harg4 arg5 harg5 arg6 harg6 arg7 harg7 arg8 harg8 arg9 harg9 v16616_r0 v16616_r1 v16616_r2 v16616_r3 = tile i ⟨arg6, harg6, arg7, harg7, arg8, harg8, arg9, harg9⟩ arg2 arg3 arg4 arg5 v16616_r0 v16616_r1 v16616_r2 v16616_r3 := by
  unfold cc1__sc_topk_body tile group
  simp (config := { iota := true, proj := true }) only [win1, win2, win3, win4, win5, win6, win7, putRound, put, Prog.bind_assoc, pure_bind, rd_bind, readFrom3_bind, readFrom2_bind, choose_bind, groupFront_bind]
  rfl

end Cert.Proof.Best
-- ==== Proof.BestTask.lean ====
module

public import proofs.«01_k».proof.Proof.BestCopy
public import proofs.«01_k».proof.Proof.BestBody
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Best

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The arrays and what the call makes of them -/

abbrev aLoc (d : Dev nD) : Loc nD τ sig := (SparseCore.T d).loc main_v0
abbrev tLoc (d : Dev nD) : Loc nD τ sig := (SparseCore.T d).loc main_v1_0
abbrev kLoc (d : Dev nD) : Loc nD τ sig := (SparseCore.T d).loc main_v1_1
abbrev xLoc (d : Dev nD) : Loc nD τ sig := (SparseCore.T d).loc main_v1_2

/-- The scratch arrays of a subcore. -/
def bufs : Bufs where
  scs := Memref.whole cc1_scratch0
  hscs := Memref.isWhole_whole _
  top := Memref.whole cc1_scratch1
  htop := Memref.isWhole_whole _
  kid := Memref.whole cc1_scratch2
  hkid := Memref.isWhole_whole _
  idx := Memref.whole cc1_scratch3
  hidx := Memref.isWhole_whole _

/-- The scores and the three results, as a subcore names them. -/
abbrev mA : Memref sig .scVector .hbm S32x32x208 .f32 := Memref.whole main_v0_scv
abbrev mT : Memref sig .scVector .hbm S32x5x208 .f32 := Memref.whole main_v1_0_scv
abbrev mK : Memref sig .scVector .hbm S32x5x208 .i32 := Memref.whole main_v1_1_scv
abbrev mX : Memref sig .scVector .hbm S32x5x208 .i32 := Memref.whole main_v1_2_scv

/-- Entry of plane `w` of the scores. -/
def at3 (w : ℕ) (x : S32x208.Idx) : S32x32x208.Idx := fun a => match a with
  | 0 => ⟨w % 32, Nat.mod_lt _ (by decide)⟩
  | 1 => x 0
  | 2 => x 1

/-- Plane `w` of the scores. -/
def plane {α : Type} (f : S32x32x208.Idx → α) (w : ℕ) : S32x208.Idx → α := fun x => f (at3 w x)

/-- The entry of a plane that an entry of a result is. -/
def inPlane (y : S32x5x208.Idx) : S5x208.Idx := fun a => match a with
  | 0 => y 1
  | 1 => y 2

/-- The three results of the call, plane by plane. -/
def allTops (f : S32x32x208.Idx → F .f32) : S32x5x208.Idx → F .f32 := fun y => tops (plane f (y 0).val) (inPlane y)
def allKids (f : S32x32x208.Idx → F .f32) : S32x5x208.Idx → BitVec 32 := fun y => kids (plane f (y 0).val) (inPlane y)
def allIdxs (f : S32x32x208.Idx → F .f32) : S32x5x208.Idx → BitVec 32 := fun y => idxs (BitVec.ofNat 32 (y 0).val) (plane f (y 0).val) (inPlane y)

/-- The number of a subcore. -/
def tileNo (c : Fin 2) (s : Fin 16) : Fin 32 := ⟨2 * s.val + c.val, by omega⟩

omit [FloatOps F] in
theorem wid_eq : ∀ i : grid1.Coords, wid i = BitVec.ofNat 32 (2 * (i 1).val + (i 0).val) := by decide +kernel

/-- The plane of a result that subcore `w` writes. -/
def planeOf (w : Fin 32) : Finset S32x5x208.Idx := Finset.univ.filter fun y => (y 0).val = w.val

omit [FloatOps F] in
/-- A subcore's plane of the scores, read as the subcore reads it. -/
theorem read_in (M : Memref sig .scVector .hbm S32x32x208 .f32) (i : grid1.Coords) (f : M.view.ty.Contents (Elt F)) :
    (planeIn i M).view.read (Elt F) f = plane (M.view.read (Elt F) f) (2 * (i 1).val + (i 0).val) := by
  have hi0 : (i 0).val < 2 := (i 0).isLt
  have hi1 : (i 1).val < 16 := (i 1).isLt
  funext x
  show M.view.readAt (Elt F) (Rect.unit (s := S32x32x208) (k1_off1 i) S1x32x208.size (k1_off1_inb i)).toLoadRect f
      (Shape.reshapeEquiv squeezes_S1x32x208_S32x208.numel_eq x) = _
  rw [show Shape.reshapeEquiv (squeezes_S1x32x208_S32x208.numel_eq : S32x208.numel = S1x32x208.numel) x
      = (fun a => match a with | 0 => (0 : Fin 1) | 1 => x 0 | 2 => x 1 : S1x32x208.Idx) from
    Shape.reshapeEquiv_eq_of_rowMajor _ (by
      rw [Shape.rowMajor_val_three, Shape.rowMajor_val_two]
      show (0 * 32 + (x 0).val) * 208 + (x 1).val = (x 0).val * 208 + (x 1).val; omega)]
  rw [View.readAt_apply]
  unfold plane
  refine congrArg (M.view.read (Elt F) f) (funext fun a => Fin.ext ?_)
  have ho := congrFun (k1_off1_eq i)
  match a with
  | 0 =>
    show k1_off1 i 0 + 1 * 0 = (2 * (i 1).val + (i 0).val) % 32
    rw [ho 0]; show 2 * (i 1).val + (i 0).val + 1 * 0 = _; omega
  | 1 =>
    show k1_off1 i 1 + 1 * (x 0).val = (x 0).val
    rw [ho 1]; show 0 + 1 * (x 0).val = _; omega
  | 2 =>
    show k1_off1 i 2 + 1 * (x 1).val = (x 1).val
    rw [ho 2]; show 0 + 1 * (x 1).val = _; omega

/-- The entry of a result that an entry of subcore `w`'s plane is. -/
def outAt (w : ℕ) (x : S5x208.Idx) : S32x5x208.Idx := fun a => match a with
  | 0 => ⟨w % 32, Nat.mod_lt _ (by decide)⟩
  | 1 => x 0
  | 2 => x 1

omit [FloatOps F] in
/-- And a subcore's plane of a result. -/
theorem read_out {e : EltTy} (M : Memref sig .scVector .hbm S32x5x208 e) (i : grid1.Coords) (f : M.view.ty.Contents (Elt F)) (x : S5x208.Idx) :
    (planeOut i M).view.read (Elt F) f x = M.view.read (Elt F) f (outAt (2 * (i 1).val + (i 0).val) x) := by
  have hi0 : (i 0).val < 2 := (i 0).isLt
  have hi1 : (i 1).val < 16 := (i 1).isLt
  show M.view.readAt (Elt F) (Rect.unit (s := S32x5x208) (k1_off2 i) S1x5x208.size (k1_off2_inb i)).toLoadRect f
      (Shape.reshapeEquiv squeezes_S1x5x208_S5x208.numel_eq x) = _
  rw [show Shape.reshapeEquiv (squeezes_S1x5x208_S5x208.numel_eq : S5x208.numel = S1x5x208.numel) x
      = (fun a => match a with | 0 => (0 : Fin 1) | 1 => x 0 | 2 => x 1 : S1x5x208.Idx) from
    Shape.reshapeEquiv_eq_of_rowMajor _ (by
      rw [Shape.rowMajor_val_three, Shape.rowMajor_val_two]
      show (0 * 5 + (x 0).val) * 208 + (x 1).val = (x 0).val * 208 + (x 1).val; omega)]
  rw [View.readAt_apply]
  refine congrArg (M.view.read (Elt F) f) (funext fun a => Fin.ext ?_)
  have ho := congrFun (k1_off2_eq i)
  match a with
  | 0 =>
    show k1_off2 i 0 + 1 * 0 = (2 * (i 1).val + (i 0).val) % 32
    rw [ho 0]; show 2 * (i 1).val + (i 0).val + 1 * 0 = _; omega
  | 1 =>
    show k1_off2 i 1 + 1 * (x 0).val = (x 0).val
    rw [ho 1]; show 0 + 1 * (x 0).val = _; omega
  | 2 =>
    show k1_off2 i 2 + 1 * (x 1).val = (x 1).val
    rw [ho 2]; show 0 + 1 * (x 1).val = _; omega

theorem block_set (i : grid1.Coords) (w : Fin 32) (hw : w.val = 2 * (i 1).val + (i 0).val) :
    (Rect.unit (s := S32x5x208) (k1_off2 i) S1x5x208.size (k1_off2_inb i)).set = planeOf w := by
  ext y
  unfold planeOf
  rw [Rect.mem_set_unit, Finset.mem_filter]
  have h1 : (y 1).val < 5 := (y 1).isLt
  have h2 : (y 2).val < 208 := (y 2).isLt
  rw [k1_off2_eq i]
  constructor
  · intro h
    refine ⟨Finset.mem_univ _, ?_⟩
    have hb : 2 * (i 1).val + (i 0).val ≤ (y 0).val ∧ (y 0).val < 2 * (i 1).val + (i 0).val + 1 := h 0
    omega
  · rintro ⟨-, h⟩ a
    match a with
    | 0 =>
      show 2 * (i 1).val + (i 0).val ≤ (y 0).val ∧ (y 0).val < 2 * (i 1).val + (i 0).val + 1
      omega
    | 1 => exact ⟨Nat.zero_le _, by show (y 1).val < 0 + 5; omega⟩
    | 2 => exact ⟨Nat.zero_le _, by show (y 2).val < 0 + 208; omega⟩

omit [FloatOps F] in
theorem set_T (i : grid1.Coords) (w : Fin 32) (hw : w.val = 2 * (i 1).val + (i 0).val) : (planeOut i mT).view.set = planeOf w := by
  refine (View.set_reshape _ _).trans ?_
  show ((View.whole (main_v1_0_scv : Ref sig .scVector)).slice (Rect.unit (s := S32x5x208) (k1_off2 i) S1x5x208.size (k1_off2_inb i))).set = _
  rw [View.set_slice]
  exact (Finset.map_refl (s := (Rect.unit (s := S32x5x208) (k1_off2 i) S1x5x208.size (k1_off2_inb i)).set)).trans (block_set i w hw)

omit [FloatOps F] in
theorem set_K (i : grid1.Coords) (w : Fin 32) (hw : w.val = 2 * (i 1).val + (i 0).val) : (planeOut i mK).view.set = planeOf w := by
  refine (View.set_reshape _ _).trans ?_
  show ((View.whole (main_v1_1_scv : Ref sig .scVector)).slice (Rect.unit (s := S32x5x208) (k1_off2 i) S1x5x208.size (k1_off2_inb i))).set = _
  rw [View.set_slice]
  exact (Finset.map_refl (s := (Rect.unit (s := S32x5x208) (k1_off2 i) S1x5x208.size (k1_off2_inb i)).set)).trans (block_set i w hw)

omit [FloatOps F] in
theorem set_X (i : grid1.Coords) (w : Fin 32) (hw : w.val = 2 * (i 1).val + (i 0).val) : (planeOut i mX).view.set = planeOf w := by
  refine (View.set_reshape _ _).trans ?_
  show ((View.whole (main_v1_2_scv : Ref sig .scVector)).slice (Rect.unit (s := S32x5x208) (k1_off2 i) S1x5x208.size (k1_off2_inb i))).set = _
  rw [View.set_slice]
  exact (Finset.map_refl (s := (Rect.unit (s := S32x5x208) (k1_off2 i) S1x5x208.size (k1_off2_inb i)).set)).trans (block_set i w hw)

/-! ## Whole buffers, and the subcore's own -/

/-- A buffer's contents at a share, read through a view of it: lent, and taken back unchanged. -/
theorem lend {sp : Space} {s : Shape} {e : EltTy} (d : Dev nD) (i : grid1.Coords) (q : PosShare TreeShare) (b : Memref sig .scVector sp s e)
    (f : Buf (Elt F) (b.view.loc (thr d i))) :
    (b.view.loc (thr d i) ↦{q} f : sProp 𝕄)
      ⊢ iprop(shares d i q b (b.view.read (Elt F) f) ∗ (shares d i q b (b.view.read (Elt F) f) -∗ (b.view.loc (thr d i) ↦{q} f))) := by
  iintro H
  ihave H' := (pointsTo_split_subset (q := q) (f := f) (S := Finset.univ) (Finset.subset_univ b.view.set)).1 $$ H
  icases H' with ⟨H, Hr⟩
  isplitl [H]
  · unfold shares; iexists f; isplitr
    · ipureintro; rfl
    iexact H
  unfold shares
  iintro ⟨%f', %hf, H⟩
  have hj : (b.view.loc (thr d i) ↦[b.view.set]{q} f' : sProp 𝕄) ⊢ (b.view.loc (thr d i) ↦[b.view.set]{q} f) :=
    Entails.of_eq (pointsTo_congr (agree_of_read b.view hf))
  iapply (pointsTo_split_subset (q := q) (f := f) (S := Finset.univ) (Finset.subset_univ b.view.set)).2
  isplitl [H]
  · iapply hj; iexact H
  iexact Hr

/-- A scratch buffer, whole, at whatever it holds. -/
theorem loose_eq {sp : Space} {s : Shape} {e : EltTy} (d : Dev nD) (i : grid1.Coords) (b : Memref sig .scVector sp s e) (hb : b.view.set = Finset.univ) :
    iprop(∃ f : Buf (Elt F) (b.view.loc (thr d i)), b.view.loc (thr d i) ↦{fullShare} f) = (iprop(∃ g : s.Idx → Elt F e, shares d i fullShare b g) : sProp 𝕄) := by
  have h1 : iprop(∃ f : Buf (Elt F) (b.view.loc (thr d i)), b.view.loc (thr d i) ↦{fullShare} f)
      ⊢ (iprop(∃ g : s.Idx → Elt F e, shares d i fullShare b g) : sProp 𝕄) := by
    unfold shares
    rw [hb]
    iintro ⟨%f, H⟩
    iexists (b.view.read (Elt F) f); iexists f
    isplitr
    · ipureintro; rfl
    iexact H
  have h2 : iprop(∃ g : s.Idx → Elt F e, shares d i fullShare b g)
      ⊢ (iprop(∃ f : Buf (Elt F) (b.view.loc (thr d i)), b.view.loc (thr d i) ↦{fullShare} f) : sProp 𝕄) := by
    unfold shares
    rw [hb]
    iintro ⟨%g, %f, -, H⟩
    iexists f; iexact H
  exact BI.Entails.antisymm h1 h2

/-- The semaphores of the call, among the program's. -/
def own (k : Fin 4) : DmaSem sig := ⟨6 + k.val, by show _ < 23; omega⟩

theorem dma_scoped : ∀ k : Fin 4, (SemLoc.dma (own k) : SemLoc sig).isScoped .scVector = true := by decide

/-- The subcore's four semaphores. -/
def ownSems (d : Dev nD) (i : grid1.Coords) : Finset (GSem nD τ sig) := (Finset.univ : Finset (Fin 4)).image fun k => (thr d i, SemLoc.dma (own k))

theorem ownSems_eq (d : Dev nD) (i : grid1.Coords) :
    (bigSep (ownSems d i) (fun g => semVal g 0) : sProp 𝕄)
      = iprop(idle d i cc1_scoped0 ∗ idle d i cc1_scoped1 ∗ idle d i cc1_scoped2 ∗ idle d i cc1_scoped3) := by
  have hinj : Set.InjOn (fun k : Fin 4 => ((thr d i, SemLoc.dma (own k)) : GSem nD τ sig)) (Finset.univ : Finset (Fin 4)) := by
    intro a _ b _ h
    have := congrArg Prod.snd h
    have hv : 6 + a.val = 6 + b.val := congrArg Fin.val (SemLoc.dma.inj this)
    exact Fin.ext (by omega)
  unfold ownSems
  rw [SparseCore.bigSep_image_of_injOn hinj,
    show (Finset.univ : Finset (Fin 4)) = {0, 1, 2, 3} by decide,
    SparseCore.bigSep_insert' (by decide), SparseCore.bigSep_insert' (by decide), SparseCore.bigSep_insert' (by decide),
    bigSep_singleton]
  unfold idle
  rfl

theorem ownSems_sub (d : Dev nD) (i : grid1.Coords) : ownSems d i ⊆ ownCells (thr d i) := by
  intro g hg
  obtain ⟨k, -, rfl⟩ := Finset.mem_image.mp hg
  exact mem_ownCells.mpr ⟨rfl, dma_scoped k⟩

theorem ownSems0_V (d : Dev nD) (i : grid1.Coords) :
    (ownSems0 (thr d i) : sProp 𝕄)
      = iprop((idle d i cc1_scoped0 ∗ idle d i cc1_scoped1 ∗ idle d i cc1_scoped2 ∗ idle d i cc1_scoped3)
        ∗ bigSep (ownCells (thr d i) \ ownSems d i) fun g => semVal g 0) := by
  unfold SparseCore.Cfg.ownSems0
  rw [SparseCore.bigSep_sdiff_split' (ownSems_sub d i), ownSems_eq]

/-- The subcore's four scratch buffers. -/
def ownScratch (i : grid1.Coords) : Finset (DevRef τ sig) :=
  {(Proc.scVector ((i 0).castLE hcore1) ((i 1).castLE hsub1)).devRef cc1_scratch0, (Proc.scVector ((i 0).castLE hcore1) ((i 1).castLE hsub1)).devRef cc1_scratch1,
    (Proc.scVector ((i 0).castLE hcore1) ((i 1).castLE hsub1)).devRef cc1_scratch2, (Proc.scVector ((i 0).castLE hcore1) ((i 1).castLE hsub1)).devRef cc1_scratch3}

theorem ownBufs_V (d : Dev nD) (i : grid1.Coords) :
    (ownBufs (thr d i) : sProp 𝕄)
      = iprop((loose d i bufs.scs ∗ loose d i bufs.top ∗ loose d i bufs.kid ∗ loose d i bufs.idx)
          ∗ bigSep (ownRefs (τ := τ) (thr d i).2 \ ownScratch i) fun b => iprop(∃ f, ((d, b) : Loc nD τ sig) ↦{fullShare} f)) := by
  unfold SparseCore.Cfg.ownBufs
  have hs : ownScratch i ⊆ ownRefs (τ := τ) (thr d i).2 := by
    intro b hb
    simp only [ownScratch, Finset.mem_insert, Finset.mem_singleton] at hb
    rcases hb with rfl | rfl | rfl | rfl <;> exact SparseCore.Cfg.mem_ownRefs_of_owner rfl
  rw [SparseCore.bigSep_sdiff_split' hs]
  congr 1
  have hne : ∀ {r r' : Ref sig .scVector}, r ≠ r' → (Proc.scVector ((i 0).castLE hcore1) ((i 1).castLE hsub1)).devRef r
      ≠ (Proc.scVector ((i 0).castLE hcore1) ((i 1).castLE hsub1)).devRef r' := fun h e => h (Proc.devRef_injective _ e)
  unfold ownScratch
  rw [SparseCore.bigSep_insert' (by
      simp only [Finset.mem_insert, Finset.mem_singleton, not_or]
      exact ⟨hne (by decide), hne (by decide), hne (by decide)⟩),
    SparseCore.bigSep_insert' (by
      simp only [Finset.mem_insert, Finset.mem_singleton, not_or]
      exact ⟨hne (by decide), hne (by decide)⟩),
    SparseCore.bigSep_insert' (by
      simp only [Finset.mem_singleton]
      exact hne (by decide)), bigSep_singleton]
  unfold loose
  have h0 := loose_eq (F := F) d i bufs.scs (View.set_whole _)
  have h1 := loose_eq (F := F) d i bufs.top (View.set_whole _)
  have h2 := loose_eq (F := F) d i bufs.kid (View.set_whole _)
  have h3 := loose_eq (F := F) d i bufs.idx (View.set_whole _)
  rw [← h0, ← h1, ← h2, ← h3]
  rfl

end Cert.Proof.Best
-- ==== Proof.BestLocal.lean ====
module

public import proofs.«01_k».proof.Proof.BestTask

/-!
What is chosen in a column of the scores depends on that column alone, and every row number that is chosen names a row of the table.
-/

@[expose] public section

noncomputable section

namespace Cert.Proof.Best

open Cert.KernelIdeal Cert.KernelIdeal.Gen
open Idealize.ShloMosaic

variable {F : FTy → Type} [FloatOps F]

/-! ## One column -/

/-- Two lists of rows with the same numbers and the same scores in lane `j`. -/
def Same (j : S16.Idx) : Rows F → Rows F → Prop := List.Forall₂ fun p p' => p.1 = p'.1 ∧ p.2 j = p'.2 j

theorem scan_same (j : S16.Idx) {l l' : Rows F} (h : Same j l l') : ∀ {m m' : Lanes F} {am am' : Ints}, m j = m' j → am j = am' j →
    (scan l m am).1 j = (scan l' m' am').1 j ∧ (scan l m am).2 j = (scan l' m' am').2 j := by
  unfold Same at h
  induction h with
  | nil => intro m m' am am' hm ha; exact ⟨hm, ha⟩
  | cons hp _ ih =>
    intro m m' am am' hm ha
    refine ih ?_ ?_
    · show FloatOps.maximumf (m j) _ = FloatOps.maximumf (m' j) _
      rw [hm, hp.2]
    · show Scalar.select (FloatOps.cmpf .ogt _ (m j)) _ (am j) = Scalar.select (FloatOps.cmpf .ogt _ (m' j)) _ (am' j)
      rw [hm, ha, hp.2]
      show Scalar.select _ (_ : BitVec 32) _ = Scalar.select _ (_ : BitVec 32) _
      exact congrArg (fun x => Scalar.select _ x _) hp.1

theorem best_same (j : S16.Idx) {l l' : Rows F} (h : Same j l l') : (best l).1 j = (best l').1 j ∧ (best l).2 j = (best l').2 j := by
  cases h with
  | nil => exact ⟨rfl, rfl⟩
  | cons hp hl => exact scan_same j hl hp.2 hp.1

theorem knock_same (j : S16.Idx) {am am' : Ints} (ha : am j = am' j) {l l' : Rows F} (h : Same j l l') : Same j (knock am l) (knock am' l') := by
  unfold Same at h ⊢
  induction h with
  | nil => exact .nil
  | cons hp _ ih =>
    refine .cons ⟨hp.1, ?_⟩ ih
    show Scalar.select (IntOp.cmpi .eq (am j) _) _ _ = Scalar.select (IntOp.cmpi .eq (am' j) _) _ _
    rw [ha, hp.2]
    exact congrArg (fun x => Scalar.select (IntOp.cmpi .eq (am' j) x) _ _) hp.1

theorem after_same (j : S16.Idx) {l l' : Rows F} (h : Same j l l') : ∀ k, Same j (after k l) (after k l')
  | 0 => h
  | k + 1 => knock_same j (best_same j (after_same j h k)).2 (after_same j h k)

theorem rows_same (j : S16.Idx) {X X' : S32x208.Idx → F .f32} {st : ℕ} (h : ∀ s, X (spot s (st + (j 0).val)) = X' (spot s (st + (j 0).val))) :
    Same j (rowsAt X st) (rowsAt X' st) := by
  unfold Same rowsAt
  generalize List.range' 1 31 = l
  induction l with
  | nil => exact .nil
  | cons s l ih => exact .cons ⟨rfl, h s⟩ ih

/-- The choices at an entry of a result are the same on scores that agree in its column. -/
theorem chosen_same {f g : S32x32x208.Idx → F .f32} (y : S32x5x208.Idx) (h : ∀ x : S32x32x208.Idx, (x 2).val = (y 2).val → f x = g x) :
    (chosen (plane f (y 0).val) (y 1).val ((y 2).val / 16 * 16)).1 (lane ((y 2).val % 16)) = (chosen (plane g (y 0).val) (y 1).val ((y 2).val / 16 * 16)).1 (lane ((y 2).val % 16))
    ∧ (chosen (plane f (y 0).val) (y 1).val ((y 2).val / 16 * 16)).2 (lane ((y 2).val % 16)) = (chosen (plane g (y 0).val) (y 1).val ((y 2).val / 16 * 16)).2 (lane ((y 2).val % 16)) := by
  refine best_same _ (after_same _ (rows_same _ fun s => h _ ?_) _)
  have : (y 2).val < 208 := (y 2).isLt
  show ((y 2).val / 16 * 16 + (y 2).val % 16 % 16) % 208 = (y 2).val
  omega

theorem tops_same {f g : S32x32x208.Idx → F .f32} (y : S32x5x208.Idx) (h : ∀ x : S32x32x208.Idx, (x 2).val = (y 2).val → f x = g x) : allTops f y = allTops g y :=
  (chosen_same y h).1
theorem kids_same {f g : S32x32x208.Idx → F .f32} (y : S32x5x208.Idx) (h : ∀ x : S32x32x208.Idx, (x 2).val = (y 2).val → f x = g x) : allKids f y = allKids g y :=
  congrArg (fun v : BitVec 32 => IntOp.subi v 1#32) (chosen_same y h).2
theorem idxs_same {f g : S32x32x208.Idx → F .f32} (y : S32x5x208.Idx) (h : ∀ x : S32x32x208.Idx, (x 2).val = (y 2).val → f x = g x) : allIdxs f y = allIdxs g y :=
  congrArg (fun v : BitVec 32 => IntOp.addi (gbase (BitVec.ofNat 32 (y 0).val) lanes ((y 2).val / 16 * 16) (lane ((y 2).val % 16))) v) (chosen_same y h).2

/-! ## The range of the choices -/

/-- `v` is the number of one of the rows from 1 to 31. -/
def IsRow (v : BitVec 32) : Prop := ∃ s, 1 ≤ s ∧ s ≤ 31 ∧ v = BitVec.ofNat 32 s

theorem select_row {c : BitVec 1} {a b : BitVec 32} (ha : IsRow a) (hb : IsRow b) : IsRow (Scalar.select c a b) := by
  unfold Scalar.select
  split <;> assumption

theorem scan_row (j : S16.Idx) : ∀ (l : Rows F) (m : Lanes F) (am : Ints), (∀ p ∈ l, IsRow p.1) → IsRow (am j) → IsRow ((scan l m am).2 j)
  | [], _, _, _, ha => ha
  | p :: l, _, _, hl, ha => scan_row j l _ _ (fun q hq => hl q (List.mem_cons_of_mem _ hq)) (select_row (hl p List.mem_cons_self) ha)

theorem best_row (j : S16.Idx) : ∀ (l : Rows F), (∀ p ∈ l, IsRow p.1) → IsRow ((best l).2 j)
  | [], _ => ⟨1, le_rfl, by decide, rfl⟩
  | p :: l, hl => scan_row j l _ _ (fun q hq => hl q (List.mem_cons_of_mem _ hq)) (hl p List.mem_cons_self)

theorem knock_row (am : Ints) : ∀ (l : Rows F), (∀ p ∈ l, IsRow p.1) → ∀ p ∈ knock am l, IsRow p.1
  | [], _, p, hp => nomatch hp
  | q :: l, hl, p, hp => by
    rcases List.mem_cons.mp hp with rfl | hp
    · exact hl q List.mem_cons_self
    · exact knock_row am l (fun q hq => hl q (List.mem_cons_of_mem _ hq)) p hp

theorem after_row {l : Rows F} (hl : ∀ p ∈ l, IsRow p.1) : ∀ k, ∀ p ∈ after k l, IsRow p.1
  | 0 => hl
  | k + 1 => knock_row _ _ (after_row hl k)

theorem chosen_row (X : S32x208.Idx → F .f32) (k st : ℕ) (j : S16.Idx) : IsRow ((chosen X k st).2 j) := by
  refine best_row j _ (after_row (fun p hp => ?_) k)
  obtain ⟨s, hs, rfl⟩ := List.mem_map.mp hp
  have := List.mem_range'_1.mp hs
  exact ⟨s, by omega, by omega, rfl⟩

theorem lanes_at (n : ℕ) : lanes (lane n) = BitVec.ofNat 32 (n % 16) := by
  show BitVec.ofNat 32 (0 * 16 + n % 16) = _
  rw [Nat.zero_mul, Nat.zero_add]

/-- The number of a row in the table, as a subcore reckons it. -/
theorem row_no (r p : ℕ) (hr : r < 6400) (h1 : 1 ≤ p) (h2 : p ≤ 31) :
    (BitVec.ofNat 32 (r / 200) * 200#32 + BitVec.ofNat 32 (r % 200 / 16 * 16) + BitVec.ofNat 32 (r % 200 % 16)) * 32#32 - 1#32 + BitVec.ofNat 32 p
      = BitVec.ofNat 32 r * 32#32 + BitVec.ofNat 32 (p - 1) := by
  apply BitVec.eq_of_toNat_eq
  simp only [BitVec.toNat_sub, BitVec.toNat_add, BitVec.toNat_mul, BitVec.toNat_ofNat]
  omega

theorem row_lt (r p : ℕ) (hr : r < 6400) (h1 : 1 ≤ p) (h2 : p ≤ 31) : (BitVec.ofNat 32 r * 32#32 + BitVec.ofNat 32 (p - 1)).toNat < 204800 := by
  simp only [BitVec.toNat_add, BitVec.toNat_mul, BitVec.toNat_ofNat]
  omega

/-- In the first 200 columns every row number names a row of the table. -/
theorem idxs_lt (f : S32x32x208.Idx → F .f32) (y : S32x5x208.Idx) (hy : (y 2).val < 200) : (allIdxs f y).toNat < 204800 := by
  have h0 : (y 0).val < 32 := (y 0).isLt
  obtain ⟨s, h1, h2, hs⟩ := chosen_row (plane f (y 0).val) (y 1).val ((y 2).val / 16 * 16) (lane ((y 2).val % 16))
  show ((BitVec.ofNat 32 (y 0).val * 200#32 + BitVec.ofNat 32 ((y 2).val / 16 * 16) + lanes (lane ((y 2).val % 16))) * 32#32 - 1#32
    + (chosen (plane f (y 0).val) (y 1).val ((y 2).val / 16 * 16)).2 (lane ((y 2).val % 16))).toNat < 204800
  rw [hs, lanes_at]
  have e0 : (y 0).val = (200 * (y 0).val + (y 2).val) / 200 := by omega
  have e1 : (y 2).val / 16 * 16 = (200 * (y 0).val + (y 2).val) % 200 / 16 * 16 := by omega
  have e2 : (y 2).val % 16 % 16 = (200 * (y 0).val + (y 2).val) % 200 % 16 := by omega
  have h := row_no (200 * (y 0).val + (y 2).val) s (by omega) h1 h2
  rw [← e0, ← e1, ← e2] at h
  rw [h]
  exact row_lt _ s (by omega) h1 h2

/-! ## The results without their padding -/

/-- A result without its padding, column by column. -/
def byColumn {α : Type} (f : S32x5x208.Idx → α) : S32x200x5.Idx → α :=
  transpose S32x200x5 [0, 2, 1] (extractStridedSlice S32x5x200 ![0, 0, 0] f slices_S32x5x208_S32x5x200_0_0_0) transposes_S32x5x200_S32x200x5_0_2_1

/-- The entry of a result that an entry without padding is. -/
def padded (z : S32x200x5.Idx) : S32x5x208.Idx := fun a => match a with
  | 0 => (z 0 : Fin 32)
  | 1 => (z 2 : Fin 5)
  | 2 => (⟨(z 1).val, by have : (z 1).val < 200 := (z 1).isLt; show _ < 208; omega⟩ : Fin 208)

theorem byColumn_apply {α : Type} (f : S32x5x208.Idx → α) (z : S32x200x5.Idx) : byColumn f z = f (padded z) := by
  unfold byColumn
  refine congrArg f (funext fun a => Fin.ext ?_)
  match a with
  | 0 => exact Nat.zero_add _
  | 1 => exact Nat.zero_add _
  | 2 => exact Nat.zero_add _

theorem byColumn_congr {α : Type} {f g : S32x5x208.Idx → α} (h : ∀ y, (y 2).val < 200 → f y = g y) : byColumn f = byColumn g :=
  funext fun z => by rw [byColumn_apply, byColumn_apply]; exact h _ (z 1).isLt

/-- The choice's three results on the scores `f`: the rows, the scores, the places. -/
def outG (f : S32x32x208.Idx → F .f32) : S32x1000.Idx → BitVec 32 := shapeCast S32x1000 (byColumn (allIdxs (F := F) f)) shapeCasts_S32x200x5_S32x1000
def outS (f : S32x32x208.Idx → F .f32) : S32x1000.Idx → F .f32 := shapeCast S32x1000 (byColumn (allTops (F := F) f)) shapeCasts_S32x200x5_S32x1000
def outN (f : S32x32x208.Idx → F .f32) : S128x50x5.Idx → BitVec 32 := shapeCast S128x50x5 (byColumn (allKids (F := F) f)) shapeCasts_S32x200x5_S128x50x5

theorem outG_lt (f : S32x32x208.Idx → F .f32) (j : S32x1000.Idx) : (outG f j).toNat < 204800 := by
  show (byColumn (allIdxs (F := F) f) (Shape.reshapeEquiv _ j)).toNat < 204800
  rw [byColumn_apply]
  exact idxs_lt f _ (Shape.reshapeEquiv _ j 1).isLt

end Cert.Proof.Best

end
-- ==== Proof.BestLaunch.lean ====
module

public import proofs.«01_k».proof.Proof.BestTask

@[expose] public section

noncomputable section

namespace Cert.Proof.Best

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The launch -/

variable (m : (ℓ : Loc nD τ sig) → Buf (Elt F) ℓ) (ρ : Dev nD → PrngReg)

/-- The call's results. -/
def resT (d : Dev nD) : Buf (Elt F) (tLoc d) := (allTops (F := F) (m (aLoc d) : S32x32x208.Idx → F .f32) : S32x5x208.Idx → F .f32)
def resK (d : Dev nD) : Buf (Elt F) (kLoc d) := (allKids (F := F) (m (aLoc d) : S32x32x208.Idx → F .f32) : S32x5x208.Idx → BitVec 32)
def resX (d : Dev nD) : Buf (Elt F) (xLoc d) := (allIdxs (F := F) (m (aLoc d) : S32x32x208.Idx → F .f32) : S32x5x208.Idx → BitVec 32)

/-- The share of the scores that subcore `w` is lent. -/
abbrev tok (w : Fin 32) : PosShare TreeShare := Transfers.shareTok fullShare 32 w

/-- The scores, at a share. -/
abbrev lent (d : Dev nD) (q : PosShare TreeShare) : sProp 𝕄 := aLoc d ↦{q} m (aLoc d)

/-- Subcore `w`'s planes of the three results. -/
abbrev planes (d : Dev nD) (w : Fin 32) (f : Buf (Elt F) (tLoc d)) (g : Buf (Elt F) (kLoc d)) (h : Buf (Elt F) (xLoc d)) : sProp 𝕄 :=
  iprop((tLoc d ↦[planeOf w]{fullShare} f) ∗ (kLoc d ↦[planeOf w]{fullShare} g) ∗ (xLoc d ↦[planeOf w]{fullShare} h))

abbrev goes (d : Dev nD) (w : Fin 32) : sProp 𝕄 := iprop(lent m d (tok w) ∗ planes d w (m (tLoc d)) (m (kLoc d)) (m (xLoc d)))
abbrev comes (d : Dev nD) (w : Fin 32) : sProp 𝕄 := iprop(lent m d (tok w) ∗ planes d w (resT m d) (resK m d) (resX m d))

/-- The number of subcore `s` on SparseCore `c`. -/
abbrev no (c : Fin ((K (F := F)).nCore 0)) (s : Fin ((K (F := F)).nSub 0)) : Fin 32 := tileNo (Fin.cast nCore_zero c) (Fin.cast nSub_zero s)

/-! ## A subcore's task -/

omit [FloatOps F] in
theorem outAt_inPlane (y : S32x5x208.Idx) : outAt (y 0).val (inPlane y) = y := by
  have h0 : (y 0).val < 32 := (y 0).isLt
  funext a
  match a with
  | 0 => exact Fin.ext (Nat.mod_eq_of_lt h0)
  | 1 => rfl
  | 2 => rfl

theorem loose_T (d : Dev nD) (i : grid1.Coords) (w : Fin 32) (hw : w.val = 2 * (i 1).val + (i 0).val) (f : Buf (Elt F) (tLoc d)) :
    (tLoc d ↦[planeOf w]{fullShare} f : sProp 𝕄) ⊢ loose d i (planeOut i mT) := by
  unfold loose shares
  rw [set_T i w hw]
  iintro H
  iexists ((planeOut i mT).view.read (Elt F) f); iexists f
  isplitr
  · ipureintro; rfl
  iexact H

theorem back_T (d : Dev nD) (i : grid1.Coords) (w : Fin 32) (hw : w.val = 2 * (i 1).val + (i 0).val) :
    shares d i fullShare (planeOut i mT) (tops (plane (m (aLoc d) : S32x32x208.Idx → F .f32) w.val)) ⊢ (tLoc d ↦[planeOf w]{fullShare} resT m d : sProp 𝕄) := by
  unfold shares
  rw [set_T i w hw]
  iintro ⟨%f, %hf, H⟩
  have hj : ((planeOut i mT).view.loc (thr d i) ↦[planeOf w]{fullShare} f : sProp 𝕄) ⊢ (tLoc d ↦[planeOf w]{fullShare} resT m d) := by
    have key : ∀ y : S32x5x208.Idx, y ∈ planeOf w → (f : S32x5x208.Idx → F .f32) y = (resT m d : S32x5x208.Idx → F .f32) y := ?_
    · exact Entails.of_eq (pointsTo_congr key)
    intro y hy
    have hy' : (y 0).val = w.val := (Finset.mem_filter.mp hy).2
    have hh := congrFun hf (inPlane y)
    rw [read_out, ← hw, ← hy', outAt_inPlane] at hh
    rw [show mT.view.read (Elt F) f = f from View.read_whole _ _] at hh
    refine hh.trans ?_
    rfl
  iapply hj; iexact H

theorem loose_K (d : Dev nD) (i : grid1.Coords) (w : Fin 32) (hw : w.val = 2 * (i 1).val + (i 0).val) (f : Buf (Elt F) (kLoc d)) :
    (kLoc d ↦[planeOf w]{fullShare} f : sProp 𝕄) ⊢ loose d i (planeOut i mK) := by
  unfold loose shares
  rw [set_K i w hw]
  iintro H
  iexists ((planeOut i mK).view.read (Elt F) f); iexists f
  isplitr
  · ipureintro; rfl
  iexact H

theorem back_K (d : Dev nD) (i : grid1.Coords) (w : Fin 32) (hw : w.val = 2 * (i 1).val + (i 0).val) :
    shares d i fullShare (planeOut i mK) (kids (plane (m (aLoc d) : S32x32x208.Idx → F .f32) w.val)) ⊢ (kLoc d ↦[planeOf w]{fullShare} resK m d : sProp 𝕄) := by
  unfold shares
  rw [set_K i w hw]
  iintro ⟨%f, %hf, H⟩
  have hj : ((planeOut i mK).view.loc (thr d i) ↦[planeOf w]{fullShare} f : sProp 𝕄) ⊢ (kLoc d ↦[planeOf w]{fullShare} resK m d) := by
    have key : ∀ y : S32x5x208.Idx, y ∈ planeOf w → (f : S32x5x208.Idx → BitVec 32) y = (resK m d : S32x5x208.Idx → BitVec 32) y := ?_
    · exact Entails.of_eq (pointsTo_congr key)
    intro y hy
    have hy' : (y 0).val = w.val := (Finset.mem_filter.mp hy).2
    have hh := congrFun hf (inPlane y)
    rw [read_out, ← hw, ← hy', outAt_inPlane] at hh
    rw [show mK.view.read (Elt F) f = f from View.read_whole _ _] at hh
    refine hh.trans ?_
    rfl
  iapply hj; iexact H

theorem loose_X (d : Dev nD) (i : grid1.Coords) (w : Fin 32) (hw : w.val = 2 * (i 1).val + (i 0).val) (f : Buf (Elt F) (xLoc d)) :
    (xLoc d ↦[planeOf w]{fullShare} f : sProp 𝕄) ⊢ loose d i (planeOut i mX) := by
  unfold loose shares
  rw [set_X i w hw]
  iintro H
  iexists ((planeOut i mX).view.read (Elt F) f); iexists f
  isplitr
  · ipureintro; rfl
  iexact H

theorem back_X (d : Dev nD) (i : grid1.Coords) (w : Fin 32) (hw : w.val = 2 * (i 1).val + (i 0).val) :
    shares d i fullShare (planeOut i mX) (idxs (wid i) (plane (m (aLoc d) : S32x32x208.Idx → F .f32) w.val)) ⊢ (xLoc d ↦[planeOf w]{fullShare} resX m d : sProp 𝕄) := by
  unfold shares
  rw [set_X i w hw]
  iintro ⟨%f, %hf, H⟩
  have hj : ((planeOut i mX).view.loc (thr d i) ↦[planeOf w]{fullShare} f : sProp 𝕄) ⊢ (xLoc d ↦[planeOf w]{fullShare} resX m d) := by
    have key : ∀ y : S32x5x208.Idx, y ∈ planeOf w → (f : S32x5x208.Idx → BitVec 32) y = (resX m d : S32x5x208.Idx → BitVec 32) y := ?_
    · exact Entails.of_eq (pointsTo_congr key)
    intro y hy
    have hy' : (y 0).val = w.val := (Finset.mem_filter.mp hy).2
    have hh := congrFun hf (inPlane y)
    rw [read_out, ← hw, ← hy', outAt_inPlane] at hh
    rw [show mX.view.read (Elt F) f = f from View.read_whole _ _] at hh
    refine hh.trans ?_
    rw [wid_eq, ← hw, ← hy']
    rfl
  iapply hj; iexact H

/-- The task of the subcore at `i`: from its share of the scores and its planes of the results, those planes written. -/
theorem tile_body (hF : (K (F := F)).Facts) (d : Dev nD) (i : grid1.Coords) (w : Fin 32) (hw : w.val = 2 * (i 1).val + (i 0).val)
    (O : CellTallies nD τ sig (HIx 2)) (W : Waits sig (HIx 2)) (hO : ∀ g, O g none = 0) :
    iprop(levAts (K (F := F)).L (K (F := F)).lev ∗ emp ∗ goes m d w ∗ scopedBufs (thr d i) ∗ scopedSems0 (thr d i) ∗ owes (thr d i) O W)
      ⊢ wp frame (wpE (defs₀ (F := F)) 𝒱₀ (thr d i) none) Set.univ
          (cc1__sc_topk_body i (Memref.whole main_v0_scv) (Memref.isWhole_whole _) (Memref.whole main_v1_0_scv) (Memref.isWhole_whole _)
            (Memref.whole main_v1_1_scv) (Memref.isWhole_whole _) (Memref.whole main_v1_2_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scoped0 cc1_scoped1 cc1_scoped2 cc1_scoped3)
          fun _ => iprop(comes m d w ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d _ _, SparseCore.Cfg.scopedSems0_V (Val := Elt F) d _ _, ownSems0_V, ownBufs_V]
  iintro ⟨#Hlv, -, ⟨Ha, Pt, Pk, Px⟩, ⟨⟨Hs, Ht, Hk, Hi⟩, Hbufs⟩, ⟨⟨R0, R1, R2, R3⟩, Hsems⟩, HO⟩
  ihave Hmw := (show levAts (K (F := F)).L (K (F := F)).lev ⊢ Transfers.MayWaits (thr d i) (none : HIx 2) O from
    (K (F := F)).mayWaits_none (thr := thr d i) hO) $$ Hlv
  have hX : (planeIn i mA).view.read (Elt F) (m (aLoc d)) = plane (m (aLoc d) : S32x32x208.Idx → F .f32) w.val := by
    rw [hw]
    exact (read_in mA i (m (aLoc d))).trans (congrArg (fun f => plane f (2 * (i 1).val + (i 0).val)) (View.read_whole _ _))
  have la : (aLoc d ↦{tok w} (m (aLoc d)) : sProp 𝕄) ⊢ iprop(shares d i (tok w) (planeIn i mA) (plane (m (aLoc d) : S32x32x208.Idx → F .f32) w.val)
      ∗ (shares d i (tok w) (planeIn i mA) (plane (m (aLoc d) : S32x32x208.Idx → F .f32) w.val) -∗ (aLoc d ↦{tok w} (m (aLoc d))))) := by
    rw [← hX]; exact lend d i (tok w) (planeIn i mA) (m (aLoc d))
  ihave Ha' := la $$ Ha
  icases Ha' with ⟨Ha, Hak⟩
  ihave Pt := (loose_T d i w hw (m (tLoc d))) $$ Pt
  ihave Pk := (loose_K d i w hw (m (kLoc d))) $$ Pk
  ihave Px := (loose_X d i w hw (m (xLoc d))) $$ Px
  iapply (wp_wand_r frame (wpE (defs₀ (F := F)) 𝒱₀ (thr d i) none) Set.univ)
  isplitl [Ha Hs Ht Hk Hi Pt Pk Px R0 R1 R2 R3 HO]
  · iapply (wp_tile d i O W bufs mA mT mK mX cc1_scoped0 cc1_scoped1 cc1_scoped2 cc1_scoped3 (tok w) (plane (m (aLoc d) : S32x32x208.Idx → F .f32) w.val))
    isplitr; · iexact Hmw
    isplitl [Ha]; · iexact Ha
    isplitl [Hs]; · iexact Hs
    isplitl [Ht]; · iexact Ht
    isplitl [Hk]; · iexact Hk
    isplitl [Hi]; · iexact Hi
    isplitl [Pt]; · iexact Pt
    isplitl [Pk]; · iexact Pk
    isplitl [Px]; · iexact Px
    isplitl [R0]; · iexact R0
    isplitl [R1]; · iexact R1
    isplitl [R2]; · iexact R2
    isplitl [R3]; · iexact R3
    unfold owing
    iexists W
    isplitr
    · ipureintro; exact fun p hp => .inl hp
    iexact HO
  iintro %_ ⟨Ha, Hs, Ht, Hk, Hi, Pt, Pk, Px, R0, R1, R2, R3, HO⟩
  isplitl [Ha Hak Pt Pk Px]
  · isplitl [Ha Hak]; · iapply Hak; iexact Ha
    isplitl [Pt]; · iapply (back_T m d i w hw); iexact Pt
    isplitl [Pk]; · iapply (back_K m d i w hw); iexact Pk
    iapply (back_X m d i w hw); iexact Px
  isplitl [Hs Ht Hk Hi Hbufs]
  · isplitr [Hbufs]
    · isplitl [Hs]; · iexact Hs
      isplitl [Ht]; · iexact Ht
      isplitl [Hk]; · iexact Hk
      iexact Hi
    iexact Hbufs
  isplitr [HO]
  · isplitr [Hsems]
    · isplitl [R0]; · iexact R0
      isplitl [R1]; · iexact R1
      isplitl [R2]; · iexact R2
      iexact R3
    iexact Hsems
  unfold owing
  iexact HO

end Cert.Proof.Best
-- ==== Proof.BestRun.lean ====
module

public import proofs.«01_k».proof.Proof.BestLaunch

@[expose] public section

noncomputable section

namespace Cert.Proof.Best

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
variable (m : (ℓ : Loc nD τ sig) → Buf (Elt F) ℓ) (ρ : Dev nD → PrngReg)

/-! ## The subcores' program -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_topk_body (coordsV c s)
          (Memref.whole main_v0_scv) (Memref.isWhole_whole _) (Memref.whole main_v1_0_scv) (Memref.isWhole_whole _)
          (Memref.whole main_v1_1_scv) (Memref.isWhole_whole _) (Memref.whole main_v1_2_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scoped0 cc1_scoped1 cc1_scoped2 cc1_scoped3) ⟨⟩ c s := rfl

/-! ## The arrays dealt to the subcores -/

/-- The subcores, by SparseCore and subcore. -/
def tiles : Fin 2 × Fin 16 ≃ Fin 32 where
  toFun p := tileNo p.1 p.2
  invFun w := (⟨w.val % 2, Nat.mod_lt _ (by decide)⟩, ⟨w.val / 2, by omega⟩)
  left_inv p := by
    have h0 := p.1.isLt
    have h1 := p.2.isLt
    refine Prod.ext (Fin.ext ?_) (Fin.ext ?_)
    · show (2 * p.2.val + p.1.val) % 2 = p.1.val; omega
    · show (2 * p.2.val + p.1.val) / 2 = p.2.val; omega
  right_inv w := Fin.ext (show 2 * (w.val / 2) + w.val % 2 = w.val by omega)

theorem by_core (Φ : Fin 32 → sProp 𝕄) :
    (bigSep Finset.univ fun c : Fin ((K (F := F)).nCore 0) => bigSep Finset.univ fun s : Fin ((K (F := F)).nSub 0) => Φ (no c s)) = bigSep Finset.univ Φ := by
  rw [bigSep_univ_equiv tiles Φ, bigSep_univ_prod]
  rfl

theorem planeOf_disjoint : ∀ w ∈ (Finset.univ : Finset (Fin 32)), ∀ w' ∈ (Finset.univ : Finset (Fin 32)), w ≠ w' → Disjoint (planeOf w) (planeOf w') := by
  intro w _ w' _ h
  refine Finset.disjoint_left.mpr fun y hy hy' => h (Fin.ext ?_)
  exact (Finset.mem_filter.mp hy).2.symm.trans (Finset.mem_filter.mp hy').2

theorem planeOf_cover : (Finset.univ : Finset (Fin 32)).biUnion planeOf = Finset.univ := by
  ext y
  have h0 : (y 0).val < 32 := (y 0).isLt
  simp only [Finset.mem_biUnion, Finset.mem_univ, true_and, iff_true]
  exact ⟨⟨(y 0).val, h0⟩, Finset.mem_filter.mpr ⟨Finset.mem_univ _, rfl⟩⟩

theorem all_T (d : Dev nD) (f : Buf (Elt F) (tLoc d)) : (bigSep Finset.univ fun w : Fin 32 => (tLoc d ↦[planeOf w]{fullShare} f) : sProp 𝕄) = tLoc d ↦{fullShare} f := by
  have h := pointsTo_biUnion (Val := Elt F) (Name := ℕ) (U := UU) (Ix := HIx 2) (Lvl := ℕ) (q := fullShare) (f := f) Finset.univ (ℓ := tLoc d) planeOf planeOf_disjoint
  rw [← h, planeOf_cover]

theorem all_K (d : Dev nD) (f : Buf (Elt F) (kLoc d)) : (bigSep Finset.univ fun w : Fin 32 => (kLoc d ↦[planeOf w]{fullShare} f) : sProp 𝕄) = kLoc d ↦{fullShare} f := by
  have h := pointsTo_biUnion (Val := Elt F) (Name := ℕ) (U := UU) (Ix := HIx 2) (Lvl := ℕ) (q := fullShare) (f := f) Finset.univ (ℓ := kLoc d) planeOf planeOf_disjoint
  rw [← h, planeOf_cover]

theorem all_X (d : Dev nD) (f : Buf (Elt F) (xLoc d)) : (bigSep Finset.univ fun w : Fin 32 => (xLoc d ↦[planeOf w]{fullShare} f) : sProp 𝕄) = xLoc d ↦{fullShare} f := by
  have h := pointsTo_biUnion (Val := Elt F) (Name := ℕ) (U := UU) (Ix := HIx 2) (Lvl := ℕ) (q := fullShare) (f := f) Finset.univ (ℓ := xLoc d) planeOf planeOf_disjoint
  rw [← h, planeOf_cover]

/-- What stays with the TensorCore while the subcores run. -/
abbrev rest (d : Dev nD) : sProp 𝕄 := lent m d (Transfers.shareDrop fullShare 32)

theorem lent_all (d : Dev nD) : lent m d fullShare ⊣⊢ (iprop(rest m d ∗ bigSep Finset.univ fun w : Fin 32 => lent m d (tok w)) : sProp 𝕄) :=
  Transfers.pointsTo_toks (Val := Elt F) (Name := ℕ) (U := UU) (Ix := HIx 2) (Lvl := ℕ) (ℓ := aLoc d) (S := Finset.univ) (f := m (aLoc d)) fullShare 32

end Cert.Proof.Best

end
-- ==== Proof.Prog.lean ====
module

public import proofs.«01_k».proof.Defs
public import Idealize.ShloMosaic.Lib.SparseCore.Stream
public import proofs.«01_k».proof.Proof.Gen.KernelIdeal

@[expose] public section

set_option synthInstance.maxSize 4096

noncomputable section

namespace Cert.Proof.Gather

open Cert.KernelIdeal Cert.KernelIdeal.Gen
open Idealize.ShloMosaic Idealize.SL.Sem

variable {F : FTy → Type} [FloatOps F]

/-- The programs of one vector subcore. -/
abbrev TProg (F : FTy → Type) (i : grid2.Coords) (α : Type) : Type 1 :=
  Prog (TpuEff nD τ sig (Elt F) Λ₀ (.scVector ((i 0).castLE hcore2) ((i 1).castLE hsub2))) α

abbrev Rows : Type := Memref sig .scVector .vmem S128x128 .f32

/-- Sixteen columns of one row, read, multiplied by `w`, read again and written back. -/
def scaleBlock (i : grid2.Coords) (buf : Rows) (w : F .f32) (o : Fin 2 → ℕ) (h : ∀ a, o a + S1x16.size a ≤ S128x128.size a) : TProg F i PUnit :=
  Prog.lift (.load buf (Rect.unit (s := S128x128) o S1x16.size h).toLoadRect (View.loadsAt_vmem h_S1x16)) >>= fun v =>
  Prog.lift (.load buf (Rect.unit (s := S128x128) o S1x16.size h).toLoadRect (View.loadsAt_vmem h_S1x16)) >>= fun _ =>
  Prog.lift (.store buf (Rect.unit (s := S128x128) o S1x16.size h)
    (shapeCast S1x16 (mulf (F := F) (φ := .f32) (shapeCast S16 v shapeCasts_S1x16_S16) (broadcast S16 w)) shapeCasts_S16_S1x16)
    Finset.univ (View.stores_vmem_bits_univ h_S1x16 rfl) (.inl rfl))

/-- Where the eight column blocks of a trip's row lie, by the row's constant. -/
structure Cols where
  o0 : BitVec 32 → Fin 2 → ℕ
  o1 : BitVec 32 → Fin 2 → ℕ
  o2 : BitVec 32 → Fin 2 → ℕ
  o3 : BitVec 32 → Fin 2 → ℕ
  o4 : BitVec 32 → Fin 2 → ℕ
  o5 : BitVec 32 → Fin 2 → ℕ
  o6 : BitVec 32 → Fin 2 → ℕ
  o7 : BitVec 32 → Fin 2 → ℕ
  h0 : ∀ r : Fin 16, ∀ a, o0 (BitVec.ofNat 32 r.val) a + S1x16.size a ≤ S128x128.size a
  h1 : ∀ r : Fin 16, ∀ a, o1 (BitVec.ofNat 32 r.val) a + S1x16.size a ≤ S128x128.size a
  h2 : ∀ r : Fin 16, ∀ a, o2 (BitVec.ofNat 32 r.val) a + S1x16.size a ≤ S128x128.size a
  h3 : ∀ r : Fin 16, ∀ a, o3 (BitVec.ofNat 32 r.val) a + S1x16.size a ≤ S128x128.size a
  h4 : ∀ r : Fin 16, ∀ a, o4 (BitVec.ofNat 32 r.val) a + S1x16.size a ≤ S128x128.size a
  h5 : ∀ r : Fin 16, ∀ a, o5 (BitVec.ofNat 32 r.val) a + S1x16.size a ≤ S128x128.size a
  h6 : ∀ r : Fin 16, ∀ a, o6 (BitVec.ofNat 32 r.val) a + S1x16.size a ≤ S128x128.size a
  h7 : ∀ r : Fin 16, ∀ a, o7 (BitVec.ofNat 32 r.val) a + S1x16.size a ≤ S128x128.size a

/-- Lane `r` of a vector of sixteen scores. -/
def lane (sv : FVec F S16 .f32) (r : ℕ) (h : S16.Slices ![r] S1) : F .f32 :=
  extractAt ![0] (extractStridedSlice S1 ![r] sv h) inpos_S1_p0

/-- One row of a trip, and what follows it. -/
def scaleRow {α : Type} (i : grid2.Coords) (buf : Rows) (sv : FVec F S16 .f32) (c : Cols) (r : Fin 16) (h : S16.Slices ![r.val] S1)
    (k : TProg F i α) : TProg F i α :=
  scaleBlock i buf (lane sv r.val h) (c.o0 (BitVec.ofNat 32 r.val)) (c.h0 r) >>= fun _ =>
  scaleBlock i buf (lane sv r.val h) (c.o1 (BitVec.ofNat 32 r.val)) (c.h1 r) >>= fun _ =>
  scaleBlock i buf (lane sv r.val h) (c.o2 (BitVec.ofNat 32 r.val)) (c.h2 r) >>= fun _ =>
  scaleBlock i buf (lane sv r.val h) (c.o3 (BitVec.ofNat 32 r.val)) (c.h3 r) >>= fun _ =>
  scaleBlock i buf (lane sv r.val h) (c.o4 (BitVec.ofNat 32 r.val)) (c.h4 r) >>= fun _ =>
  scaleBlock i buf (lane sv r.val h) (c.o5 (BitVec.ofNat 32 r.val)) (c.h5 r) >>= fun _ =>
  scaleBlock i buf (lane sv r.val h) (c.o6 (BitVec.ofNat 32 r.val)) (c.h6 r) >>= fun _ =>
  scaleBlock i buf (lane sv r.val h) (c.o7 (BitVec.ofNat 32 r.val)) (c.h7 r) >>= fun _ => k

/-- The sixteen rows of a trip. -/
def tripRows (i : grid2.Coords) (buf : Rows) (sv : FVec F S16 .f32) (c : Cols) : TProg F i (BitVec 32) :=
  scaleRow i buf sv c 0 slices_S16_o0_S1 <|
  scaleRow i buf sv c 1 slices_S16_o1_S1 <|
  scaleRow i buf sv c 2 slices_S16_o2_S1 <|
  scaleRow i buf sv c 3 slices_S16_o3_S1 <|
  scaleRow i buf sv c 4 slices_S16_o4_S1 <|
  scaleRow i buf sv c 5 slices_S16_o5_S1 <|
  scaleRow i buf sv c 6 slices_S16_o6_S1 <|
  scaleRow i buf sv c 7 slices_S16_o7_S1 <|
  scaleRow i buf sv c 8 slices_S16_o8_S1 <|
  scaleRow i buf sv c 9 slices_S16_o9_S1 <|
  scaleRow i buf sv c 10 slices_S16_o10_S1 <|
  scaleRow i buf sv c 11 slices_S16_o11_S1 <|
  scaleRow i buf sv c 12 slices_S16_o12_S1 <|
  scaleRow i buf sv c 13 slices_S16_o13_S1 <|
  scaleRow i buf sv c 14 slices_S16_o14_S1 <|
  scaleRow i buf sv c 15 slices_S16_o15_S1 <|
  pure 0#32

/-- One trip: sixteen scores are read and the sixteen rows they belong to are scaled. -/
def trip (i : grid2.Coords) (scs : Memref sig .scVector .vmem S1000 .f32) (buf : Rows) (o : Fin 1 → ℕ)
    (h : ∀ a, o a + S16.size a ≤ S1000.size a) (c : Cols) : TProg F i (BitVec 32) :=
  Prog.lift (.load scs (Rect.unit (s := S1000) o S16.size h).toLoadRect (View.loadsAt_vmem h_S16)) >>= fun v =>
  tripRows i buf (shapeCast S16 v shapeCasts_S16_S16) c

/-- A loop over the groups of sixteen rows of a chunk: the loop, where each trip reads its scores and where its rows lie. -/
structure Groups where
  l : Scf.Loop 32
  ok : l.OK
  o : Fin l.trips → Fin 1 → ℕ
  h : ∀ t, ∀ a, o t a + S16.size a ≤ S1000.size a
  c : Fin l.trips → Cols

def groups1 : Groups where
  l := k2_t1_loop
  ok := k2_t1_ok
  o := k2_off2
  h := k2_off2_inb
  c t := ⟨k2_off3 t, k2_off4 t, k2_off5 t, k2_off6 t, k2_off7 t, k2_off8 t, k2_off9 t, k2_off10 t,
    k2_off3_inb t, k2_off4_inb t, k2_off5_inb t, k2_off6_inb t, k2_off7_inb t, k2_off8_inb t, k2_off9_inb t, k2_off10_inb t⟩

def groups2 : Groups where
  l := k2_t2_loop
  ok := k2_t2_ok
  o := k2_off12
  h := k2_off12_inb
  c t := ⟨k2_off13 t, k2_off14 t, k2_off15 t, k2_off16 t, k2_off17 t, k2_off18 t, k2_off19 t, k2_off20 t,
    k2_off13_inb t, k2_off14_inb t, k2_off15_inb t, k2_off16_inb t, k2_off17_inb t, k2_off18_inb t, k2_off19_inb t, k2_off20_inb t⟩

def groups3 : Groups where
  l := k2_t3_loop
  ok := k2_t3_ok
  o := k2_off21
  h := k2_off21_inb
  c t := ⟨k2_off22 t, k2_off23 t, k2_off24 t, k2_off25 t, k2_off26 t, k2_off27 t, k2_off28 t, k2_off29 t,
    k2_off22_inb t, k2_off23_inb t, k2_off24_inb t, k2_off25_inb t, k2_off26_inb t, k2_off27_inb t, k2_off28_inb t, k2_off29_inb t⟩

def groups4 : Groups where
  l := k2_t4_loop
  ok := k2_t4_ok
  o := k2_off30
  h := k2_off30_inb
  c t := ⟨k2_off31 t, k2_off32 t, k2_off33 t, k2_off34 t, k2_off35 t, k2_off36 t, k2_off37 t, k2_off38 t,
    k2_off31_inb t, k2_off32_inb t, k2_off33_inb t, k2_off34_inb t, k2_off35_inb t, k2_off36_inb t, k2_off37_inb t, k2_off38_inb t⟩

def groups5 : Groups where
  l := k2_t5_loop
  ok := k2_t5_ok
  o := k2_off39
  h := k2_off39_inb
  c t := ⟨k2_off40 t, k2_off41 t, k2_off42 t, k2_off43 t, k2_off44 t, k2_off45 t, k2_off46 t, k2_off47 t,
    k2_off40_inb t, k2_off41_inb t, k2_off42_inb t, k2_off43_inb t, k2_off44_inb t, k2_off45_inb t, k2_off46_inb t, k2_off47_inb t⟩

def groups6 : Groups where
  l := k2_t6_loop
  ok := k2_t6_ok
  o := k2_off48
  h := k2_off48_inb
  c t := ⟨k2_off49 t, k2_off50 t, k2_off51 t, k2_off52 t, k2_off53 t, k2_off54 t, k2_off55 t, k2_off56 t,
    k2_off49_inb t, k2_off50_inb t, k2_off51_inb t, k2_off52_inb t, k2_off53_inb t, k2_off54_inb t, k2_off55_inb t, k2_off56_inb t⟩

def groups7 : Groups where
  l := k2_t7_loop
  ok := k2_t7_ok
  o := k2_off57
  h := k2_off57_inb
  c t := ⟨k2_off58 t, k2_off59 t, k2_off60 t, k2_off61 t, k2_off62 t, k2_off63 t, k2_off64 t, k2_off65 t,
    k2_off58_inb t, k2_off59_inb t, k2_off60_inb t, k2_off61_inb t, k2_off62_inb t, k2_off63_inb t, k2_off64_inb t, k2_off65_inb t⟩

def groups8 : Groups where
  l := k2_t8_loop
  ok := k2_t8_ok
  o := k2_off66
  h := k2_off66_inb
  c t := ⟨k2_off67 t, k2_off68 t, k2_off69 t, k2_off70 t, k2_off71 t, k2_off72 t, k2_off73 t, k2_off74 t,
    k2_off67_inb t, k2_off68_inb t, k2_off69_inb t, k2_off70_inb t, k2_off71_inb t, k2_off72_inb t, k2_off73_inb t, k2_off74_inb t⟩

/-- What a tile's program names: the table, the row numbers, the scores, the result, the tile's own copies of its row
    numbers and scores, and its two row buffers. -/
structure Bufs where
  tab : Memref sig .scVector .hbm S204800x128 .f32
  gi : Memref sig .scVector .hbm S32x1000 .i32
  sc : Memref sig .scVector .hbm S32x1000 .f32
  out : Memref sig .scVector .hbm S32000x128 .f32
  idx : Memref sig .scVector .vmem S1000 .i32
  hidx : idx.IsWhole
  scs : Memref sig .scVector .vmem S1000 .f32
  hscs : scs.IsWhole

/-- The whole table, as a gather's source. -/
abbrev Bufs.table (m : Bufs) : Memref sig .scVector .hbm S204800x128 .f32 :=
  m.tab.slice (Rect.unit (s := S204800x128) ![0, 0] S204800x128.size inb_S204800x128_S204800x128_0_0) (fun _ => rfl)

/-- A row buffer's 128 rows, -/
abbrev full (b : Rows) : Memref sig .scVector .vmem S128x128 .f32 :=
  b.slice (Rect.unit (s := S128x128) ![0, 0] S128x128.size inb_S128x128_S128x128_0_0) (fun _ => rfl)
/-- and its first 104. -/
abbrev most (b : Rows) : Memref sig .scVector .vmem S104x128 .f32 :=
  b.slice (Rect.unit (s := S128x128) ![0, 0] S104x128.size inb_S128x128_S104x128_0_0) (fun _ => rfl)

/-- A chunk's 128 row numbers. -/
abbrev Bufs.nums (m : Bufs) (st : ℕ) (h : ∀ a, (![st] : Fin 1 → ℕ) a + S128.size a ≤ S1000.size a) : Memref sig .scVector .vmem S128 .i32 :=
  m.idx.slice (Rect.unit (s := S1000) ![st] S128.size h) (fun _ => rfl)
abbrev Bufs.lastNums (m : Bufs) : Memref sig .scVector .vmem S104 .i32 :=
  m.idx.slice (Rect.unit (s := S1000) ![896] S104.size inb_S1000_S104_896) (fun _ => rfl)

/-- The gather of a chunk's rows into a row buffer, issued, -/
def issue (i : grid2.Coords) (m : Bufs) (b : Rows) (sem : DmaSems sig S_) (st : ℕ) (h : ∀ a, (![st] : Fin 1 → ℕ) a + S128.size a ≤ S1000.size a) :
    TProg F i PUnit :=
  SparseCore.enqueueIndirectGather rfl m.table (full b) gathers_S204800x128_S128x128 (m.nums st h) rfl sem.sem (View.wordExact_bits rfl) rfl (Or.inl rfl)
/-- and waited for. -/
def await (i : grid2.Coords) (m : Bufs) (b : Rows) (sem : DmaSems sig S_) : TProg F i PUnit :=
  SparseCore.waitIndirectGather sem.sem m.table (full b) (View.wordExact_bits rfl) (View.wordExact_bits rfl)
def issueLast (i : grid2.Coords) (m : Bufs) (b : Rows) (sem : DmaSems sig S_) : TProg F i PUnit :=
  SparseCore.enqueueIndirectGather rfl m.table (most b) gathers_S204800x128_S104x128 m.lastNums rfl sem.sem (View.wordExact_bits rfl) rfl (Or.inl rfl)
def awaitLast (i : grid2.Coords) (m : Bufs) (b : Rows) (sem : DmaSems sig S_) : TProg F i PUnit :=
  SparseCore.waitIndirectGather sem.sem m.table (most b) (View.wordExact_bits rfl) (View.wordExact_bits rfl)

/-- The groups of a chunk, scaled one after the other. -/
def scaleAll (i : grid2.Coords) (m : Bufs) (b : Rows) (g : Groups) : TProg F i (BitVec 32) :=
  Scf.Loop.for g.l g.ok 0#32 fun t _ => trip i m.scs b (g.o t) (g.h t) (g.c t)

/-- Where a chunk's rows lie in the result. -/
abbrev Bufs.dest (m : Bufs) (i : grid2.Coords) (k : Fin 7) : Memref sig .scVector .hbm S128x128 .f32 :=
  m.out.slice (Rect.unit (s := S32000x128) (k2_off11 i (BitVec.ofNat 32 (128 * k.val))) S128x128.size (k2_off11_inb i k)) (fun _ => rfl)
abbrev Bufs.lastDest (m : Bufs) (i : grid2.Coords) : Memref sig .scVector .hbm S104x128 .f32 :=
  m.out.slice (Rect.unit (s := S32000x128) (k2_off75 i) S104x128.size (k2_off75_inb i)) (fun _ => rfl)

/-- A chunk's rows, copied out. -/
def copyOut (i : grid2.Coords) (m : Bufs) (b : Rows) (k : Fin 7) (sem : DmaSems sig S_) : TProg F i PUnit :=
  Prog.lift (.enqueueDma (full b) (.here (m.dest i k)) (.dma sem.sem) (View.wordExact_bits rfl) (View.wordExact_bits rfl) ⟨Or.inl rfl, trivial⟩) >>= fun _ =>
  Prog.lift (.waitDma2 sem.sem (full b) (m.dest i k) (View.wordExact_bits rfl) (View.wordExact_bits rfl))
def copyOutLast (i : grid2.Coords) (m : Bufs) (b : Rows) (sem : DmaSems sig S_) : TProg F i PUnit :=
  Prog.lift (.enqueueDma (most b) (.here (m.lastDest i)) (.dma sem.sem) (View.wordExact_bits rfl) (View.wordExact_bits rfl) ⟨Or.inl rfl, trivial⟩) >>= fun _ =>
  Prog.lift (.waitDma2 sem.sem (most b) (m.lastDest i) (View.wordExact_bits rfl) (View.wordExact_bits rfl))

/-- The tile's row of the row numbers and of the scores. -/
abbrev Bufs.giRow (m : Bufs) (i : grid2.Coords) : Memref sig .scVector .hbm S1000 .i32 :=
  (m.gi.slice (Rect.unit (s := S32x1000) (k2_off1 i) S1x1000.size (k2_off1_inb i)) (fun _ => rfl)).squeeze S1000 squeezes_S1x1000_S1000
abbrev Bufs.scRow (m : Bufs) (i : grid2.Coords) : Memref sig .scVector .hbm S1000 .f32 :=
  (m.sc.slice (Rect.unit (s := S32x1000) (k2_off1 i) S1x1000.size (k2_off1_inb i)) (fun _ => rfl)).squeeze S1000 squeezes_S1x1000_S1000

/-- The tile's row numbers and its scores, copied in. -/
def copyIn (i : grid2.Coords) (m : Bufs) (s0 s1 : DmaSems sig S_) : TProg F i PUnit :=
  Prog.lift (.enqueueDma (m.giRow i) (.here m.idx) (.dma s0.sem) ((View.wordExact_bits rfl).reshape _ _) m.hidx.wordExact ⟨Or.inl rfl, trivial⟩) >>= fun _ =>
  Prog.lift (.waitDma2 s0.sem (m.giRow i) m.idx ((View.wordExact_bits rfl).reshape _ _) m.hidx.wordExact) >>= fun _ =>
  Prog.lift (.enqueueDma (m.scRow i) (.here m.scs) (.dma s1.sem) ((View.wordExact_bits rfl).reshape _ _) m.hscs.wordExact ⟨Or.inl rfl, trivial⟩) >>= fun _ =>
  Prog.lift (.waitDma2 s1.sem (m.scRow i) m.scs ((View.wordExact_bits rfl).reshape _ _) m.hscs.wordExact)

/-- The eight rows a chunk of 104 has past its six groups, by the constant of the row. -/
def tailCols : Cols where
  o0 r := ![88 + r.toNat, 0]
  o1 r := ![88 + r.toNat, 16]
  o2 r := ![88 + r.toNat, 32]
  o3 r := ![88 + r.toNat, 48]
  o4 r := ![88 + r.toNat, 64]
  o5 r := ![88 + r.toNat, 80]
  o6 r := ![88 + r.toNat, 96]
  o7 r := ![88 + r.toNat, 112]
  h0 := by decide
  h1 := by decide
  h2 := by decide
  h3 := by decide
  h4 := by decide
  h5 := by decide
  h6 := by decide
  h7 := by decide

/-- Those rows, scaled. -/
def tailRows (i : grid2.Coords) (buf : Rows) (sv : FVec F S16 .f32) : TProg F i PUnit :=
  scaleRow i buf sv tailCols 8 slices_S16_o8_S1 <|
  scaleRow i buf sv tailCols 9 slices_S16_o9_S1 <|
  scaleRow i buf sv tailCols 10 slices_S16_o10_S1 <|
  scaleRow i buf sv tailCols 11 slices_S16_o11_S1 <|
  scaleRow i buf sv tailCols 12 slices_S16_o12_S1 <|
  scaleRow i buf sv tailCols 13 slices_S16_o13_S1 <|
  scaleRow i buf sv tailCols 14 slices_S16_o14_S1 <|
  scaleRow i buf sv tailCols 15 slices_S16_o15_S1 <|
  pure ⟨⟩
def tail (i : grid2.Coords) (m : Bufs) (b : Rows) : TProg F i PUnit :=
  Prog.lift (.load m.scs (Rect.unit (s := S1000) ![984] S16.size inb_S1000_S16_984).toLoadRect (View.loadsAt_vmem h_S16)) >>= fun v =>
  tailRows i b (shapeCast S16 v shapeCasts_S16_S16)

/-- What one tile runs: its row numbers and scores in, then chunk after chunk, the next one's gather under way while
    this one's rows are scaled and copied out. -/
def tile (i : grid2.Coords) (m : Bufs) (a b : Rows) (sa sb sl s0 s1 t0 t1 t2 t3 t4 t5 t6 t7 : DmaSems sig S_) : TProg F i PUnit := do
  copyIn i m s0 s1
  issue i m a sa 0 inb_S1000_S128_0
  await i m a sa
  issue i m b sb 128 inb_S1000_S128_128
  let _ ← scaleAll i m a groups1
  copyOut i m a 0 t0
  await i m b sb
  issue i m a sa 256 inb_S1000_S128_256
  let _ ← scaleAll i m b groups2
  copyOut i m b 1 t1
  await i m a sa
  issue i m b sb 384 inb_S1000_S128_384
  let _ ← scaleAll i m a groups3
  copyOut i m a 2 t2
  await i m b sb
  issue i m a sa 512 inb_S1000_S128_512
  let _ ← scaleAll i m b groups4
  copyOut i m b 3 t3
  await i m a sa
  issue i m b sb 640 inb_S1000_S128_640
  let _ ← scaleAll i m a groups5
  copyOut i m a 4 t4
  await i m b sb
  issue i m a sa 768 inb_S1000_S128_768
  let _ ← scaleAll i m b groups6
  copyOut i m b 5 t5
  await i m a sa
  issueLast i m b sl
  let _ ← scaleAll i m a groups7
  copyOut i m a 6 t6
  awaitLast i m b sl
  let _ ← scaleAll i m b groups8
  tail i m b
  copyOutLast i m b t7

end Cert.Proof.Gather
-- ==== Proof.Scale.lean ====
module

public import proofs.«01_k».proof.Proof.Prog
public import proofs.«01_k».proof.Proof.Resources
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources -/

local notation "𝕄" => MT nD τ sig (HIx 2) (Elt F) ℕ UU ℕ

variable [FloatOps F]

/-- The thread of the vector subcore at the place `i`. -/
abbrev thr (d : Dev nD) (i : grid2.Coords) : Thread nD τ := V d ((i 0).castLE hcore2) ((i 1).castLE hsub2)

/-- The weakest precondition of a tile's program. -/
abbrev tileWp {α : Type} (d : Dev nD) (i : grid2.Coords) (p : TProg F i α) (Q : α → sProp 𝕄) : sProp 𝕄 :=
  wp frame (wpE (defs₀ (F := F)) 𝒱₀ (thr d i) none) Set.univ p Q

/-- The buffer under `b` is the tile's, and through `b` it reads `g`. -/
def holds {sp : Space} {s : Shape} {e : EltTy} (d : Dev nD) (i : grid2.Coords) (b : Memref sig .scVector sp s e) (g : s.Idx → Elt F e) : sProp 𝕄 :=
  iprop(∃ f : Buf (Elt F) (b.view.loc (thr d i)), ⌜b.view.read (Elt F) f = g⌝ ∗ (b.view.loc (thr d i) ↦[b.view.set]{fullShare} f))

theorem holds_eq {sp : Space} {s : Shape} {e : EltTy} (d : Dev nD) (i : grid2.Coords) (b : Memref sig .scVector sp s e) (g : s.Idx → Elt F e) :
    holds d i b g = (iprop(∃ f : Buf (Elt F) (b.view.loc (thr d i)), ⌜b.view.read (Elt F) f = g⌝ ∗ (b.view.loc (thr d i) ↦[b.view.set]{fullShare} f)) : sProp 𝕄) :=
  rfl

/-! ## Sixteen columns of a row -/

/-- The contents with the sixteen columns from `C` of row `R` multiplied by `w`. -/
def scaleAt (R C : ℕ) (w : F .f32) (g : S128x128.Idx → F .f32) : S128x128.Idx → F .f32 := fun y =>
  if (y 0).val = R ∧ C ≤ (y 1).val ∧ (y 1).val < C + 16 then FloatOps.mulf (g y) w else g y

theorem reshape_back (j : S1x16.Idx) :
    Shape.reshapeEquiv shapeCasts_S1x16_S16 (Shape.reshapeEquiv shapeCasts_S16_S1x16 j) = j := by
  simp [Shape.reshapeEquiv]

/-- One block of sixteen columns, scaled. -/
theorem wp_scaleBlock (d : Dev nD) (i : grid2.Coords) (b : Rows) (w : F .f32) (o : Fin 2 → ℕ) (h) (R C : ℕ) (ho : o = ![R, C])
    (g : S128x128.Idx → F .f32) :
    holds d i b g ⊢ tileWp d i (scaleBlock i b w o h) fun _ => holds d i b (scaleAt R C w g) := by
  subst ho
  unfold holds scaleBlock
  iintro ⟨%f, %hf, H⟩
  have hsub : (b.access (Rect.unit (s := S128x128) ![R, C] S1x16.size h)).set ⊆ b.view.set := View.set_slice_subset _ _
  iapply (wp_load_rect 𝒱₀ (thr d i) none Set.univ hsub) $$ H
  iintro H
  iapply (wp_load_rect 𝒱₀ (thr d i) none Set.univ hsub) $$ H
  iintro H
  iapply (wp_store_writes₀ 𝒱₀ (thr d i) none Set.univ hsub) $$ H
  iintro H
  rw [wp_ret]; imodintro
  iexists _; isplitr
  swap; · iexact H
  ipureintro
  funext y
  refine (View.read_writes_cons_unit (off' := ![R, C]) b.view f h _ [] y rfl).trans ?_
  unfold scaleAt
  have hy : (∀ a, (![R, C] : Fin 2 → ℕ) a ≤ (y a).val ∧ (y a).val < (![R, C] : Fin 2 → ℕ) a + S1x16.size a)
      ↔ ((y 0).val = R ∧ C ≤ (y 1).val ∧ (y 1).val < C + 16) := by
    rw [Fin.forall_fin_two]
    show (R ≤ (y 0).val ∧ (y 0).val < R + 1) ∧ (C ≤ (y 1).val ∧ (y 1).val < C + 16) ↔ _
    omega
  by_cases hin : (y 0).val = R ∧ C ≤ (y 1).val ∧ (y 1).val < C + 16
  · rw [dif_pos (hy.mpr hin), if_pos hin, ← hf]
    show FloatOps.mulf (F := F) (φ := .f32) (View.read (Elt F) (Memref.access b (Rect.unit ![R, C] S1x16.size h)) f
      (Shape.reshapeEquiv shapeCasts_S1x16_S16 (Shape.reshapeEquiv shapeCasts_S16_S1x16 _))) w = _
    rw [reshape_back]
    congr 1
    show View.read (Elt F) b.view f ((Rect.unit (s := S128x128) ![R, C] S1x16.size h).emb _) = _
    congr 1
    funext a
    apply Fin.ext
    have := (hy.mpr hin) a
    show (![R, C] : Fin 2 → ℕ) a + 1 * _ = _
    rw [Rect.unitLocal_val]
    omega
  · rw [dif_neg (fun hc => hin (hy.mp hc)), if_neg hin, View.writes_nil, hf]

/-! ## A row -/

/-- The contents with the rows from `lo` below `hi` multiplied, row `n` by `w n`. -/
def scaleRows (lo hi : ℕ) (w : ℕ → F .f32) (g : S128x128.Idx → F .f32) : S128x128.Idx → F .f32 := fun y =>
  if lo ≤ (y 0).val ∧ (y 0).val < hi then FloatOps.mulf (g y) (w (y 0).val) else g y

theorem scaleRows_self (lo : ℕ) (w : ℕ → F .f32) (g : S128x128.Idx → F .f32) : scaleRows lo lo w g = g := by
  funext y
  unfold scaleRows
  rw [if_neg (by omega)]

/-- The same, and of row `hi` the columns below `C`. -/
def scaleTo (lo hi C : ℕ) (w : ℕ → F .f32) (g : S128x128.Idx → F .f32) : S128x128.Idx → F .f32 := fun y =>
  if lo ≤ (y 0).val ∧ ((y 0).val < hi ∨ (y 0).val = hi ∧ (y 1).val < C) then FloatOps.mulf (g y) (w (y 0).val) else g y

theorem scaleTo_zero (lo hi : ℕ) (w : ℕ → F .f32) (g : S128x128.Idx → F .f32) : scaleTo lo hi 0 w g = scaleRows lo hi w g := by
  funext y
  unfold scaleTo scaleRows
  exact if_congr (by omega) rfl rfl

theorem scaleTo_all (lo hi : ℕ) (w : ℕ → F .f32) (g : S128x128.Idx → F .f32) : scaleTo lo hi 128 w g = scaleRows lo (hi + 1) w g := by
  funext y
  have hy : (y 1).val < 128 := (y 1).isLt
  unfold scaleTo scaleRows
  exact if_congr (by omega) rfl rfl

/-- Sixteen columns more. -/
theorem scaleAt_scaleTo (lo R C : ℕ) (hlo : lo ≤ R) (w : ℕ → F .f32) (g : S128x128.Idx → F .f32) :
    scaleAt R C (w R) (scaleTo lo R C w g) = scaleTo lo R (C + 16) w g := by
  funext y
  unfold scaleAt scaleTo
  by_cases h : (y 0).val = R ∧ C ≤ (y 1).val ∧ (y 1).val < C + 16
  · rw [if_pos h, if_neg (by omega), if_pos (by omega), h.1]
  · rw [if_neg h]
    exact if_congr (by omega) rfl rfl

/-- The eight blocks of the row with constant `r` are row `R + r`'s. -/
structure Cols.At (c : Cols) (R : ℕ) (r : Fin 16) : Prop where
  e0 : c.o0 (BitVec.ofNat 32 r.val) = ![R + r.val, 0]
  e1 : c.o1 (BitVec.ofNat 32 r.val) = ![R + r.val, 16]
  e2 : c.o2 (BitVec.ofNat 32 r.val) = ![R + r.val, 32]
  e3 : c.o3 (BitVec.ofNat 32 r.val) = ![R + r.val, 48]
  e4 : c.o4 (BitVec.ofNat 32 r.val) = ![R + r.val, 64]
  e5 : c.o5 (BitVec.ofNat 32 r.val) = ![R + r.val, 80]
  e6 : c.o6 (BitVec.ofNat 32 r.val) = ![R + r.val, 96]
  e7 : c.o7 (BitVec.ofNat 32 r.val) = ![R + r.val, 112]

/-- One block, beside what it does not touch, and what follows. -/
theorem wp_scaleBlock_then {α : Type} (d : Dev nD) (i : grid2.Coords) (b : Rows) (w : F .f32) (o : Fin 2 → ℕ) (h) (R C : ℕ) (ho : o = ![R, C])
    (g : S128x128.Idx → F .f32) (Fr : sProp 𝕄) (k : PUnit → TProg F i α) (Q : α → sProp 𝕄)
    (hk : iprop(holds d i b (scaleAt R C w g) ∗ Fr) ⊢ tileWp d i (k ⟨⟩) Q) :
    iprop(holds d i b g ∗ Fr) ⊢ tileWp d i (scaleBlock i b w o h >>= k) Q := by
  unfold tileWp at hk ⊢
  rw [wp_bind]
  iintro ⟨H, HF⟩
  iapply (wp_wand_r frame (wpE (defs₀ (F := F)) 𝒱₀ (thr d i) none) Set.univ)
  isplitl [H]
  · iapply (wp_scaleBlock d i b w o h R C ho g); iexact H
  · iintro %_ H
    iapply hk
    isplitl [H] <;> iassumption

/-- One row, beside what it does not touch, and what follows. -/
theorem wp_scaleRow {α : Type} (d : Dev nD) (i : grid2.Coords) (b : Rows) (sv : FVec F S16 .f32) (c : Cols) (r : Fin 16) (h : S16.Slices ![r.val] S1)
    (R lo n : ℕ) (hn : n = R + r.val) (hlo : lo ≤ n) (hc : c.At R r) (w : ℕ → F .f32) (hw : lane sv r.val h = w n) (g : S128x128.Idx → F .f32)
    (Fr : sProp 𝕄) (k : TProg F i α) (Q : α → sProp 𝕄)
    (hk : iprop(holds d i b (scaleRows lo (n + 1) w g) ∗ Fr) ⊢ tileWp d i k Q) :
    iprop(holds d i b (scaleRows lo n w g) ∗ Fr) ⊢ tileWp d i (scaleRow i b sv c r h k) Q := by
  subst hn
  unfold scaleRow
  rw [hw]
  refine wp_scaleBlock_then d i b _ _ _ (R + r.val) 0 hc.e0 _ Fr _ Q ?_
  refine wp_scaleBlock_then d i b _ _ _ (R + r.val) 16 hc.e1 _ Fr _ Q ?_
  refine wp_scaleBlock_then d i b _ _ _ (R + r.val) 32 hc.e2 _ Fr _ Q ?_
  refine wp_scaleBlock_then d i b _ _ _ (R + r.val) 48 hc.e3 _ Fr _ Q ?_
  refine wp_scaleBlock_then d i b _ _ _ (R + r.val) 64 hc.e4 _ Fr _ Q ?_
  refine wp_scaleBlock_then d i b _ _ _ (R + r.val) 80 hc.e5 _ Fr _ Q ?_
  refine wp_scaleBlock_then d i b _ _ _ (R + r.val) 96 hc.e6 _ Fr _ Q ?_
  refine wp_scaleBlock_then d i b _ _ _ (R + r.val) 112 hc.e7 _ Fr _ Q ?_
  rw [← scaleTo_zero, scaleAt_scaleTo _ _ _ hlo, scaleAt_scaleTo _ _ _ hlo, scaleAt_scaleTo _ _ _ hlo, scaleAt_scaleTo _ _ _ hlo,
    scaleAt_scaleTo _ _ _ hlo, scaleAt_scaleTo _ _ _ hlo, scaleAt_scaleTo _ _ _ hlo, scaleAt_scaleTo _ _ _ hlo, scaleTo_all]
  exact hk

/-! ## A trip and a loop -/

/-- Entry `n` of a list of a thousand. -/
def nth {α : Type} (x : S1000.Idx → α) (n : ℕ) : α := x fun a => ⟨n % 1000, by match a with | 0 => exact Nat.mod_lt _ (by decide)⟩

/-- The lane of the sixteen scores read from `o` on. -/
theorem lane_read (d : Dev nD) (i : grid2.Coords) (b : Memref sig .scVector .vmem S1000 .f32) (o : Fin 1 → ℕ) (n : ℕ) (ho : o = ![n])
    (h : ∀ a, o a + S16.size a ≤ S1000.size a) (f : Buf (Elt F) (b.view.loc (thr d i))) (r : Fin 16) (hr : S16.Slices ![r.val] S1) :
    lane (shapeCast S16 ((b.access (Rect.unit (s := S1000) o S16.size h)).read (Elt F) f) shapeCasts_S16_S16) r.val hr
      = nth (b.view.read (Elt F) f) (n + r.val) := by
  subst ho
  unfold lane nth extractAt extractStridedSlice shapeCast
  have hb : n + 16 ≤ 1000 := h 0
  have hrr := r.isLt
  have e1 : ∀ j : S16.Idx, Shape.reshapeEquiv shapeCasts_S16_S16 j = j := fun j => by simp [Shape.reshapeEquiv]
  rw [e1]
  show View.read (Elt F) b.view f ((Rect.unit (s := S1000) ![n] S16.size h).emb _) = _
  congr 1
  funext a
  apply Fin.ext
  match a with
  | 0 =>
    show n + 1 * (r.val + 0) = (n + r.val) % 1000
    rw [Nat.mod_eq_of_lt (by omega)]; omega

/-- The sixteen rows of a trip, beside what they do not touch, by a vector of scores whose lane `r` is the score of row `R + r`. -/
theorem wp_trip_rows (d : Dev nD) (i : grid2.Coords) (b : Rows) (sv : FVec F S16 .f32) (c : Cols) (R : ℕ) (hc : ∀ r, c.At R r)
    (w : ℕ → F .f32) (g : S128x128.Idx → F .f32) (hl : ∀ (r : Fin 16) (hr : S16.Slices ![r.val] S1), lane sv r.val hr = w (R + r.val))
    (Fr : sProp 𝕄) :
    iprop(holds d i b (scaleRows 0 R w g) ∗ Fr) ⊢ tileWp d i (tripRows i b sv c) fun _ => iprop(holds d i b (scaleRows 0 (R + 16) w g) ∗ Fr) := by
  unfold tripRows
  refine wp_scaleRow d i b _ c 0 _ R 0 R rfl (Nat.zero_le _) (hc 0) w (hl 0 _) g _ _ _ ?_
  refine wp_scaleRow d i b _ c 1 _ R 0 (R + 1) rfl (Nat.zero_le _) (hc 1) w (hl 1 _) g _ _ _ ?_
  refine wp_scaleRow d i b _ c 2 _ R 0 (R + 2) rfl (Nat.zero_le _) (hc 2) w (hl 2 _) g _ _ _ ?_
  refine wp_scaleRow d i b _ c 3 _ R 0 (R + 3) rfl (Nat.zero_le _) (hc 3) w (hl 3 _) g _ _ _ ?_
  refine wp_scaleRow d i b _ c 4 _ R 0 (R + 4) rfl (Nat.zero_le _) (hc 4) w (hl 4 _) g _ _ _ ?_
  refine wp_scaleRow d i b _ c 5 _ R 0 (R + 5) rfl (Nat.zero_le _) (hc 5) w (hl 5 _) g _ _ _ ?_
  refine wp_scaleRow d i b _ c 6 _ R 0 (R + 6) rfl (Nat.zero_le _) (hc 6) w (hl 6 _) g _ _ _ ?_
  refine wp_scaleRow d i b _ c 7 _ R 0 (R + 7) rfl (Nat.zero_le _) (hc 7) w (hl 7 _) g _ _ _ ?_
  refine wp_scaleRow d i b _ c 8 _ R 0 (R + 8) rfl (Nat.zero_le _) (hc 8) w (hl 8 _) g _ _ _ ?_
  refine wp_scaleRow d i b _ c 9 _ R 0 (R + 9) rfl (Nat.zero_le _) (hc 9) w (hl 9 _) g _ _ _ ?_
  refine wp_scaleRow d i b _ c 10 _ R 0 (R + 10) rfl (Nat.zero_le _) (hc 10) w (hl 10 _) g _ _ _ ?_
  refine wp_scaleRow d i b _ c 11 _ R 0 (R + 11) rfl (Nat.zero_le _) (hc 11) w (hl 11 _) g _ _ _ ?_
  refine wp_scaleRow d i b _ c 12 _ R 0 (R + 12) rfl (Nat.zero_le _) (hc 12) w (hl 12 _) g _ _ _ ?_
  refine wp_scaleRow d i b _ c 13 _ R 0 (R + 13) rfl (Nat.zero_le _) (hc 13) w (hl 13 _) g _ _ _ ?_
  refine wp_scaleRow d i b _ c 14 _ R 0 (R + 14) rfl (Nat.zero_le _) (hc 14) w (hl 14 _) g _ _ _ ?_
  refine wp_scaleRow d i b _ c 15 _ R 0 (R + 15) rfl (Nat.zero_le _) (hc 15) w (hl 15 _) g _ _ _ ?_
  show _ ⊢ wp _ _ _ (.ret _) _
  rw [wp_ret]
  iintro H; imodintro; iexact H

/-- A trip: the sixteen rows from `R`, by the scores from `n` on. -/
theorem wp_trip (d : Dev nD) (i : grid2.Coords) (scs : Memref sig .scVector .vmem S1000 .f32) (b : Rows) (o : Fin 1 → ℕ)
    (h : ∀ a, o a + S16.size a ≤ S1000.size a) (c : Cols) (st R : ℕ) (ho : o = ![st + R]) (hc : ∀ r, c.At R r)
    (x : S1000.Idx → F .f32) (g : S128x128.Idx → F .f32) :
    iprop(holds d i b (scaleRows 0 R (fun n => nth x (st + n)) g) ∗ holds d i scs x)
      ⊢ tileWp d i (trip i scs b o h c) fun _ => iprop(holds d i b (scaleRows 0 (R + 16) (fun n => nth x (st + n)) g) ∗ holds d i scs x) := by
  unfold trip
  rw [holds_eq d i scs x]
  iintro ⟨H, Hs⟩
  icases Hs with ⟨%f, %hf, Hs⟩
  have hsub : (scs.access (Rect.unit (s := S1000) o S16.size h)).set ⊆ scs.view.set := View.set_slice_subset _ _
  iapply (wp_load_rect 𝒱₀ (thr d i) none Set.univ hsub) $$ Hs
  iintro Hs
  have hl : ∀ (r : Fin 16) (hr : S16.Slices ![r.val] S1), lane (shapeCast S16 ((scs.access (Rect.unit (s := S1000) o S16.size h)).read (Elt F) f) shapeCasts_S16_S16) r.val hr
      = nth x (st + (R + r.val)) := fun r hr => by
    rw [lane_read d i scs o (st + R) ho h f r hr, hf, Nat.add_assoc]
  iapply (wp_wand_r frame (wpE (defs₀ (F := F)) 𝒱₀ (thr d i) none) Set.univ)
  isplitl [H Hs]
  · iapply (wp_trip_rows d i b _ c R hc (fun n => nth x (st + n)) g hl iprop(scs.view.loc (thr d i) ↦[scs.view.set]{fullShare} f))
    isplitl [H] <;> iassumption
  · iintro %_ ⟨H, Hs⟩
    isplitl [H]; · iexact H
    iexists f; isplitr
    · ipureintro; exact hf
    · iexact Hs

/-- The rows of a chunk's tail are rows 96 to 103. -/
theorem tailCols_at : ∀ r, tailCols.At 88 r := fun r => by
  have h : (BitVec.ofNat 32 r.val).toNat = r.val := by
    rw [BitVec.toNat_ofNat]; exact Nat.mod_eq_of_lt (by have := r.isLt; omega)
  constructor <;> simp only [tailCols, h]

theorem wp_tailRows (d : Dev nD) (i : grid2.Coords) (b : Rows) (sv : FVec F S16 .f32)
    (w : ℕ → F .f32) (g : S128x128.Idx → F .f32) (hl : ∀ (r : Fin 16) (hr : S16.Slices ![r.val] S1), lane sv r.val hr = w (88 + r.val))
    (Fr : sProp 𝕄) :
    iprop(holds d i b (scaleRows 0 96 w g) ∗ Fr) ⊢ tileWp d i (tailRows i b sv) fun _ => iprop(holds d i b (scaleRows 0 104 w g) ∗ Fr) := by
  unfold tailRows
  refine wp_scaleRow d i b _ tailCols 8 _ 88 0 96 rfl (Nat.zero_le _) (tailCols_at 8) w (hl 8 _) g _ _ _ ?_
  refine wp_scaleRow d i b _ tailCols 9 _ 88 0 97 rfl (Nat.zero_le _) (tailCols_at 9) w (hl 9 _) g _ _ _ ?_
  refine wp_scaleRow d i b _ tailCols 10 _ 88 0 98 rfl (Nat.zero_le _) (tailCols_at 10) w (hl 10 _) g _ _ _ ?_
  refine wp_scaleRow d i b _ tailCols 11 _ 88 0 99 rfl (Nat.zero_le _) (tailCols_at 11) w (hl 11 _) g _ _ _ ?_
  refine wp_scaleRow d i b _ tailCols 12 _ 88 0 100 rfl (Nat.zero_le _) (tailCols_at 12) w (hl 12 _) g _ _ _ ?_
  refine wp_scaleRow d i b _ tailCols 13 _ 88 0 101 rfl (Nat.zero_le _) (tailCols_at 13) w (hl 13 _) g _ _ _ ?_
  refine wp_scaleRow d i b _ tailCols 14 _ 88 0 102 rfl (Nat.zero_le _) (tailCols_at 14) w (hl 14 _) g _ _ _ ?_
  refine wp_scaleRow d i b _ tailCols 15 _ 88 0 103 rfl (Nat.zero_le _) (tailCols_at 15) w (hl 15 _) g _ _ _ ?_
  show _ ⊢ wp _ _ _ (.ret _) _
  rw [wp_ret]
  iintro H; imodintro; iexact H

/-- The tail: rows 96 to 103, by the last eight scores. -/
theorem wp_tail (d : Dev nD) (i : grid2.Coords) (m : Bufs) (b : Rows) (x : S1000.Idx → F .f32) (g : S128x128.Idx → F .f32) :
    iprop(holds d i b (scaleRows 0 96 (fun n => nth x (896 + n)) g) ∗ holds d i m.scs x)
      ⊢ tileWp d i (tail i m b) fun _ => iprop(holds d i b (scaleRows 0 104 (fun n => nth x (896 + n)) g) ∗ holds d i m.scs x) := by
  unfold tail
  rw [holds_eq d i m.scs x]
  iintro ⟨H, Hs⟩
  icases Hs with ⟨%f, %hf, Hs⟩
  have hsub : (m.scs.access (Rect.unit (s := S1000) ![984] S16.size inb_S1000_S16_984)).set ⊆ m.scs.view.set := View.set_slice_subset _ _
  iapply (wp_load_rect 𝒱₀ (thr d i) none Set.univ hsub) $$ Hs
  iintro Hs
  have hl : ∀ (r : Fin 16) (hr : S16.Slices ![r.val] S1),
      lane (shapeCast S16 ((m.scs.access (Rect.unit (s := S1000) ![984] S16.size inb_S1000_S16_984)).read (Elt F) f) shapeCasts_S16_S16) r.val hr
        = nth x (896 + (88 + r.val)) := fun r hr => by
    rw [lane_read d i m.scs _ 984 rfl _ f r hr, hf, ← Nat.add_assoc]
  iapply (wp_wand_r frame (wpE (defs₀ (F := F)) 𝒱₀ (thr d i) none) Set.univ)
  isplitl [H Hs]
  · iapply (wp_tailRows d i b _ (fun n => nth x (896 + n)) g hl iprop(m.scs.view.loc (thr d i) ↦[m.scs.view.set]{fullShare} f))
    isplitl [H] <;> iassumption
  · iintro %_ ⟨H, Hs⟩
    isplitl [H]; · iexact H
    iexists f; isplitr
    · ipureintro; exact hf
    · iexact Hs

/-- A loop over `n` groups, of the chunk whose scores start at `st`. -/
structure Groups.At (g : Groups) (n st : ℕ) : Prop where
  trips : g.l.trips = n
  o : ∀ t, g.o t = ![st + 16 * t.val]
  c : ∀ t, ∀ r, (g.c t).At (16 * t.val) r

theorem groups1_at : groups1.At 8 0 where
  trips := by decide
  o t := (k2_off2_eq t).trans (by rw [Nat.zero_add])
  c t r := ⟨k2_off3_eq t r, k2_off4_eq t r, k2_off5_eq t r, k2_off6_eq t r, k2_off7_eq t r, k2_off8_eq t r, k2_off9_eq t r, k2_off10_eq t r⟩

theorem groups2_at : groups2.At 8 128 where
  trips := by decide
  o t := (k2_off12_eq t).trans (by rw [Nat.add_comm])
  c t r := ⟨k2_off13_eq t r, k2_off14_eq t r, k2_off15_eq t r, k2_off16_eq t r, k2_off17_eq t r, k2_off18_eq t r, k2_off19_eq t r, k2_off20_eq t r⟩

theorem groups3_at : groups3.At 8 256 where
  trips := by decide
  o t := (k2_off21_eq t).trans (by rw [Nat.add_comm])
  c t r := ⟨k2_off22_eq t r, k2_off23_eq t r, k2_off24_eq t r, k2_off25_eq t r, k2_off26_eq t r, k2_off27_eq t r, k2_off28_eq t r, k2_off29_eq t r⟩

theorem groups4_at : groups4.At 8 384 where
  trips := by decide
  o t := (k2_off30_eq t).trans (by rw [Nat.add_comm])
  c t r := ⟨k2_off31_eq t r, k2_off32_eq t r, k2_off33_eq t r, k2_off34_eq t r, k2_off35_eq t r, k2_off36_eq t r, k2_off37_eq t r, k2_off38_eq t r⟩

theorem groups5_at : groups5.At 8 512 where
  trips := by decide
  o t := (k2_off39_eq t).trans (by rw [Nat.add_comm])
  c t r := ⟨k2_off40_eq t r, k2_off41_eq t r, k2_off42_eq t r, k2_off43_eq t r, k2_off44_eq t r, k2_off45_eq t r, k2_off46_eq t r, k2_off47_eq t r⟩

theorem groups6_at : groups6.At 8 640 where
  trips := by decide
  o t := (k2_off48_eq t).trans (by rw [Nat.add_comm])
  c t r := ⟨k2_off49_eq t r, k2_off50_eq t r, k2_off51_eq t r, k2_off52_eq t r, k2_off53_eq t r, k2_off54_eq t r, k2_off55_eq t r, k2_off56_eq t r⟩

theorem groups7_at : groups7.At 8 768 where
  trips := by decide
  o t := (k2_off57_eq t).trans (by rw [Nat.add_comm])
  c t r := ⟨k2_off58_eq t r, k2_off59_eq t r, k2_off60_eq t r, k2_off61_eq t r, k2_off62_eq t r, k2_off63_eq t r, k2_off64_eq t r, k2_off65_eq t r⟩

theorem groups8_at : groups8.At 6 896 where
  trips := by decide
  o t := (k2_off66_eq t).trans (by rw [Nat.add_comm])
  c t r := ⟨k2_off67_eq t r, k2_off68_eq t r, k2_off69_eq t r, k2_off70_eq t r, k2_off71_eq t r, k2_off72_eq t r, k2_off73_eq t r, k2_off74_eq t r⟩

set_option maxRecDepth 20000 in
/-- The loop over a chunk's groups scales the chunk's rows. -/
theorem wp_scaleAll (d : Dev nD) (i : grid2.Coords) (m : Bufs) (b : Rows) (gs : Groups) (n st : ℕ) (hg : gs.At n st)
    (x : S1000.Idx → F .f32) (g : S128x128.Idx → F .f32) :
    iprop(holds d i b g ∗ holds d i m.scs x)
      ⊢ tileWp d i (scaleAll i m b gs) fun _ => iprop(holds d i b (scaleRows 0 (16 * n) (fun n => nth x (st + n)) g) ∗ holds d i m.scs x) := by
  have hbody : ∀ (k : Fin gs.l.trips) (acc : BitVec 32),
      iprop(holds d i b (scaleRows 0 (16 * k.val) (fun n => nth x (st + n)) g) ∗ holds d i m.scs x)
        ⊢ tileWp d i (trip i m.scs b (gs.o k) (gs.h k) (gs.c k)) fun _ =>
          iprop(holds d i b (scaleRows 0 (16 * (k.val + 1)) (fun n => nth x (st + n)) g) ∗ holds d i m.scs x) := fun k _ => by
    rw [Nat.mul_succ]
    exact wp_trip d i m.scs b _ _ _ st (16 * k.val) (hg.o k) (hg.c k) x g
  have key := Scf.wp_for frame (wpE (defs₀ (F := F)) 𝒱₀ (thr d i) none) Set.univ gs.l.lb gs.l.ub gs.l.st gs.ok 0#32
    (fun t _ => trip i m.scs b (gs.o t) (gs.h t) (gs.c t))
    (fun k _ => iprop(holds d i b (scaleRows 0 (16 * k) (fun n => nth x (st + n)) g) ∗ holds d i m.scs x)) (fun k acc => by exact hbody k acc)
    (Q := fun _ => iprop(holds d i b (scaleRows 0 (16 * n) (fun n => nth x (st + n)) g) ∗ holds d i m.scs x))
  refine BI.Entails.trans ?_ key
  rw [show Scf.trips gs.l.lb gs.l.ub gs.l.st = n from hg.trips, Nat.mul_zero, scaleRows_self]
  show iprop(holds d i b g ∗ holds d i m.scs x) ⊢ iprop((holds d i b g ∗ holds d i m.scs x) ∗ ∀ _ : BitVec 32,
    (holds d i b (scaleRows 0 (16 * n) (fun n => nth x (st + n)) g) ∗ holds d i m.scs x)
      -∗ (holds d i b (scaleRows 0 (16 * n) (fun n => nth x (st + n)) g) ∗ holds d i m.scs x))
  iintro H
  isplitl [H]; · iexact H
  iintro %_ H
  iexact H

end Cert.Proof.Gather
-- ==== Proof.Moves.lean ====
module

public import proofs.«01_k».proof.Proof.Scale

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Parts of a buffer -/

/-- Part of a buffer written, beside the rest of it: the whole of it, written. -/
theorem pts_write_rest {sp : Space} {s : Shape} {e : EltTy} (d : Dev nD) (i : grid2.Coords) (v : View sig .scVector sp s e)
    (S : Finset (Idx (v.loc (thr d i)))) (hS : v.set ⊆ S) (f : Buf (Elt F) (v.loc (thr d i))) (pay : s.Idx → Elt F e) :
    iprop((v.loc (thr d i) ↦[v.set]{fullShare} v.write (Elt F) f pay Finset.univ) ∗ (v.loc (thr d i) ↦[S \ v.set]{fullShare} f))
      ⊢ (v.loc (thr d i) ↦[S]{fullShare} v.write (Elt F) f pay Finset.univ : sProp 𝕄) := by
  rw [pointsTo_congr (I := S \ v.set) (f := f) (g := v.write (Elt F) f pay Finset.univ) fun j hj =>
    (View.write_of_not_mem f pay Finset.univ (by rw [View.setOn_univ]; exact (Finset.mem_sdiff.mp hj).2)).symm]
  exact (pointsTo_split_subset hS).2

/-- What is read through `b` of a share of it. -/
def shares {sp : Space} {s : Shape} {e : EltTy} (d : Dev nD) (i : grid2.Coords) (q : PosShare TreeShare) (b : Memref sig .scVector sp s e) (g : s.Idx → Elt F e) : sProp 𝕄 :=
  iprop(∃ f : Buf (Elt F) (b.view.loc (thr d i)), ⌜b.view.read (Elt F) f = g⌝ ∗ (b.view.loc (thr d i) ↦[b.view.set]{q} f))

/-- What comes after a part, from what the part leaves. -/
theorem wp_then {α β : Type} (d : Dev nD) (i : grid2.Coords) {p : TProg F i α} {k : α → TProg F i β} {P : sProp 𝕄} {R : α → sProp 𝕄} {Q : β → sProp 𝕄}
    (h : P ⊢ tileWp d i p R) : P ⊢ iprop((∀ x, R x -∗ tileWp d i (k x) Q) -∗ tileWp d i (p >>= k) Q) := by
  unfold tileWp at h ⊢
  rw [wp_bind]
  iintro H HK
  iapply (wp_wand_r frame (wpE (defs₀ (F := F)) 𝒱₀ (thr d i) none) Set.univ)
  isplitl [H]
  · iapply h; iexact H
  · iexact HK

/-! ## What is computed -/

/-- Row `n` of a table, column `c`, out of the numbers of its rows and columns. -/
def rowAt {α : Type} (x : S204800x128.Idx → α) (n c : ℕ) : α :=
  x fun a => match a with
    | 0 => ⟨n % 204800, Nat.mod_lt _ (by decide)⟩
    | 1 => ⟨c % 128, Nat.mod_lt _ (by decide)⟩

/-- The `n`th row a tile fetches. -/
def fetched (x : S204800x128.Idx → F .f32) (J : S1000.Idx → BitVec 32) (n c : ℕ) : F .f32 := rowAt x (nth J n).toNat c

/-- A row buffer holding the rows from the `st`th on. -/
def chunkOf (x : S204800x128.Idx → F .f32) (J : S1000.Idx → BitVec 32) (st : ℕ) : S128x128.Idx → F .f32 := fun y =>
  fetched x J (st + (y 0).val) (y 1).val

/-! ## A chunk's gather -/

/-- A transfer under way on a semaphore: when it is done, `R`. -/
def flying (d : Dev nD) (i : grid2.Coords) (sem : DmaSems sig S_) (N : ℕ) (R : sProp 𝕄) : sProp 𝕄 :=
  iprop(∃ D, Transfers.Flight countersEmb (thr d i) (.dma sem.sem) (none : HIx 2) N D ∗ (D -∗ R))

/-- The shape of `n` rows. -/
abbrev rowsOf (n : ℕ) : Shape := ⟨2, ![n, 128]⟩

/-- What a gather of `n` rows writes. -/
theorem payload_apply (d : Dev nD) (i : grid2.Coords) (m : Bufs) (n st : ℕ) (hg : S204800x128.Gathers 0 (rowsOf n))
    (h : ∀ a, (![st] : Fin 1 → ℕ) a + (⟨1, ![n]⟩ : Shape).size a ≤ S1000.size a) (hn : (⟨1, ![n]⟩ : Shape).numel = (rowsOf n).size hg.axis')
    (ft : Buf (Elt F) (m.tab.view.loc (thr d i))) (fj : Buf (Elt F) (m.idx.view.loc (thr d i)))
    (hin : ∀ x, (View.read (Elt F) (m.idx.slice (Rect.unit (s := S1000) ![st] (⟨1, ![n]⟩ : Shape).size h) (fun _ => rfl)).view fj x).toNat < S204800x128.size hg.axis)
    (y : (rowsOf n).Idx) :
    SparseCore.gatherPayload hg (View.read (Elt F) m.table.view ft)
        (SparseCore.rows (View.read (Elt F) (m.idx.slice (Rect.unit (s := S1000) ![st] (⟨1, ![n]⟩ : Shape).size h) (fun _ => rfl)).view fj) hn hin) y
      = fetched (View.read (Elt F) m.tab.view ft) (View.read (Elt F) m.idx.view fj) (st + (y 0).val) (y 1).val := by
  unfold SparseCore.gatherPayload fetched rowAt
  show View.read (Elt F) m.tab.view ft ((Rect.unit (s := S204800x128) ![0, 0] S204800x128.size inb_S204800x128_S204800x128_0_0).emb _) = _
  have hst : st + n ≤ 1000 := h 0
  have hy0 : (y 0).val < n := (y 0).isLt
  have hy1 : (y 1).val < 128 := (y 1).isLt
  congr 1
  funext a
  apply Fin.ext
  match a with
  | 0 =>
    show 0 + 1 * (hg.idx _ y hg.axis).val = _
    rw [Shape.Gathers.idx_axis, Nat.zero_add, Nat.one_mul]
    show (View.read (Elt F) m.idx.view fj ((Rect.unit (s := S1000) ![st] (⟨1, ![n]⟩ : Shape).size h).emb
      ((⟨1, ![n]⟩ : Shape).rowMajor.symm (Fin.cast hn.symm (y 0))))).toNat = _
    have hlt := hin ((⟨1, ![n]⟩ : Shape).rowMajor.symm (Fin.cast hn.symm (y 0)))
    have e : (Rect.unit (s := S1000) ![st] (⟨1, ![n]⟩ : Shape).size h).emb ((⟨1, ![n]⟩ : Shape).rowMajor.symm (Fin.cast hn.symm (y 0)))
        = fun a => ⟨(st + (y 0).val) % 1000, by match a with | 0 => exact Nat.mod_lt _ (by decide)⟩ := by
      funext a
      apply Fin.ext
      match a with
      | 0 =>
        show st + 1 * ((⟨1, ![n]⟩ : Shape).rowMajor.symm (Fin.cast hn.symm (y 0)) 0).val = (st + (y 0).val) % 1000
        rw [← Shape.rowMajor_val_one, Equiv.apply_symm_apply, Nat.mod_eq_of_lt (by omega)]
        show st + 1 * (y 0).val = _
        omega
    rw [e]
    have hlt' : (View.read (Elt F) m.idx.view fj ((Rect.unit (s := S1000) ![st] (⟨1, ![n]⟩ : Shape).size h).emb
      ((⟨1, ![n]⟩ : Shape).rowMajor.symm (Fin.cast hn.symm (y 0))))).toNat < 204800 := hlt
    rw [e] at hlt'
    exact (Nat.mod_eq_of_lt hlt').symm
  | 1 =>
    show 0 + 1 * (hg.idx _ y 1).val = (y 1).val % 128
    rw [Shape.Gathers.idx_of_ne hg _ y 1 (by decide), Nat.mod_eq_of_lt hy1]
    show 0 + 1 * (y 1).val = _
    omega

/-- The first `n` rows of a row buffer. -/
abbrev top (b : Rows) (n : ℕ) (hr : ∀ a, (![0, 0] : Fin 2 → ℕ) a + (rowsOf n).size a ≤ S128x128.size a) : Memref sig .scVector .vmem (rowsOf n) .f32 :=
  b.slice (Rect.unit (s := S128x128) ![0, 0] (rowsOf n).size hr) (fun _ => rfl)

/-- What a row buffer reads when its first `n` rows have been written. -/
theorem read_top (d : Dev nD) (i : grid2.Coords) (b : Rows) (n : ℕ) (hr) (f : Buf (Elt F) (b.view.loc (thr d i))) (pay : (rowsOf n).Idx → Elt F .f32)
    (p : ℕ → ℕ → F .f32) (hp : ∀ y, pay y = p (y 0).val (y 1).val) :
    View.read (Elt F) b.view ((top b n hr).view.write (Elt F) f pay Finset.univ)
      = fun y => if (y 0).val < n then p (y 0).val (y 1).val else View.read (Elt F) b.view f y := by
  funext y
  refine (View.read_writes_cons_unit (off' := ![0, 0]) b.view f hr pay [] y rfl).trans ?_
  have hy : (∀ a, (![0, 0] : Fin 2 → ℕ) a ≤ (y a).val ∧ (y a).val < (![0, 0] : Fin 2 → ℕ) a + (rowsOf n).size a) ↔ (y 0).val < n := by
    have h1 : (y 1).val < 128 := (y 1).isLt
    rw [Fin.forall_fin_two]
    show (0 ≤ (y 0).val ∧ (y 0).val < 0 + n) ∧ (0 ≤ (y 1).val ∧ (y 1).val < 0 + 128) ↔ _
    omega
  by_cases hin : (y 0).val < n
  · rw [dif_pos (hy.mpr hin), if_pos hin, hp, Rect.unitLocal_val, Rect.unitLocal_val]
    rfl
  · rw [dif_neg (fun hc => hin (hy.mp hc)), if_neg hin, View.writes_nil]

/-- Issuing the gather of the `n` rows numbered from `st` on. -/
theorem wp_issue {α : Type} (d : Dev nD) (i : grid2.Coords) (m : Bufs) (b : Rows) (sem : DmaSems sig S_) (n st : ℕ) (hn0 : 0 < n)
    (hg : S204800x128.Gathers 0 (rowsOf n)) (h : ∀ a, (![st] : Fin 1 → ℕ) a + (⟨1, ![n]⟩ : Shape).size a ≤ S1000.size a)
    (hn : (⟨1, ![n]⟩ : Shape).numel = (rowsOf n).size hg.axis') (hr) (hsr : S204800x128.StreamRows 0) (N : ℕ)
    (hN : ∑ j, ((top b n hr).slice ((rowsOf n).rowRect hg.axis' j) ((rowsOf n).stride_rowRect hg.axis' j)).view.dmaCredit = N)
    (q qo : PosShare TreeShare) (x : S204800x128.Idx → F .f32) (J : S1000.Idx → BitVec 32) (hJ : ∀ j, (J j).toNat < 204800)
    (g : S128x128.Idx → F .f32) {k : PUnit → TProg F i α} {Q : α → sProp 𝕄} :
    iprop(holds d i b g ∗ shares d i q m.tab x ∗ shares d i qo m.idx J ∗ semVal (thr d i, SemLoc.dma sem.sem) 0)
      ⊢ iprop((flying d i sem N iprop(holds d i b (fun y => if (y 0).val < n then chunkOf x J st y else g y) ∗ shares d i q m.tab x ∗ shares d i qo m.idx J)
          -∗ tileWp d i (k ⟨⟩) Q)
        -∗ tileWp d i (SparseCore.enqueueIndirectGather rfl m.table (top b n hr) hg
            (m.idx.slice (Rect.unit (s := S1000) ![st] (⟨1, ![n]⟩ : Shape).size h) (fun _ => rfl)) hn sem.sem (View.wordExact_bits rfl) rfl (Or.inl rfl) hsr >>= k) Q) := by
  unfold holds shares
  iintro ⟨⟨%f, %hf, Hb⟩, ⟨%ft, %hft, Ht⟩, ⟨%fj, %hfj, Hj⟩, Hs⟩ HK
  have hbs : (top b n hr).view.set ⊆ b.view.set := View.set_slice_subset _ _
  have hts : m.table.view.set ⊆ m.tab.view.set := View.set_slice_subset _ _
  have hjs : (m.idx.slice (Rect.unit (s := S1000) ![st] (⟨1, ![n]⟩ : Shape).size h) (fun _ => rfl)).view.set ⊆ m.idx.view.set := View.set_slice_subset _ _
  ihave Hb' := (pointsTo_split_subset (q := fullShare) (f := f) hbs).1 $$ Hb
  icases Hb' with ⟨Hb, Hbr⟩
  ihave Ht' := (pointsTo_split_subset (q := q) (f := ft) hts).1 $$ Ht
  icases Ht' with ⟨Ht, Htr⟩
  ihave Hj' := (pointsTo_split_subset (q := qo) (f := fj) hjs).1 $$ Hj
  icases Hj' with ⟨Hj, Hjr⟩
  have hin : ∀ x, (View.read (Elt F) (m.idx.slice (Rect.unit (s := S1000) ![st] (⟨1, ![n]⟩ : Shape).size h) (fun _ => rfl)).view fj x).toNat
      < S204800x128.size hg.axis := fun x => by
    show (View.read (Elt F) m.idx.view fj _).toNat < _
    rw [hfj]; exact hJ _
  have hs0 : 0 < (rowsOf n).numel := by
    show 0 < ∏ a : Fin 2, _
    rw [Fin.prod_univ_two]
    exact Nat.mul_pos hn0 (show 0 < 128 by decide)
  iapply (SparseCore.wp_indirectGatherLocal countersEmb 𝒱₀ (thr d i) none (hg := hg) (none : HIx 2) N hN hs0 hin) $$ [Hb Ht Hj Hs]
  · isplitl [Ht]; · iexact Ht
    isplitl [Hb]; · iexact Hb
    isplitl [Hj]; · iexact Hj
    iexact Hs
  iintro Hfl
  iapply HK
  unfold flying
  iexists _
  isplitl [Hfl]; · iexact Hfl
  iintro ⟨Hb, Ht, Hj⟩
  isplitl [Hb Hbr]
  · iexists _
    isplitr
    swap
    · iapply (pts_write_rest d i (top b n hr).view b.view.set hbs f _)
      isplitl [Hb] <;> iassumption
    · ipureintro
      rw [read_top d i b n hr f _ (fun r c => fetched (View.read (Elt F) m.tab.view ft) (View.read (Elt F) m.idx.view fj) (st + r) c)
        (payload_apply d i m n st hg h hn ft fj hin), hf, hft, hfj]
      rfl
  isplitl [Ht Htr]
  · iexists ft; isplitr
    · ipureintro; exact hft
    · iapply (pointsTo_split_subset (q := q) (f := ft) hts).2
      isplitl [Ht] <;> iassumption
  · iexists fj; isplitr
    · ipureintro; exact hfj
    · iapply (pointsTo_split_subset (q := qo) (f := fj) hjs).2
      isplitl [Hj] <;> iassumption

end Cert.Proof.Gather
-- ==== Proof.Turns.lean ====
module

public import proofs.«01_k».proof.Proof.Moves

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Waiting -/

/-- What a tile owes, having waited on some more of its own semaphores. -/
def owing (d : Dev nD) (i : grid2.Coords) (O : CellTallies nD τ sig (HIx 2)) (W : Waits sig (HIx 2)) : sProp 𝕄 :=
  iprop(∃ W' : Waits sig (HIx 2), ⌜∀ p ∈ W', p ∈ W ∨ p.2 = none⌝ ∗ owes (thr d i) O W')

/-- The semaphore at zero, and what is owed. -/
def idle (d : Dev nD) (i : grid2.Coords) (sem : DmaSems sig S_) : sProp 𝕄 := semVal (thr d i, SemLoc.dma sem.sem) 0

/-- A transfer under way, waited for. -/
theorem wp_land {α : Type} (d : Dev nD) (i : grid2.Coords) (O : CellTallies nD τ sig (HIx 2)) (W : Waits sig (HIx 2)) (sem : DmaSems sig S_)
    {κ' : Kind} {sp sp' : Space} {s s' : Shape} {e e' : EltTy} (srcw : Memref sig .scVector sp' s' e') (dstw : Memref sig κ' sp s e) (hsrc) (hdst)
    {N : ℕ} (hN : dstw.view.dmaCredit = N) (R : sProp 𝕄) {k : PUnit → TProg F i α} {Q : α → sProp 𝕄} :
    iprop(Transfers.MayWaits (thr d i) (none : HIx 2) O ∗ flying d i sem N R ∗ owing d i O W)
      ⊢ iprop((iprop(R ∗ idle d i sem ∗ owing d i O W) -∗ tileWp d i (k ⟨⟩) Q)
        -∗ tileWp d i (.op (.waitDma2 sem.sem srcw dstw hsrc hdst) k) Q) := by
  unfold flying owing idle
  iintro ⟨#HM, ⟨%D, Hfl, HD⟩, ⟨%W', %hW', HO⟩⟩ HK
  iapply (Transfers.wp_waitLocalO countersEmb 𝒱₀ (thr d i) none (none : HIx 2) hN) $$ [Hfl HO]
  · isplitl [Hfl]; · iexact Hfl
    isplitl [HO]; · iexact HO
    iapply (Transfers.MayWaits.elim (.dma sem.sem)); iexact HM
  iintro ⟨H, Hv, HO⟩
  iapply HK
  isplitl [H HD]
  · iapply HD; iexact H
  isplitl [Hv]; · iexact Hv
  iexists _
  isplitr
  swap
  · iexact HO
  · ipureintro
    intro p hp
    rcases Finset.mem_insert.mp hp with rfl | hp
    · exact Or.inr rfl
    · exact hW' p hp

theorem wp_await (d : Dev nD) (i : grid2.Coords) (O : CellTallies nD τ sig (HIx 2)) (W : Waits sig (HIx 2)) (m : Bufs) (b : Rows) (sem : DmaSems sig S_)
    (R : sProp 𝕄) :
    iprop(Transfers.MayWaits (thr d i) (none : HIx 2) O ∗ flying d i sem (full b).view.dmaCredit R ∗ owing d i O W)
      ⊢ tileWp d i (await i m b sem) fun _ => iprop(R ∗ idle d i sem ∗ owing d i O W) := by
  unfold await SparseCore.waitIndirectGather
  iintro H
  iapply (wp_land d i O W sem m.table (full b) (View.wordExact_bits rfl) (View.wordExact_bits rfl) (N := (full b).view.dmaCredit) rfl R) $$ H
  iintro H
  unfold tileWp
  rw [wp_ret]
  imodintro; iexact H

theorem wp_awaitLast (d : Dev nD) (i : grid2.Coords) (O : CellTallies nD τ sig (HIx 2)) (W : Waits sig (HIx 2)) (m : Bufs) (b : Rows) (sem : DmaSems sig S_)
    (R : sProp 𝕄) :
    iprop(Transfers.MayWaits (thr d i) (none : HIx 2) O ∗ flying d i sem (most b).view.dmaCredit R ∗ owing d i O W)
      ⊢ tileWp d i (awaitLast i m b sem) fun _ => iprop(R ∗ idle d i sem ∗ owing d i O W) := by
  unfold awaitLast SparseCore.waitIndirectGather
  iintro H
  iapply (wp_land d i O W sem m.table (most b) (View.wordExact_bits rfl) (View.wordExact_bits rfl) (N := (most b).view.dmaCredit) rfl R) $$ H
  iintro H
  unfold tileWp
  rw [wp_ret]
  imodintro; iexact H

/-! ## Copies waited for at once -/

/-- A local transfer and its wait. -/
theorem wp_copy (d : Dev nD) (i : grid2.Coords) (O : CellTallies nD τ sig (HIx 2)) (W : Waits sig (HIx 2)) (sem : DmaSems sig S_)
    {sp sp' : Space} {s : Shape} {e : EltTy} (src : Memref sig .scVector sp s e) (dst : Memref sig .scVector sp' s e) (hsrc) (hdst) (hsem) (hsrc') (hdst')
    (hpos : 0 < s.numel) (q : PosShare TreeShare) (fs : Buf (Elt F) (src.view.loc (thr d i))) (Sd : Finset (Idx (dst.view.loc (thr d i))))
    (hS : dst.view.set ⊆ Sd) (fd : Buf (Elt F) (dst.view.loc (thr d i))) :
    iprop(Transfers.MayWaits (thr d i) (none : HIx 2) O ∗ (src.view.loc (thr d i) ↦[src.view.set]{q} fs) ∗ (dst.view.loc (thr d i) ↦[Sd]{fullShare} fd)
        ∗ idle d i sem ∗ owing d i O W)
      ⊢ (tileWp d i (Prog.lift (.enqueueDma src (.here dst) (.dma sem.sem) hsrc hdst hsem) >>= fun _ => Prog.lift (.waitDma2 sem.sem src dst hsrc' hdst'))
          (fun _ => iprop((dst.view.loc (thr d i) ↦[Sd]{fullShare} dst.view.write (Elt F) fd (src.view.read (Elt F) fs) Finset.univ)
            ∗ (src.view.loc (thr d i) ↦[src.view.set]{q} fs) ∗ idle d i sem ∗ owing d i O W)) : sProp 𝕄) := by
  simp only [Prog.lift, Prog.bind]
  iintro ⟨#HM, Hs, Hd, Hi, HO⟩
  unfold idle
  iapply (Transfers.wp_dmaLocal countersEmb 𝒱₀ (thr d i) none (none : HIx 2) dst.view.dmaCredit rfl (View.dmaCredit_pos _ hpos) hS) $$ [Hs Hd Hi]
  · isplitl [Hs]; · iexact Hs
    isplitl [Hd]; · iexact Hd
    iexact Hi
  iintro Hfl
  iapply (wp_land d i O W sem src dst hsrc' hdst' (N := dst.view.dmaCredit) rfl
    iprop((dst.view.loc (thr d i) ↦[Sd]{fullShare} dst.view.write (Elt F) fd (src.view.read (Elt F) fs) Finset.univ)
      ∗ (src.view.loc (thr d i) ↦[src.view.set]{q} fs))) $$ [Hfl HO]
  · isplitr; · iexact HM
    isplitl [Hfl]
    · unfold flying
      iexists _
      isplitl [Hfl]; · iexact Hfl
      iintro H; iexact H
    · iexact HO
  iintro ⟨⟨Hd, Hs⟩, Hi, HO⟩
  unfold tileWp idle
  rw [wp_ret]
  imodintro
  isplitl [Hd]; · iexact Hd
  isplitl [Hs]; · iexact Hs
  isplitl [Hi]; · iexact Hi
  iexact HO

/-! ## The result's rows -/

/-- The first of a tile's rows of the result. -/
def base (i : grid2.Coords) : ℕ := 2000 * (i 1).val + 1000 * (i 0).val

theorem base_le (i : grid2.Coords) : base i + 1000 ≤ 32000 := by
  have h0 : (i 0).val < 2 := (i 0).isLt
  have h1 : (i 1).val < 16 := (i 1).isLt
  unfold base; omega

/-- The tile's thousand rows, -/
def block (i : grid2.Coords) : Rect S32000x128 :=
  Rect.unit (s := S32000x128) ![base i, 0] (rowsOf 1000).size (fun a => by
    have h := base_le i
    match a with
    | 0 => exact h
    | 1 => exact (show 0 + 128 ≤ 128 by decide))
/-- of the result. -/
def Bufs.mine (m : Bufs) (i : grid2.Coords) : Finset (m.out.view.ty.Idx) := (m.out.view.slice (block i)).set

/-- Row `n`, column `c` of what has the result's shape. -/
def outAt {α : Type} (y : S32000x128.Idx → α) (n c : ℕ) : α :=
  y fun a => match a with
    | 0 => ⟨n % 32000, Nat.mod_lt _ (by decide)⟩
    | 1 => ⟨c % 128, Nat.mod_lt _ (by decide)⟩

/-- The tile's rows of the result, of which the first `n` are written. -/
def written (d : Dev nD) (i : grid2.Coords) (m : Bufs) (n : ℕ) (G : ℕ → ℕ → F .f32) : sProp 𝕄 :=
  iprop(∃ f : Buf (Elt F) (m.out.view.loc (thr d i)), ⌜∀ r c, r < n → c < 128 → outAt (m.out.view.read (Elt F) f) (base i + r) c = G r c⌝
    ∗ (m.out.view.loc (thr d i) ↦[m.mine i]{fullShare} f))

theorem mine_of_rows (i : grid2.Coords) (m : Bufs) (w st : ℕ) (hw : st + w ≤ 1000) (off : Fin 2 → ℕ) (ho : off = ![base i + st, 0])
    (hi : ∀ a, off a + (rowsOf w).size a ≤ S32000x128.size a) :
    (m.out.slice (Rect.unit (s := S32000x128) off (rowsOf w).size hi) (fun _ => rfl)).view.set ⊆ m.mine i := by
  subst ho
  show (m.out.view.slice (Rect.unit (s := S32000x128) ![base i + st, 0] (rowsOf w).size hi)).set ⊆ (m.out.view.slice (block i)).set
  rw [View.set_slice, View.set_slice]
  refine Finset.map_subset_map.mpr fun y hy => ?_
  rw [Rect.mem_set_unit] at hy
  unfold block
  rw [Rect.mem_set_unit]
  intro a
  match a with
  | 0 =>
    have h := hy 0
    change base i + st ≤ (y 0).val ∧ (y 0).val < base i + st + w at h
    show base i ≤ (y 0).val ∧ (y 0).val < base i + 1000
    omega
  | 1 => exact hy 1

/-- A chunk's rows copied out, and waited for. -/
theorem wp_copyRows (d : Dev nD) (i : grid2.Coords) (O : CellTallies nD τ sig (HIx 2)) (W : Waits sig (HIx 2)) (m : Bufs) (b : Rows) (sem : DmaSems sig S_)
    (w st : ℕ) (hw0 : 0 < w) (hw : st + w ≤ 1000) (off : Fin 2 → ℕ) (ho : off = ![base i + st, 0]) (hi : ∀ a, off a + (rowsOf w).size a ≤ S32000x128.size a)
    (hr) (hsrc) (hdst) (hsem) (hsrc') (hdst') (g : S128x128.Idx → F .f32) (G : ℕ → ℕ → F .f32)
    (hg : ∀ y : S128x128.Idx, (y 0).val < w → g y = G (st + (y 0).val) (y 1).val) :
    iprop(Transfers.MayWaits (thr d i) (none : HIx 2) O ∗ holds d i b g ∗ written d i m st G ∗ idle d i sem ∗ owing d i O W)
      ⊢ (tileWp d i (Prog.lift (.enqueueDma (top b w hr) (.here (m.out.slice (Rect.unit (s := S32000x128) off (rowsOf w).size hi) (fun _ => rfl))) (.dma sem.sem) hsrc hdst hsem)
          >>= fun _ => Prog.lift (.waitDma2 sem.sem (top b w hr) (m.out.slice (Rect.unit (s := S32000x128) off (rowsOf w).size hi) (fun _ => rfl)) hsrc' hdst'))
          (fun _ => iprop(holds d i b g ∗ written d i m (st + w) G ∗ idle d i sem ∗ owing d i O W)) : sProp 𝕄) := by
  have hS := mine_of_rows i m w st hw off ho hi
  have hbs : (top b w hr).view.set ⊆ b.view.set := View.set_slice_subset _ _
  have hs0 : 0 < (rowsOf w).numel := by
    show 0 < ∏ a : Fin 2, _
    rw [Fin.prod_univ_two]
    exact Nat.mul_pos hw0 (show 0 < 128 by decide)
  unfold holds written
  iintro ⟨#HM, ⟨%f, %hf, Hb⟩, ⟨%fo, %hfo, Ho⟩, Hi, HO⟩
  ihave Hb' := (pointsTo_split_subset (q := fullShare) (f := f) hbs).1 $$ Hb
  icases Hb' with ⟨Hb, Hbr⟩
  iapply (wp_wand_r frame (wpE (defs₀ (F := F)) 𝒱₀ (thr d i) none) Set.univ)
  isplitl [Hb Ho Hi HO]
  · iapply (wp_copy d i O W sem (top b w hr) (m.out.slice (Rect.unit (s := S32000x128) off (rowsOf w).size hi) (fun _ => rfl)) hsrc hdst hsem hsrc' hdst' hs0
      fullShare f (m.mine i) hS fo)
    isplitr; · iexact HM
    isplitl [Hb]; · iexact Hb
    isplitl [Ho]; · iexact Ho
    isplitl [Hi]; · iexact Hi
    iexact HO
  iintro %_ ⟨Ho, Hb, Hi, HO⟩
  isplitl [Hb Hbr]
  · iexists f; isplitr
    · ipureintro; exact hf
    · iapply (pointsTo_split_subset (q := fullShare) (f := f) hbs).2
      isplitl [Hb] <;> iassumption
  isplitl [Ho]
  · iexists _
    isplitr
    swap
    · iexact Ho
    · ipureintro
      intro r c hrr hc
      unfold outAt
      have hb := base_le i
      refine (View.read_writes_cons_unit (off' := ![base i + st, 0]) m.out.view fo hi _ [] _ ho).trans ?_
      by_cases hlt : r < st
      · rw [dif_neg, View.writes_nil]
        · exact hfo r c hlt hc
        · intro hall
          have h0 := (hall 0).1
          change base i + st ≤ (base i + r) % 32000 at h0
          rw [Nat.mod_eq_of_lt (by omega)] at h0
          omega
      · rw [dif_pos]
        · show View.read (Elt F) b.view f ((Rect.unit (s := S128x128) ![0, 0] (rowsOf w).size hr).emb _) = _
          rw [hf, hg]
          · congr 1
            · show st + (0 + 1 * ((base i + r) % 32000 - (base i + st))) = r
              rw [Nat.mod_eq_of_lt (by omega)]; omega
            · show (0 + 1 * (c % 128 - 0)) = c
              rw [Nat.mod_eq_of_lt hc]; omega
          · show (0 + 1 * ((base i + r) % 32000 - (base i + st))) < w
            rw [Nat.mod_eq_of_lt (by omega)]; omega
        · rw [Fin.forall_fin_two]
          refine ⟨?_, ?_⟩
          · show base i + st ≤ (base i + r) % 32000 ∧ (base i + r) % 32000 < base i + st + w
            rw [Nat.mod_eq_of_lt (by omega)]; omega
          · show 0 ≤ c % 128 ∧ c % 128 < 0 + 128
            rw [Nat.mod_eq_of_lt hc]; omega
  isplitl [Hi]; · iexact Hi
  iexact HO

end Cert.Proof.Gather
-- ==== Proof.Tile.lean ====
module

public import proofs.«01_k».proof.Proof.Turns

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
/-! ## Halves of a share -/

/-- Two contents read alike through a view agree on its elements. -/
theorem agree_of_read {sp : Space} {s : Shape} {e : EltTy} (v : View sig .scVector sp s e) {f f' : v.ty.Contents (Elt F)}
    (h : v.read (Elt F) f = v.read (Elt F) f') : ∀ j ∈ v.set, f j = f' j := by
  intro j hj
  obtain ⟨x, -, rfl⟩ := Finset.mem_map.mp hj
  have hx := congrFun h x
  rw [View.read_apply, View.read_apply] at hx
  exact (cast_inj _).mp hx

theorem shares_halves {sp : Space} {s : Shape} {e : EltTy} (d : Dev nD) (i : grid2.Coords) (q : PosShare TreeShare) (b : Memref sig .scVector sp s e)
    (g : s.Idx → Elt F e) : (shares d i q b g : sProp 𝕄) ⊢ iprop(shares d i q.left b g ∗ shares d i q.right b g) := by
  unfold shares
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

theorem shares_whole {sp : Space} {s : Shape} {e : EltTy} (d : Dev nD) (i : grid2.Coords) (q : PosShare TreeShare) (b : Memref sig .scVector sp s e)
    (g : s.Idx → Elt F e) : iprop(shares d i q.left b g ∗ shares d i q.right b g) ⊢ (shares d i q b g : sProp 𝕄) := by
  unfold shares
  iintro ⟨⟨%f, %hf, H⟩, ⟨%f', %hf', H'⟩⟩
  iexists f
  isplitr
  · ipureintro; exact hf
  · have hj : iprop((b.view.loc (thr d i) ↦[b.view.set]{q.left} f) ∗ (b.view.loc (thr d i) ↦[b.view.set]{q.right} f'))
        ⊢ (b.view.loc (thr d i) ↦[b.view.set]{q} f : sProp 𝕄) := by
      rw [pointsTo_congr (I := b.view.set) (f := f') (g := f) (agree_of_read b.view (hf'.trans hf.symm))]
      exact (pointsTo_share (PosShare.mem_left_op_right q)).2
    iapply hj
    isplitl [H] <;> iassumption

/-! ## The lists copied in -/

theorem wp_fill (d : Dev nD) (i : grid2.Coords) (O : CellTallies nD τ sig (HIx 2)) (W : Waits sig (HIx 2)) (sem : DmaSems sig S_)
    {sp sp' : Space} {s : Shape} {e : EltTy} (src : Memref sig .scVector sp s e) (dst : Memref sig .scVector sp' s e) (hsrc) (hdst) (hsem) (hsrc') (hdst')
    (hpos : 0 < s.numel) (q : PosShare TreeShare) (x : s.Idx → Elt F e) :
    iprop(Transfers.MayWaits (thr d i) (none : HIx 2) O ∗ shares d i q src x ∗ (∃ g, shares d i fullShare dst g) ∗ idle d i sem ∗ owing d i O W)
      ⊢ (tileWp d i (Prog.lift (.enqueueDma src (.here dst) (.dma sem.sem) hsrc hdst hsem) >>= fun _ => Prog.lift (.waitDma2 sem.sem src dst hsrc' hdst'))
          (fun _ => iprop(shares d i q src x ∗ shares d i fullShare dst x ∗ idle d i sem ∗ owing d i O W)) : sProp 𝕄) := by
  unfold shares
  iintro ⟨#HM, ⟨%fs, %hfs, Hs⟩, ⟨%g, %fd, %hfd, Hd⟩, Hi, HO⟩
  iapply (wp_wand_r frame (wpE (defs₀ (F := F)) 𝒱₀ (thr d i) none) Set.univ)
  isplitl [Hs Hd Hi HO]
  · iapply (wp_copy d i O W sem src dst hsrc hdst hsem hsrc' hdst' hpos q fs dst.view.set (Finset.Subset.refl _) fd)
    isplitr; · iexact HM
    isplitl [Hs]; · iexact Hs
    isplitl [Hd]; · iexact Hd
    isplitl [Hi]; · iexact Hi
    iexact HO
  iintro %_ ⟨Hd, Hs, Hi, HO⟩
  isplitl [Hs]
  · iexists fs; isplitr
    · ipureintro; exact hfs
    · iexact Hs
  isplitl [Hd]
  · iexists _
    isplitr
    swap
    · iexact Hd
    · ipureintro; rw [View.read_write_univ, hfs]
  isplitl [Hi]; · iexact Hi
  iexact HO

/-- The tile's row numbers and scores, copied in. -/
theorem wp_copyIn (d : Dev nD) (i : grid2.Coords) (O : CellTallies nD τ sig (HIx 2)) (W : Waits sig (HIx 2)) (m : Bufs) (s0 s1 : DmaSems sig S_)
    (q : PosShare TreeShare) (J : S1000.Idx → BitVec 32) (X : S1000.Idx → F .f32) :
    iprop(Transfers.MayWaits (thr d i) (none : HIx 2) O ∗ shares d i q (m.giRow i) J ∗ shares d i q (m.scRow i) X
        ∗ (∃ g, shares d i fullShare m.idx g) ∗ (∃ g, shares d i fullShare m.scs g) ∗ idle d i s0 ∗ idle d i s1 ∗ owing d i O W)
      ⊢ (tileWp d i (copyIn i m s0 s1) (fun _ => iprop(shares d i q (m.giRow i) J ∗ shares d i q (m.scRow i) X
          ∗ shares d i fullShare m.idx J ∗ shares d i fullShare m.scs X ∗ idle d i s0 ∗ idle d i s1 ∗ owing d i O W)) : sProp 𝕄) := by
  have e : copyIn (F := F) i m s0 s1
      = (Prog.lift (.enqueueDma (m.giRow i) (.here m.idx) (.dma s0.sem) ((View.wordExact_bits rfl).reshape _ _) m.hidx.wordExact ⟨Or.inl rfl, trivial⟩) >>= fun _ =>
          Prog.lift (.waitDma2 s0.sem (m.giRow i) m.idx ((View.wordExact_bits rfl).reshape _ _) m.hidx.wordExact)) >>= fun _ =>
        (Prog.lift (.enqueueDma (m.scRow i) (.here m.scs) (.dma s1.sem) ((View.wordExact_bits rfl).reshape _ _) m.hscs.wordExact ⟨Or.inl rfl, trivial⟩) >>= fun _ =>
          Prog.lift (.waitDma2 s1.sem (m.scRow i) m.scs ((View.wordExact_bits rfl).reshape _ _) m.hscs.wordExact)) := by
    unfold copyIn
    simp only [Prog.bind_assoc]
  rw [e]
  iintro ⟨#HM, Hgi, Hsc, Hidx, Hscs, H0, H1, HO⟩
  iapply (wp_then d i (wp_fill d i O W s0 (m.giRow i) m.idx _ _ _ _ _ (by decide) q J)) $$ [Hgi Hidx H0 HO]
  · isplitr; · iexact HM
    isplitl [Hgi]; · iexact Hgi
    isplitl [Hidx]; · iexact Hidx
    isplitl [H0]; · iexact H0
    iexact HO
  iintro %_ ⟨Hgi, Hidx, H0, HO⟩
  unfold tileWp
  iapply (wp_wand_r frame (wpE (defs₀ (F := F)) 𝒱₀ (thr d i) none) Set.univ)
  isplitl [Hsc Hscs H1 HO]
  · iapply (wp_fill d i O W s1 (m.scRow i) m.scs _ _ _ _ _ (by decide) q X)
    isplitr; · iexact HM
    isplitl [Hsc]; · iexact Hsc
    isplitl [Hscs]; · iexact Hscs
    isplitl [H1]; · iexact H1
    iexact HO
  iintro %_ ⟨Hsc, Hscs, H1, HO⟩
  isplitl [Hgi]; · iexact Hgi
  isplitl [Hsc]; · iexact Hsc
  isplitl [Hidx]; · iexact Hidx
  isplitl [Hscs]; · iexact Hscs
  isplitl [H0]; · iexact H0
  isplitl [H1]; · iexact H1
  iexact HO

/-! ## One chunk -/

/-- The value of the tile's row `n` of the result, column `c`. -/
def scaled (x : S204800x128.Idx → F .f32) (J : S1000.Idx → BitVec 32) (X : S1000.Idx → F .f32) (n c : ℕ) : F .f32 :=
  FloatOps.mulf (fetched x J n c) (nth X n)

/-- A row buffer whose first `n` rows are those fetched from the `st`th on. -/
def loaded (d : Dev nD) (i : grid2.Coords) (b : Rows) (n st : ℕ) (x : S204800x128.Idx → F .f32) (J : S1000.Idx → BitVec 32) : sProp 𝕄 :=
  iprop(∃ g, ⌜∀ y : S128x128.Idx, (y 0).val < n → g y = chunkOf x J st y⌝ ∗ holds d i b g)

/-- A row buffer, whatever it holds. -/
def spare (d : Dev nD) (i : grid2.Coords) (b : Rows) : sProp 𝕄 := iprop(∃ g : S128x128.Idx → F .f32, holds d i b g)

/-- The share of the table and of the row numbers that a gather under way keeps. -/
def kept (d : Dev nD) (i : grid2.Coords) (m : Bufs) (q qo : PosShare TreeShare) (x : S204800x128.Idx → F .f32) (J : S1000.Idx → BitVec 32) : sProp 𝕄 :=
  iprop(shares d i q m.tab x ∗ shares d i qo m.idx J)

/-- What a row buffer's gathers credit their semaphores with. -/
structure Credits (b : Rows) : Prop where
  all : ∑ j, ((top b 128 inb_S128x128_S128x128_0_0).slice ((rowsOf 128).rowRect gathers_S204800x128_S128x128.axis' j)
    ((rowsOf 128).stride_rowRect gathers_S204800x128_S128x128.axis' j)).view.dmaCredit = (full b).view.dmaCredit
  some : ∑ j, ((top b 104 inb_S128x128_S104x128_0_0).slice ((rowsOf 104).rowRect gathers_S204800x128_S104x128.axis' j)
    ((rowsOf 104).stride_rowRect gathers_S204800x128_S104x128.axis' j)).view.dmaCredit = (most b).view.dmaCredit

/-- A gather issued: the buffer comes loaded at the wait. -/
theorem wp_issue_loaded {α : Type} (d : Dev nD) (i : grid2.Coords) (m : Bufs) (b : Rows) (sem : DmaSems sig S_) (n st : ℕ) (hn0 : 0 < n)
    (hg : S204800x128.Gathers 0 (rowsOf n)) (h : ∀ a, (![st] : Fin 1 → ℕ) a + (⟨1, ![n]⟩ : Shape).size a ≤ S1000.size a)
    (hn : (⟨1, ![n]⟩ : Shape).numel = (rowsOf n).size hg.axis') (hr) (hsr : S204800x128.StreamRows 0) (N : ℕ)
    (hN : ∑ j, ((top b n hr).slice ((rowsOf n).rowRect hg.axis' j) ((rowsOf n).stride_rowRect hg.axis' j)).view.dmaCredit = N)
    (q qo : PosShare TreeShare) (x : S204800x128.Idx → F .f32) (J : S1000.Idx → BitVec 32) (hJ : ∀ j, (J j).toNat < 204800)
    {k : PUnit → TProg F i α} {Q : α → sProp 𝕄} :
    iprop(spare d i b ∗ kept d i m q qo x J ∗ idle d i sem)
      ⊢ iprop((flying d i sem N iprop(loaded d i b n st x J ∗ kept d i m q qo x J) -∗ tileWp d i (k ⟨⟩) Q)
        -∗ tileWp d i (SparseCore.enqueueIndirectGather rfl m.table (top b n hr) hg
            (m.idx.slice (Rect.unit (s := S1000) ![st] (⟨1, ![n]⟩ : Shape).size h) (fun _ => rfl)) hn sem.sem (View.wordExact_bits rfl) rfl (Or.inl rfl) hsr >>= k) Q) := by
  unfold spare kept idle
  iintro ⟨⟨%g, Hb⟩, ⟨Ht, Hj⟩, Hs⟩ HK
  iapply (wp_issue d i m b sem n st hn0 hg h hn hr hsr N hN q qo x J hJ g) $$ [Hb Ht Hj Hs]
  · isplitl [Hb]; · iexact Hb
    isplitl [Ht]; · iexact Ht
    isplitl [Hj]; · iexact Hj
    iexact Hs
  iintro Hf
  iapply HK
  unfold flying
  icases Hf with ⟨%D, Hf, HD⟩
  iexists D
  isplitl [Hf]; · iexact Hf
  iintro H
  ihave H' := HD $$ H
  icases H' with ⟨Hb, Ht, Hj⟩
  isplitl [Hb]
  · unfold loaded
    iexists _
    isplitr
    swap
    · iexact Hb
    · ipureintro
      intro y hy
      exact if_pos hy
  isplitl [Ht]; · iexact Ht
  iexact Hj

/-- What is read through a scaled buffer, of rows loaded. -/
theorem scaled_rows (n w st : ℕ) (hw : w ≤ n) (hst : st + n ≤ 1000) (x : S204800x128.Idx → F .f32) (J : S1000.Idx → BitVec 32) (X : S1000.Idx → F .f32)
    (g : S128x128.Idx → F .f32) (hg : ∀ y : S128x128.Idx, (y 0).val < n → g y = chunkOf x J st y) :
    ∀ y : S128x128.Idx, (y 0).val < w → scaleRows 0 w (fun r => nth X (st + r)) g y = scaled x J X (st + (y 0).val) (y 1).val := by
  intro y hy
  unfold scaleRows scaled
  rw [if_pos ⟨Nat.zero_le _, hy⟩, hg y (by omega)]
  rfl

end Cert.Proof.Gather
-- ==== Proof.Chunks.lean ====
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
variable (d : Dev nD) (i : grid2.Coords) (O : CellTallies nD τ sig (HIx 2)) (W : Waits sig (HIx 2)) (m : Bufs)
  (x : S204800x128.Idx → F .f32) (J : S1000.Idx → BitVec 32) (X : S1000.Idx → F .f32)

/-- What every chunk's work hands on: the scores, the result's rows up to the chunk, what is owed. -/
def along (n : ℕ) : sProp 𝕄 := iprop(holds d i m.scs X ∗ written d i m n (scaled x J X) ∗ owing d i O W)

/-- A gather of a whole chunk under way. -/
def coming (b : Rows) (sem : DmaSems sig S_) (st : ℕ) (q qo : PosShare TreeShare) : sProp 𝕄 :=
  flying d i sem (full b).view.dmaCredit iprop(loaded d i b 128 st x J ∗ kept d i m q qo x J)

/-- What a buffer no gather is under way into leaves: the buffer, its semaphore, its shares. -/
def resting (b : Rows) (sem : DmaSems sig S_) (q qo : PosShare TreeShare) : sProp 𝕄 :=
  iprop(spare d i b ∗ kept d i m q qo x J ∗ idle d i sem)

theorem wp_issueAll {α : Type} (b : Rows) (hb : Credits b) (sem : DmaSems sig S_) (st : ℕ) (h) (q qo : PosShare TreeShare) (hJ : ∀ j, (J j).toNat < 204800)
    {k : PUnit → TProg F i α} {Q : α → sProp 𝕄} :
    resting d i m x J b sem q qo ⊢ iprop((coming d i m x J b sem st q qo -∗ tileWp d i (k ⟨⟩) Q) -∗ tileWp d i (issue i m b sem st h >>= k) Q) :=
  wp_issue_loaded d i m b sem 128 st (by decide) _ h _ _ _ _ hb.all q qo x J hJ

/-- A chunk's rows scaled and copied out. -/
theorem wp_turn {α : Type} (b : Rows) (gs : Groups) (k : Fin 7) (t : DmaSems sig S_) (hgs : gs.At 8 (128 * k.val))
    {rest : PUnit → TProg F i α} {Q : α → sProp 𝕄} :
    iprop(Transfers.MayWaits (thr d i) (none : HIx 2) O ∗ loaded d i b 128 (128 * k.val) x J ∗ idle d i t ∗ along d i O W m x J X (128 * k.val))
      ⊢ iprop((iprop(spare d i b ∗ idle d i t ∗ along d i O W m x J X (128 * k.val + 128)) -∗ tileWp d i (rest ⟨⟩) Q)
        -∗ tileWp d i (scaleAll i m b gs >>= fun _ => copyOut i m b k t >>= rest) Q) := by
  have hk := k.isLt
  unfold along
  iintro ⟨#HM, Hb, Ht, Hs, Ho, HO⟩ HK
  unfold loaded
  icases Hb with ⟨%g, %hg, Hb⟩
  iapply (wp_then d i (wp_scaleAll d i m b gs 8 (128 * k.val) hgs X g)) $$ [Hb Hs]
  · isplitl [Hb] <;> iassumption
  iintro %_ ⟨Hb, Hs⟩
  iapply (wp_then d i (wp_copyRows d i O W m b t 128 (128 * k.val) (by decide) (by omega) (k2_off11 i (BitVec.ofNat 32 (128 * k.val)))
      (k2_off11_eq i k) (k2_off11_inb i k) inb_S128x128_S128x128_0_0 _ _ _ _ _ _ (scaled x J X)
      (scaled_rows 128 128 _ (Nat.le_refl _) (by omega) x J X g hg))) $$ [Hb Ho Ht HO]
  · isplitr; · iexact HM
    isplitl [Hb]; · iexact Hb
    isplitl [Ho]; · iexact Ho
    isplitl [Ht]; · iexact Ht
    iexact HO
  iintro %_ ⟨Hb, Ho, Ht, HO⟩
  iapply HK
  isplitl [Hb]
  · unfold spare
    iexists _; iexact Hb
  isplitl [Ht]; · iexact Ht
  isplitl [Hs]; · iexact Hs
  isplitl [Ho]; · iexact Ho
  iexact HO

/-- A chunk waited for, the next one's gather issued, the chunk scaled and copied out. -/
theorem wp_stage {α : Type} (a b : Rows) (hb : Credits b) (sa sb : DmaSems sig S_) (qa qja qb qjb : PosShare TreeShare) (hJ : ∀ j, (J j).toNat < 204800)
    (gs : Groups) (k : Fin 7) (st' : ℕ) (h) (t : DmaSems sig S_) (hgs : gs.At 8 (128 * k.val))
    {rest : PUnit → TProg F i α} {Q : α → sProp 𝕄} :
    iprop(Transfers.MayWaits (thr d i) (none : HIx 2) O ∗ coming d i m x J a sa (128 * k.val) qa qja ∗ resting d i m x J b sb qb qjb
        ∗ idle d i t ∗ along d i O W m x J X (128 * k.val))
      ⊢ iprop((iprop(coming d i m x J b sb st' qb qjb ∗ resting d i m x J a sa qa qja ∗ idle d i t ∗ along d i O W m x J X (128 * k.val + 128))
            -∗ tileWp d i (rest ⟨⟩) Q)
        -∗ tileWp d i (await i m a sa >>= fun _ => issue i m b sb st' h >>= fun _ => scaleAll i m a gs >>= fun _ => copyOut i m a k t >>= rest) Q) := by
  unfold coming
  iintro ⟨#HM, Ha, Hb, Ht, HA⟩ HK
  unfold along
  icases HA with ⟨Hs, Ho, HO⟩
  iapply (wp_then d i (wp_await d i O W m a sa iprop(loaded d i a 128 (128 * k.val) x J ∗ kept d i m qa qja x J))) $$ [Ha HO]
  · isplitr; · iexact HM
    isplitl [Ha]; · iexact Ha
    iexact HO
  iintro %_ ⟨⟨Ha, Hk⟩, Hsa, HO⟩
  iapply (wp_issueAll d i m x J b hb sb st' h qb qjb hJ) $$ Hb
  iintro Hb
  iapply (wp_turn d i O W m x J X a gs k t hgs) $$ [Ha Ht Hs Ho HO]
  · isplitr; · iexact HM
    isplitl [Ha]; · iexact Ha
    isplitl [Ht]; · iexact Ht
    unfold along
    isplitl [Hs]; · iexact Hs
    isplitl [Ho]; · iexact Ho
    iexact HO
  iintro ⟨Ha, Ht, HA⟩
  iapply HK
  isplitl [Hb]
  · unfold coming; iexact Hb
  isplitl [Ha Hk Hsa]
  · unfold resting
    isplitl [Ha]; · iexact Ha
    isplitl [Hk]; · iexact Hk
    iexact Hsa
  isplitl [Ht]; · iexact Ht
  unfold along
  iexact HA

end Cert.Proof.Gather
-- ==== Proof.TileRun.lean ====
module

public import proofs.«01_k».proof.Proof.Chunks

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
variable (d : Dev nD) (i : grid2.Coords) (O : CellTallies nD τ sig (HIx 2)) (W : Waits sig (HIx 2)) (m : Bufs)
  (x : S204800x128.Idx → F .f32) (J : S1000.Idx → BitVec 32) (X : S1000.Idx → F .f32)

/-- A gather of the last chunk's 104 rows under way. -/
def comingLast (b : Rows) (sem : DmaSems sig S_) (q qo : PosShare TreeShare) : sProp 𝕄 :=
  flying d i sem (most b).view.dmaCredit iprop(loaded d i b 104 896 x J ∗ kept d i m q qo x J)

theorem wp_issueLast {α : Type} (b : Rows) (hb : Credits b) (sem : DmaSems sig S_) (q qo : PosShare TreeShare) (hJ : ∀ j, (J j).toNat < 204800)
    {k : PUnit → TProg F i α} {Q : α → sProp 𝕄} :
    resting d i m x J b sem q qo ⊢ iprop((comingLast d i m x J b sem q qo -∗ tileWp d i (k ⟨⟩) Q) -∗ tileWp d i (issueLast i m b sem >>= k) Q) :=
  wp_issue_loaded d i m b sem 104 896 (by decide) _ inb_S1000_S104_896 _ _ _ _ hb.some q qo x J hJ

/-- The last but one chunk, the last one's gather issued meanwhile. -/
theorem wp_stageLast {α : Type} (a b : Rows) (hb : Credits b) (sa sl : DmaSems sig S_) (qa qja qb qjb : PosShare TreeShare) (hJ : ∀ j, (J j).toNat < 204800)
    (gs : Groups) (k : Fin 7) (t : DmaSems sig S_) (hgs : gs.At 8 (128 * k.val))
    {rest : PUnit → TProg F i α} {Q : α → sProp 𝕄} :
    iprop(Transfers.MayWaits (thr d i) (none : HIx 2) O ∗ coming d i m x J a sa (128 * k.val) qa qja ∗ resting d i m x J b sl qb qjb
        ∗ idle d i t ∗ along d i O W m x J X (128 * k.val))
      ⊢ iprop((iprop(comingLast d i m x J b sl qb qjb ∗ resting d i m x J a sa qa qja ∗ idle d i t ∗ along d i O W m x J X (128 * k.val + 128))
            -∗ tileWp d i (rest ⟨⟩) Q)
        -∗ tileWp d i (await i m a sa >>= fun _ => issueLast i m b sl >>= fun _ => scaleAll i m a gs >>= fun _ => copyOut i m a k t >>= rest) Q) := by
  unfold coming
  iintro ⟨#HM, Ha, Hb, Ht, HA⟩ HK
  unfold along
  icases HA with ⟨Hs, Ho, HO⟩
  iapply (wp_then d i (wp_await d i O W m a sa iprop(loaded d i a 128 (128 * k.val) x J ∗ kept d i m qa qja x J))) $$ [Ha HO]
  · isplitr; · iexact HM
    isplitl [Ha]; · iexact Ha
    iexact HO
  iintro %_ ⟨⟨Ha, Hk⟩, Hsa, HO⟩
  iapply (wp_issueLast d i m x J b hb sl qb qjb hJ) $$ Hb
  iintro Hb
  iapply (wp_turn d i O W m x J X a gs k t hgs) $$ [Ha Ht Hs Ho HO]
  · isplitr; · iexact HM
    isplitl [Ha]; · iexact Ha
    isplitl [Ht]; · iexact Ht
    unfold along
    isplitl [Hs]; · iexact Hs
    isplitl [Ho]; · iexact Ho
    iexact HO
  iintro ⟨Ha, Ht, HA⟩
  iapply HK
  isplitl [Hb]; · iexact Hb
  isplitl [Ha Hk Hsa]
  · unfold resting
    isplitl [Ha]; · iexact Ha
    isplitl [Hk]; · iexact Hk
    iexact Hsa
  isplitl [Ht]; · iexact Ht
  unfold along
  iexact HA

/-- The last chunk: waited for, scaled, copied out. -/
theorem wp_last (b : Rows) (sl t : DmaSems sig S_) (q qo : PosShare TreeShare) :
    iprop(Transfers.MayWaits (thr d i) (none : HIx 2) O ∗ comingLast d i m x J b sl q qo ∗ idle d i t ∗ along d i O W m x J X 896)
      ⊢ tileWp d i (awaitLast i m b sl >>= fun _ => scaleAll i m b groups8 >>= fun _ => tail i m b >>= fun _ => copyOutLast i m b t)
        fun _ => iprop(resting d i m x J b sl q qo ∗ idle d i t ∗ along d i O W m x J X 1000) := by
  unfold comingLast
  iintro ⟨#HM, Hb, Ht, HA⟩
  unfold along
  icases HA with ⟨Hs, Ho, HO⟩
  iapply (wp_then d i (wp_awaitLast d i O W m b sl iprop(loaded d i b 104 896 x J ∗ kept d i m q qo x J))) $$ [Hb HO]
  · isplitr; · iexact HM
    isplitl [Hb]; · iexact Hb
    iexact HO
  iintro %_ ⟨⟨Hb, Hk⟩, Hsl, HO⟩
  unfold loaded
  icases Hb with ⟨%g, %hg, Hb⟩
  iapply (wp_then d i (wp_scaleAll d i m b groups8 6 896 groups8_at X g)) $$ [Hb Hs]
  · isplitl [Hb] <;> iassumption
  iintro %_ ⟨Hb, Hs⟩
  iapply (wp_then d i (wp_tail d i m b X g)) $$ [Hb Hs]
  · isplitl [Hb]; · iexact Hb
    iexact Hs
  iintro %_ ⟨Hb, Hs⟩
  unfold tileWp
  iapply (wp_wand_r frame (wpE (defs₀ (F := F)) 𝒱₀ (thr d i) none) Set.univ)
  isplitl [Hb Ho Ht HO]
  · iapply (wp_copyRows d i O W m b t 104 896 (by decide) (by decide) (k2_off75 i)
      (k2_off75_eq i) (k2_off75_inb i) inb_S128x128_S104x128_0_0 _ _ _ _ _ _ (scaled x J X)
      (scaled_rows 104 104 896 (Nat.le_refl _) (by decide) x J X g hg))
    isplitr; · iexact HM
    isplitl [Hb]; · iexact Hb
    isplitl [Ho]; · iexact Ho
    isplitl [Ht]; · iexact Ht
    iexact HO
  iintro %_ ⟨Hb, Ho, Ht, HO⟩
  isplitl [Hb Hk Hsl]
  · unfold resting spare
    isplitl [Hb]
    · iexists _; iexact Hb
    isplitl [Hk]; · iexact Hk
    iexact Hsl
  isplitl [Ht]; · iexact Ht
  isplitl [Hs]; · iexact Hs
  isplitl [Ho]; · iexact Ho
  iexact HO

/-- A list in a tile's memory, whatever it holds. -/
def loose {e : EltTy} (b : Memref sig .scVector .vmem S1000 e) : sProp 𝕄 := iprop(∃ g : S1000.Idx → Elt F e, shares d i fullShare b g)

/-- What a tile takes: shares of its inputs, its own memory, its semaphores at zero, its rows of the result; and what it
    gives back, of which the first `n` rows of the result are written. -/
def stock (q : PosShare TreeShare) (a b : Rows) (n : ℕ) : sProp 𝕄 :=
  iprop(shares d i q (m.giRow i) J ∗ shares d i q (m.scRow i) X ∗ shares d i q m.tab x ∗ loose d i m.idx ∗ loose d i m.scs ∗ spare d i a ∗ spare d i b
    ∗ written d i m n (scaled x J X) ∗ owing d i O W)

theorem wp_tile (q : PosShare TreeShare) (a b : Rows) (ha : Credits a) (hb : Credits b) (sa sb sl s0 s1 t0 t1 t2 t3 t4 t5 t6 t7 : DmaSems sig S_)
    (hJ : ∀ j, (J j).toNat < 204800) :
    iprop(Transfers.MayWaits (thr d i) (none : HIx 2) O ∗ stock d i O W m x J X q a b 0
        ∗ idle d i sa ∗ idle d i sb ∗ idle d i sl ∗ idle d i s0 ∗ idle d i s1 ∗ idle d i t0 ∗ idle d i t1 ∗ idle d i t2 ∗ idle d i t3
        ∗ idle d i t4 ∗ idle d i t5 ∗ idle d i t6 ∗ idle d i t7)
      ⊢ tileWp d i (tile i m a b sa sb sl s0 s1 t0 t1 t2 t3 t4 t5 t6 t7) fun _ =>
        iprop(stock d i O W m x J X q a b 1000
          ∗ idle d i sa ∗ idle d i sb ∗ idle d i sl ∗ idle d i s0 ∗ idle d i s1 ∗ idle d i t0 ∗ idle d i t1 ∗ idle d i t2 ∗ idle d i t3
          ∗ idle d i t4 ∗ idle d i t5 ∗ idle d i t6 ∗ idle d i t7) := by
  unfold tile stock loose
  iintro ⟨#HM, ⟨Hgi, Hsc, Htab, Hidx, Hscs, Ha, Hb, Ho, HO⟩, Hsa, Hsb, Hsl, H0, H1, T0, T1, T2, T3, T4, T5, T6, T7⟩
  iapply (wp_then d i (wp_copyIn d i O W m s0 s1 q J X)) $$ [Hgi Hsc Hidx Hscs H0 H1 HO]
  · isplitr; · iexact HM
    isplitl [Hgi]; · iexact Hgi
    isplitl [Hsc]; · iexact Hsc
    isplitl [Hidx]; · iexact Hidx
    isplitl [Hscs]; · iexact Hscs
    isplitl [H0]; · iexact H0
    isplitl [H1]; · iexact H1
    iexact HO
  iintro %_ ⟨Hgi, Hsc, Hidx, Hscs, H0, H1, HO⟩
  ihave Ht' := (shares_halves d i q m.tab x) $$ Htab
  icases Ht' with ⟨Hta, Htb⟩
  ihave Hi' := (shares_halves d i fullShare m.idx J) $$ Hidx
  icases Hi' with ⟨Hia, Hib⟩
  ihave HA : along d i O W m x J X 0 $$ [Hscs Ho HO]
  · unfold along
    isplitl [Hscs]; · unfold holds shares; iexact Hscs
    isplitl [Ho]; · iexact Ho
    iexact HO
  iapply (wp_issueAll d i m x J a ha sa 0 inb_S1000_S128_0 q.left fullShare.left hJ) $$ [Ha Hta Hia Hsa]
  · unfold resting kept
    isplitl [Ha]; · iexact Ha
    isplitl [Hta Hia]
    · isplitl [Hta] <;> iassumption
    iexact Hsa
  iintro Ha
  iapply (wp_stage d i O W m x J X a b hb sa sb q.left fullShare.left q.right fullShare.right hJ groups1 0 128 inb_S1000_S128_128 t0 groups1_at)
    $$ [Ha Hb Htb Hib Hsb T0 HA]
  · isplitr; · iexact HM
    isplitl [Ha]; · iexact Ha
    isplitl [Hb Htb Hib Hsb]
    · unfold resting kept
      isplitl [Hb]; · iexact Hb
      isplitl [Htb Hib]
      · isplitl [Htb] <;> iassumption
      iexact Hsb
    isplitl [T0]; · iexact T0
    iexact HA
  iintro ⟨Hb, Ha, T0, HA⟩
  iapply (wp_stage d i O W m x J X b a ha sb sa q.right fullShare.right q.left fullShare.left hJ groups2 1 256 inb_S1000_S128_256 t1 groups2_at)
    $$ [Ha Hb T1 HA]
  · isplitr; · iexact HM
    isplitl [Hb]; · iexact Hb
    isplitl [Ha]; · iexact Ha
    isplitl [T1]; · iexact T1
    iexact HA
  iintro ⟨Ha, Hb, T1, HA⟩
  iapply (wp_stage d i O W m x J X a b hb sa sb q.left fullShare.left q.right fullShare.right hJ groups3 2 384 inb_S1000_S128_384 t2 groups3_at)
    $$ [Ha Hb T2 HA]
  · isplitr; · iexact HM
    isplitl [Ha]; · iexact Ha
    isplitl [Hb]; · iexact Hb
    isplitl [T2]; · iexact T2
    iexact HA
  iintro ⟨Hb, Ha, T2, HA⟩
  iapply (wp_stage d i O W m x J X b a ha sb sa q.right fullShare.right q.left fullShare.left hJ groups4 3 512 inb_S1000_S128_512 t3 groups4_at)
    $$ [Ha Hb T3 HA]
  · isplitr; · iexact HM
    isplitl [Hb]; · iexact Hb
    isplitl [Ha]; · iexact Ha
    isplitl [T3]; · iexact T3
    iexact HA
  iintro ⟨Ha, Hb, T3, HA⟩
  iapply (wp_stage d i O W m x J X a b hb sa sb q.left fullShare.left q.right fullShare.right hJ groups5 4 640 inb_S1000_S128_640 t4 groups5_at)
    $$ [Ha Hb T4 HA]
  · isplitr; · iexact HM
    isplitl [Ha]; · iexact Ha
    isplitl [Hb]; · iexact Hb
    isplitl [T4]; · iexact T4
    iexact HA
  iintro ⟨Hb, Ha, T4, HA⟩
  iapply (wp_stage d i O W m x J X b a ha sb sa q.right fullShare.right q.left fullShare.left hJ groups6 5 768 inb_S1000_S128_768 t5 groups6_at)
    $$ [Ha Hb T5 HA]
  · isplitr; · iexact HM
    isplitl [Hb]; · iexact Hb
    isplitl [Ha]; · iexact Ha
    isplitl [T5]; · iexact T5
    iexact HA
  iintro ⟨Ha, Hb, T5, HA⟩
  unfold resting
  icases Hb with ⟨Hb, Hk, Hsb⟩
  iapply (wp_stageLast d i O W m x J X a b hb sa sl q.left fullShare.left q.right fullShare.right hJ groups7 6 t6 groups7_at)
    $$ [Ha Hb Hk Hsl T6 HA]
  · isplitr; · iexact HM
    isplitl [Ha]; · iexact Ha
    isplitl [Hb Hk Hsl]
    · unfold resting
      isplitl [Hb]; · iexact Hb
      isplitl [Hk]; · iexact Hk
      iexact Hsl
    isplitl [T6]; · iexact T6
    iexact HA
  iintro ⟨Hb, Ha, T6, HA⟩
  unfold tileWp
  iapply (wp_wand_r frame (wpE (defs₀ (F := F)) 𝒱₀ (thr d i) none) Set.univ)
  isplitl [Hb T7 HA]
  · iapply (wp_last d i O W m x J X b sl t7 q.right fullShare.right)
    isplitr; · iexact HM
    isplitl [Hb]; · iexact Hb
    isplitl [T7]; · iexact T7
    iexact HA
  iintro %_ ⟨Hb, T7, HA⟩
  unfold resting kept along
  icases Ha with ⟨Ha, ⟨Hta, Hia⟩, Hsa⟩
  icases Hb with ⟨Hb, ⟨Htb, Hib⟩, Hsl⟩
  icases HA with ⟨Hscs, Ho, HO⟩
  isplitl [Hgi Hsc Hta Htb Hia Hib Hscs Ha Hb Ho HO]
  · isplitl [Hgi]; · iexact Hgi
    isplitl [Hsc]; · iexact Hsc
    isplitl [Hta Htb]
    · iapply (shares_whole d i q m.tab x)
      isplitl [Hta] <;> iassumption
    isplitl [Hia Hib]
    · iexists J
      iapply (shares_whole d i fullShare m.idx J)
      isplitl [Hia] <;> iassumption
    isplitl [Hscs]
    · iexists X; unfold holds shares; iexact Hscs
    isplitl [Ha]; · iexact Ha
    isplitl [Hb]; · iexact Hb
    isplitl [Ho]; · iexact Ho
    iexact HO
  isplitl [Hsa]; · iexact Hsa
  isplitl [Hsb]; · iexact Hsb
  isplitl [Hsl]; · iexact Hsl
  isplitl [H0]; · iexact H0
  isplitl [H1]; · iexact H1
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

end Cert.Proof.Gather
-- ==== Proof.BodyEq.lean ====
module

public import proofs.«01_k».proof.Proof.Prog

@[expose] public section

set_option synthInstance.maxSize 4096

noncomputable section

namespace Cert.Proof.Gather

open Cert.KernelIdeal Cert.KernelIdeal.Gen
open Idealize.ShloMosaic Idealize.SL.Sem

variable {F : FTy → Type} [FloatOps F]

set_option maxRecDepth 100000
set_option maxHeartbeats 0

theorem p201 (i : grid2.Coords) (arg2 : Memref sig .scVector .hbm S204800x128 .f32) (harg2 : arg2.IsWhole) (arg3 : Memref sig .scVector .hbm S32x1000 .i32) (harg3 : arg3.IsWhole) (arg4 : Memref sig .scVector .hbm S32x1000 .f32) (harg4 : arg4.IsWhole) (arg5 : Memref sig .scVector .hbm S32000x128 .f32) (harg5 : arg5.IsWhole) (arg6 : Memref sig .scVector .vmem S1000 .i32) (harg6 : arg6.IsWhole) (arg7 : Memref sig .scVector .vmem S1000 .f32) (harg7 : arg7.IsWhole) (arg8 : Memref sig .scVector .vmem S128x128 .f32) (harg8 : arg8.IsWhole) (arg9 : Memref sig .scVector .vmem S128x128 .f32) (harg9 : arg9.IsWhole) (arg10 : DmaSems sig S_) (arg11 : DmaSems sig S_) (arg12 : DmaSems sig S_) (v613_r0 : DmaSems sig S_) (v613_r1 : DmaSems sig S_) (v613_r2 : DmaSems sig S_) (v613_r3 : DmaSems sig S_) (v613_r4 : DmaSems sig S_) (v613_r5 : DmaSems sig S_) (v613_r6 : DmaSems sig S_) (v613_r7 : DmaSems sig S_) (v613_r8 : DmaSems sig S_) (v613_r9 : DmaSems sig S_) : k2_part201 (F := F) i arg2 harg2 arg3 harg3 arg4 harg4 arg5 harg5 arg6 harg6 arg7 harg7 arg8 harg8 arg9 harg9 arg10 arg11 arg12 v613_r0 v613_r1 v613_r2 v613_r3 v613_r4 v613_r5 v613_r6 v613_r7 v613_r8 v613_r9 = (do
  copyIn i ⟨arg2, arg3, arg4, arg5, arg6, harg6, arg7, harg7⟩ v613_r0 v613_r1
  issue i ⟨arg2, arg3, arg4, arg5, arg6, harg6, arg7, harg7⟩ arg8 arg10 0 inb_S1000_S128_0
  await i ⟨arg2, arg3, arg4, arg5, arg6, harg6, arg7, harg7⟩ arg8 arg10
  pure (Scalar.muli (Scalar.addi (Scalar.muli (BitVec.ofNat 32 (i 1).val) 2#32) (BitVec.ofNat 32 (i 0).val)) 1000#32)) := rfl

set_option maxRecDepth 100000 in
/-- The printed body is that program. -/
theorem body_eq (i : grid2.Coords) (arg2 : Memref sig .scVector .hbm S204800x128 .f32) (harg2 : arg2.IsWhole) (arg3 : Memref sig .scVector .hbm S32x1000 .i32) (harg3 : arg3.IsWhole) (arg4 : Memref sig .scVector .hbm S32x1000 .f32) (harg4 : arg4.IsWhole) (arg5 : Memref sig .scVector .hbm S32000x128 .f32) (harg5 : arg5.IsWhole) (arg6 : Memref sig .scVector .vmem S1000 .i32) (harg6 : arg6.IsWhole) (arg7 : Memref sig .scVector .vmem S1000 .f32) (harg7 : arg7.IsWhole) (arg8 : Memref sig .scVector .vmem S128x128 .f32) (harg8 : arg8.IsWhole) (arg9 : Memref sig .scVector .vmem S128x128 .f32) (harg9 : arg9.IsWhole) (arg10 : DmaSems sig S_) (arg11 : DmaSems sig S_) (arg12 : DmaSems sig S_) (v613_r0 : DmaSems sig S_) (v613_r1 : DmaSems sig S_) (v613_r2 : DmaSems sig S_) (v613_r3 : DmaSems sig S_) (v613_r4 : DmaSems sig S_) (v613_r5 : DmaSems sig S_) (v613_r6 : DmaSems sig S_) (v613_r7 : DmaSems sig S_) (v613_r8 : DmaSems sig S_) (v613_r9 : DmaSems sig S_) :
    cc2__sc_gather_body (F := F) i arg2 harg2 arg3 harg3 arg4 harg4 arg5 harg5 arg6 harg6 arg7 harg7 arg8 harg8 arg9 harg9 arg10 arg11 arg12 v613_r0 v613_r1 v613_r2 v613_r3 v613_r4 v613_r5 v613_r6 v613_r7 v613_r8 v613_r9 =
      tile i ⟨arg2, arg3, arg4, arg5, arg6, harg6, arg7, harg7⟩ arg8 arg9 arg10 arg11 arg12 v613_r0 v613_r1 v613_r2 v613_r3 v613_r4 v613_r5 v613_r6 v613_r7 v613_r8 v613_r9 := by
  unfold cc2__sc_gather_body k2_part201 k2_part202 k2_part203 k2_part204 k2_part205 k2_part206 k2_part207 k2_part208 k2_part209 k2_part210 k2_part211 k2_part212 k2_part213 k2_part214 k2_part215 k2_part216 k2_part217 k2_part218 k2_part219 k2_part220 k2_part221 tile copyIn copyOut copyOutLast tail tailRows scaleRow scaleBlock
  simp (config := { iota := true, proj := true }) only [Prog.bind_assoc]
  exact rfl

end Cert.Proof.Gather
-- ==== Proof.Task.lean ====
module

public import proofs.«01_k».proof.Proof.TileRun
public import proofs.«01_k».proof.Proof.BodyEq
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
/-! ## The arrays and what the gather makes of them -/

abbrev aLoc (d : Dev nD) : Loc nD τ sig := (SparseCore.T d).loc main_arg1
abbrev gLoc (d : Dev nD) : Loc nD τ sig := (SparseCore.T d).loc main_v4
abbrev sLoc (d : Dev nD) : Loc nD τ sig := (SparseCore.T d).loc main_v7
abbrev xLoc (d : Dev nD) : Loc nD τ sig := (SparseCore.T d).loc main_v11
abbrev oLoc (d : Dev nD) : Loc nD τ sig := (SparseCore.T d).loc main_v12
abbrev yLoc (d : Dev nD) : Loc nD τ sig := (SparseCore.T d).loc main_v13

/-- The arrays a tile reads and writes. -/
def bufs : Bufs where
  tab := Memref.whole main_v11_scv
  gi := Memref.whole main_v4_scv
  sc := Memref.whole main_v7_scv
  out := Memref.whole main_v12_scv
  idx := Memref.whole cc2_scratch0
  hidx := Memref.isWhole_whole _
  scs := Memref.whole cc2_scratch1
  hscs := Memref.isWhole_whole _

/-- The two row buffers. -/
abbrev bufA : Rows := Memref.whole cc2_scratch2
abbrev bufB : Rows := Memref.whole cc2_scratch3

theorem creditsA : Credits bufA := ⟨by decide, by decide⟩
theorem creditsB : Credits bufB := ⟨by decide, by decide⟩

/-- Entry `n` of tile `w`'s row of the row numbers, or of the scores. -/
def cell (w n : ℕ) : S32x1000.Idx := fun a => match a with
  | 0 => ⟨w % 32, Nat.mod_lt _ (by decide)⟩
  | 1 => ⟨n % 1000, Nat.mod_lt _ (by decide)⟩

/-- The scaled rows of one table: row `r` of the result is the row of the table that entry `r` of the row numbers names, times
    entry `r` of the scores. -/
def gathered (x : S204800x128.Idx → F .f32) (J : S32x1000.Idx → BitVec 32) (X : S32x1000.Idx → F .f32) : S32000x128.Idx → F .f32 := fun y =>
  FloatOps.mulf (rowAt x (J (cell ((y 0).val / 1000) ((y 0).val % 1000))).toNat (y 1).val) (X (cell ((y 0).val / 1000) ((y 0).val % 1000)))

/-- The number of a tile. -/
def tileNo (c : Fin 2) (s : Fin 16) : Fin 32 := ⟨2 * s.val + c.val, by omega⟩

/-- The rows of the result that tile `w` writes. -/
def tileRows (w : Fin 32) : Finset S32000x128.Idx := Finset.univ.filter fun y => (y 0).val / 1000 = w.val

omit [FloatOps F] in
/-- A tile's row of the row numbers, or of the scores, read as the tile reads it. -/
theorem nth_row {e : EltTy} (M : Memref sig .scVector .hbm S32x1000 e) (i : grid2.Coords) (f : M.view.ty.Contents (Elt F)) (n : ℕ) :
    nth (((M.slice (Rect.unit (s := S32x1000) (k2_off1 i) S1x1000.size (k2_off1_inb i)) (fun _ => rfl)).squeeze S1000 squeezes_S1x1000_S1000).view.read (Elt F) f) n
      = M.view.read (Elt F) f (cell (2 * (i 1).val + (i 0).val) n) := by
  have hi0 : (i 0).val < 2 := (i 0).isLt
  have hi1 : (i 1).val < 16 := (i 1).isLt
  rw [show ((M.slice (Rect.unit (s := S32x1000) (k2_off1 i) S1x1000.size (k2_off1_inb i)) (fun _ => rfl)).squeeze S1000 squeezes_S1x1000_S1000).view.read (Elt F) f
      = shapeCast S1000 (M.view.readAt (Elt F) (Rect.unit (s := S32x1000) (k2_off1 i) S1x1000.size (k2_off1_inb i)).toLoadRect f) squeezes_S1x1000_S1000.numel_eq from rfl]
  unfold nth
  show M.view.readAt (Elt F) (Rect.unit (s := S32x1000) (k2_off1 i) S1x1000.size (k2_off1_inb i)).toLoadRect f
      (Shape.reshapeEquiv squeezes_S1x1000_S1000.numel_eq _) = _
  have hk : ∀ k : S1000.Idx, Shape.reshapeEquiv (squeezes_S1x1000_S1000.numel_eq : S1000.numel = S1x1000.numel) k
      = (fun a => match a with | 0 => (0 : Fin 1) | 1 => k 0 : S1x1000.Idx) := fun k =>
    Shape.reshapeEquiv_eq_of_rowMajor _ (by rw [Shape.rowMajor_val_two, Shape.rowMajor_val_one]; show 0 * 1000 + (k 0).val = (k 0).val; omega)
  rw [hk]
  rw [View.readAt_apply]
  refine congrArg (M.view.read (Elt F) f) (funext fun a => Fin.ext ?_)
  have ho := congrFun (k2_off1_eq i)
  match a with
  | 0 =>
    show k2_off1 i 0 + 1 * 0 = (2 * (i 1).val + (i 0).val) % 32
    rw [ho 0]; show 2 * (i 1).val + (i 0).val + 1 * 0 = _; omega
  | 1 =>
    show k2_off1 i 1 + 1 * (n % 1000) = n % 1000
    rw [ho 1]; show 0 + 1 * (n % 1000) = _; omega

omit [FloatOps F] in
theorem mine_eq (i : grid2.Coords) (w : Fin 32) (hw : w.val = 2 * (i 1).val + (i 0).val) : bufs.mine i = tileRows w := by
  show ((View.whole (main_v12_scv : Ref sig .scVector)).slice (block i)).set = _
  rw [View.set_slice]
  refine (Finset.map_refl (s := (block i).set)).trans ?_
  ext y
  unfold block tileRows
  rw [Rect.mem_set_unit, Finset.mem_filter]
  have h0 : (y 0).val < 32000 := (y 0).isLt
  have h1 : (y 1).val < 128 := (y 1).isLt
  constructor
  · intro h
    refine ⟨Finset.mem_univ _, ?_⟩
    have := h 0
    have hb : base i ≤ (y 0).val ∧ (y 0).val < base i + 1000 := this
    unfold base at hb
    omega
  · rintro ⟨-, h⟩ a
    match a with
    | 0 =>
      show base i ≤ (y 0).val ∧ (y 0).val < base i + 1000
      unfold base; omega
    | 1 => exact ⟨Nat.zero_le _, by show (y 1).val < 0 + 128; omega⟩

/-! ## Whole buffers, and the tile's own -/

/-- A buffer's contents at a share, read through a view of it: lent, and taken back unchanged. -/
theorem lend {sp : Space} {s : Shape} {e : EltTy} (d : Dev nD) (i : grid2.Coords) (q : PosShare TreeShare) (b : Memref sig .scVector sp s e)
    (f : Buf (Elt F) (b.view.loc (thr d i))) :
    (b.view.loc (thr d i) ↦{q} f : sProp 𝕄)
      ⊢ iprop(shares d i q b (b.view.read (Elt F) f) ∗ (shares d i q b (b.view.read (Elt F) f) -∗ (b.view.loc (thr d i) ↦{q} f))) := by
  iintro H
  ihave H' := (pointsTo_split_subset (q := q) (f := f) (S := Finset.univ) (Finset.subset_univ b.view.set)).1 $$ H
  icases H' with ⟨H, Hr⟩
  isplitl [H]
  · unfold shares; iexists f; isplitr
    · ipureintro; rfl
    iexact H
  unfold shares
  iintro ⟨%f', %hf, H⟩
  have hj : (b.view.loc (thr d i) ↦[b.view.set]{q} f' : sProp 𝕄) ⊢ (b.view.loc (thr d i) ↦[b.view.set]{q} f) :=
    Entails.of_eq (pointsTo_congr (agree_of_read b.view hf))
  iapply (pointsTo_split_subset (q := q) (f := f) (S := Finset.univ) (Finset.subset_univ b.view.set)).2
  isplitl [H]
  · iapply hj; iexact H
  iexact Hr

/-- A scratch buffer, whole, at whatever it holds. -/
theorem loose_eq {sp : Space} {s : Shape} {e : EltTy} (d : Dev nD) (i : grid2.Coords) (b : Memref sig .scVector sp s e) (hb : b.view.set = Finset.univ) :
    iprop(∃ f : Buf (Elt F) (b.view.loc (thr d i)), b.view.loc (thr d i) ↦{fullShare} f) = (iprop(∃ g : s.Idx → Elt F e, shares d i fullShare b g) : sProp 𝕄) := by
  have h1 : iprop(∃ f : Buf (Elt F) (b.view.loc (thr d i)), b.view.loc (thr d i) ↦{fullShare} f)
      ⊢ (iprop(∃ g : s.Idx → Elt F e, shares d i fullShare b g) : sProp 𝕄) := by
    unfold shares
    rw [hb]
    iintro ⟨%f, H⟩
    iexists (b.view.read (Elt F) f); iexists f
    isplitr
    · ipureintro; rfl
    iexact H
  have h2 : iprop(∃ g : s.Idx → Elt F e, shares d i fullShare b g)
      ⊢ (iprop(∃ f : Buf (Elt F) (b.view.loc (thr d i)), b.view.loc (thr d i) ↦{fullShare} f) : sProp 𝕄) := by
    unfold shares
    rw [hb]
    iintro ⟨%g, %f, -, H⟩
    iexists f; iexact H
  exact BI.Entails.antisymm h1 h2

/-- The semaphores of the gather, among the program's. -/
def own (k : Fin 13) : DmaSem sig := ⟨10 + k.val, by show _ < 23; omega⟩

theorem dma_scoped : ∀ k : Fin 13, (SemLoc.dma (own k) : SemLoc sig).isScoped .scVector = true := by decide

/-- The tile's thirteen semaphores. -/
def ownSems (d : Dev nD) (i : grid2.Coords) : Finset (GSem nD τ sig) := (Finset.univ : Finset (Fin 13)).image fun k => (thr d i, SemLoc.dma (own k))

theorem ownSems_eq (d : Dev nD) (i : grid2.Coords) :
    (bigSep (ownSems d i) (fun g => semVal g 0) : sProp 𝕄)
      = iprop(idle d i cc2_scratch4 ∗ idle d i cc2_scratch5 ∗ idle d i cc2_scratch6 ∗ idle d i cc2_scoped0 ∗ idle d i cc2_scoped1
          ∗ idle d i cc2_scoped2 ∗ idle d i cc2_scoped3 ∗ idle d i cc2_scoped4 ∗ idle d i cc2_scoped5 ∗ idle d i cc2_scoped6
          ∗ idle d i cc2_scoped7 ∗ idle d i cc2_scoped8 ∗ idle d i cc2_scoped9) := by
  have hinj : Set.InjOn (fun k : Fin 13 => ((thr d i, SemLoc.dma (own k)) : GSem nD τ sig)) (Finset.univ : Finset (Fin 13)) := by
    intro a _ b _ h
    have := congrArg Prod.snd h
    have hv : 10 + a.val = 10 + b.val := congrArg Fin.val (SemLoc.dma.inj this)
    exact Fin.ext (by omega)
  unfold ownSems
  rw [SparseCore.bigSep_image_of_injOn hinj,
    show (Finset.univ : Finset (Fin 13)) = {0, 1, 2, 3, 4, 5, 6, 7, 8, 9, 10, 11, 12} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  unfold idle
  rfl

theorem ownSems_sub (d : Dev nD) (i : grid2.Coords) : ownSems d i ⊆ ownCells (thr d i) := by
  intro g hg
  obtain ⟨k, -, rfl⟩ := Finset.mem_image.mp hg
  exact mem_ownCells.mpr ⟨rfl, dma_scoped k⟩

theorem ownSems0_V (d : Dev nD) (i : grid2.Coords) :
    (ownSems0 (thr d i) : sProp 𝕄)
      = iprop((idle d i cc2_scratch4 ∗ idle d i cc2_scratch5 ∗ idle d i cc2_scratch6 ∗ idle d i cc2_scoped0 ∗ idle d i cc2_scoped1
          ∗ idle d i cc2_scoped2 ∗ idle d i cc2_scoped3 ∗ idle d i cc2_scoped4 ∗ idle d i cc2_scoped5 ∗ idle d i cc2_scoped6
          ∗ idle d i cc2_scoped7 ∗ idle d i cc2_scoped8 ∗ idle d i cc2_scoped9) ∗ bigSep (ownCells (thr d i) \ ownSems d i) fun g => semVal g 0) := by
  unfold SparseCore.Cfg.ownSems0
  rw [SparseCore.bigSep_sdiff_split' (ownSems_sub d i), ownSems_eq]

/-- The tile's four scratch buffers. -/
def ownScratch (i : grid2.Coords) : Finset (DevRef τ sig) :=
  {(Proc.scVector ((i 0).castLE hcore2) ((i 1).castLE hsub2)).devRef cc2_scratch0, (Proc.scVector ((i 0).castLE hcore2) ((i 1).castLE hsub2)).devRef cc2_scratch1,
    (Proc.scVector ((i 0).castLE hcore2) ((i 1).castLE hsub2)).devRef cc2_scratch2, (Proc.scVector ((i 0).castLE hcore2) ((i 1).castLE hsub2)).devRef cc2_scratch3}

theorem ownBufs_V (d : Dev nD) (i : grid2.Coords) :
    (ownBufs (thr d i) : sProp 𝕄)
      = iprop((loose d i bufs.idx ∗ loose d i bufs.scs ∗ spare d i bufA ∗ spare d i bufB)
          ∗ bigSep (ownRefs (τ := τ) (thr d i).2 \ ownScratch i) fun b => iprop(∃ f, ((d, b) : Loc nD τ sig) ↦{fullShare} f)) := by
  unfold SparseCore.Cfg.ownBufs
  have hs : ownScratch i ⊆ ownRefs (τ := τ) (thr d i).2 := by
    intro b hb
    simp only [ownScratch, Finset.mem_insert, Finset.mem_singleton] at hb
    rcases hb with rfl | rfl | rfl | rfl <;> exact SparseCore.Cfg.mem_ownRefs_of_owner rfl
  rw [SparseCore.bigSep_sdiff_split' hs]
  congr 1
  have hne : ∀ {r r' : Ref sig .scVector}, r ≠ r' → (Proc.scVector ((i 0).castLE hcore2) ((i 1).castLE hsub2)).devRef r
      ≠ (Proc.scVector ((i 0).castLE hcore2) ((i 1).castLE hsub2)).devRef r' := fun h e => h (Proc.devRef_injective _ e)
  unfold ownScratch
  rw [SparseCore.bigSep_insert' (by
      simp only [Finset.mem_insert, Finset.mem_singleton, not_or]
      exact ⟨hne (by decide), hne (by decide), hne (by decide)⟩),
    SparseCore.bigSep_insert' (by
      simp only [Finset.mem_insert, Finset.mem_singleton, not_or]
      exact ⟨hne (by decide), hne (by decide)⟩),
    SparseCore.bigSep_insert' (by
      simp only [Finset.mem_singleton]
      exact hne (by decide)), bigSep_singleton]
  unfold loose spare holds
  have h0 := loose_eq (F := F) d i bufs.idx (View.set_whole _)
  have h1 := loose_eq (F := F) d i bufs.scs (View.set_whole _)
  have h2 := loose_eq (F := F) d i bufA (View.set_whole _)
  have h3 := loose_eq (F := F) d i bufB (View.set_whole _)
  rw [← h0, ← h1]
  unfold shares at h2 h3
  rw [← h2, ← h3]
  rfl

end Cert.Proof.Gather
-- ==== Proof.Launch.lean ====
module

public import proofs.«01_k».proof.Proof.Task

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
/-! ## The launch -/

variable (m : (ℓ : Loc nD τ sig) → Buf (Elt F) ℓ) (ρ : Dev nD → PrngReg)

/-- The table: the embedding's rows, one after another. -/
def tab (d : Dev nD) : Buf (Elt F) (xLoc d) :=
  (shapeCast S204800x128 (m (aLoc d) : S128x50x32x128.Idx → F .f32) shapeCasts_S128x50x32x128_S204800x128 : S204800x128.Idx → F .f32)

/-- The call's result. -/
def res (d : Dev nD) : Buf (Elt F) (oLoc d) :=
  (gathered (F := F) (tab m d) (m (gLoc d) : S32x1000.Idx → BitVec 32) (m (sLoc d) : S32x1000.Idx → F .f32) : S32000x128.Idx → F .f32)

/-- The share of the arrays it reads that tile `w` is lent. -/
abbrev tok (w : Fin 32) : PosShare TreeShare := Transfers.shareTok fullShare 32 w

/-- What a tile is lent: the row numbers, the scores and the table, at a share. -/
abbrev lent (d : Dev nD) (q : PosShare TreeShare) : sProp 𝕄 :=
  iprop((gLoc d ↦{q} m (gLoc d)) ∗ (sLoc d ↦{q} m (sLoc d)) ∗ (xLoc d ↦{q} tab m d))

/-- The rows of the result that are tile `w`'s. -/
abbrev rowPts (d : Dev nD) (w : Fin 32) (f : Buf (Elt F) (oLoc d)) : sProp 𝕄 := oLoc d ↦[tileRows w]{fullShare} f

abbrev goes (d : Dev nD) (w : Fin 32) : sProp 𝕄 := iprop(lent m d (tok w) ∗ rowPts d w (m (oLoc d)))
abbrev comes (d : Dev nD) (w : Fin 32) : sProp 𝕄 := iprop(lent m d (tok w) ∗ rowPts d w (res m d))

/-- The number of the tile of subcore `s` on SparseCore `c`. -/
abbrev no (c : Fin ((K (F := F)).nCore 1)) (s : Fin ((K (F := F)).nSub 1)) : Fin 32 := tileNo (Fin.cast nCore_one c) (Fin.cast nSub_one s)

/-- Every row number names a row of the table. -/
def PreOK : Prop := ∀ (d : Dev nD) (j : S32x1000.Idx), ((m (gLoc d) : S32x1000.Idx → BitVec 32) j).toNat < 204800

/-! ## A tile's task -/

/-- The row numbers and the scores a tile reads. -/
def numsOf (d : Dev nD) (i : grid2.Coords) : S1000.Idx → BitVec 32 := (bufs.giRow i).view.read (Elt F) (m (gLoc d))
def scoresOf (d : Dev nD) (i : grid2.Coords) : S1000.Idx → F .f32 := (bufs.scRow i).view.read (Elt F) (m (sLoc d))

theorem numsOf_lt (hpre : PreOK m) (d : Dev nD) (i : grid2.Coords) (j : S1000.Idx) : (numsOf m d i j).toNat < 204800 := by
  unfold numsOf
  rw [show (bufs.giRow i).view.read (Elt F) (m (gLoc d)) j = (m (gLoc d) : S32x1000.Idx → BitVec 32) ((bufs.giRow i).view.emb j) from
    (View.read_apply _ _).trans (cast_eq _ _)]
  exact hpre d _

theorem nth_nums (d : Dev nD) (i : grid2.Coords) (n : ℕ) : nth (numsOf m d i) n = (m (gLoc d) : S32x1000.Idx → BitVec 32) (cell (2 * (i 1).val + (i 0).val) n) :=
  nth_row (e := .i32) (Memref.whole main_v4_scv) i (m (gLoc d)) n
theorem nth_scores (d : Dev nD) (i : grid2.Coords) (n : ℕ) : nth (scoresOf m d i) n = (m (sLoc d) : S32x1000.Idx → F .f32) (cell (2 * (i 1).val + (i 0).val) n) :=
  nth_row (e := .f32) (Memref.whole main_v7_scv) i (m (sLoc d)) n

/-- The thousand rows written are the tile's rows of the result. -/
theorem written_res (d : Dev nD) (i : grid2.Coords) (w : Fin 32) (hw : w.val = 2 * (i 1).val + (i 0).val) :
    written d i bufs 1000 (scaled (tab m d : S204800x128.Idx → F .f32) (numsOf m d i) (scoresOf m d i)) ⊢ (rowPts d w (res m d) : sProp 𝕄) := by
  unfold written
  rw [mine_eq i w hw]
  iintro ⟨%f, %hf, H⟩
  have hj : (bufs.out.view.loc (thr d i) ↦[tileRows w]{fullShare} f : sProp 𝕄) ⊢ rowPts d w (res m d) := by
    have key : ∀ y : S32000x128.Idx, y ∈ tileRows w → (f : S32000x128.Idx → F .f32) y = (res m d : S32000x128.Idx → F .f32) y := ?_
    · exact Entails.of_eq (pointsTo_congr key)
    intro y hy
    have hy' : (y 0).val / 1000 = w.val := (Finset.mem_filter.mp hy).2
    have h0 : (y 0).val < 32000 := (y 0).isLt
    have h1 : (y 1).val < 128 := (y 1).isLt
    have hh := hf ((y 0).val % 1000) (y 1).val (Nat.mod_lt _ (by decide)) h1
    have hb : base i + (y 0).val % 1000 = (y 0).val := by unfold base; omega
    rw [hb] at hh
    have hl : outAt (bufs.out.view.read (Elt F) f) (y 0).val (y 1).val = (f : S32000x128.Idx → F .f32) y := by
      rw [show bufs.out.view.read (Elt F) f = f from View.read_whole _ _]
      unfold outAt
      refine congrArg (f : S32000x128.Idx → F .f32) (funext fun a => Fin.ext ?_)
      match a with
      | 0 => exact Nat.mod_eq_of_lt h0
      | 1 => exact Nat.mod_eq_of_lt h1
    rw [← hl, hh]
    unfold scaled fetched
    rw [nth_nums, nth_scores, ← hw, ← hy']
    rfl
  iapply hj; iexact H

/-- The task of the tile at `i`: from its share of the arrays it reads and its rows of the result, its rows of the result written. -/
theorem tile_body (hF : (K (F := F)).Facts) (hpre : PreOK m) (d : Dev nD) (i : grid2.Coords) (w : Fin 32) (hw : w.val = 2 * (i 1).val + (i 0).val)
    (O : CellTallies nD τ sig (HIx 2)) (W : Waits sig (HIx 2)) (hO : ∀ g, O g none = 0) :
    iprop(levAts (K (F := F)).L (K (F := F)).lev ∗ emp ∗ goes m d w ∗ scopedBufs (thr d i) ∗ scopedSems0 (thr d i) ∗ owes (thr d i) O W)
      ⊢ wp frame (wpE (defs₀ (F := F)) 𝒱₀ (thr d i) none) Set.univ
          (cc2__sc_gather_body i (Memref.whole main_v11_scv) (Memref.isWhole_whole _) (Memref.whole main_v4_scv) (Memref.isWhole_whole _)
            (Memref.whole main_v7_scv) (Memref.isWhole_whole _) (Memref.whole main_v12_scv) (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scratch6 cc2_scoped0 cc2_scoped1 cc2_scoped2 cc2_scoped3 cc2_scoped4 cc2_scoped5 cc2_scoped6
            cc2_scoped7 cc2_scoped8 cc2_scoped9)
          fun _ => iprop(comes m d w ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d _ _, SparseCore.Cfg.scopedSems0_V (Val := Elt F) d _ _, ownSems0_V, ownBufs_V]
  iintro ⟨#Hlv, -, ⟨⟨Hg, Hs, Hx⟩, Ho⟩, ⟨⟨Hidx, Hscs, Ha, Hb⟩, Hbufs⟩, ⟨⟨Sa, Sb, Sl, S0, S1, T0, T1, T2, T3, T4, T5, T6, T7⟩, Hsems⟩, HO⟩
  ihave Hmw := (show levAts (K (F := F)).L (K (F := F)).lev ⊢ Transfers.MayWaits (thr d i) (none : HIx 2) O from
    (K (F := F)).mayWaits_none (thr := thr d i) hO) $$ Hlv
  have lg : (gLoc d ↦{tok w} (m (gLoc d)) : sProp 𝕄) ⊢ iprop(shares d i (tok w) (bufs.giRow i) ((bufs.giRow i).view.read (Elt F) (m (gLoc d)))
      ∗ (shares d i (tok w) (bufs.giRow i) ((bufs.giRow i).view.read (Elt F) (m (gLoc d))) -∗ (gLoc d ↦{tok w} (m (gLoc d))))) := lend d i (tok w) (bufs.giRow i) (m (gLoc d))
  ihave Hg' := lg $$ Hg
  icases Hg' with ⟨Hg, Hgk⟩
  have ls : (sLoc d ↦{tok w} (m (sLoc d)) : sProp 𝕄) ⊢ iprop(shares d i (tok w) (bufs.scRow i) ((bufs.scRow i).view.read (Elt F) (m (sLoc d)))
      ∗ (shares d i (tok w) (bufs.scRow i) ((bufs.scRow i).view.read (Elt F) (m (sLoc d))) -∗ (sLoc d ↦{tok w} (m (sLoc d))))) := lend d i (tok w) (bufs.scRow i) (m (sLoc d))
  ihave Hs' := ls $$ Hs
  icases Hs' with ⟨Hs, Hsk⟩
  have lx : (xLoc d ↦{tok w} (tab m d) : sProp 𝕄) ⊢ iprop(shares d i (tok w) bufs.tab (bufs.tab.view.read (Elt F) (tab m d))
      ∗ (shares d i (tok w) bufs.tab (bufs.tab.view.read (Elt F) (tab m d)) -∗ (xLoc d ↦{tok w} (tab m d)))) := lend d i (tok w) bufs.tab (tab m d)
  ihave Hx' := lx $$ Hx
  icases Hx' with ⟨Hx, Hxk⟩
  have ht : bufs.tab.view.read (Elt F) (tab m d) = (tab m d : S204800x128.Idx → F .f32) := View.read_whole _ _
  have hw0 : (rowPts d w (m (oLoc d)) : sProp 𝕄)
      ⊢ written d i bufs 0 (scaled (bufs.tab.view.read (Elt F) (tab m d)) (numsOf m d i) (scoresOf m d i)) := by
    unfold written
    rw [mine_eq i w hw]
    iintro H
    iexists (m (oLoc d))
    isplitr
    · ipureintro; intro r c hr; exact absurd hr (Nat.not_lt_zero _)
    iexact H
  ihave Ho' := hw0 $$ Ho
  iapply (wp_wand_r frame (wpE (defs₀ (F := F)) 𝒱₀ (thr d i) none) Set.univ)
  isplitl [Hg Hs Hx Hidx Hscs Ha Hb Ho' HO Sa Sb Sl S0 S1 T0 T1 T2 T3 T4 T5 T6 T7]
  · iapply (wp_tile d i O W bufs (bufs.tab.view.read (Elt F) (tab m d)) (numsOf m d i) (scoresOf m d i) (tok w) bufA bufB creditsA creditsB
      cc2_scratch4 cc2_scratch5 cc2_scratch6 cc2_scoped0 cc2_scoped1 cc2_scoped2 cc2_scoped3 cc2_scoped4 cc2_scoped5 cc2_scoped6
      cc2_scoped7 cc2_scoped8 cc2_scoped9 (numsOf_lt m hpre d i))
    isplitr; · iexact Hmw
    isplitl [Hg Hs Hx Hidx Hscs Ha Hb Ho' HO]
    · unfold stock
      isplitl [Hg]; · iexact Hg
      isplitl [Hs]; · iexact Hs
      isplitl [Hx]; · iexact Hx
      isplitl [Hidx]; · iexact Hidx
      isplitl [Hscs]; · iexact Hscs
      isplitl [Ha]; · iexact Ha
      isplitl [Hb]; · iexact Hb
      isplitl [Ho']; · iexact Ho'
      unfold owing
      iexists W
      isplitr
      · ipureintro; exact fun p hp => .inl hp
      iexact HO
    isplitl [Sa]; · iexact Sa
    isplitl [Sb]; · iexact Sb
    isplitl [Sl]; · iexact Sl
    isplitl [S0]; · iexact S0
    isplitl [S1]; · iexact S1
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  iintro %_ ⟨Hst, Sa, Sb, Sl, S0, S1, T0, T1, T2, T3, T4, T5, T6, T7⟩
  unfold stock owing
  icases Hst with ⟨Hg, Hs, Hx, Hidx, Hscs, Ha, Hb, Ho, HO⟩
  have hw1 : written d i bufs 1000 (scaled (bufs.tab.view.read (Elt F) (tab m d)) (numsOf m d i) (scoresOf m d i)) ⊢ (rowPts d w (res m d) : sProp 𝕄) := by
    rw [ht]; exact written_res m d i w hw
  isplitl [Hg Hs Hx Ho Hgk Hsk Hxk]
  · isplitr [Ho]
    · isplitl [Hg Hgk]; · iapply Hgk; iexact Hg
      isplitl [Hs Hsk]; · iapply Hsk; iexact Hs
      iapply Hxk; iexact Hx
    iapply hw1; iexact Ho
  isplitl [Hidx Hscs Ha Hb Hbufs]
  · isplitr [Hbufs]
    · isplitl [Hidx]; · iexact Hidx
      isplitl [Hscs]; · iexact Hscs
      isplitl [Ha]; · iexact Ha
      iexact Hb
    iexact Hbufs
  isplitr [HO]
  · isplitr [Hsems]
    · isplitl [Sa]; · iexact Sa
      isplitl [Sb]; · iexact Sb
      isplitl [Sl]; · iexact Sl
      isplitl [S0]; · iexact S0
      isplitl [S1]; · iexact S1
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iexact Hsems
  iexact HO

end Cert.Proof.Gather
-- ==== Proof.Run.lean ====
module

public import proofs.«01_k».proof.Proof.Launch

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
variable (m : (ℓ : Loc nD τ sig) → Buf (Elt F) ℓ) (ρ : Dev nD → PrngReg)

/-! ## The tiles' program -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_gather_body (coordsV c s)
          (Memref.whole main_v11_scv) (Memref.isWhole_whole _) (Memref.whole main_v4_scv) (Memref.isWhole_whole _)
          (Memref.whole main_v7_scv) (Memref.isWhole_whole _) (Memref.whole main_v12_scv) (Memref.isWhole_whole _)
          (Memref.whole cc2_scratch0) (Memref.isWhole_whole _) (Memref.whole cc2_scratch1) (Memref.isWhole_whole _)
          (Memref.whole cc2_scratch2) (Memref.isWhole_whole _) (Memref.whole cc2_scratch3) (Memref.isWhole_whole _)
          cc2_scratch4 cc2_scratch5 cc2_scratch6 cc2_scoped0 cc2_scoped1 cc2_scoped2 cc2_scoped3 cc2_scoped4 cc2_scoped5 cc2_scoped6
          cc2_scoped7 cc2_scoped8 cc2_scoped9) ⟨⟩ c s := rfl

/-! ## The arrays dealt to the tiles -/

/-- The tiles, by SparseCore and subcore. -/
def tiles : Fin 2 × Fin 16 ≃ Fin 32 where
  toFun p := tileNo p.1 p.2
  invFun w := (⟨w.val % 2, Nat.mod_lt _ (by decide)⟩, ⟨w.val / 2, by omega⟩)
  left_inv p := by
    have h0 := p.1.isLt
    have h1 := p.2.isLt
    refine Prod.ext (Fin.ext ?_) (Fin.ext ?_)
    · show (2 * p.2.val + p.1.val) % 2 = p.1.val; omega
    · show (2 * p.2.val + p.1.val) / 2 = p.2.val; omega
  right_inv w := Fin.ext (show 2 * (w.val / 2) + w.val % 2 = w.val by omega)

theorem by_core (Φ : Fin 32 → sProp 𝕄) :
    (bigSep Finset.univ fun c : Fin ((K (F := F)).nCore 1) => bigSep Finset.univ fun s : Fin ((K (F := F)).nSub 1) => Φ (no c s)) = bigSep Finset.univ Φ := by
  rw [bigSep_univ_equiv tiles Φ, bigSep_univ_prod]
  rfl

theorem tileRows_disjoint : ∀ w ∈ (Finset.univ : Finset (Fin 32)), ∀ w' ∈ (Finset.univ : Finset (Fin 32)), w ≠ w' → Disjoint (tileRows w) (tileRows w') := by
  intro w _ w' _ h
  refine Finset.disjoint_left.mpr fun y hy hy' => h (Fin.ext ?_)
  exact (Finset.mem_filter.mp hy).2.symm.trans (Finset.mem_filter.mp hy').2

theorem tileRows_cover : (Finset.univ : Finset (Fin 32)).biUnion tileRows = Finset.univ := by
  ext y
  have h0 : (y 0).val < 32000 := (y 0).isLt
  simp only [Finset.mem_biUnion, Finset.mem_univ, true_and, iff_true]
  exact ⟨⟨(y 0).val / 1000, by omega⟩, Finset.mem_filter.mpr ⟨Finset.mem_univ _, rfl⟩⟩

theorem rows_all (d : Dev nD) (f : Buf (Elt F) (oLoc d)) : (bigSep Finset.univ fun w : Fin 32 => rowPts d w f : sProp 𝕄) = oLoc d ↦{fullShare} f := by
  have h := pointsTo_biUnion (Val := Elt F) (Name := ℕ) (U := UU) (Ix := HIx 2) (Lvl := ℕ) (q := fullShare) (f := f) Finset.univ (ℓ := oLoc d) tileRows tileRows_disjoint
  rw [← h, tileRows_cover]

/-- What stays with the TensorCore while the tiles run. -/
abbrev rest (d : Dev nD) : sProp 𝕄 := lent m d (Transfers.shareDrop fullShare 32)

theorem lent_all (d : Dev nD) : lent m d fullShare ⊣⊢ (iprop(rest m d ∗ bigSep Finset.univ fun w : Fin 32 => lent m d (tok w)) : sProp 𝕄) := by
  have hg := Transfers.pointsTo_toks (Val := Elt F) (Name := ℕ) (U := UU) (Ix := HIx 2) (Lvl := ℕ) (ℓ := gLoc d) (S := Finset.univ) (f := m (gLoc d)) fullShare 32
  have hs := Transfers.pointsTo_toks (Val := Elt F) (Name := ℕ) (U := UU) (Ix := HIx 2) (Lvl := ℕ) (ℓ := sLoc d) (S := Finset.univ) (f := m (sLoc d)) fullShare 32
  have hx := Transfers.pointsTo_toks (Val := Elt F) (Name := ℕ) (U := UU) (Ix := HIx 2) (Lvl := ℕ) (ℓ := xLoc d) (S := Finset.univ) (f := tab m d) fullShare 32
  have he : (bigSep Finset.univ fun w : Fin 32 => lent m d (tok w) : sProp 𝕄)
      = iprop((bigSep Finset.univ fun w : Fin 32 => gLoc d ↦{tok w} m (gLoc d)) ∗ (bigSep Finset.univ fun w : Fin 32 => sLoc d ↦{tok w} m (sLoc d))
        ∗ bigSep Finset.univ fun w : Fin 32 => xLoc d ↦{tok w} tab m d) := by
    unfold lent
    rw [bigSep_sep', bigSep_sep']
  rw [he]
  constructor
  · iintro ⟨Hg, Hs, Hx⟩
    ihave Hg := hg.1 $$ Hg
    ihave Hs := hs.1 $$ Hs
    ihave Hx := hx.1 $$ Hx
    icases Hg with ⟨Hgr, Hg⟩
    icases Hs with ⟨Hsr, Hs⟩
    icases Hx with ⟨Hxr, Hx⟩
    isplitl [Hgr Hsr Hxr]
    · isplitl [Hgr]; · iexact Hgr
      isplitl [Hsr] <;> iassumption
    isplitl [Hg]; · iexact Hg
    isplitl [Hs] <;> iassumption
  · iintro ⟨⟨Hgr, Hsr, Hxr⟩, Hg, Hs, Hx⟩
    isplitl [Hgr Hg]
    · iapply hg.2; isplitl [Hgr] <;> iassumption
    isplitl [Hsr Hs]
    · iapply hs.2; isplitl [Hsr] <;> iassumption
    iapply hx.2; isplitl [Hxr] <;> iassumption

end Cert.Proof.Gather

end
-- ==== Proof.Scores.lean ====
module

public import proofs.«01_k».proof.Proof.Resources

/-!
The TensorCore kernel at one point of its grid: the scores of four rows of the batch. For each of the four, the row's user and its
50 · 32 tokens are normalised, every token is multiplied with the user, and the 50 columns of 32 scores are stored side by side in the
output's block. The block's last eight columns are never stored.
-/

@[expose] public section

noncomputable section

namespace Cert.Proof.Scores

open Cert.KernelIdeal Cert.KernelIdeal.Gen Cert.Proof
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe

variable {F : FTy → Type} [FloatOps F]

local notation "𝕄" => MT nD τ sig (HIx 2) (Elt F) ℕ UU ℕ

/-! ## The scores of one row of the batch -/

/-- The row's user, normalised. -/
def user (u : S1x1x128.Idx → F .f32) : FVec F S128 .f32 :=
  divf (shapeCast S128 u shapeCasts_S1x1x128_S128)
    (broadcast S128 (Scalar.maximumf (Scalar.sqrt (extractAt ![0, 0] (shapeCast S1x1
        (multiReduction .add [1] S1 (shapeCast S1x128 (mulf (shapeCast S128 u shapeCasts_S1x1x128_S128) (shapeCast S128 u shapeCasts_S1x1x128_S128))
          shapeCasts_S128_S1x128 : FVec F S1x128 .f32) 0x00000000#32 reduces_S1x128_S1 (.inl rfl) rfl) shapeCasts_S1_S1x1 : FVec F S1x1 .f32) inpos_S1x1_p0_0))
      (Scalar.ofBits .f32 0x2B8CBCCC#32)))

/-- The row's tokens, normalised. -/
def tokens (x : S1x50x32x128.Idx → F .f32) : FVec F S50x32x128 .f32 :=
  mulf (shapeCast S50x32x128 x shapeCasts_S1x50x32x128_S50x32x128)
    (broadcastTo S50x32x128 (shapeCast S50x32x1
      (divf (broadcast S50x32 (Scalar.ofBits .f32 0x3F800000#32))
        (maximumf (sqrt (multiReduction .add [2] S50x32 (mulf (shapeCast S50x32x128 x shapeCasts_S1x50x32x128_S50x32x128)
            (shapeCast S50x32x128 x shapeCasts_S1x50x32x128_S50x32x128) : FVec F S50x32x128 .f32) 0x00000000#32 reduces_S50x32x128_S50x32 (.inl rfl) rfl))
          (broadcast S50x32 (Scalar.ofBits .f32 0x2B8CBCCC#32))) : FVec F S50x32 .f32) shapeCasts_S50x32_S50x32x1) broadcasts_S50x32x1_S50x32x128)

/-- Every token multiplied with the user. -/
def rowScores (x : S1x50x32x128.Idx → F .f32) (u : S1x1x128.Idx → F .f32) : FVec F S1x32x50 .f32 :=
  shapeCast S1x32x50 (transpose S32x50 [1, 0] (shapeCast S50x32
      (matmul dot_S1600x128_S128x1_S1600x1_1_0_0_1_n_n none (shapeCast S1600x128 (tokens x) shapeCasts_S50x32x128_S1600x128)
        (shapeCast S128x1 (user u) shapeCasts_S128_S128x1) (constant S1600x1 .f32 0x00000000#32))
      shapeCasts_S1600x1_S50x32) transposes_S50x32_p1_0_S32x50) shapeCasts_S32x50_S1x32x50

/-! ## The block of a point -/

/-- Row `j` of a point's block of tokens, of its block of users, and the columns of its scores. -/
abbrev rowX (j : Fin 4) : Rect S4x50x32x128 := Rect.unit (s := S4x50x32x128) ![j.val, 0, 0, 0] S1x50x32x128.size
  (fun a => match a with | 0 => (show j.val + 1 ≤ 4 from j.isLt) | 1 => Nat.le_refl 50 | 2 => Nat.le_refl 32 | 3 => Nat.le_refl 128)
abbrev rowU (j : Fin 4) : Rect S4x1x128 := Rect.unit (s := S4x1x128) ![j.val, 0, 0] S1x1x128.size
  (fun a => match a with | 0 => (show j.val + 1 ≤ 4 from j.isLt) | 1 => Nat.le_refl 1 | 2 => Nat.le_refl 128)

/-- The place of column `n` of a point among the 50 columns of its row. -/
abbrev place (y : S1x32x208.Idx) : S1x32x50.Idx := fun a => match a with
  | 0 => (0 : Fin 1) | 1 => (y 1 : Fin 32) | 2 => (⟨(y 2).val % 50, Nat.mod_lt _ (by decide)⟩ : Fin 50)
abbrev rowOfCol (y : S1x32x208.Idx) : Fin 4 := ⟨(y 2).val / 50 % 4, Nat.mod_lt _ (by decide)⟩

/-- The scores of a point's block, from its blocks of tokens and of users. -/
def blockScores (x : S4x50x32x128.Idx → F .f32) (u : S4x1x128.Idx → F .f32) : S1x32x208.Idx → F .f32 := fun y =>
  rowScores (fun i => x ((rowX (rowOfCol y)).emb i)) (fun i => u ((rowU (rowOfCol y)).emb i)) (place y)

/-- The fifty columns from `n` on of a point's block of scores. -/
abbrev cols (n : Nat) (h : ∀ a, (![0, 0, n] : Fin 3 → Nat) a + S1x32x50.size a ≤ S1x32x208.size a) : Rect S1x32x208 :=
  Rect.unit (s := S1x32x208) ![0, 0, n] S1x32x50.size h

/-- The block after the four stores. -/
def four (O : Memref sig .tc .vmem S1x32x208 .f32) (f : O.view.ty.Contents (Elt F)) (w : Fin 4 → S1x32x50.Idx → F .f32) : O.view.ty.Contents (Elt F) :=
  O.view.writes (Elt F) f [⟨cols 150 inb_S1x32x208_S1x32x50_0_0_150, w 3⟩, ⟨cols 100 inb_S1x32x208_S1x32x50_0_0_100, w 2⟩,
    ⟨cols 50 inb_S1x32x208_S1x32x50_0_0_50, w 1⟩, ⟨cols 0 inb_S1x32x208_S1x32x50_0_0_0, w 0⟩]

theorem coords (n : Nat) (h : ∀ a, (![0, 0, n] : Fin 3 → Nat) a + S1x32x50.size a ≤ S1x32x208.size a) (y : S1x32x208.Idx) (hn : n % 50 = 0) (hy : n ≤ (y 2).val ∧ (y 2).val < n + 50) :
    ∀ a, (y a).val = (cols n h).off a + (cols n h).stride a * (place y a).val := by
  have h0 : (y 0).val < 1 := (y 0).isLt
  intro a
  match a with
  | 0 => show (y 0).val = 0 + 1 * 0; omega
  | 1 => show (y 1).val = 0 + 1 * (y 1).val; omega
  | 2 => show (y 2).val = n + 1 * ((y 2).val % 50); omega

theorem read_four (O : Memref sig .tc .vmem S1x32x208 .f32) (f : O.view.ty.Contents (Elt F)) (w : Fin 4 → S1x32x50.Idx → F .f32) (y : S1x32x208.Idx)
    (hy : (y 2).val < 200) : O.view.read (Elt F) (four O f w) y = w (rowOfCol y) (place y) := by
  unfold four
  have hr : ∀ j : Fin 4, (y 2).val / 50 = j.val → w (rowOfCol y) = w j := fun j hj =>
    congrArg w (Fin.ext (show (y 2).val / 50 % 4 = j.val by have := j.isLt; omega))
  by_cases h3 : 150 ≤ (y 2).val
  · rw [O.view.read_writes_cons_hit_of_coords f _ _ _ (place y) y (coords 150 _ y rfl ⟨h3, by omega⟩), hr 3 (show (y 2).val / 50 = 3 by omega)]
  rw [O.view.read_writes_cons_miss_of_axis f _ _ y 2 150 50 rfl rfl rfl (by omega)]
  by_cases h2 : 100 ≤ (y 2).val
  · rw [O.view.read_writes_cons_hit_of_coords f _ _ _ (place y) y (coords 100 _ y rfl ⟨h2, by omega⟩), hr 2 (show (y 2).val / 50 = 2 by omega)]
  rw [O.view.read_writes_cons_miss_of_axis f _ _ y 2 100 50 rfl rfl rfl (by omega)]
  by_cases h1 : 50 ≤ (y 2).val
  · rw [O.view.read_writes_cons_hit_of_coords f _ _ _ (place y) y (coords 50 _ y rfl ⟨h1, by omega⟩), hr 1 (show (y 2).val / 50 = 1 by omega)]
  rw [O.view.read_writes_cons_miss_of_axis f _ _ y 2 50 50 rfl rfl rfl (by omega)]
  rw [O.view.read_writes_cons_hit_of_coords f _ _ _ (place y) y (coords 0 _ y rfl ⟨by omega, by omega⟩), hr 0 (show (y 2).val / 50 = 0 by omega)]

/-- The kernel at a point: the blocks of tokens and users as they were, and in the block of scores the first 200 columns computed. -/
theorem body (c : Dev nD) (i : grid0.Coords) (A : Memref sig .tc .vmem S4x50x32x128 .f32) (hA : A.IsWhole) (B : Memref sig .tc .vmem S4x1x128 .f32) (hB : B.IsWhole)
    (O : Memref sig .tc .vmem S1x32x208 .f32) (hO : O.IsWhole) (x : S4x50x32x128.Idx → F .f32) (u : S4x1x128.Idx → F .f32) (o : S1x32x208.Idx → F .f32) :
    iprop(owns (c : Thread nD τ) A fullShare x ∗ owns (c : Thread nD τ) B fullShare u ∗ owns (c : Thread nD τ) O fullShare o)
      ⊢ (wp frame (wpE (defs₀ (F := F)) 𝒱₀ (c : Thread nD τ) none) Set.univ (cc0__tc_body i A hA B hB O hO) fun _ =>
          iprop(owns (c : Thread nD τ) A fullShare x ∗ owns (c : Thread nD τ) B fullShare u
            ∗ ∃ X, ⌜∀ y : S1x32x208.Idx, (y 2).val < 200 → X y = blockScores x u y⌝ ∗ owns (c : Thread nD τ) O fullShare X) : sProp 𝕄) := by
  unfold owns cc0__tc_body k0_part1 k0_part2 k0_part3
  simp only [Prog.bind_assoc, Prog.lift, Prog.bind_op, Prog.bind_ret, pure_bind, bind_assoc]
  iintro ⟨⟨%fa, %ha, HA⟩, ⟨%fb, %hb, HB⟩, ⟨%fo, %ho, HO⟩⟩
  iapply (wp_load_rect 𝒱₀ (c : Thread nD τ) none Set.univ (m := B) (r := rowU 0) (View.set_slice_subset _ _)) $$ HB
  iintro HB
  iapply (wp_load_rect 𝒱₀ (c : Thread nD τ) none Set.univ (m := A) (r := rowX 0) (View.set_slice_subset _ _)) $$ HA
  iintro HA
  iapply (wp_load_rect 𝒱₀ (c : Thread nD τ) none Set.univ (m := O) (r := cols 0 inb_S1x32x208_S1x32x50_0_0_0) (View.set_slice_subset _ _)) $$ HO
  iintro HO
  iapply (wp_store_writes₀ 𝒱₀ (c : Thread nD τ) none Set.univ (m := O) (r := cols 0 inb_S1x32x208_S1x32x50_0_0_0) (w := rowScores ((A.access (rowX 0)).read (Elt F) fa) ((B.access (rowU 0)).read (Elt F) fb)) (View.set_slice_subset _ _)) $$ HO
  iintro HO
  iapply (wp_load_rect 𝒱₀ (c : Thread nD τ) none Set.univ (m := B) (r := rowU 1) (View.set_slice_subset _ _)) $$ HB
  iintro HB
  iapply (wp_load_rect 𝒱₀ (c : Thread nD τ) none Set.univ (m := A) (r := rowX 1) (View.set_slice_subset _ _)) $$ HA
  iintro HA
  iapply (wp_load_rect 𝒱₀ (c : Thread nD τ) none Set.univ (m := O) (r := cols 50 inb_S1x32x208_S1x32x50_0_0_50) (View.set_slice_subset _ _)) $$ HO
  iintro HO
  iapply (wp_store_writes 𝒱₀ (c : Thread nD τ) none Set.univ (m := O) (r := cols 50 inb_S1x32x208_S1x32x50_0_0_50) (w := rowScores ((A.access (rowX 1)).read (Elt F) fa) ((B.access (rowU 1)).read (Elt F) fb)) (View.set_slice_subset _ _)) $$ HO
  iintro HO
  iapply (wp_load_rect 𝒱₀ (c : Thread nD τ) none Set.univ (m := B) (r := rowU 2) (View.set_slice_subset _ _)) $$ HB
  iintro HB
  iapply (wp_load_rect 𝒱₀ (c : Thread nD τ) none Set.univ (m := A) (r := rowX 2) (View.set_slice_subset _ _)) $$ HA
  iintro HA
  iapply (wp_load_rect 𝒱₀ (c : Thread nD τ) none Set.univ (m := O) (r := cols 100 inb_S1x32x208_S1x32x50_0_0_100) (View.set_slice_subset _ _)) $$ HO
  iintro HO
  iapply (wp_store_writes 𝒱₀ (c : Thread nD τ) none Set.univ (m := O) (r := cols 100 inb_S1x32x208_S1x32x50_0_0_100) (w := rowScores ((A.access (rowX 2)).read (Elt F) fa) ((B.access (rowU 2)).read (Elt F) fb)) (View.set_slice_subset _ _)) $$ HO
  iintro HO
  iapply (wp_load_rect 𝒱₀ (c : Thread nD τ) none Set.univ (m := B) (r := rowU 3) (View.set_slice_subset _ _)) $$ HB
  iintro HB
  iapply (wp_load_rect 𝒱₀ (c : Thread nD τ) none Set.univ (m := A) (r := rowX 3) (View.set_slice_subset _ _)) $$ HA
  iintro HA
  iapply (wp_load_rect 𝒱₀ (c : Thread nD τ) none Set.univ (m := O) (r := cols 150 inb_S1x32x208_S1x32x50_0_0_150) (View.set_slice_subset _ _)) $$ HO
  iintro HO
  iapply (wp_store_writes 𝒱₀ (c : Thread nD τ) none Set.univ (m := O) (r := cols 150 inb_S1x32x208_S1x32x50_0_0_150) (w := rowScores ((A.access (rowX 3)).read (Elt F) fa) ((B.access (rowU 3)).read (Elt F) fb)) (View.set_slice_subset _ _)) $$ HO
  iintro HO
  rw [wp_pure]; imodintro
  isplitl [HA]
  · iexists fa; isplitr; · ipureintro; exact ha
    iexact HA
  isplitl [HB]
  · iexists fb; isplitr; · ipureintro; exact hb
    iexact HB
  iexists (O.view.read (Elt F) (four O fo fun j => rowScores ((A.access (rowX j)).read (Elt F) fa) ((B.access (rowU j)).read (Elt F) fb)))
  isplitr
  · ipureintro
    intro y hy
    rw [read_four O fo _ y hy]
    subst ha hb
    rfl
  iexists _; isplitr; · ipureintro; exact rfl
  iexact HO

end Cert.Proof.Scores
-- ==== Proof.ScoresRun.lean ====
module

public import proofs.«01_k».proof.Proof.Scores
public import Idealize.ShloMosaic.Lib.Pipeline.Regions

/-!
The run of the TensorCore kernel over its grid: at each of the 32 points a block of four rows of the batch is fetched and a block of scores
written back, so that at the end the first 200 columns of every block of the scores are computed.
-/

@[expose] public section

noncomputable section

namespace Cert.Proof.Scores

open Cert.KernelIdeal Cert.KernelIdeal.Gen Cert.Proof
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe

variable {F : FTy → Type} [FloatOps F]

local notation "𝕄" => MT nD τ sig (HIx 2) (Elt F) ℕ UU ℕ

/-! ## The scores of the whole batch -/

/-- Row `i` of block `w` of the tokens and of the users, and a place in a block of scores. -/
abbrev blkX (w : Fin 32) (i : S4x50x32x128.Idx) : S128x50x32x128.Idx := fun a => match a with
  | 0 => (⟨w.val * 4 + (i 0).val, by have := w.isLt; have : (i 0).val < 4 := (i 0).isLt; show _ < 128; omega⟩ : Fin 128)
  | 1 => (i 1 : Fin 50) | 2 => (i 2 : Fin 32) | 3 => (i 3 : Fin 128)
abbrev blkU (w : Fin 32) (i : S4x1x128.Idx) : S128x1x128.Idx := fun a => match a with
  | 0 => (⟨w.val * 4 + (i 0).val, by have := w.isLt; have : (i 0).val < 4 := (i 0).isLt; show _ < 128; omega⟩ : Fin 128)
  | 1 => (i 1 : Fin 1) | 2 => (i 2 : Fin 128)
abbrev inBlk (y : S32x32x208.Idx) : S1x32x208.Idx := fun a => match a with
  | 0 => (0 : Fin 1) | 1 => (y 1 : Fin 32) | 2 => (y 2 : Fin 208)
abbrev ofBlk (w : Fin 32) (y : S1x32x208.Idx) : S32x32x208.Idx := fun a => match a with
  | 0 => (w : Fin 32) | 1 => (y 1 : Fin 32) | 2 => (y 2 : Fin 208)

/-- The scores of all the blocks. -/
def allScores (X : S128x50x32x128.Idx → F .f32) (U : S128x1x128.Idx → F .f32) : S32x32x208.Idx → F .f32 := fun y =>
  blockScores (fun i => X (blkX (y 0) i)) (fun i => U (blkU (y 0) i)) (inBlk y)

variable (m : (l : Loc nD τ sig) → Buf (Elt F) l)

/-- `f` holds the scores in its first 200 columns. -/
def Good (d : Dev nD) (f : S32x32x208.Idx → F .f32) : Prop := ∀ y, (y 2).val < 200 →
  f y = allScores (m ((d : Thread nD τ).loc main_arg0) : S128x50x32x128.Idx → F .f32) (m ((d : Thread nD τ).loc main_arg2) : S128x1x128.Idx → F .f32) y

/-! ## The data of the pipeline -/

abbrev adm : (p : Fin 1) → (pcfgs (F := F) p).Adm := fun p => (cfgs p).toPCfg_adm

/-- What the kernel may leave in a window's buffer at a point: the inputs as found, the scores computed. -/
def left (d : Dev nD) (w : Fin 3) (t : Fin grid0.N) (Y X : (spec0 w).block.Idx → Elt F (spec0 w).elt) : Prop :=
  match w with
  | 0 => X = Y
  | 1 => X = Y
  | 2 => ∀ y : S1x32x208.Idx, (y 2).val < 200 → X y =
      allScores (m ((d : Thread nD τ).loc main_arg0) : S128x50x32x128.Idx → F .f32) (m ((d : Thread nD τ).loc main_arg2) : S128x1x128.Idx → F .f32) (ofBlk (t.cast N_0) y)

def rdat (p : Fin 1) (d : Dev nD) : Pipeline.RDat τ (Elt F) (HIx 2) ℕ UU ℕ (Pipeline.pin (pcfgs (F := F)) adm p) d :=
  match p with
  | 0 =>
    { A := fun w => m ((cfg0.win w).arr.view.loc (d : Thread nD τ))
      after := left m d
      Φ := fun _ => iprop(emp)
      q := fun _ => fullShare
      owed := fun _ => (K (F := F)).Otc d 0
      recorded := fun _ => {p | (K (F := F)).lev ((d : Thread nD τ), p.1) p.2 ≤ 0} }

theorem coord (t : Fin grid0.N) : (grid0.coords t 0).val = t.val := by
  revert t; decide

theorem place0 (t : Fin grid0.N) (i : S4x50x32x128.Idx) : (win0_0.blk t).view.emb i = blkX (t.cast N_0) i := by
  have ht : t.val < 32 := lt_of_lt_of_eq t.isLt N_0
  refine funext fun a => Fin.ext ?_
  match a with
  | 0 => show (BitVec.ofNat 32 (grid0.coords t 0).val).toNat * 4 + 1 * (i 0).val = t.val * 4 + (i 0).val
         rw [coord, BitVec.toNat_ofNat]; omega
  | 1 => show 0 * 50 + 1 * (i 1).val = (i 1).val; omega
  | 2 => show 0 * 32 + 1 * (i 2).val = (i 2).val; omega
  | 3 => show 0 * 128 + 1 * (i 3).val = (i 3).val; omega

theorem blk0 (d : Dev nD) (t : Fin grid0.N) (z : S4x50x32x128.Idx → F .f32) :
    (rdat m 0 d).fetched 0 t z = fun i => (m ((d : Thread nD τ).loc main_arg0) : S128x50x32x128.Idx → F .f32) (blkX (t.cast N_0) i) := by
  funext i
  refine (show (rdat m 0 d).fetched 0 t z i = win0_0.fill (grid0.coords t) z ((rdat m 0 d).blockOf 0 t) i from rfl).trans
    ((win0_0.fill_xinj (grid0.coords t) z ((rdat m 0 d).blockOf 0 t) i).trans ?_)
  exact congrArg (m ((d : Thread nD τ).loc main_arg0) : S128x50x32x128.Idx → F .f32) (place0 t i)

theorem place1 (t : Fin grid0.N) (i : S4x1x128.Idx) : (win0_1.blk t).view.emb i = blkU (t.cast N_0) i := by
  have ht : t.val < 32 := lt_of_lt_of_eq t.isLt N_0
  refine funext fun a => Fin.ext ?_
  match a with
  | 0 => show (BitVec.ofNat 32 (grid0.coords t 0).val).toNat * 4 + 1 * (i 0).val = t.val * 4 + (i 0).val
         rw [coord, BitVec.toNat_ofNat]; omega
  | 1 => show 0 * 1 + 1 * (i 1).val = (i 1).val; omega
  | 2 => show 0 * 128 + 1 * (i 2).val = (i 2).val; omega

theorem blk1 (d : Dev nD) (t : Fin grid0.N) (z : S4x1x128.Idx → F .f32) :
    (rdat m 0 d).fetched 1 t z = fun i => (m ((d : Thread nD τ).loc main_arg2) : S128x1x128.Idx → F .f32) (blkU (t.cast N_0) i) := by
  funext i
  refine (show (rdat m 0 d).fetched 1 t z i = win0_1.fill (grid0.coords t) z ((rdat m 0 d).blockOf 1 t) i from rfl).trans
    ((win0_1.fill_xinj (grid0.coords t) z ((rdat m 0 d).blockOf 1 t) i).trans ?_)
  exact congrArg (m ((d : Thread nD τ).loc main_arg2) : S128x1x128.Idx → F .f32) (place1 t i)

/-- A place of a block of scores in the array. -/
theorem blk2 (t : Fin grid0.N) (y : S1x32x208.Idx) : (win0_2.blk t).view.emb y = ofBlk (t.cast N_0) y := by
  have ht : t.val < 32 := lt_of_lt_of_eq t.isLt N_0
  refine funext fun a => Fin.ext ?_
  match a with
  | 0 => show (BitVec.ofNat 32 (grid0.coords t 0).val).toNat * 1 + 1 * (y 0).val = t.val
         have : (y 0).val < 1 := (y 0).isLt
         rw [coord, BitVec.toNat_ofNat]; omega
  | 1 => show 0 * 32 + 1 * (y 1).val = (y 1).val; omega
  | 2 => show 0 * 208 + 1 * (y 2).val = (y 2).val; omega

/-! ## The kernel at a point meets the data -/

theorem obligation (d : Dev nD) : (rdat m 0 d).BodyObligation (defs₀ (F := F)) 𝒱₀ none Set.univ := by
  intro t Y hY
  obtain ⟨z0, h0⟩ := ((rdat m 0 d).finds_of_fetch (fetch0_0 t) _).mp (hY 0)
  obtain ⟨z1, h1⟩ := ((rdat m 0 d).finds_of_fetch (fetch0_1 t) _).mp (hY 1)
  rw [show (rdat m 0 d).fetched 0 t z0 = _ from blk0 m d t z0] at h0
  rw [show (rdat m 0 d).fetched 1 t z1 = _ from blk1 m d t z1] at h1
  have hb := body (F := F) d (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (Y 0) (Y 1) (Y 2)
  rw [show (bigSep Finset.univ fun w : Fin 3 => (owns (d : Thread nD τ) ((cfg0.win w).stage (cfg0.slots t w)) fullShare (Y w) : sProp 𝕄)) = _ from bigSep_W0 _]
  change iprop(emp ∗ (rdat m 0 d).owesAt none t.castSucc ∗ _) ⊢ wp _ _ _ _ fun _ => iprop(emp ∗ (rdat m 0 d).owesAt none t.castSucc ∗ _)
  iintro ⟨HΦ, HW, H1, H2, H3⟩
  ihave Hw := hb $$ [H1 H2 H3]
  · isplitl [H1]; · iexact H1
    isplitl [H2] <;> iassumption
  iapply (wp_wand frame _ _) $$ Hw
  iintro %_ ⟨HA, HB, %X, %hX, HO⟩
  rw [show (bigSep Finset.univ fun w : Fin 3 => iprop(∃ X, ⌜(rdat m 0 d).after w t (Y w) X⌝ ∗ owns (d : Thread nD τ) ((cfg0.win w).stage (cfg0.slots t w)) fullShare X : sProp 𝕄)) = _ from bigSep_W0 _]
  isplitl [HΦ]; · iexact HΦ
  isplitl [HW]; · iexact HW
  isplitl [HA]
  · iexists _; isplitr; · ipureintro; rfl
    iexact HA
  isplitl [HB]
  · iexists _; isplitr; · ipureintro; rfl
    iexact HB
  iexists X; isplitr
  · ipureintro
    intro y hy
    rw [hX y hy, h0, h1]
    refine congrArg _ (funext fun a => Fin.ext ?_)
    match a with
    | 0 => have : (y 0).val < 1 := (y 0).isLt
           show (y 0).val = 0; omega
    | 1 => rfl
    | 2 => rfl
  iexact HO

/-! ## The array of scores at the end -/

theorem arr_good (d : Dev nD) : ∀ n, n ≤ 32 → ∀ G : S32x32x208.Idx → F .f32, (rdat m 0 d).ArrAt 2 n G → ∀ y : S32x32x208.Idx, (y 0).val < n → (y 2).val < 200 →
    G y = allScores (m ((d : Thread nD τ).loc main_arg0) : S128x50x32x128.Idx → F .f32) (m ((d : Thread nD τ).loc main_arg2) : S128x1x128.Idx → F .f32) y
  | 0, _, _, _, y, h, _ => absurd h (Nat.not_lt_zero _)
  | n + 1, hn, G, hG, y, hy, h2 => by
    have hN : n < grid0.N := by rw [N_0]; omega
    have hs : (rdat m 0 d).ArrStep 2 ⟨n, hN⟩ ((rdat m 0 d).ArrAt 2 n) G := by
      have := hG
      unfold Pipeline.RDat.ArrAt at this
      rw [dif_pos (show n < (Pipeline.pin (pcfgs (F := F)) adm 0).N from hN)] at this
      exact (congrFun (if_pos (flush0_2 ⟨n, hN⟩)) G).mp this
    obtain ⟨G₀, X, hG₀, ⟨Y, -, hX⟩, rfl⟩ := hs
    by_cases h : (y 0).val = n
    · have he : y = (win0_2.blk ⟨n, hN⟩).view.emb (inBlk y) := by
        rw [blk2]
        refine funext fun a => Fin.ext ?_
        match a with
        | 0 => exact h
        | 1 => rfl
        | 2 => rfl
      have hw : (win0_2.blk ⟨n, hN⟩).view.write (Elt F) G₀ (win0_2.cut (grid0.coords ⟨n, hN⟩) X) Finset.univ ((win0_2.blk ⟨n, hN⟩).view.emb (inBlk y)) = X (inBlk y) :=
        View.write_emb_of_mem _ _ (Finset.mem_univ _)
      refine (congrArg _ he).trans (hw.trans ((hX (inBlk y) h2).trans (congrArg _ ?_)))
      rw [← blk2]; exact he.symm
    · refine (View.write_of_not_mem _ _ _ fun hm => h ?_).trans (arr_good d n (by omega) G₀ hG₀ y (by omega) h2)
      obtain ⟨x, -, hx⟩ := Finset.mem_map.mp hm
      rw [← hx]
      exact congrArg (fun z : S32x32x208.Idx => (z 0).val) (blk2 ⟨n, hN⟩ x)

theorem arr_end (d : Dev nD) (G : S32x32x208.Idx → F .f32) (h : (rdat m 0 d).ArrAt 2 grid0.N G) : Good m d G := fun y hy =>
  arr_good m d 32 le_rfl G (by rw [N_0] at h; exact h) y (y 0).isLt hy

/-! ## The region -/

abbrev xLoc (d : Dev nD) : Loc nD τ sig := (d : Thread nD τ).loc main_arg0
abbrev uLoc (d : Dev nD) : Loc nD τ sig := (d : Thread nD τ).loc main_arg2
abbrev aLoc (d : Dev nD) : Loc nD τ sig := (d : Thread nD τ).loc main_v0

/-- What the core owes the SparseCores before the first call, its waits recorded. -/
abbrev oweTc (d : Dev nD) : sProp 𝕄 := iprop(∃ W, ⌜(K (F := F)).WBelow (T d) W 0⌝ ∗ owes (T d) ((K (F := F)).Otc d 0) W)

theorem Otc_none (d : Dev nD) (g : GSem nD τ sig) : (K (F := F)).Otc d 0 g none = 0 := by
  by_contra h
  have := (K (F := F)).lev_of_Otc_pos (Nat.pos_of_ne_zero h)
  rw [SparseCore.Cfg.lev_none] at this; omega

theorem arrays_eq (d : Dev nD) : (rdat m 0 d).arrays (rdat m 0 d).A
    = (iprop((xLoc d ↦{fullShare} m (xLoc d)) ∗ (uLoc d ↦{fullShare} m (uLoc d)) ∗ aLoc d ↦{fullShare} m (aLoc d)) : sProp 𝕄) := by
  have h : (rdat m 0 d).arrays (rdat m 0 d).A = (bigSep Finset.univ fun w : Fin 3 => (((d : Thread nD τ).loc (Pipeline.arrRef spec0 w)) ↦{fullShare} m ((d : Thread nD τ).loc (Pipeline.arrRef spec0 w)) : sProp 𝕄)) := by
    unfold Pipeline.RDat.arrays
    refine bigSep_congr fun w _ => ?_
    rw [(arr_whole0 w).set_eq_univ, show (rdat m 0 d).share w = fullShare from by unfold Pipeline.RDat.share; split <;> rfl]
    rfl
  rw [h, bigSep_W0]

theorem arraysAt_eq (d : Dev nD) (n : ℕ) : (rdat m 0 d).arraysAt n
    = (iprop((∃ f, ⌜(rdat m 0 d).ArrAt 0 n f⌝ ∗ xLoc d ↦{fullShare} f) ∗ (∃ f, ⌜(rdat m 0 d).ArrAt 1 n f⌝ ∗ uLoc d ↦{fullShare} f)
        ∗ ∃ f, ⌜(rdat m 0 d).ArrAt 2 n f⌝ ∗ aLoc d ↦{fullShare} f) : sProp 𝕄) := by
  have h : (rdat m 0 d).arraysAt n = (bigSep Finset.univ fun w : Fin 3 =>
      (iprop(∃ f, ⌜(rdat m 0 d).ArrAt w n f⌝ ∗ ((d : Thread nD τ).loc (Pipeline.arrRef spec0 w)) ↦{fullShare} f) : sProp 𝕄)) :=
    Pipeline.RDat.arraysAt_eq (pcfgs (F := F)) adm (rdat m) 0 d arr_whole0
      (fun w => by unfold Pipeline.RDat.share; split <;> rfl) n
  rw [h, bigSep_W0]
  rfl

/-- The kernel has no semaphore of its own. -/
def noSem : Fin 0 → SemLoc sig := fun k => k.elim0
theorem noSem_facts : Pipeline.OwnSemFacts spec0 noSem := by decide

set_option backward.isDefEq.respectTransparency.types false in
/-- The region: entered from the arguments, the array of scores and what the core owes, left with the scores computed. -/
def reg : Pipeline.RDat.RegionSeg (pcfgs (F := F)) adm (rdat m) none (defs₀ (F := F)) 𝒱₀ (K (F := F)).L (K (F := F)).lev 0 where
  win := launch0.win.to₀
  block_pos := launch0.block_pos
  stage_whole := launch0.stage_whole
  K := Fin 0
  osem := noSem
  ho := noSem_facts
  hbody d := obligation m d
  hwaits d := Pipeline.RDat.cellsWaits_intro _ _ _ _ _ fun w s t => (K (F := F)).mayWait_none _ (Otc_none d)
  pre d := iprop((xLoc d ↦{fullShare} m (xLoc d)) ∗ (uLoc d ↦{fullShare} m (uLoc d)) ∗ (aLoc d ↦{fullShare} m (aLoc d)) ∗ oweTc d)
  post d := iprop((xLoc d ↦{fullShare} m (xLoc d)) ∗ (uLoc d ↦{fullShare} m (uLoc d)) ∗ (∃ f, ⌜Good m d f⌝ ∗ aLoc d ↦{fullShare} f) ∗ oweTc d)
  X _ := iprop(emp)
  Y _ := iprop(emp)
  Z _ := iprop(emp)
  hentry d := by
    rw [arrays_eq]
    iintro ⟨⟨Hx, Hu, Ha, %W, %hW, HO⟩, -, -⟩
    imodintro
    isplitl [Hx Hu Ha]
    · isplitl [Hx]; · iexact Hx
      isplitl [Hu] <;> iassumption
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitl <;> iempintro
  hin d := by
    rw [show (rdat m 0 d).Φ 0 = iprop(emp) from rfl]
    iintro -
    iempintro
  hout d := by
    rw [show (rdat m 0 d).Φ (Fin.last _) = iprop(emp) from rfl, scopedRest0_eq]
    unfold Pipeline.ownSems0
    rw [show (Finset.univ : Finset (Fin 0)) = ∅ from rfl, BI.bigSep_empty]
    iintro -
    isplitr; · iempintro
    isplitr <;> iempintro
  hexit d := by
    rw [arraysAt_eq]
    iintro ⟨⟨⟨%fx, %hx, Hx⟩, ⟨%fu, %hu, Hu⟩, %f, %hf, Ha⟩, HO, -⟩
    imodintro
    rw [(rdat m 0 d).ArrAt_in 0 rfl] at hx
    rw [(rdat m 0 d).ArrAt_in 1 rfl] at hu
    rw [show fx = m (xLoc d) from hx, show fu = m (uLoc d) from hu]
    isplitl [Hx]; · iexact Hx
    isplitl [Hu]; · iexact Hu
    isplitl [Ha]
    · iexists f; isplitr; · ipureintro; exact arr_end m d f hf
      iexact Ha
    unfold Pipeline.RDat.owesAt Pipeline.owesWithin
    icases HO with ⟨%W, %hW, HO⟩
    iexists W; isplitr
    · ipureintro
      intro p hp
      rcases hW hp with h | ⟨w, s, rfl⟩
      · exact h
      · exact Nat.le_refl 0
    iexact HO

/-- The kernel's call on the TensorCore. -/
theorem call [∀ e, Nonempty (Elt F e)] (d : Dev nD) (Q : PUnit → sProp 𝕄) :
    iprop((iprop(boundary (d : Thread nD τ) ∗ (xLoc d ↦{fullShare} m (xLoc d)) ∗ (uLoc d ↦{fullShare} m (uLoc d)) ∗ (∃ f, ⌜Good m d f⌝ ∗ aLoc d ↦{fullShare} f) ∗ oweTc d)
          -∗ Q ⟨⟩)
        ∗ boundary (d : Thread nD τ) ∗ iprop((xLoc d ↦{fullShare} m (xLoc d)) ∗ (uLoc d ↦{fullShare} m (uLoc d)) ∗ (aLoc d ↦{fullShare} m (aLoc d)) ∗ oweTc d)
        ∗ levAts (K (F := F)).L (K (F := F)).lev
        ∗ Pipeline.cellsGhost cfgs EP 0 d ∗ Pipeline.toksInit cfgs EP 0 d)
      ⊢ wp frame (wpE ((K (F := F)).defs (D (F := F))) 𝒱 (SparseCore.T d) none) Set.univ
          (Prog.lift (.customCall (SparseCore.inner (Pipeline.entry 0)) ())) Q := by
  have h := Pipeline.RDat.RegionSeg.wp (pcfgs (F := F)) adm (rdat m) none cellOf_inj EP defs₀ 𝒱₀ (K (F := F)).L (K (F := F)).lev (reg m) d none
    (fun _ h => nomatch h) (fun u => Prog.ret u) Q
  rw [show (reg m).pre d = iprop((xLoc d ↦{fullShare} m (xLoc d)) ∗ (uLoc d ↦{fullShare} m (uLoc d)) ∗ (aLoc d ↦{fullShare} m (aLoc d)) ∗ oweTc d) from rfl,
    show (reg m).post d = iprop((xLoc d ↦{fullShare} m (xLoc d)) ∗ (uLoc d ↦{fullShare} m (uLoc d)) ∗ (∃ f, ⌜Good m d f⌝ ∗ aLoc d ↦{fullShare} f) ∗ oweTc d) from rfl] at h
  refine BIBase.Entails.trans ?_ (h.trans ((K (F := F)).wp_liftProg (D (F := F)) 𝒱 (SparseCore.T d) Set.univ none _ _))
  iintro ⟨HQ, Hb, Hp, Hl, Hg, Ht⟩
  isplitl [HQ]
  · iintro ⟨Hb, Hpost⟩
    rw [wp_ret]; imodintro
    iapply HQ $$ [Hb Hpost]
    isplitl [Hb]; · iexact Hb
    iexact Hpost
  isplitl [Hb]; · iexact Hb
  isplitl [Hp]; · iexact Hp
  isplitl [Hl]; · iexact Hl
  isplitl [Hg]; · iexact Hg
  iexact Ht

end Cert.Proof.Scores

end
-- ==== Proof.Calls.lean ====
module

public import proofs.«01_k».proof.Proof.BestLocal
public import proofs.«01_k».proof.Proof.BestRun
public import proofs.«01_k».proof.Proof.Run
public import proofs.«01_k».proof.Proof.ScoresRun

/-!
The two SparseCore calls of the program: what each hands its subcores, and what it has back from them.
-/

@[expose] public section

noncomputable section

namespace Cert.Proof.Whole

open Cert.KernelIdeal Cert.KernelIdeal.Gen Cert.Proof
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
variable (m : (ℓ : Loc nD τ sig) → Buf (Elt F) ℓ)

theorem ne_loc (d : Dev nD) {a b : Ref sig .tc} (h : a ≠ b) : (SparseCore.T d : Thread nD τ).loc a ≠ (SparseCore.T d : Thread nD τ).loc b :=
  fun e => h (Proc.devRef_injective Proc.tc (congrArg Prod.snd e))

/-! ## The choice of the best scores -/

/-- The scores the first kernel computes from the arguments. -/
def scores (d : Dev nD) : S32x32x208.Idx → F .f32 := Scores.allScores (m (Scores.xLoc d)) (m (Scores.uLoc d))

/-- A subcore is lent scores that are these in the first 200 columns, and its planes of the results. -/
def bestGoes (d : Dev nD) (w : Fin 32) : sProp 𝕄 :=
  iprop(∃ f, ⌜Scores.Good m d f⌝ ∗ (Best.aLoc d ↦{Best.tok w} f) ∗ Best.planes d w (m (Best.tLoc d)) (m (Best.kLoc d)) (m (Best.xLoc d)))
/-- It gives back those planes, written from such scores. -/
def bestComes (d : Dev nD) (w : Fin 32) : sProp 𝕄 :=
  iprop(∃ f : S32x32x208.Idx → F .f32, ⌜Scores.Good m d f⌝ ∗ Best.planes d w (Best.allTops f) (Best.allKids f) (Best.allIdxs f))

instance bestGoes_storable (d : Dev nD) (w : Fin 32) : BI.Storable (upEmb : UEmb _ 𝕄) (bestGoes m d w) := by unfold bestGoes; infer_instance
instance bestComes_storable (d : Dev nD) (w : Fin 32) : BI.Storable (upEmb : UEmb _ 𝕄) (bestComes m d w) := by unfold bestComes; infer_instance

/-- The arrays with the scores in place. -/
def withScores (d : Dev nD) (f : Buf (Elt F) (Best.aLoc d)) : (ℓ : Loc nD τ sig) → Buf (Elt F) ℓ := Function.update m (Best.aLoc d) f

theorem withScores_a (d : Dev nD) (f : Buf (Elt F) (Best.aLoc d)) : withScores m d f (Best.aLoc d) = f := Function.update_self _ _ _
theorem withScores_t (d : Dev nD) (f : Buf (Elt F) (Best.aLoc d)) : withScores m d f (Best.tLoc d) = m (Best.tLoc d) :=
  Function.update_of_ne (ne_loc d (by decide)) _ _
theorem withScores_k (d : Dev nD) (f : Buf (Elt F) (Best.aLoc d)) : withScores m d f (Best.kLoc d) = m (Best.kLoc d) :=
  Function.update_of_ne (ne_loc d (by decide)) _ _
theorem withScores_x (d : Dev nD) (f : Buf (Elt F) (Best.aLoc d)) : withScores m d f (Best.xLoc d) = m (Best.xLoc d) :=
  Function.update_of_ne (ne_loc d (by decide)) _ _

theorem goes_withScores (d : Dev nD) (f : Buf (Elt F) (Best.aLoc d)) (w : Fin 32) :
    Best.goes (withScores m d f) d w
      = (iprop((Best.aLoc d ↦{Best.tok w} f) ∗ Best.planes d w (m (Best.tLoc d)) (m (Best.kLoc d)) (m (Best.xLoc d))) : sProp 𝕄) := by
  unfold Best.goes Best.lent
  rw [withScores_a, withScores_t, withScores_k, withScores_x]

theorem comes_withScores (d : Dev nD) (f : Buf (Elt F) (Best.aLoc d)) (w : Fin 32) :
    Best.comes (withScores m d f) d w
      = (iprop((Best.aLoc d ↦{Best.tok w} f) ∗ Best.planes d w (Best.allTops (F := F) (f : S32x32x208.Idx → F .f32))
          (Best.allKids (F := F) (f : S32x32x208.Idx → F .f32)) (Best.allIdxs (F := F) (f : S32x32x208.Idx → F .f32))) : sProp 𝕄) := by
  unfold Best.comes Best.lent Best.resT Best.resK Best.resX
  rw [withScores_a]

/-! ## The gather -/

/-- The arrays with the rows and the scores that were chosen in place. -/
def withChoice (d : Dev nD) : (ℓ : Loc nD τ sig) → Buf (Elt F) ℓ :=
  Function.update (Function.update m (Gather.gLoc d) (Best.outG (scores m d))) (Gather.sLoc d) (Best.outS (scores m d))

theorem withChoice_s (d : Dev nD) : withChoice m d (Gather.sLoc d) = Best.outS (scores m d) := Function.update_self _ _ _
theorem withChoice_g (d : Dev nD) : withChoice m d (Gather.gLoc d) = Best.outG (scores m d) :=
  (Function.update_of_ne (ne_loc d (by decide)) _ _).trans (Function.update_self _ _ _)
theorem withChoice_a (d : Dev nD) : withChoice m d (Gather.aLoc d) = m (Gather.aLoc d) :=
  (Function.update_of_ne (ne_loc d (by decide)) _ _).trans (Function.update_of_ne (ne_loc d (by decide)) _ _)
theorem withChoice_o (d : Dev nD) : withChoice m d (Gather.oLoc d) = m (Gather.oLoc d) :=
  (Function.update_of_ne (ne_loc d (by decide)) _ _).trans (Function.update_of_ne (ne_loc d (by decide)) _ _)

theorem choice_ok (d : Dev nD) : Gather.PreOK (withChoice m d) := by
  intro d' j
  obtain rfl : d' = d := Subsingleton.elim (α := Fin 1) d' d
  rw [withChoice_g]
  exact Best.outG_lt _ j

/-- The table, and the rows gathered from it. -/
def table (d : Dev nD) : S204800x128.Idx → F .f32 := shapeCast S204800x128 (m (Gather.aLoc d) : S128x50x32x128.Idx → F .f32) shapeCasts_S128x50x32x128_S204800x128
def rows (d : Dev nD) : S32000x128.Idx → F .f32 := Gather.gathered (table m d) (Best.outG (scores m d)) (Best.outS (scores m d))

theorem tab_withChoice (d : Dev nD) : Gather.tab (withChoice m d) d = table m d := by
  unfold Gather.tab table; rw [withChoice_a]
theorem res_withChoice (d : Dev nD) : Gather.res (withChoice m d) d = rows m d := by
  unfold Gather.res rows; rw [tab_withChoice, withChoice_g, withChoice_s]

theorem lent_withChoice (d : Dev nD) (q : PosShare TreeShare) : Gather.lent (withChoice m d) d q
    = (iprop((Gather.gLoc d ↦{q} Best.outG (scores m d)) ∗ (Gather.sLoc d ↦{q} Best.outS (scores m d)) ∗ Gather.xLoc d ↦{q} table m d) : sProp 𝕄) := by
  unfold Gather.lent
  rw [withChoice_g, withChoice_s, tab_withChoice]

/-! ## What the calls carry -/

def P : (K (F := F)).Pay (nD := nD) (Val := Elt F) (Name := ℕ) (U := UU) where
  st := fun q d c => match q with
    | 0 => bigSep Finset.univ fun s : Fin ((K (F := F)).nSub 0) => bestGoes m d (Best.no c s)
    | 1 => bigSep Finset.univ fun s : Fin ((K (F := F)).nSub 1) => Gather.goes (withChoice m d) d (Gather.no c s)
  dn := fun q d c => match q with
    | 0 => bigSep Finset.univ fun s : Fin ((K (F := F)).nSub 0) => bestComes m d (Best.no c s)
    | 1 => bigSep Finset.univ fun s : Fin ((K (F := F)).nSub 1) => Gather.comes (withChoice m d) d (Gather.no c s)
  go := fun q d c s => match q with
    | 0 => bestGoes m d (Best.no c s)
    | 1 => Gather.goes (withChoice m d) d (Gather.no c s)
  td := fun q d c s => match q with
    | 0 => bestComes m d (Best.no c s)
    | 1 => Gather.comes (withChoice m d) d (Gather.no c s)
  x := fun _ _ => iprop(emp)

instance P_storable : (P (F := F) m).IsStorable where
  st q d c := match q with
    | 0 => (inferInstance : BI.Storable (upEmb : UEmb _ 𝕄) (bigSep Finset.univ fun s : Fin ((K (F := F)).nSub 0) => bestGoes m d (Best.no c s)))
    | 1 => (inferInstance : BI.Storable (upEmb : UEmb _ 𝕄) (bigSep Finset.univ fun s : Fin ((K (F := F)).nSub 1) => Gather.goes (withChoice m d) d (Gather.no c s)))
  dn q d c := match q with
    | 0 => (inferInstance : BI.Storable (upEmb : UEmb _ 𝕄) (bigSep Finset.univ fun s : Fin ((K (F := F)).nSub 0) => bestComes m d (Best.no c s)))
    | 1 => (inferInstance : BI.Storable (upEmb : UEmb _ 𝕄) (bigSep Finset.univ fun s : Fin ((K (F := F)).nSub 1) => Gather.comes (withChoice m d) d (Gather.no c s)))
  go q d c s := match q with
    | 0 => (inferInstance : BI.Storable (upEmb : UEmb _ 𝕄) (bestGoes m d (Best.no c s)))
    | 1 => (inferInstance : BI.Storable (upEmb : UEmb _ 𝕄) (Gather.goes (withChoice m d) d (Gather.no c s)))
  td q d c s := match q with
    | 0 => (inferInstance : BI.Storable (upEmb : UEmb _ 𝕄) (bestComes m d (Best.no c s)))
    | 1 => (inferInstance : BI.Storable (upEmb : UEmb _ 𝕄) (Gather.comes (withChoice m d) d (Gather.no c s)))

/-! ## The tiles' obligations -/

omit [FloatOps F] in
theorem more_waits {t : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

set_option maxRecDepth 16384 in
theorem tileObl_best (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [Best.defs₀_vector]; simp only [SparseCore.onTile, hci, and_self, ↓reduceDIte]
  have hgo : (P m).go 0 d c i = bestGoes m d (Best.no c i) := rfl
  have htd : (P m).td 0 d c i = bestComes m d (Best.no c i) := rfl
  rw [hgo, htd]
  unfold bestGoes
  iintro ⟨Hl, Hx, ⟨%f, %hf, Hgo⟩, Hsb, Hss, HO⟩
  have hb := (Best.tile_body (withScores m d f) hF d (Best.coordsV ⟨_, hci.1⟩ ⟨_, hci.2⟩) (Best.no c i) rfl O W hO).trans
    (wp_mono frame _ _ fun _ => more_waits (q := 0))
  rw [goes_withScores, comes_withScores] at hb
  iapply (wp_wand frame _ _) $$ [Hl Hgo Hsb Hss HO]
  · iapply hb
    isplitl [Hl]; · iexact Hl
    isplitr; · iempintro
    isplitl [Hgo]; · iexact Hgo
    isplitl [Hsb]; · iexact Hsb
    isplitl [Hss]; · iexact Hss
    iexact HO
  iintro %_ ⟨⟨-, Hp⟩, Hr⟩
  isplitl [Hp]
  · unfold bestComes
    iexists f
    isplitr
    · ipureintro; exact hf
    iexact Hp
  iexact Hr

set_option maxRecDepth 16384 in
theorem tileObl_gather (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [Gather.defs₀_vector]; simp only [SparseCore.onTile, hci, and_self, ↓reduceDIte]
  exact (Gather.tile_body (withChoice m d) hF (choice_ok m d) d (Gather.coordsV ⟨_, hci.1⟩ ⟨_, hci.2⟩) (Gather.no c i) rfl O W hO).trans
    (wp_mono frame _ _ fun _ => more_waits)

/-- A SparseCore's share of the arrays is its tiles'. -/
theorem vecSplit_best : (K (F := F)).VecSplit' (P m) 0 := by
  intro d c
  show (bigSep Finset.univ fun s : Fin ((K (F := F)).nSub 0) => bestGoes m d (Best.no c s)) ⊢ |={Set.univ}=> iprop(
      (bigSep Finset.univ fun s : Fin ((K (F := F)).nSub 0) => bestGoes m d (Best.no c s))
      ∗ ((bigSep Finset.univ fun s : Fin ((K (F := F)).nSub 0) => bestComes m d (Best.no c s))
        -∗ (bigSep Finset.univ fun s : Fin ((K (F := F)).nSub 0) => bestComes m d (Best.no c s))))
  iintro H; imodintro
  isplitl [H]; · iexact H
  iintro H; iexact H

theorem vecSplit_gather : (K (F := F)).VecSplit' (P m) 1 := by
  intro d c
  show (bigSep Finset.univ fun s : Fin ((K (F := F)).nSub 1) => Gather.goes (withChoice m d) d (Gather.no c s)) ⊢ |={Set.univ}=> iprop(
      (bigSep Finset.univ fun s : Fin ((K (F := F)).nSub 1) => Gather.goes (withChoice m d) d (Gather.no c s))
      ∗ ((bigSep Finset.univ fun s : Fin ((K (F := F)).nSub 1) => Gather.comes (withChoice m d) d (Gather.no c s))
        -∗ (bigSep Finset.univ fun s : Fin ((K (F := F)).nSub 1) => Gather.comes (withChoice m d) d (Gather.no c s))))
  iintro H; imodintro
  isplitl [H]; · iexact H
  iintro H; iexact H

/-! ## The calls, seen from the TensorCore -/

/-- The choice takes the scores and the arrays of its results, -/
theorem best_deal (d : Dev nD) (f : Buf (Elt F) (Best.aLoc d)) (hf : Scores.Good m d f) :
    iprop((Best.aLoc d ↦{fullShare} f) ∗ (Best.tLoc d ↦{fullShare} m (Best.tLoc d)) ∗ (Best.kLoc d ↦{fullShare} m (Best.kLoc d))
        ∗ Best.xLoc d ↦{fullShare} m (Best.xLoc d))
      ⊢ (bigSep Finset.univ fun c : Fin ((K (F := F)).nCore 0) => (P m).st 0 d c : sProp 𝕄) := by
  have h : iprop((bigSep Finset.univ fun w : Fin 32 => (Best.aLoc d ↦{Best.tok w} f)) ∗ (Best.tLoc d ↦{fullShare} m (Best.tLoc d)) ∗ (Best.kLoc d ↦{fullShare} m (Best.kLoc d))
        ∗ Best.xLoc d ↦{fullShare} m (Best.xLoc d))
      ⊢ (bigSep Finset.univ fun w : Fin 32 => bestGoes m d w : sProp 𝕄) := by
    rw [← Best.all_T, ← Best.all_K, ← Best.all_X, ← bigSep_sep', ← bigSep_sep', ← bigSep_sep']
    refine bigSep_mono fun w _ => ?_
    unfold bestGoes
    show (_ : sProp 𝕄) ⊢ _
    iintro H
    iexists f
    isplitr
    · ipureintro; exact hf
    iexact H
  refine BIBase.Entails.trans ?_ (h.trans (Entails.of_eq (Best.by_core (F := F) fun w => bestGoes m d w).symm))
  iintro ⟨Ha, H⟩
  have l := (Transfers.pointsTo_toks (Val := Elt F) (Name := ℕ) (U := UU) (Ix := HIx 2) (Lvl := ℕ) (ℓ := Best.aLoc d) (S := Finset.univ) (f := f) fullShare 32).1
  ihave Ha' := l $$ Ha
  icases Ha' with ⟨-, Ha⟩
  isplitl [Ha] <;> iassumption

/-- The results of the choice, in the columns that are not padding. -/
structure Chosen (d : Dev nD) (fT : S32x5x208.Idx → F .f32) (fK fX : S32x5x208.Idx → BitVec 32) : Prop where
  tops : ∀ y, (y 2).val < 200 → fT y = Best.allTops (scores m d) y
  kids : ∀ y, (y 2).val < 200 → fK y = Best.allKids (scores m d) y
  idxs : ∀ y, (y 2).val < 200 → fX y = Best.allIdxs (scores m d) y

/-- and gives the chosen back. -/
theorem best_collect [∀ e, Nonempty (Elt F e)] (d : Dev nD) : (bigSep Finset.univ fun c : Fin ((K (F := F)).nCore 0) => (P m).dn 0 d c : sProp 𝕄)
    ⊢ iprop(∃ (fT : Buf (Elt F) (Best.tLoc d)) (fK : Buf (Elt F) (Best.kLoc d)) (fX : Buf (Elt F) (Best.xLoc d)), ⌜Chosen m d fT fK fX⌝
        ∗ (Best.tLoc d ↦{fullShare} fT) ∗ (Best.kLoc d ↦{fullShare} fK) ∗ Best.xLoc d ↦{fullShare} fX) := by
  refine (Entails.of_eq (Best.by_core (F := F) fun w => bestComes m d w)).trans ?_
  unfold bestComes
  haveI : Nonempty (F .f32) := (inferInstance : Nonempty (Elt F .f32))
  iintro H
  ihave H := (BI.bigSep_exists_pi Finset.univ (fun (w : Fin 32) (f : S32x32x208.Idx → F .f32) =>
    (iprop(⌜Scores.Good m d f⌝ ∗ Best.planes d w (Best.allTops f) (Best.allKids f) (Best.allIdxs f)) : sProp 𝕄))) $$ H
  icases H with ⟨%g, H⟩
  ihave H := (BI.bigSep_pure_sep Finset.univ (fun w : Fin 32 => Scores.Good m d (g w)) (fun w : Fin 32 =>
    (Best.planes d w (Best.allTops (g w)) (Best.allKids (g w)) (Best.allIdxs (g w)) : sProp 𝕄))) $$ H
  icases H with ⟨%hg, H⟩
  have key : (bigSep Finset.univ fun w : Fin 32 => (Best.planes d w (Best.allTops (g w)) (Best.allKids (g w)) (Best.allIdxs (g w)) : sProp 𝕄))
      = iprop((Best.tLoc d ↦{fullShare} (fun y : S32x5x208.Idx => Best.allTops (g (y 0)) y : S32x5x208.Idx → F .f32))
        ∗ (Best.kLoc d ↦{fullShare} (fun y : S32x5x208.Idx => Best.allKids (g (y 0)) y : S32x5x208.Idx → BitVec 32))
        ∗ Best.xLoc d ↦{fullShare} (fun y : S32x5x208.Idx => Best.allIdxs (g (y 0)) y : S32x5x208.Idx → BitVec 32)) := by
    rw [← Best.all_T, ← Best.all_K, ← Best.all_X, ← bigSep_sep', ← bigSep_sep']
    refine bigSep_congr fun w _ => ?_
    have e : ∀ y : S32x5x208.Idx, y ∈ Best.planeOf w → y 0 = w := fun y hy => Fin.ext (Finset.mem_filter.mp hy).2
    have eT : (Best.tLoc d ↦[Best.planeOf w]{fullShare} (Best.allTops (g w)) : sProp 𝕄)
        = (Best.tLoc d ↦[Best.planeOf w]{fullShare} (fun y : S32x5x208.Idx => Best.allTops (g (y 0)) y : S32x5x208.Idx → F .f32)) := by
      have key : ∀ y : S32x5x208.Idx, y ∈ Best.planeOf w → Best.allTops (g w) y = Best.allTops (g (y 0)) y := fun y hy => by rw [e y hy]
      exact pointsTo_congr key
    have eK : (Best.kLoc d ↦[Best.planeOf w]{fullShare} (Best.allKids (g w)) : sProp 𝕄)
        = (Best.kLoc d ↦[Best.planeOf w]{fullShare} (fun y : S32x5x208.Idx => Best.allKids (g (y 0)) y : S32x5x208.Idx → BitVec 32)) := by
      have key : ∀ y : S32x5x208.Idx, y ∈ Best.planeOf w → Best.allKids (g w) y = Best.allKids (g (y 0)) y := fun y hy => by rw [e y hy]
      exact pointsTo_congr key
    have eX : (Best.xLoc d ↦[Best.planeOf w]{fullShare} (Best.allIdxs (g w)) : sProp 𝕄)
        = (Best.xLoc d ↦[Best.planeOf w]{fullShare} (fun y : S32x5x208.Idx => Best.allIdxs (g (y 0)) y : S32x5x208.Idx → BitVec 32)) := by
      have key : ∀ y : S32x5x208.Idx, y ∈ Best.planeOf w → Best.allIdxs (g w) y = Best.allIdxs (g (y 0)) y := fun y hy => by rw [e y hy]
      exact pointsTo_congr key
    unfold Best.planes
    rw [eT, eK, eX]
  have agree : ∀ (y : S32x5x208.Idx), (y 2).val < 200 → ∀ x : S32x32x208.Idx, (x 2).val = (y 2).val → g (y 0) x = scores m d x :=
    fun y hy x hx => hg (y 0) (Finset.mem_univ _) x (hx ▸ hy)
  ihave H := (Entails.of_eq key) $$ H
  iexists (fun y : S32x5x208.Idx => Best.allTops (g (y 0)) y : S32x5x208.Idx → F .f32)
  iexists (fun y : S32x5x208.Idx => Best.allKids (g (y 0)) y : S32x5x208.Idx → BitVec 32)
  iexists (fun y : S32x5x208.Idx => Best.allIdxs (g (y 0)) y : S32x5x208.Idx → BitVec 32)
  isplitr
  · ipureintro
    exact ⟨fun y hy => Best.tops_same y (agree y hy), fun y hy => Best.kids_same y (agree y hy), fun y hy => Best.idxs_same y (agree y hy)⟩
  iexact H

/-- The gather takes the table, the rows and scores chosen and the array of its result, -/
theorem gather_deal (d : Dev nD) :
    iprop((Gather.xLoc d ↦{fullShare} table m d) ∗ (Gather.gLoc d ↦{fullShare} Best.outG (scores m d)) ∗ (Gather.sLoc d ↦{fullShare} Best.outS (scores m d))
        ∗ Gather.oLoc d ↦{fullShare} m (Gather.oLoc d))
      ⊢ (iprop(Gather.rest (withChoice m d) d ∗ bigSep Finset.univ fun c : Fin ((K (F := F)).nCore 1) => (P m).st 1 d c) : sProp 𝕄) := by
  have e : (bigSep Finset.univ fun c : Fin ((K (F := F)).nCore 1) => (P m).st 1 d c : sProp 𝕄)
      = iprop((bigSep Finset.univ fun w : Fin 32 => Gather.lent (withChoice m d) d (Gather.tok w)) ∗ Gather.oLoc d ↦{fullShare} m (Gather.oLoc d)) := by
    refine (Gather.by_core (F := F) fun w => Gather.goes (withChoice m d) d w).trans ?_
    rw [bigSep_sep', Gather.rows_all, withChoice_o]
  have l := (Gather.lent_all (withChoice m d) d).1
  rw [lent_withChoice m d fullShare] at l
  rw [e]
  iintro ⟨Hx, Hg, Hs, Ho⟩
  ihave H := l $$ [Hx Hg Hs]
  · isplitl [Hg]; · iexact Hg
    isplitl [Hs] <;> iassumption
  icases H with ⟨Hr, H⟩
  isplitl [Hr]; · iexact Hr
  isplitl [H] <;> iassumption

/-- and gives them back, the rows gathered. -/
theorem gather_collect (d : Dev nD) :
    (iprop(Gather.rest (withChoice m d) d ∗ bigSep Finset.univ fun c : Fin ((K (F := F)).nCore 1) => (P m).dn 1 d c) : sProp 𝕄)
      ⊢ iprop((Gather.xLoc d ↦{fullShare} table m d) ∗ (Gather.gLoc d ↦{fullShare} Best.outG (scores m d)) ∗ (Gather.sLoc d ↦{fullShare} Best.outS (scores m d))
        ∗ Gather.oLoc d ↦{fullShare} rows m d) := by
  have e : (bigSep Finset.univ fun c : Fin ((K (F := F)).nCore 1) => (P m).dn 1 d c : sProp 𝕄)
      = iprop((bigSep Finset.univ fun w : Fin 32 => Gather.lent (withChoice m d) d (Gather.tok w)) ∗ Gather.oLoc d ↦{fullShare} rows m d) := by
    refine (Gather.by_core (F := F) fun w => Gather.comes (withChoice m d) d w).trans ?_
    rw [bigSep_sep', Gather.rows_all, res_withChoice]
  have l := (Gather.lent_all (withChoice m d) d).2
  rw [lent_withChoice m d fullShare] at l
  rw [e]
  iintro ⟨Hr, H, Ho⟩
  ihave H := l $$ [Hr H]
  · isplitl [Hr] <;> iassumption
  icases H with ⟨Hg, Hs, Hx⟩
  isplitl [Hx]; · iexact Hx
  isplitl [Hg]; · iexact Hg
  isplitl [Hs] <;> iassumption

end Cert.Proof.Whole

end
-- ==== Proof.Whole.lean ====
module

public import proofs.«01_k».proof.Proof.Calls

/-!
The whole program: the scores, the choice, the host's operations on it, the gather.
-/

@[expose] public section

noncomputable section

namespace Cert.Proof.Whole

open Cert.KernelIdeal Cert.KernelIdeal.Gen Cert.Proof
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq wp_seq held_sub_split held_congr)

variable {F : FTy → Type} [FloatOps F]

local notation "𝕄" => MT nD τ sig (HIx 2) (Elt F) ℕ UU ℕ
variable (m : (ℓ : Loc nD τ sig) → Buf (Elt F) ℓ) (ρ : Dev nD → PrngReg)

/-! ## The ghost state at the launch -/

def u₀ : UU := (initOf (K (F := F)).hsCells (K (F := F)).hsToks, (initOf (Pipeline.cells cfgs cellOf_inj) (Pipeline.launchToks cfgs cellOf_inj), 1))

/-- The staging cells of the first kernel. -/
def G (d : Dev nD) : sProp 𝕄 := iprop(Pipeline.cellsGhost cfgs EP 0 d ∗ Pipeline.toksInit cfgs EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun t : Thread nD τ => bigSep Finset.univ fun q : Fin 2 => (P m).x q t) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj) : UP) (1 : Counters)) $$ HR
  icases H with ⟨HP, -⟩
  have hg := Pipeline.fund_ghost (Ix := HIx 2) (Val := Elt F) (Name := ℕ) (Lvl := ℕ) cfgs (EP (F := F)) cellOf_inj
  have hc : (bigSep Finset.univ fun c : Dev nD => bigSep Finset.univ fun p => (Pipeline.cellsGhost cfgs (EP (F := F)) p c : sProp 𝕄))
      = bigSep Finset.univ fun c : Dev nD => Pipeline.cellsGhost cfgs EP 0 c := bigSep_congr fun _ _ => bigSep_univ_of_subsingleton (0 : Fin 1)
  have ht : (bigSep Finset.univ fun c : Dev nD => bigSep Finset.univ fun p => (Pipeline.toksInit cfgs (EP (F := F)) p c : sProp 𝕄))
      = bigSep Finset.univ fun c : Dev nD => Pipeline.toksInit cfgs EP 0 c := bigSep_congr fun _ _ => bigSep_univ_of_subsingleton (0 : Fin 1)
  rw [hc, ht] at hg
  ihave H := hg $$ HP
  imod H
  icases H with ⟨Hc, Ht⟩
  imodintro
  isplitl [HH]; · iexact HH
  isplitl [Hc Ht]
  · unfold G
    rw [bigSep_sep']
    isplitl [Hc] <;> iassumption
  rw [show (bigSep Finset.univ fun t : Thread nD τ => bigSep Finset.univ fun q : Fin 2 => (P (F := F) m).x q t) = bigSep Finset.univ fun _ => iprop(emp) from
    bigSep_congr fun _ _ => bigSep_emp' _, bigSep_emp']
  iempintro

/-! ## The program on the TensorCore -/

abbrev dr (b : Ref sig .tc) : DevRef τ sig := Proc.devRef .tc b

/-- The host's operations between the choice and the gather, -/
abbrev ops : List (HloOp τ sig (Elt F)) :=
  [ StableHlo.unary main_v1_2 main_v2 ((extractStridedSlice S32x5x200 ![0, 0, 0] · slices_S32x5x208_S32x5x200_0_0_0) : (⟨S32x5x208, .i32⟩ : BufTy).Contents (Elt F) → (⟨S32x5x200, .i32⟩ : BufTy).Contents (Elt F)),
    StableHlo.unary main_v2 main_v3 ((transpose S32x200x5 [0, 2, 1] · transposes_S32x5x200_S32x200x5_0_2_1) : (⟨S32x5x200, .i32⟩ : BufTy).Contents (Elt F) → (⟨S32x200x5, .i32⟩ : BufTy).Contents (Elt F)),
    StableHlo.reshape main_v3 main_v4 (rfl : (.i32 : EltTy) = .i32) shapeCasts_S32x200x5_S32x1000,
    StableHlo.unary main_v1_0 main_v5 ((extractStridedSlice S32x5x200 ![0, 0, 0] · slices_S32x5x208_S32x5x200_0_0_0) : (⟨S32x5x208, .f32⟩ : BufTy).Contents (Elt F) → (⟨S32x5x200, .f32⟩ : BufTy).Contents (Elt F)),
    StableHlo.unary main_v5 main_v6 ((transpose S32x200x5 [0, 2, 1] · transposes_S32x5x200_S32x200x5_0_2_1) : (⟨S32x5x200, .f32⟩ : BufTy).Contents (Elt F) → (⟨S32x200x5, .f32⟩ : BufTy).Contents (Elt F)),
    StableHlo.reshape main_v6 main_v7 (rfl : (.f32 : EltTy) = .f32) shapeCasts_S32x200x5_S32x1000,
    StableHlo.unary main_v1_1 main_v8 ((extractStridedSlice S32x5x200 ![0, 0, 0] · slices_S32x5x208_S32x5x200_0_0_0) : (⟨S32x5x208, .i32⟩ : BufTy).Contents (Elt F) → (⟨S32x5x200, .i32⟩ : BufTy).Contents (Elt F)),
    StableHlo.unary main_v8 main_v9 ((transpose S32x200x5 [0, 2, 1] · transposes_S32x5x200_S32x200x5_0_2_1) : (⟨S32x5x200, .i32⟩ : BufTy).Contents (Elt F) → (⟨S32x200x5, .i32⟩ : BufTy).Contents (Elt F)),
    StableHlo.reshape main_v9 main_v10 (rfl : (.i32 : EltTy) = .i32) shapeCasts_S32x200x5_S128x50x5,
    StableHlo.reshape main_arg1 main_v11 (rfl : (.f32 : EltTy) = .f32) shapeCasts_S128x50x32x128_S204800x128 ]
/-- and after it. -/
abbrev opsOut : List (HloOp τ sig (Elt F)) := [ StableHlo.reshape main_v12 main_v13 (rfl : (.f32 : EltTy) = .f32) shapeCasts_S32000x128_S128x50x5x128 ]

theorem main_eq (d : Dev nD) : main (F := F) d
    = (Prog.lift (.customCall (SparseCore.inner (Pipeline.entry 0)) ()) >>= fun _ => sc.run d 0 >>= fun _ => seq ops >>= fun _ => sc.run d 1 >>= fun _ =>
        seq opsOut >>= fun u => pure u) := rfl

/-! ### What the host's operations compute -/

section Host

variable (W : Valuation τ sig (Elt F))

theorem after_g : StableHlo.after (ops (F := F)) W (dr main_v4)
    = (shapeCast S32x1000 (Best.byColumn (W (dr main_v1_2) : S32x5x208.Idx → BitVec 32)) shapeCasts_S32x200x5_S32x1000 : S32x1000.Idx → BitVec 32) := by
  unfold Best.byColumn
  after_results <;> rfl
theorem after_s : StableHlo.after (ops (F := F)) W (dr main_v7)
    = (shapeCast S32x1000 (Best.byColumn (W (dr main_v1_0) : S32x5x208.Idx → F .f32)) shapeCasts_S32x200x5_S32x1000 : S32x1000.Idx → F .f32) := by
  unfold Best.byColumn
  after_results <;> rfl
theorem after_n : StableHlo.after (ops (F := F)) W (dr main_v10)
    = (shapeCast S128x50x5 (Best.byColumn (W (dr main_v1_1) : S32x5x208.Idx → BitVec 32)) shapeCasts_S32x200x5_S128x50x5 : S128x50x5.Idx → BitVec 32) := by
  unfold Best.byColumn
  after_results <;> rfl
theorem after_tab : StableHlo.after (ops (F := F)) W (dr main_v11)
    = (shapeCast S204800x128 (W (dr main_arg1) : S128x50x32x128.Idx → F .f32) shapeCasts_S128x50x32x128_S204800x128 : S204800x128.Idx → F .f32) := by
  after_results <;> rfl
theorem after_o : StableHlo.after (ops (F := F)) W (dr main_v12) = W (dr main_v12) := by after_results <;> rfl
theorem after_0 : StableHlo.after (ops (F := F)) W (dr main_arg0) = W (dr main_arg0) := by after_results <;> rfl
theorem after_1 : StableHlo.after (ops (F := F)) W (dr main_arg1) = W (dr main_arg1) := by after_results <;> rfl
theorem after_2 : StableHlo.after (ops (F := F)) W (dr main_arg2) = W (dr main_arg2) := by after_results <;> rfl
theorem after_3 : StableHlo.after (ops (F := F)) W (dr main_arg3) = W (dr main_arg3) := by after_results <;> rfl

theorem out_y : StableHlo.after (opsOut (F := F)) W (dr main_v13)
    = (shapeCast S128x50x5x128 (W (dr main_v12) : S32000x128.Idx → F .f32) shapeCasts_S32000x128_S128x50x5x128 : S128x50x5x128.Idx → F .f32) := by
  after_results <;> rfl
theorem out_n : StableHlo.after (opsOut (F := F)) W (dr main_v10) = W (dr main_v10) := by after_results <;> rfl
theorem out_0 : StableHlo.after (opsOut (F := F)) W (dr main_arg0) = W (dr main_arg0) := by after_results <;> rfl
theorem out_1 : StableHlo.after (opsOut (F := F)) W (dr main_arg1) = W (dr main_arg1) := by after_results <;> rfl
theorem out_2 : StableHlo.after (opsOut (F := F)) W (dr main_arg2) = W (dr main_arg2) := by after_results <;> rfl
theorem out_3 : StableHlo.after (opsOut (F := F)) W (dr main_arg3) = W (dr main_arg3) := by after_results <;> rfl

end Host

/-! ### The arrays the program holds -/

/-- The arrays outside any kernel, and all of them but the scores. -/
def mine : Finset (DevRef τ sig) := (Finset.univ.filter fun b : Ref sig .tc => ¬ b.isScoped).map ⟨Proc.devRef .tc, Proc.devRef_injective _⟩
def mine2 : Finset (DevRef τ sig) := mine \ {dr main_v0}

theorem mem_mine (b : Ref sig .tc) (hb : b.isScoped = false) : (dr b) ∈ mine :=
  Finset.mem_map_of_mem _ (Finset.mem_filter.mpr ⟨Finset.mem_univ _, by simp [hb]⟩)
theorem mem_mine2 (b : Ref sig .tc) (hb : b.isScoped = false) (h : b ≠ main_v0) : (dr b) ∈ mine2 :=
  Finset.mem_sdiff.mpr ⟨mem_mine b hb, fun e => h (Proc.devRef_injective _ (Finset.mem_singleton.mp e))⟩

theorem unscoped_held (d : Dev nD) (V : Valuation τ sig (Elt F)) :
    (unscopedBufs d (fun b => V (Proc.devRef .tc b)) : sProp 𝕄) = held (T d) mine V := by
  unfold unscopedBufs held mine
  rw [bigSep_map]
  rfl

theorem pair_sub {a b : Ref sig .tc} (ha : a.isScoped = false) (hb : b.isScoped = false) (h : a ≠ main_v0) (h' : b ≠ main_v0) :
    ({dr a, dr b} : Finset (DevRef τ sig)) ⊆ mine2 := by
  intro c hc
  simp only [Finset.mem_insert, Finset.mem_singleton] at hc
  rcases hc with rfl | rfl
  · exact mem_mine2 _ ha h
  · exact mem_mine2 _ hb h'

theorem ops_sub : (ops : List (HloOp τ sig (Elt F))).Forall fun op => op.bufs ⊆ mine2 :=
  ⟨pair_sub rfl rfl (by decide) (by decide), pair_sub rfl rfl (by decide) (by decide), pair_sub rfl rfl (by decide) (by decide),
    pair_sub rfl rfl (by decide) (by decide), pair_sub rfl rfl (by decide) (by decide), pair_sub rfl rfl (by decide) (by decide),
    pair_sub rfl rfl (by decide) (by decide), pair_sub rfl rfl (by decide) (by decide), pair_sub rfl rfl (by decide) (by decide),
    pair_sub rfl rfl (by decide) (by decide)⟩
theorem opsOut_sub : ∀ op ∈ (opsOut : List (HloOp τ sig (Elt F))), op.bufs ⊆ mine2 := by
  intro op h
  rcases List.mem_singleton.mp h with rfl
  exact pair_sub rfl rfl (by decide) (by decide)

theorem ops_fresh : ∀ op ∈ (ops : List (HloOp τ sig (Elt F))), op.fresh = ∅ := by
  intro _ h
  (repeat (cases h with | head => rfl | tail _ h => ?_)); exact nomatch h
theorem opsOut_fresh : ∀ op ∈ (opsOut : List (HloOp τ sig (Elt F))), op.fresh = ∅ := by
  intro _ h
  (repeat (cases h with | head => rfl | tail _ h => ?_)); exact nomatch h

abbrev three : Finset (DevRef τ sig) := {dr main_arg0, dr main_arg2, dr main_v0}
abbrev four : Finset (DevRef τ sig) := {dr main_v0, dr main_v1_0, dr main_v1_1, dr main_v1_2}
abbrev outs : Finset (DevRef τ sig) := {dr main_v1_0, dr main_v1_1, dr main_v1_2}
abbrev fourG : Finset (DevRef τ sig) := {dr main_v11, dr main_v4, dr main_v7, dr main_v12}

theorem three_sub : three ⊆ mine := by
  intro b hb
  simp only [Finset.mem_insert, Finset.mem_singleton] at hb
  rcases hb with rfl | rfl | rfl
  · exact mem_mine main_arg0 rfl
  · exact mem_mine main_arg2 rfl
  · exact mem_mine main_v0 rfl
theorem four_sub : four ⊆ mine := by
  intro b hb
  simp only [Finset.mem_insert, Finset.mem_singleton] at hb
  rcases hb with rfl | rfl | rfl | rfl
  · exact mem_mine main_v0 rfl
  · exact mem_mine main_v1_0 rfl
  · exact mem_mine main_v1_1 rfl
  · exact mem_mine main_v1_2 rfl
theorem outs_sub : outs ⊆ mine2 := by
  intro b hb
  simp only [Finset.mem_insert, Finset.mem_singleton] at hb
  rcases hb with rfl | rfl | rfl
  · exact mem_mine2 main_v1_0 rfl (by decide)
  · exact mem_mine2 main_v1_1 rfl (by decide)
  · exact mem_mine2 main_v1_2 rfl (by decide)
theorem fourG_sub : fourG ⊆ mine2 := by
  intro b hb
  simp only [Finset.mem_insert, Finset.mem_singleton] at hb
  rcases hb with rfl | rfl | rfl | rfl
  · exact mem_mine2 main_v11 rfl (by decide)
  · exact mem_mine2 main_v4 rfl (by decide)
  · exact mem_mine2 main_v7 rfl (by decide)
  · exact mem_mine2 main_v12 rfl (by decide)
theorem mine2_outs : mine2 \ outs = mine \ four := by
  ext b
  simp only [mine2, Finset.mem_sdiff, Finset.mem_insert, Finset.mem_singleton, not_or]
  tauto

theorem held_three (d : Dev nD) (W : Valuation τ sig (Elt F)) :
    (held (T d) three W : sProp 𝕄)
      = iprop((Scores.xLoc d ↦{fullShare} W (dr main_arg0)) ∗ (Scores.uLoc d ↦{fullShare} W (dr main_arg2)) ∗ Scores.aLoc d ↦{fullShare} W (dr main_v0)) := by
  unfold held
  rw [SparseCore.bigSep_insert' (by decide), SparseCore.bigSep_insert' (by decide), bigSep_singleton]
theorem held_four (d : Dev nD) (W : Valuation τ sig (Elt F)) :
    (held (T d) four W : sProp 𝕄)
      = iprop((Best.aLoc d ↦{fullShare} W (dr main_v0)) ∗ (Best.tLoc d ↦{fullShare} W (dr main_v1_0)) ∗ (Best.kLoc d ↦{fullShare} W (dr main_v1_1))
        ∗ Best.xLoc d ↦{fullShare} W (dr main_v1_2)) := by
  unfold held
  rw [SparseCore.bigSep_insert' (by decide), SparseCore.bigSep_insert' (by decide), SparseCore.bigSep_insert' (by decide), bigSep_singleton]
theorem held_outs (d : Dev nD) (W : Valuation τ sig (Elt F)) :
    (held (T d) outs W : sProp 𝕄)
      = iprop((Best.tLoc d ↦{fullShare} W (dr main_v1_0)) ∗ (Best.kLoc d ↦{fullShare} W (dr main_v1_1)) ∗ Best.xLoc d ↦{fullShare} W (dr main_v1_2)) := by
  unfold held
  rw [SparseCore.bigSep_insert' (by decide), SparseCore.bigSep_insert' (by decide), bigSep_singleton]
theorem held_fourG (d : Dev nD) (W : Valuation τ sig (Elt F)) :
    (held (T d) fourG W : sProp 𝕄)
      = iprop((Gather.xLoc d ↦{fullShare} W (dr main_v11)) ∗ (Gather.gLoc d ↦{fullShare} W (dr main_v4)) ∗ (Gather.sLoc d ↦{fullShare} W (dr main_v7))
        ∗ Gather.oLoc d ↦{fullShare} W (dr main_v12)) := by
  unfold held
  rw [SparseCore.bigSep_insert' (by decide), SparseCore.bigSep_insert' (by decide), SparseCore.bigSep_insert' (by decide), bigSep_singleton]

/-- The arrays at the start, with the scores, with what was chosen. -/
def V0 (d : Dev nD) : Valuation τ sig (Elt F) := fun b => m (d, b)
def VA (d : Dev nD) (f : Buf (Elt F) (Best.aLoc d)) : Valuation τ sig (Elt F) := Function.update (V0 m d) (dr main_v0) f
def V1 (d : Dev nD) (fT : Buf (Elt F) (Best.tLoc d)) (fK : Buf (Elt F) (Best.kLoc d)) (fX : Buf (Elt F) (Best.xLoc d)) : Valuation τ sig (Elt F) :=
  Function.update (Function.update (Function.update (V0 m d) (dr main_v1_0) fT) (dr main_v1_1) fK) (dr main_v1_2) fX

theorem VA_a (d : Dev nD) (f : Buf (Elt F) (Best.aLoc d)) : VA m d f (dr main_v0) = f := Function.update_self _ _ _
theorem VA_other (d : Dev nD) (f : Buf (Elt F) (Best.aLoc d)) (b : DevRef τ sig) (hb : b ≠ dr main_v0) : VA m d f b = V0 m d b := Function.update_of_ne hb _ _

section Chosen'
variable (d : Dev nD) (fT : Buf (Elt F) (Best.tLoc d)) (fK : Buf (Elt F) (Best.kLoc d)) (fX : Buf (Elt F) (Best.xLoc d))
theorem V1_x : V1 m d fT fK fX (dr main_v1_2) = fX := Function.update_self _ _ _
theorem V1_k : V1 m d fT fK fX (dr main_v1_1) = fK :=
  (Function.update_of_ne (show dr main_v1_1 ≠ dr main_v1_2 by decide) _ _).trans (Function.update_self _ _ _)
theorem V1_t : V1 m d fT fK fX (dr main_v1_0) = fT :=
  (Function.update_of_ne (show dr main_v1_0 ≠ dr main_v1_2 by decide) _ _).trans
    ((Function.update_of_ne (show dr main_v1_0 ≠ dr main_v1_1 by decide) _ _).trans (Function.update_self _ _ _))
theorem V1_other (b : DevRef τ sig) (hb : b ∉ outs) : V1 m d fT fK fX b = V0 m d b := by
  simp only [Finset.mem_insert, Finset.mem_singleton, not_or] at hb
  exact (Function.update_of_ne hb.2.2 _ _).trans ((Function.update_of_ne hb.2.1 _ _).trans (Function.update_of_ne hb.1 _ _))
end Chosen'

theorem split_A (d : Dev nD) : (unscopedBufs d (fun b => m ((SparseCore.T d).loc b)) : sProp 𝕄)
    ⊢ iprop(((Scores.xLoc d ↦{fullShare} m (Scores.xLoc d)) ∗ (Scores.uLoc d ↦{fullShare} m (Scores.uLoc d)) ∗ Scores.aLoc d ↦{fullShare} m (Scores.aLoc d))
      ∗ held (T d) (mine \ three) (V0 m d)) := by
  have e : (unscopedBufs d (fun b => m ((SparseCore.T d).loc b)) : sProp 𝕄) = held (T d) mine (V0 m d) := unscoped_held d (V0 m d)
  rw [e, held_sub_split (T d) three_sub, held_three]
  exact Entails.of_eq rfl

theorem split_B (d : Dev nD) (f : Buf (Elt F) (Best.aLoc d)) :
    iprop(((Scores.xLoc d ↦{fullShare} m (Scores.xLoc d)) ∗ (Scores.uLoc d ↦{fullShare} m (Scores.uLoc d)) ∗ Scores.aLoc d ↦{fullShare} f)
        ∗ held (T d) (mine \ three) (V0 m d))
      ⊢ (iprop(((Best.aLoc d ↦{fullShare} f) ∗ (Best.tLoc d ↦{fullShare} m (Best.tLoc d)) ∗ (Best.kLoc d ↦{fullShare} m (Best.kLoc d))
          ∗ Best.xLoc d ↦{fullShare} m (Best.xLoc d)) ∗ held (T d) (mine \ four) (V0 m d)) : sProp 𝕄) := by
  have e1 : (iprop(((Scores.xLoc d ↦{fullShare} m (Scores.xLoc d)) ∗ (Scores.uLoc d ↦{fullShare} m (Scores.uLoc d)) ∗ Scores.aLoc d ↦{fullShare} f)
        ∗ held (T d) (mine \ three) (V0 m d)) : sProp 𝕄) = held (T d) mine (VA m d f) := by
    rw [held_sub_split (T d) three_sub (V := VA m d f), held_three, VA_a, VA_other m d f _ (show dr main_arg0 ≠ dr main_v0 by decide),
      VA_other m d f _ (show dr main_arg2 ≠ dr main_v0 by decide),
      held_congr (T d) (V := VA m d f) (V' := V0 m d) (S := mine \ three) fun b hb => VA_other m d f b fun e => (Finset.mem_sdiff.mp hb).2 (by rw [e]; decide)]
    rfl
  have e2 : (iprop(((Best.aLoc d ↦{fullShare} f) ∗ (Best.tLoc d ↦{fullShare} m (Best.tLoc d)) ∗ (Best.kLoc d ↦{fullShare} m (Best.kLoc d))
          ∗ Best.xLoc d ↦{fullShare} m (Best.xLoc d)) ∗ held (T d) (mine \ four) (V0 m d)) : sProp 𝕄) = held (T d) mine (VA m d f) := by
    rw [held_sub_split (T d) four_sub (V := VA m d f), held_four, VA_a, VA_other m d f _ (show dr main_v1_0 ≠ dr main_v0 by decide),
      VA_other m d f _ (show dr main_v1_1 ≠ dr main_v0 by decide), VA_other m d f _ (show dr main_v1_2 ≠ dr main_v0 by decide),
      held_congr (T d) (V := VA m d f) (V' := V0 m d) (S := mine \ four) fun b hb => VA_other m d f b fun e => (Finset.mem_sdiff.mp hb).2 (by rw [e]; decide)]
    rfl
  rw [e1, e2]

theorem join_B (d : Dev nD) (fT : Buf (Elt F) (Best.tLoc d)) (fK : Buf (Elt F) (Best.kLoc d)) (fX : Buf (Elt F) (Best.xLoc d)) :
    iprop(((Best.tLoc d ↦{fullShare} fT) ∗ (Best.kLoc d ↦{fullShare} fK) ∗ Best.xLoc d ↦{fullShare} fX) ∗ held (T d) (mine \ four) (V0 m d))
      ⊢ (held (T d) mine2 (V1 m d fT fK fX) : sProp 𝕄) := by
  rw [held_sub_split (T d) outs_sub (V := V1 m d fT fK fX), held_outs, V1_t, V1_k, V1_x, mine2_outs,
    held_congr (T d) (V := V1 m d fT fK fX) (V' := V0 m d) (S := mine \ four) fun b hb => V1_other m d fT fK fX b fun e =>
      (Finset.mem_sdiff.mp hb).2 (Finset.mem_insert_of_mem e)]

theorem join_D (d : Dev nD) (W : Valuation τ sig (Elt F)) (f : Buf (Elt F) (Gather.oLoc d)) :
    iprop(((Gather.xLoc d ↦{fullShare} W (dr main_v11)) ∗ (Gather.gLoc d ↦{fullShare} W (dr main_v4)) ∗ (Gather.sLoc d ↦{fullShare} W (dr main_v7))
        ∗ Gather.oLoc d ↦{fullShare} f) ∗ held (T d) (mine2 \ fourG) W)
      ⊢ (held (T d) mine2 (Function.update W (dr main_v12) f) : sProp 𝕄) := by
  rw [held_sub_split (T d) fourG_sub (V := Function.update W (dr main_v12) f), held_fourG, Function.update_self,
    Function.update_of_ne (show dr main_v11 ≠ dr main_v12 by decide), Function.update_of_ne (show dr main_v4 ≠ dr main_v12 by decide),
    Function.update_of_ne (show dr main_v7 ≠ dr main_v12 by decide),
    held_congr (T d) (V := Function.update W (dr main_v12) f) (V' := W) (S := mine2 \ fourG) fun b hb => Function.update_of_ne (fun e =>
      (Finset.mem_sdiff.mp hb).2 (by rw [e]; decide)) _ _]

/-! ### The results -/

abbrev yLoc (d : Dev nD) : Loc nD τ sig := (SparseCore.T d).loc main_v13
abbrev nLoc (d : Dev nD) : Loc nD τ sig := (SparseCore.T d).loc main_v10

/-- The program's first result. -/
def out (d : Dev nD) : S128x50x5x128.Idx → F .f32 := shapeCast S128x50x5x128 (rows m d) shapeCasts_S32000x128_S128x50x5x128

/-- The arrays at the end: the two results, and the arguments as they were. -/
structure Ends (d : Dev nD) (W : Valuation τ sig (Elt F)) : Prop where
  y : W (dr main_v13) = out m d
  n : W (dr main_v10) = Best.outN (scores m d)
  a0 : W (dr main_arg0) = V0 m d (dr main_arg0)
  a1 : W (dr main_arg1) = V0 m d (dr main_arg1)
  a2 : W (dr main_arg2) = V0 m d (dr main_arg2)
  a3 : W (dr main_arg3) = V0 m d (dr main_arg3)

section Between
variable {m} {d : Dev nD} {fT : Buf (Elt F) (Best.tLoc d)} {fK : Buf (Elt F) (Best.kLoc d)} {fX : Buf (Elt F) (Best.xLoc d)} (h : Chosen m d fT fK fX)
include h

/-- The arrays when the gather is called. -/
abbrev V2 (m : (ℓ : Loc nD τ sig) → Buf (Elt F) ℓ) (d : Dev nD) (fT : Buf (Elt F) (Best.tLoc d)) (fK : Buf (Elt F) (Best.kLoc d)) (fX : Buf (Elt F) (Best.xLoc d)) :
    Valuation τ sig (Elt F) := StableHlo.after (ops (F := F)) (V1 m d fT fK fX)

theorem V2_g : V2 m d fT fK fX (dr main_v4) = Best.outG (scores m d) := by
  refine (after_g _).trans ?_
  rw [V1_x]
  unfold Best.outG
  exact congrArg (fun f => shapeCast S32x1000 f shapeCasts_S32x200x5_S32x1000) (Best.byColumn_congr h.idxs)
theorem V2_s : V2 m d fT fK fX (dr main_v7) = Best.outS (scores m d) := by
  refine (after_s _).trans ?_
  rw [V1_t]
  unfold Best.outS
  exact congrArg (fun f => shapeCast S32x1000 f shapeCasts_S32x200x5_S32x1000) (Best.byColumn_congr h.tops)
theorem V2_n : V2 m d fT fK fX (dr main_v10) = Best.outN (scores m d) := by
  refine (after_n _).trans ?_
  rw [V1_k]
  unfold Best.outN
  exact congrArg (fun f => shapeCast S128x50x5 f shapeCasts_S32x200x5_S128x50x5) (Best.byColumn_congr h.kids)
omit h in
theorem V2_tab : V2 m d fT fK fX (dr main_v11) = table m d := by
  refine (after_tab _).trans ?_
  rw [V1_other m d fT fK fX _ (by decide)]
  rfl
omit h in
theorem V2_o : V2 m d fT fK fX (dr main_v12) = m (Gather.oLoc d) := (after_o _).trans (V1_other m d fT fK fX _ (by decide))

theorem ends : Ends m d (StableHlo.after (opsOut (F := F)) (Function.update (V2 m d fT fK fX) (dr main_v12) (rows m d))) where
  y := by
    refine (out_y _).trans ?_
    rw [Function.update_self]
    rfl
  n := (out_n _).trans ((Function.update_of_ne (show dr main_v10 ≠ dr main_v12 by decide) _ _).trans (V2_n h))
  a0 := (out_0 _).trans ((Function.update_of_ne (show dr main_arg0 ≠ dr main_v12 by decide) _ _).trans ((after_0 _).trans (V1_other m d fT fK fX _ (by decide))))
  a1 := (out_1 _).trans ((Function.update_of_ne (show dr main_arg1 ≠ dr main_v12 by decide) _ _).trans ((after_1 _).trans (V1_other m d fT fK fX _ (by decide))))
  a2 := (out_2 _).trans ((Function.update_of_ne (show dr main_arg2 ≠ dr main_v12 by decide) _ _).trans ((after_2 _).trans (V1_other m d fT fK fX _ (by decide))))
  a3 := (out_3 _).trans ((Function.update_of_ne (show dr main_arg3 ≠ dr main_v12 by decide) _ _).trans ((after_3 _).trans (V1_other m d fT fK fX _ (by decide))))

theorem split_D : (held (T d) mine2 (V2 m d fT fK fX) : sProp 𝕄)
    ⊢ iprop(((Gather.xLoc d ↦{fullShare} table m d) ∗ (Gather.gLoc d ↦{fullShare} Best.outG (scores m d)) ∗ (Gather.sLoc d ↦{fullShare} Best.outS (scores m d))
        ∗ Gather.oLoc d ↦{fullShare} m (Gather.oLoc d)) ∗ held (T d) (mine2 \ fourG) (V2 m d fT fK fX)) := by
  rw [held_sub_split (T d) fourG_sub (V := V2 m d fT fK fX), held_fourG, V2_g h, V2_s h, V2_tab, V2_o]

theorem join_D' : iprop(((Gather.xLoc d ↦{fullShare} table m d) ∗ (Gather.gLoc d ↦{fullShare} Best.outG (scores m d)) ∗ (Gather.sLoc d ↦{fullShare} Best.outS (scores m d))
        ∗ Gather.oLoc d ↦{fullShare} rows m d) ∗ held (T d) (mine2 \ fourG) (V2 m d fT fK fX))
      ⊢ (held (T d) mine2 (Function.update (V2 m d fT fK fX) (dr main_v12) (rows m d)) : sProp 𝕄) := by
  have j := join_D d (V2 m d fT fK fX) (rows m d)
  rw [V2_g h, V2_s h, V2_tab] at j
  exact j

end Between

/-- What the program leaves. -/
def FIN (d : Dev nD) : sProp 𝕄 := iprop(∃ W : Valuation τ sig (Elt F), ⌜Ends m d W⌝ ∗ held (T d) mine2 W)

/-- The program on the TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  have open_st : (K (F := F)).tcSt EH d 0 ⊢ (iprop(Scores.oweTc d ∗ (Scores.oweTc d -∗ (K (F := F)).tcSt EH d 0)) : sProp 𝕄) := by
    unfold SparseCore.Cfg.tcSt Scores.oweTc
    iintro ⟨HO, H⟩
    isplitl [HO]; · iexact HO
    iintro HO
    isplitl [HO] <;> iassumption
  unfold SparseCore.Cfg.tcRes SparseCore.Cfg.tcEnd G
  rw [main_eq, wp_bind]
  iintro ⟨#Hctx, Hst, ⟨Hb, Hbufs, Hts, -⟩, Hc, Ht⟩
  ihave Hl := (SparseCore.Cfg.ctx_levAts κ) $$ Hctx
  ihave Hst' := open_st $$ Hst
  icases Hst' with ⟨HO, Hst⟩
  ihave Hbufs' := (split_A m d) $$ Hbufs
  icases Hbufs' with ⟨⟨Hx, Hu, Ha⟩, Hrest⟩
  iapply (Scores.call m d _) $$ [Hst Hb Hx Hu Ha HO Hl Hc Ht Hts Hrest]
  isplitr [Hb Hx Hu Ha HO Hl Hc Ht]
  rotate_left
  · isplitl [Hb]; · iexact Hb
    isplitl [Hx Hu Ha HO]
    · isplitl [Hx]; · iexact Hx
      isplitl [Hu]; · iexact Hu
      isplitl [Ha] <;> iassumption
    isplitl [Hl]; · iexact Hl
    isplitl [Hc] <;> iassumption
  iintro ⟨Hb, Hx, Hu, ⟨%f, %hf, Ha⟩, HO⟩
  ihave Hst := Hst $$ HO
  ihave H := (split_B m d f) $$ [Hx Hu Ha Hrest]
  · isplitr [Hrest]
    · isplitl [Hx]; · iexact Hx
      isplitl [Hu] <;> iassumption
    iexact Hrest
  icases H with ⟨H, Hrest⟩
  ihave Hgo := (best_deal m d f hf) $$ H
  rw [wp_bind]
  iapply ((K (F := F)).wp_run (D (F := F)) 𝒱 (EH := EH) (P := P m) κ d 0) $$ [Hst Hgo Hb Hts Hrest]
  isplitr; · iexact Hctx
  isplitl [Hst]; · iexact Hst
  isplitl [Hgo]; · iexact Hgo
  iintro ⟨Hst, Hdn⟩
  ihave H := (best_collect m d) $$ Hdn
  icases H with ⟨%fT, %fK, %fX, %hC, H⟩
  ihave Hheld := (join_B m d fT fK fX) $$ [H Hrest]
  · isplitl [H] <;> iassumption
  iapply (wp_seq 𝒱 none Set.univ d mine2 _ (ops (F := F)) (List.forall_iff_forall_mem.1 ops_sub) ops_fresh (V1 m d fT fK fX)) $$ [Hb Hheld]
  · isplitl [Hb]; · iexact Hb
    iexact Hheld
  iintro ⟨Hb, Hheld⟩
  ihave H := (split_D hC) $$ Hheld
  icases H with ⟨H, Hrest⟩
  ihave H := (gather_deal m d) $$ H
  icases H with ⟨Hr, Hgo⟩
  rw [wp_bind]
  iapply ((K (F := F)).wp_run (D (F := F)) 𝒱 (EH := EH) (P := P m) κ d 1) $$ [Hst Hgo Hb Hts Hrest Hr]
  isplitr; · iexact Hctx
  isplitl [Hst]; · iexact Hst
  isplitl [Hgo]; · iexact Hgo
  iintro ⟨Hst, Hdn⟩
  ihave H := (gather_collect m d) $$ [Hr Hdn]
  · isplitl [Hr] <;> iassumption
  ihave Hheld := (join_D' hC) $$ [H Hrest]
  · isplitl [H] <;> iassumption
  iapply (wp_seq 𝒱 none Set.univ d mine2 (fun u => pure u) (opsOut (F := F)) opsOut_sub opsOut_fresh (Function.update (V2 m d fT fK fX) (dr main_v12) (rows m d))) $$ [Hb Hheld]
  · isplitl [Hb]; · iexact Hb
    iexact Hheld
  iintro ⟨Hb, Hheld⟩
  rw [wp_pure]; imodintro
  isplitl [Hst]; · iexact Hst
  isplitl [Hheld]
  · unfold FIN
    iexists (StableHlo.after (opsOut (F := F)) (Function.update (V2 m d fT fK fX) (dr main_v12) (rows m d)))
    isplitr
    · ipureintro; exact ends hC
    iexact Hheld
  isplitl [Hb] <;> iassumption

/-! ## The run -/

def fq (d : Dev nD) (s' : Phys nD τ sig (Elt F)) : Prop :=
  s'.mem.mem (yLoc d) = out m d ∧ s'.mem.mem (nLoc d) = Best.outN (scores m d)
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

set_option maxRecDepth 16384 in
theorem hfin (d : Dev nD) (s' : Phys nD τ sig (Elt F)) : iprop(FIN m d ∗ SI s') ⊢ (⌜fq m d s'⌝ : sProp 𝕄) := by
  unfold FIN held
  iintro ⟨⟨%W, %hW, H⟩, HSI⟩
  ihave %h := (SI_pointsTo_bufs_agree (qs := fun _ => fullShare) mine2) $$ [HSI H]
  · isplitl [HSI]; · iexact HSI
    iexact H
  ipureintro
  exact ⟨(h _ (mem_mine2 main_v13 rfl (by decide))).trans hW.y, (h _ (mem_mine2 main_v10 rfl (by decide))).trans hW.n,
    (h _ (mem_mine2 main_arg0 rfl (by decide))).trans hW.a0, (h _ (mem_mine2 main_arg1 rfl (by decide))).trans hW.a1,
    (h _ (mem_mine2 main_arg2 rfl (by decide))).trans hW.a2, (h _ (mem_mine2 main_arg3 rfl (by decide))).trans hW.a3⟩

def QC : PUnit × MemSt nD τ sig (Elt F) → Prop := fun r =>
  (∀ c : Dev nD, r.2.mem (yLoc c) = out m c ∧ r.2.mem (nLoc c) = Best.outN (scores m c)
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3))
    ∧ r.2.sem = fun _ => 0

/-- Every run of the program ends, with its two results computed, its arguments as they were and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl_best m facts | 1 => tileObl_gather m facts)
    (fun q _ => match q with | 0 => SparseCore.Cfg.VecSplit.of_plain (vecSplit_best m) | 1 => SparseCore.Cfg.VecSplit.of_plain (vecSplit_gather m))
    m ρ main G (FIN m) (u₀ (F := F)) (sep_elim_left.trans (hu₀ m)) (hmain m ρ) (fq m) (hfin m) (QC m) (fun _ h hz => ⟨h, hz⟩)

end Cert.Proof.Whole

end
-- ==== Proof.BestColumn.lean ====
module

public import Idealize.ShloMosaic.PureOps.Ideal
public import Idealize.ShloMosaic.Lib.SortFacts
public import Idealize.ShloMosaic.Lib.SortNet.Positions
public import Idealize.ShloMosaic.Lib.SortNet.Threshold
public import Mathlib.Data.Prod.Lex
public import Mathlib.Data.EReal.Basic

@[expose] public section

noncomputable section

/-! # One column of scores

A column has a score in each of the rows 1 to 31. A round takes the first of its greatest scores and strikes it out, by minus infinity.
Where every score is above minus infinity the rounds take the scores in the order of the stable sort by "greater first". -/

namespace Cert.Proof.Best

open Idealize.ShloMosaic Idealize.ShloMosaic.SortNet

/-- The first row, among the rows 1 to `n + 1`, whose score is the greatest of them. -/
def first (C : ℕ → EReal) : ℕ → ℕ
  | 0 => 1
  | n + 1 => if C (first C n) < C (n + 2) then n + 2 else first C n

theorem first_spec (C : ℕ → EReal) : ∀ n, 1 ≤ first C n ∧ first C n ≤ n + 1
    ∧ ∀ q, 1 ≤ q → q ≤ n + 1 → C q ≤ C (first C n) ∧ (q < first C n → C q < C (first C n))
  | 0 => ⟨le_refl _, le_refl _, fun q h1 h2 => by
      have : q = 1 := by omega
      subst this
      exact ⟨le_refl _, fun h => absurd h (lt_irrefl _)⟩⟩
  | n + 1 => by
    obtain ⟨h1, h2, h3⟩ := first_spec C n
    unfold first
    split
    · next h =>
      refine ⟨by omega, by omega, fun q hq hq' => ?_⟩
      rcases Nat.lt_or_ge q (n + 2) with hlt | hge
      · have := lt_of_le_of_lt (h3 q hq (by omega)).1 h
        exact ⟨this.le, fun _ => this⟩
      · have : q = n + 2 := by omega
        subst this
        exact ⟨le_refl _, fun h => absurd h (lt_irrefl _)⟩
    · next h =>
      refine ⟨h1, by omega, fun q hq hq' => ?_⟩
      rcases Nat.lt_or_ge q (n + 2) with hlt | hge
      · exact h3 q hq (by omega)
      · have : q = n + 2 := by omega
        subst this
        exact ⟨not_lt.mp h, fun h => by omega⟩

/-- The column after `k` rounds. -/
def col (C : ℕ → EReal) : ℕ → ℕ → EReal
  | 0 => C
  | k + 1 => fun s => if s = first (col C k) 30 then ⊥ else col C k s

/-- The row that round `k` takes. -/
abbrev pick (C : ℕ → EReal) (k : ℕ) : ℕ := first (col C k) 30

theorem pick_pos (C : ℕ → EReal) (k : ℕ) : 1 ≤ pick C k := (first_spec _ 30).1
theorem pick_le (C : ℕ → EReal) (k : ℕ) : pick C k ≤ 31 := (first_spec _ 30).2.1

/-- The rows taken are struck out, the others are as they were. -/
theorem col_eq (C : ℕ → EReal) : ∀ k s, col C k s = if s ∈ (List.range k).map (pick C) then ⊥ else C s
  | 0, s => by simp [col]
  | k + 1, s => by
    show (if s = pick C k then ⊥ else col C k s) = _
    rw [col_eq C k s, List.range_succ, List.map_append, List.map_singleton]
    by_cases h : s = pick C k
    · simp [h]
    · simp only [List.mem_append, List.mem_singleton, h, or_false, if_false]

variable {C : ℕ → EReal}

/-- No row is taken twice. -/
theorem pick_new (hC : ∀ q, 1 ≤ q → q ≤ 31 → ⊥ < C q) {k : ℕ} (hk : k < 31) : pick C k ∉ (List.range k).map (pick C) := by
  intro h
  obtain ⟨q, hq, hq'⟩ : ∃ q ∈ Finset.Icc 1 31, q ∉ ((List.range k).map (pick C)).toFinset := by
    refine Finset.exists_mem_notMem_of_card_lt_card (lt_of_le_of_lt (List.toFinset_card_le _) ?_)
    rw [List.length_map, List.length_range, Nat.card_Icc]
    omega
  rw [Finset.mem_Icc] at hq
  rw [List.mem_toFinset] at hq'
  have h1 := ((first_spec (col C k) 30).2.2 q hq.1 hq.2).1
  rw [col_eq C k q, if_neg hq', col_eq C k (first (col C k) 30), if_pos h] at h1
  exact absurd (hC q hq.1 hq.2) (not_lt.mpr h1)

/-- What round `k` finds in the row it takes is that row's score. -/
theorem col_pick (hC : ∀ q, 1 ≤ q → q ≤ 31 → ⊥ < C q) {k : ℕ} (hk : k < 31) : col C k (pick C k) = C (pick C k) := by
  rw [col_eq C k, if_neg (pick_new hC hk)]

/-- The place of the row that round `k` takes. -/
def sel (C : ℕ → EReal) (k : ℕ) : Fin 31 := ⟨pick C k - 1, by have := pick_pos C k; have := pick_le C k; omega⟩

theorem sel_succ (C : ℕ → EReal) (k : ℕ) : (sel C k).val + 1 = pick C k := by
  have := pick_pos C k
  show pick C k - 1 + 1 = _
  omega

/-- Of two places the one with the greater score has the greater entry, and of two with one score the lower. -/
def entryOf (C : ℕ → EReal) (p : Fin 31) : EReal ×ₗ (Fin 31)ᵒᵈ := toLex (C (p.val + 1), OrderDual.toDual p)

theorem entryOf_injective (C : ℕ → EReal) : Function.Injective (entryOf C) := fun p q h => by
  have := congrArg (fun e => OrderDual.ofDual (ofLex e).2) h
  exact this

theorem entryOf_lt {p q : Fin 31} : entryOf C p < entryOf C q ↔ C (p.val + 1) < C (q.val + 1) ∨ C (p.val + 1) = C (q.val + 1) ∧ q < p := by
  unfold entryOf
  rw [Prod.Lex.toLex_lt_toLex]
  rfl

/-- A stable sort compares two elements only as "the later before the earlier". -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sortedFrom_of_positions {n : ℕ} (R R' : Fin n → Fin n → Bool) (h : sortPositions n R = sortPositions n R') : sortedFrom R = sortedFrom R' := by
  funext k
  unfold sortedFrom
  rw [List.get_of_eq h]
  rfl

/-- The sort by "greater first" is the sort by the entries. -/
theorem sorted_eq (C : ℕ → EReal) :
    sortedFrom (fun p q : Fin 31 => Ideal.cmpTotal .gt (C (p.val + 1)) (C (q.val + 1)) == 1#1) = sortedFrom (greaterFirst (entryOf C)) := by
  have hl : sortPositions 31 (fun p q : Fin 31 => Ideal.cmpTotal .gt (C (p.val + 1)) (C (q.val + 1)) == 1#1)
      = sortPositions 31 (greaterFirst (entryOf C)) := by
    refine stableSort_later _ _ _ ((List.pairwise_lt_finRange 31).imp fun {a b} hab => ?_)
    show (BitVec.ofBool (decide (C (a.val + 1) < C (b.val + 1))) == 1#1) = decide (entryOf C a < entryOf C b)
    rw [show decide (entryOf C a < entryOf C b) = decide (C (a.val + 1) < C (b.val + 1)) from
      decide_eq_decide.mpr (entryOf_lt.trans ⟨fun h => h.elim id fun h => absurd h.2 (not_lt.mpr hab.le), Or.inl⟩)]
    cases decide (C (a.val + 1) < C (b.val + 1)) <;> rfl
  exact sortedFrom_of_positions _ _ hl

/-- The rounds take the places in the order of the sort. -/
theorem sorted_sel (hC : ∀ q, 1 ≤ q → q ≤ 31 → ⊥ < C q) (k : Fin 31) :
    sortedFrom (fun p q : Fin 31 => Ideal.cmpTotal .gt (C (p.val + 1)) (C (q.val + 1)) == 1#1) k = sel C k.val := by
  rw [sorted_eq]
  have inj := entryOf_injective C
  have hmap : ∀ (r : ℕ) (p : Fin 31), entryOf C p ∈ (List.range r).map (fun t => entryOf C (sel C t)) ↔ p.val + 1 ∈ (List.range r).map (pick C) := by
    intro r p
    rw [List.mem_map, List.mem_map]
    constructor
    · rintro ⟨t, ht, e⟩
      exact ⟨t, ht, by rw [← inj e, sel_succ]⟩
    · rintro ⟨t, ht, e⟩
      refine ⟨t, ht, congrArg _ (Fin.ext ?_)⟩
      have := sel_succ C t
      omega
  have htop : (List.range 31).map (fun r => entryOf C (sel C r)) = topList 31 (List.ofFn (entryOf C)) := by
    refine map_range_eq_topList (by rw [List.ofFn_eq_map]; exact (List.nodup_finRange 31).map inj) _ 31 fun r hr => ?_
    refine ⟨by rw [List.ofFn_eq_map]; exact List.mem_map_of_mem (List.mem_finRange _), fun h => ?_, fun y hy hny => ?_⟩
    · rw [hmap, sel_succ] at h
      exact pick_new hC hr h
    · rw [List.ofFn_eq_map] at hy
      obtain ⟨p, -, rfl⟩ := List.mem_map.mp hy
      rw [hmap] at hny
      have h := (first_spec (col C r) 30).2.2 (p.val + 1) (by omega) (by omega)
      rw [col_pick hC hr, col_eq C r (p.val + 1), if_neg hny] at h
      refine not_lt.mp fun hlt => ?_
      rcases entryOf_lt.mp hlt with h' | ⟨h', hlt'⟩
      · rw [sel_succ] at h'
        exact absurd h' (not_lt.mpr h.1)
      · rw [sel_succ] at h'
        have : p.val < (sel C r).val := hlt'
        exact absurd (h.2 (show p.val + 1 < pick C r by have := sel_succ C r; omega)) (by rw [h']; exact lt_irrefl _)
  have h := entry_sortedFrom_eq_topList _ inj 31 k k.isLt
  rw [← htop, List.getElem?_map, List.getElem?_range k.isLt] at h
  exact inj (Option.some.inj h)

end Cert.Proof.Best
-- ==== Proof.BestRounds.lean ====
module

public import proofs.«01_k».proof.Proof.BestTile
public import proofs.«01_k».proof.Proof.BestColumn

@[expose] public section

noncomputable section

/-! # The rounds, lane by lane

Over the extended reals each lane of the sixteen goes through the rounds of its own column (`col`, `pick`). -/

namespace Cert.Proof.Best

open Cert.KernelIdeal Cert.KernelIdeal.Gen
open Idealize.ShloMosaic

/-- The rows 1 to 31 with their numbers. -/
def numbered (R : ℕ → Lanes Ideal) : Rows Ideal := (List.range' 1 31).map fun s => (BitVec.ofNat 32 s, R s)

theorem negInf_eq : Scalar.ofBits (F := Ideal) .f32 0xFF800000#32 = (⊥ : EReal) := by
  show Ideal.ofBits .f32 0xFF800000#32 = ⊥
  simp [Ideal.ofBits, Ideal.ieee]

/-- Having looked at the rows to `n + 1` and then at `len` more, the scan has the first of the greatest of them all. -/
theorem scan_rows (R : ℕ → Lanes Ideal) (j : S16.Idx) : ∀ (len n : ℕ) (m : Lanes Ideal) (am : Ints),
    m j = R (first (fun s => R s j) n) j → am j = BitVec.ofNat 32 (first (fun s => R s j) n) →
    (scan ((List.range' (n + 2) len).map fun s => (BitVec.ofNat 32 s, R s)) m am).1 j = R (first (fun s => R s j) (n + len)) j
    ∧ (scan ((List.range' (n + 2) len).map fun s => (BitVec.ofNat 32 s, R s)) m am).2 j = BitVec.ofNat 32 (first (fun s => R s j) (n + len))
  | 0, n, m, am, hm, ha => ⟨hm, ha⟩
  | len + 1, n, m, am, hm, ha => by
    rw [List.range'_succ, List.map_cons]
    have hstep : ∀ x : ℕ, first (fun s => R s j) (n + (x + 1)) = first (fun s => R s j) (n + 1 + x) := fun x => by
      rw [show n + (x + 1) = n + 1 + x by omega]
    rw [hstep]
    refine scan_rows R j len (n + 1) _ _ ?_ ?_
    · show max (m j : EReal) (R (n + 2) j) = _
      rw [hm]
      show max (R (first (fun s => R s j) n) j : EReal) (R (n + 2) j) = R (if (R (first (fun s => R s j) n) j : EReal) < R (n + 2) j then n + 2 else first (fun s => R s j) n) j
      split
      · next h => exact max_eq_right h.le
      · next h => exact max_eq_left (not_lt.mp h)
    · show Scalar.select (BitVec.ofBool (decide ((m j : EReal) < R (n + 2) j))) (BitVec.ofNat 32 (n + 2)) (am j) = _
      rw [hm, ha]
      show _ = BitVec.ofNat 32 (if (R (first (fun s => R s j) n) j : EReal) < R (n + 2) j then n + 2 else first (fun s => R s j) n)
      split
      · next h => rw [decide_eq_true h]; rfl
      · next h => rw [decide_eq_false h]; rfl

/-- The best of the rows, at one lane. -/
theorem best_rows (R : ℕ → Lanes Ideal) (j : S16.Idx) :
    (best (numbered R)).1 j = R (first (fun s => R s j) 30) j ∧ (best (numbered R)).2 j = BitVec.ofNat 32 (first (fun s => R s j) 30) := by
  have h := scan_rows R j 30 0 (R 1) (broadcast S16 (BitVec.ofNat 32 1)) rfl rfl
  rw [Nat.zero_add] at h
  exact h

/-- The rows with those of the numbers `am` struck out. -/
def struck (am : Ints) (R : ℕ → Lanes Ideal) (s : ℕ) : Lanes Ideal :=
  select (cmpi .eq am (broadcast S16 (BitVec.ofNat 32 s))) (broadcast S16 (Scalar.ofBits .f32 0xFF800000#32)) (R s)

theorem knock_map (am : Ints) (R : ℕ → Lanes Ideal) (l : List ℕ) :
    knock am (l.map fun s => (BitVec.ofNat 32 s, R s)) = l.map fun s => (BitVec.ofNat 32 s, struck am R s) := by
  induction l with
  | nil => rfl
  | cons a l ih => rw [List.map_cons, List.map_cons, ← ih]; rfl

theorem struck_at (am : Ints) (R : ℕ → Lanes Ideal) (s f : ℕ) (j : S16.Idx) (ha : am j = BitVec.ofNat 32 f) (hf : f < 2 ^ 32) (hs : s < 2 ^ 32) :
    struck am R s j = if s = f then (⊥ : EReal) else R s j := by
  show Scalar.select (BitVec.ofBool (am j == BitVec.ofNat 32 s)) (Scalar.ofBits (F := Ideal) .f32 0xFF800000#32) (R s j) = _
  rw [ha, negInf_eq]
  by_cases h : s = f
  · subst h
    rw [if_pos rfl, beq_self_eq_true]
    rfl
  · rw [if_neg h, show (BitVec.ofNat 32 f == BitVec.ofNat 32 s) = false from by
      rw [beq_eq_false_iff_ne]
      intro e
      have e' := congrArg BitVec.toNat e
      rw [BitVec.toNat_ofNat, BitVec.toNat_ofNat, Nat.mod_eq_of_lt hf, Nat.mod_eq_of_lt hs] at e'
      exact h e'.symm]
    rfl

theorem first_congr {C C' : ℕ → EReal} : ∀ n, (∀ q, 1 ≤ q → q ≤ n + 1 → C q = C' q) → first C n = first C' n
  | 0, _ => rfl
  | n + 1, h => by
    have ih := first_congr n fun q h1 h2 => h q h1 (by omega)
    obtain ⟨h1, h2, -⟩ := first_spec C' n
    unfold first
    rw [ih, h _ h1 (by omega), h (n + 2) (by omega) (by omega)]

/-- After `k` rounds every lane's column is as its own rounds leave it. -/
theorem after_rows (R : ℕ → Lanes Ideal) : ∀ k, ∃ R' : ℕ → Lanes Ideal, after k (numbered R) = numbered R'
    ∧ ∀ s j, s ≤ 31 → R' s j = col (fun s => R s j) k s
  | 0 => ⟨R, rfl, fun _ _ _ => rfl⟩
  | k + 1 => by
    obtain ⟨R', h, hR⟩ := after_rows R k
    refine ⟨struck (best (numbered R')).2 R', ?_, fun s j hs => ?_⟩
    · show knock (best (after k (numbered R))).2 (after k (numbered R)) = _
      rw [h]
      exact knock_map _ _ _
    · have hf : first (fun s => R' s j) 30 = pick (fun s => R s j) k := first_congr 30 fun q _ hq => hR q j (by omega)
      have hb := (best_rows R' j).2
      rw [hf] at hb
      have hp := pick_le (fun s => R s j) k
      rw [struck_at _ R' s _ j hb (by omega) (by omega), hR s j hs]
      rfl

/-- What round `k` chooses in a lane: the score and the number of the row its column's round `k` takes. -/
theorem chosen_at (X : S32x208.Idx → Ideal .f32) (k st : ℕ) (j : S16.Idx) (C : ℕ → EReal) (hC : ∀ s, X (spot s (st + (j 0).val)) = C s) :
    (chosen X k st).1 j = col C k (pick C k) ∧ (chosen X k st).2 j = BitVec.ofNat 32 (pick C k) := by
  obtain ⟨R', h, hR⟩ := after_rows (rowOf X · st) k
  have e : (fun s => rowOf X s st j) = C := funext hC
  unfold chosen
  rw [show rowsAt X st = numbered (rowOf X · st) from rfl, h]
  have hf : first (fun s => R' s j) 30 = pick C k := by
    rw [← e]
    exact first_congr 30 fun q _ hq => hR q j (by omega)
  have hb := best_rows R' j
  rw [hf, hR _ j (pick_le C k), e] at hb
  exact hb

end Cert.Proof.Best
-- ==== Proof.BestValue.lean ====
module

public import proofs.«01_k».proof.Defs
public import proofs.«01_k».proof.Proof.BestLocal
public import proofs.«01_k».proof.Proof.BestRounds
public import proofs.«01_k».proof.Proof.Gen.ReferenceIdeal.Run
public import Idealize.ShloMosaic.Lib.Pointwise.Reshape

@[expose] public section

noncomputable section

/-! # What the reference computes

The three results of the rounds are known entry by entry. Here the reference's sort of each column is read at one entry, and the two are
seen to be the same functions of the scores. -/

namespace Cert.Proof.Best

open Idealize.ShloMosaic Idealize.SL.Sem
open Cert.ReferenceIdeal Cert.ReferenceIdeal.Gen
open Cert.KernelIdeal (S32x32x208)

/-! ## The columns of the scores -/

/-- Column `r % 200` of plane `r / 200` of the scores. -/
def colOf (A : S32x32x208.Idx → Ideal .f32) (r : ℕ) : ℕ → EReal := fun s => A (at3 (r / 200) (spot s (r % 200)))

/-! ## The reference's entries -/

/-- The number of the column that entry `i` of a result belongs to. -/
def colNo (i : S128x50x5.Idx) : ℕ := (i 0).val * 50 + (i 1).val

theorem colNo_lt (i : S128x50x5.Idx) : colNo i < 6400 := by
  have h0 : (i 0).val < 128 := (i 0).isLt
  have h1 : (i 1).val < 50 := (i 1).isLt
  unfold colNo
  omega

/-- The scores laid out as the reference sorts them: every column along the last axis, without its first score. -/
def sorted (A : S32x32x208.Idx → Ideal .f32) : S128x50x31.Idx → Ideal .f32 :=
  fun j => colOf A ((j 0).val * 50 + (j 1).val) ((j 2).val + 1)

/-- The first two coordinates of `i`, and `p`. -/
def onAxis (i : S128x50x5.Idx) (p : Fin 31) : S128x50x31.Idx := fun a => match a with
  | 0 => i 0
  | 1 => i 1
  | 2 => p

theorem sorted_at (A : S32x32x208.Idx → Ideal .f32) (i : S128x50x5.Idx) (p : Fin 31) : sorted A (onAxis i p) = colOf A (colNo i) (p.val + 1) := rfl

/-- The two results of the sort, at one entry: the score that the entry's round takes, and its place. -/
theorem topK_at (A : S32x32x208.Idx → Ideal .f32) (i : S128x50x5.Idx) (hC : ∀ q, 1 ≤ q → q ≤ 31 → ⊥ < colOf A (colNo i) q) :
    (Host.topK S128x50x5 2 (FloatOps.cmpfTotal .gt) (sorted A) sliceFits_S128x50x31_S128x50x5).1 i
        = colOf A (colNo i) (pick (colOf A (colNo i)) (i 2).val)
    ∧ (Host.topK S128x50x5 2 (FloatOps.cmpfTotal .gt) (sorted A) sliceFits_S128x50x31_S128x50x5).2 i
        = BitVec.ofNat 32 (sel (colOf A (colNo i)) (i 2).val).val := by
  have h2 : (i 2).val < 5 := (i 2).isLt
  let k : Fin 31 := ⟨(i 2).val, by omega⟩
  let j : S128x50x31.Idx := fun a => ⟨0 + (i (a.cast rfl)).val, Nat.lt_of_lt_of_le (Nat.add_lt_add_left (i _).isLt _) (sliceFits_S128x50x31_S128x50x5.2 a)⟩
  have hj : ∀ p : Fin 31, j.along (2 : Fin 3) p = onAxis i p := fun p => funext fun a => by
    match a with
    | 0 => exact Fin.ext (Nat.zero_add _)
    | 1 => exact Fin.ext (Nat.zero_add _)
    | 2 => exact Function.update_self _ _ _
  have hk : j 2 = k := Fin.ext (Nat.zero_add _)
  have hfun : (fun p q : Fin 31 => FloatOps.cmpfTotal (F := Ideal) (φ := .f32) .gt (sorted A (j.along (2 : Fin 3) p)) (sorted A (j.along (2 : Fin 3) q)) == 1#1)
      = fun p q : Fin 31 => Ideal.cmpTotal .gt (colOf A (colNo i) (p.val + 1)) (colOf A (colNo i) (q.val + 1)) == 1#1 := by
    funext p q
    rw [hj, hj, sorted_at, sorted_at]
    rfl
  have hs : sortedFrom (fun p q : Fin 31 => FloatOps.cmpfTotal (F := Ideal) (φ := .f32) .gt (sorted A (j.along (2 : Fin 3) p)) (sorted A (j.along (2 : Fin 3) q)) == 1#1) (j 2)
      = sel (colOf A (colNo i)) (i 2).val := by
    rw [hfun, hk]
    exact sorted_sel hC k
  constructor
  · refine (congrArg (fun q : Fin 31 => sorted A (j.along (2 : Fin 3) q)) hs).trans ?_
    refine (congrArg (sorted A) (hj _)).trans ((sorted_at A i _).trans ?_)
    rw [sel_succ]
  · exact (congrArg (fun q : Fin 31 => BitVec.ofNat 32 ((j.along (2 : Fin 3) q) 2).val) hs).trans
      (congrArg (fun x : S128x50x31.Idx => BitVec.ofNat 32 (x 2).val) (hj _))

/-! ## The rounds' entries -/

/-- A result without its padding, column by column, read through the layout of the reference's. -/
theorem byColumn_at {α : Type} (f : Cert.KernelIdeal.S32x5x208.Idx → α) (h : Cert.KernelIdeal.S32x200x5.ShapeCasts S128x50x5) (i : S128x50x5.Idx) :
    shapeCast S128x50x5 (byColumn f) h i = f (fun a => match a with
      | 0 => ⟨colNo i / 200, by have := colNo_lt i; show _ < 32; omega⟩
      | 1 => i 2
      | 2 => ⟨colNo i % 200, by show _ < 208; omega⟩) := by
  have h0 : (i 0).val < 128 := (i 0).isLt
  have h1 : (i 1).val < 50 := (i 1).isLt
  have h2 : (i 2).val < 5 := (i 2).isLt
  have hr := colNo_lt i
  show byColumn f (Shape.reshapeEquiv _ i) = _
  rw [show Shape.reshapeEquiv h i
      = (fun a => match a with
          | 0 => ⟨colNo i / 200, by show _ < 32; omega⟩
          | 1 => ⟨colNo i % 200, by show _ < 200; omega⟩
          | 2 => i 2 : Cert.KernelIdeal.S32x200x5.Idx) from
    Shape.reshapeEquiv_eq_of_rowMajor _ (by
      rw [Shape.rowMajor_val_three, Shape.rowMajor_val_three]
      show (colNo i / 200 * 200 + colNo i % 200) * 5 + (i 2).val = ((i 0).val * 50 + (i 1).val) * 5 + (i 2).val
      unfold colNo
      omega)]
  unfold byColumn
  refine congrArg f (funext fun a => Fin.ext ?_)
  match a with
  | 0 => exact Nat.zero_add _
  | 1 => exact Nat.zero_add _
  | 2 => exact Nat.zero_add _

/-- What a round chooses for entry `i`. -/
theorem chosen_col (A : S32x32x208.Idx → Ideal .f32) (r k : ℕ) (hr : r < 6400) :
    (chosen (plane A (r / 200)) k (r % 200 / 16 * 16)).1 (lane (r % 200 % 16)) = col (colOf A r) k (pick (colOf A r) k)
    ∧ (chosen (plane A (r / 200)) k (r % 200 / 16 * 16)).2 (lane (r % 200 % 16)) = BitVec.ofNat 32 (pick (colOf A r) k) := by
  refine chosen_at _ _ _ _ _ fun s => ?_
  show A (at3 (r / 200) (spot s (r % 200 / 16 * 16 + r % 200 % 16 % 16))) = A (at3 (r / 200) (spot s (r % 200)))
  rw [show r % 200 / 16 * 16 + r % 200 % 16 % 16 = r % 200 by omega]

theorem sub_one (p : ℕ) (h1 : 1 ≤ p) (h2 : p ≤ 31) : BitVec.ofNat 32 p - 1#32 = BitVec.ofNat 32 (p - 1) := by
  apply BitVec.eq_of_toNat_eq
  simp only [BitVec.toNat_sub, BitVec.toNat_ofNat]
  omega

variable (A : S32x32x208.Idx → Ideal .f32) (hA : ∀ r, r < 6400 → ∀ q, 1 ≤ q → q ≤ 31 → ⊥ < colOf A r q)
include hA

/-- The scores are the reference's, -/
theorem tops_eq (h : Cert.KernelIdeal.S32x200x5.ShapeCasts S128x50x5) :
    shapeCast S128x50x5 (byColumn (allTops A)) h
      = (Host.topK S128x50x5 2 (FloatOps.cmpfTotal .gt) (sorted A) sliceFits_S128x50x31_S128x50x5).1 := by
  funext i
  have h2 : (i 2).val < 5 := (i 2).isLt
  rw [byColumn_at, (topK_at A i (hA _ (colNo_lt i))).1, ← col_pick (hA _ (colNo_lt i)) (show (i 2).val < 31 by omega)]
  exact (chosen_col A (colNo i) (i 2).val (colNo_lt i)).1

/-- the places are, -/
theorem kids_eq (h : Cert.KernelIdeal.S32x200x5.ShapeCasts S128x50x5) :
    shapeCast S128x50x5 (byColumn (allKids A)) h
      = (Host.topK S128x50x5 2 (FloatOps.cmpfTotal .gt) (sorted A) sliceFits_S128x50x31_S128x50x5).2 := by
  funext i
  rw [byColumn_at, (topK_at A i (hA _ (colNo_lt i))).2]
  show (chosen (plane A (colNo i / 200)) (i 2).val (colNo i % 200 / 16 * 16)).2 (lane (colNo i % 200 % 16)) - 1#32 = _
  rw [(chosen_col A (colNo i) (i 2).val (colNo_lt i)).2]
  exact sub_one _ (pick_pos _ _) (pick_le _ _)

/-- and the rows are the places, counted from the first token of their column. -/
theorem idxs_eq (h : Cert.KernelIdeal.S32x200x5.ShapeCasts S128x50x5) (i : S128x50x5.Idx) :
    shapeCast S128x50x5 (byColumn (allIdxs A)) h i = BitVec.ofNat 32 (colNo i) * 32#32
      + (Host.topK S128x50x5 2 (FloatOps.cmpfTotal .gt) (sorted A) sliceFits_S128x50x31_S128x50x5).2 i := by
  rw [byColumn_at]
  show (BitVec.ofNat 32 (colNo i / 200) * 200#32 + BitVec.ofNat 32 (colNo i % 200 / 16 * 16) + lanes (lane (colNo i % 200 % 16))) * 32#32 - 1#32
      + (chosen (plane A (colNo i / 200)) (i 2).val (colNo i % 200 / 16 * 16)).2 (lane (colNo i % 200 % 16))
    = BitVec.ofNat 32 (colNo i) * 32#32 + (Host.topK S128x50x5 2 (FloatOps.cmpfTotal .gt) (sorted A) sliceFits_S128x50x31_S128x50x5).2 i
  rw [(topK_at A i (hA _ (colNo_lt i))).2, (chosen_col A (colNo i) (i 2).val (colNo_lt i)).2, lanes_at, Nat.mod_mod]
  exact row_no _ _ (colNo_lt i) (pick_pos _ _) (pick_le _ _)

/-- Every place is one of 31. -/
theorem places_lt (i : S128x50x5.Idx) :
    ((Host.topK S128x50x5 2 (FloatOps.cmpfTotal .gt) (sorted A) sliceFits_S128x50x31_S128x50x5).2 i).toNat < 31 := by
  rw [(topK_at A i (hA _ (colNo_lt i))).2, BitVec.toNat_ofNat]
  have := (sel (colOf A (colNo i)) (i 2).val).isLt
  omega

end Cert.Proof.Best

end
-- ==== Proof.ScoreValue.lean ====
module

public import proofs.«01_k».proof.Proof.ScoresRun
public import proofs.«01_k».proof.Proof.Gen.ReferenceIdeal.Run
public import Idealize.ShloMosaic.Lib.Pointwise

/-!
The scores over the extended reals. The kernel multiplies a token with the reciprocal of its length, the reference divides it; both are the
same sum of products, and that sum is never minus infinity, whatever the arguments are.
-/

@[expose] public section

noncomputable section

namespace Cert.Proof.ScoreValue

open Idealize.ShloMosaic Idealize.SL.Sem

/-! ## A vector of 128 numbers and its length -/

/-- The least length that is divided by. -/
abbrev eps : EReal := Ideal.ofBits .f32 0x2B8CBCCC#32

/-- The length of a vector, or `eps` where that is more. -/
def len (f : Fin 128 → EReal) : EReal := max (Ideal.sqrt (∑ k, f k * f k)) eps

/-- The cosine of two vectors. -/
def score (f g : Fin 128 → EReal) : EReal := ∑ k, Ideal.div (f k) (len f) * Ideal.div (g k) (len g)

theorem eps_pos : 0 < eps := by
  have h : eps = (((2 ^ 23 + 834764 : ℕ) : ℝ) * (2 : ℝ) ^ (-63 : ℤ) : ℝ) := by
    simp [eps, Ideal.ofBits, Ideal.ieee]
  rw [h]
  exact_mod_cast (by positivity : (0 : ℝ) < ((2 ^ 23 + 834764 : ℕ) : ℝ) * (2 : ℝ) ^ (-63 : ℤ))

theorem len_pos (f : Fin 128 → EReal) : 0 < len f := lt_of_lt_of_le eps_pos (le_max_right _ _)

/-- A number times the reciprocal of a length is the number divided by it. -/
theorem mul_inv (x : EReal) (f : Fin 128 → EReal) : x * Ideal.div 1 (len f) = Ideal.div x (len f) := by
  unfold Ideal.div
  rw [if_neg (len_pos f).ne', if_neg (len_pos f).ne', one_mul]

theorem sq_nonneg (x : EReal) : 0 ≤ x * x := by
  induction x with
  | bot => simp
  | top => simp
  | coe r => rw [← EReal.coe_mul]; exact_mod_cast mul_self_nonneg r

/-- A vector with an infinite entry has infinite length. -/
theorem len_top (f : Fin 128 → EReal) (k : Fin 128) (h : f k * f k = ⊤) : len f = ⊤ := by
  have hs : ∑ k, f k * f k = ⊤ := top_le_iff.mp (h ▸ Finset.single_le_sum (f := fun k => f k * f k) (fun i _ => sq_nonneg (f i)) (Finset.mem_univ k))
  unfold len
  rw [hs]
  exact max_eq_left le_top

/-- An entry divided by the length is a real number. -/
theorem entry_real (f : Fin 128 → EReal) (k : Fin 128) : ∃ r : ℝ, Ideal.div (f k) (len f) = r := by
  have hp := len_pos f
  unfold Ideal.div
  rw [if_neg hp.ne']
  generalize hx : f k = x
  induction x with
  | bot => rw [len_top f k (by rw [hx]; rfl)]; exact ⟨0, by simp⟩
  | top => rw [len_top f k (by rw [hx]; rfl)]; exact ⟨0, by simp⟩
  | coe x =>
    generalize len f = n at hp
    induction n with
    | bot => exact absurd hp (by simp)
    | top => exact ⟨0, by simp⟩
    | coe n => exact ⟨x * n⁻¹, by rw [EReal.coe_mul, EReal.coe_inv]⟩

theorem score_bot (f g : Fin 128 → EReal) : ⊥ < score f g := by
  have h : ∀ k, ∃ r : ℝ, Ideal.div (f k) (len f) * Ideal.div (g k) (len g) = r := fun k => by
    obtain ⟨a, ha⟩ := entry_real f k
    obtain ⟨b, hb⟩ := entry_real g k
    exact ⟨a * b, by rw [ha, hb, EReal.coe_mul]⟩
  choose r hr using h
  unfold score
  simp only [hr]
  have hs : (∑ k, (r k : EReal)) = ((∑ k, r k : ℝ) : EReal) := (map_sum (⟨⟨Real.toEReal, rfl⟩, EReal.coe_add⟩ : ℝ →+ EReal) r Finset.univ).symm
  rw [hs]
  exact EReal.bot_lt_coe _

/-! ## The kernel's scores -/

section kernel
open Cert.KernelIdeal Cert.KernelIdeal.Gen Cert.Proof.Scores

theorem user_at (u : S1x1x128.Idx → Ideal .f32) (k : Fin 128) :
    user (F := Ideal) u (ix1 k) = Ideal.div (u (ix3 0 0 k)) (len fun k => u (ix3 0 0 k)) := by
  pointwise [user, len]
  rfl

theorem tokens_at (x : S1x50x32x128.Idx → Ideal .f32) (h : Fin 50) (q : Fin 32) (k : Fin 128) :
    tokens (F := Ideal) x (ix3 h q k) = Ideal.div (x (ix4 0 h q k)) (len fun k => x (ix4 0 h q k)) := by
  rw [← mul_inv]
  pointwise [tokens, len]

theorem rowScores_at (x : S1x50x32x128.Idx → Ideal .f32) (u : S1x1x128.Idx → Ideal .f32) (h : Fin 50) (q : Fin 32) :
    rowScores (F := Ideal) x u (ix3 0 q h) = score (fun k => x (ix4 0 h q k)) (fun k => u (ix3 0 0 k)) := by
  unfold score
  simp only [← tokens_at, ← user_at]
  pointwise [rowScores]

/-- A score of the kernel: the cosine of a token and its row's user. -/
theorem allScores_at (X : S128x50x32x128.Idx → Ideal .f32) (U : S128x1x128.Idx → Ideal .f32) (y : S32x32x208.Idx)
    (b : Fin 128) (h : Fin 50) (q : Fin 32) (hb : b.val = (y 0).val * 4 + (y 2).val / 50 % 4) (hh : h.val = (y 2).val % 50) (hq : q.val = (y 1).val) :
    allScores (F := Ideal) X U y = score (fun k => X (ix4 b h q k)) (fun k => U (ix3 b 0 k)) := by
  obtain rfl : q = y 1 := Fin.ext hq
  obtain rfl : h = (⟨(y 2).val % 50, Nat.mod_lt _ (by decide)⟩ : Fin 50) := Fin.ext hh
  unfold allScores blockScores
  have hp : place (inBlk y) = ix3 0 (y 1) ⟨(y 2).val % 50, Nat.mod_lt _ (by decide)⟩ := by
    funext a
    match a with
    | 0 => rfl
    | 1 => rfl
    | 2 => rfl
  rw [hp]
  refine (rowScores_at _ _ _ _).trans (congrArg₂ score ?_ ?_)
  · funext k
    refine congrArg X (funext fun a => Fin.ext ?_)
    match a with
    | 0 => show (y 0).val * 4 + ((y 2).val / 50 % 4 + 1 * 0) = b.val; omega
    | 1 => show 0 + 1 * ((y 2).val % 50) = (y 2).val % 50; omega
    | 2 => show 0 + 1 * (y 1).val = (y 1).val; omega
    | 3 => show 0 + 1 * k.val = k.val; omega
  · funext k
    refine congrArg U (funext fun a => Fin.ext ?_)
    match a with
    | 0 => show (y 0).val * 4 + ((y 2).val / 50 % 4 + 1 * 0) = b.val; omega
    | 1 => show 0 + 1 * 0 = 0; omega
    | 2 => show 0 + 1 * k.val = k.val; omega

end kernel

section reference
open Cert.ReferenceIdeal Cert.ReferenceIdeal.Gen

/-- Token `p` of the 31 that are compared is token `p + 1` of the 32. -/
abbrev next (p : Fin 31) : Fin 32 := ⟨1 + p.val, by have := p.isLt; omega⟩

/-- The scores as the reference computes them. -/
def scoresR (X : FVec Ideal S128x50x32x128 .f32) (U : FVec Ideal S128x1x128 .f32) (M : FVec Ideal S128x50x32 .f32) : FVec Ideal S128x50x31 .f32 :=
  mulf (shapeCast _ (Host.dotGeneral dot_S128x50x31x128_S128x128x1_S128x50x31x1_3_1_12_2_0_0 none (Host.divf (extractStridedSlice S128x50x31x128 ![0, 0, 1, 0] X slices_S128x50x32x128_S128x50x31x128_0_0_1_0) (broadcastInDim S128x50x31x128 ![0, 1, 2, 3] bcast_S128x50x31x1_S128x50x31x128_0_1_2_3 (maximumf (Host.sqrt (broadcastInDim S128x50x31x1 ![0, 1, 2] bcast_S128x50x31_S128x50x31x1_0_1_2 (Host.reduceAdd (mulf (extractStridedSlice S128x50x31x128 ![0, 0, 1, 0] X slices_S128x50x32x128_S128x50x31x128_0_0_1_0) (extractStridedSlice S128x50x31x128 ![0, 0, 1, 0] X slices_S128x50x32x128_S128x50x31x128_0_0_1_0)) (constant S_ .f32 0x00000000#32) reducesTo_S128x50x31x128_S128x50x31_d3 h_S_))) (broadcastInDim S128x50x31x1 ![] bcast_S_S128x50x31x1 (constant S_ .f32 0x2B8CBCCC#32))))) (shapeCast _ (broadcastInDim S128x1x128x1 ![0, 2, 3] bcast_S128x128x1_S128x1x128x1_0_2_3 (transpose S128x128x1 [0, 2, 1] (Host.divf U (broadcastInDim S128x1x128 ![0, 1, 2] bcast_S128x1x1_S128x1x128_0_1_2 (maximumf (Host.sqrt (broadcastInDim S128x1x1 ![0, 1] bcast_S128x1_S128x1x1_0_1 (Host.reduceAdd (mulf U U) (constant S_ .f32 0x00000000#32) reducesTo_S128x1x128_S128x1_d2 h_S_))) (broadcastInDim S128x1x1 ![] bcast_S_S128x1x1 (constant S_ .f32 0x2B8CBCCC#32))))) transposes_S128x1x128_S128x128x1_0_2_1)) shapeCasts_S128x1x128x1_S128x128x1)) shapeCasts_S128x50x31x1_S128x50x31) (extractStridedSlice S128x50x31 ![0, 0, 1] M slices_S128x50x32_S128x50x31_0_0_1)

theorem scoresR_at (X : FVec Ideal S128x50x32x128 .f32) (U : FVec Ideal S128x1x128 .f32) (M : FVec Ideal S128x50x32 .f32) (b : Fin 128) (h : Fin 50) (p : Fin 31) :
    scoresR X U M (ix3 b h p) = score (fun k => X (ix4 b h (next p) k)) (fun k => U (ix3 b 0 k)) * M (ix3 b h (next p)) := by
  pointwise [scoresR, score, len]

end reference

end Cert.Proof.ScoreValue

end
-- ==== Proof.Value.lean ====
module

public import proofs.«01_k».proof.Proof.Whole
public import proofs.«01_k».proof.Proof.BestValue
public import proofs.«01_k».proof.Proof.ScoreValue
public import proofs.«01_k».proof.Proof.Gen.Pre_mask_of_ones
public import Idealize.ShloMosaic.Lib.Quiescent

@[expose] public section

noncomputable section

/-! # What the reference computes

The kernel's two results are known entry by entry. Here the reference's terms are read at one entry, and the two are seen to be the same
functions of the arguments. -/

namespace Cert.Proof.Value

open Idealize.ShloMosaic Idealize.SL.Sem
open Cert.ReferenceIdeal Cert.ReferenceIdeal.Gen
open Cert.Proof.Best (colOf colNo colNo_lt sorted byColumn allTops allIdxs allKids outG outS outN)
open Cert.Proof.Gather (cell rowAt gathered)

/-! ## The scores -/

/-- The precondition says that every entry of the mask is one. -/
theorem mask_ok {X K : FVec Ideal S128x50x32x128 .f32} {U : FVec Ideal S128x1x128 .f32} {M : FVec Ideal S128x50x32 .f32}
    (h : Cert.Pre_mask_of_ones.fn (F := Ideal) X K U M = fun _ => 1#1) (i : S128x50x32.Idx) : M i = (1 : EReal) := by
  have e : BitVec.ofBool (decide ((M i : EReal) = Ideal.ofBits .f32 0x3F800000#32)) = 1#1 := congrFun h i
  rw [Ideal.ofBits_one_f32] at e
  cases hd : decide ((M i : EReal) = 1) with
  | true => exact of_decide_eq_true hd
  | false => rw [hd] at e; exact absurd e (by decide)

variable (X : S128x50x32x128.Idx → Ideal .f32) (U : S128x1x128.Idx → Ideal .f32)

/-- The score of token `q` of column `r`: the cosine of that token and the user of its row of the batch. -/
theorem colOf_scores (r q : ℕ) (hr : r < 6400) (hq : q ≤ 31) :
    colOf (Scores.allScores (F := Ideal) X U) r q
      = ScoreValue.score (fun k => X (ix4 ⟨r / 50, by omega⟩ ⟨r % 50, by omega⟩ ⟨q, by omega⟩ k)) (fun k => U (ix3 ⟨r / 50, by omega⟩ 0 k)) := by
  refine ScoreValue.allScores_at X U _ _ _ _ ?_ ?_ ?_
  · show r / 50 = (r / 200 % 32) * 4 + (r % 200 % 208) / 50 % 4; omega
  · show r % 50 = (r % 200 % 208) % 50; omega
  · show q = q % 32; omega

/-- No score is minus infinity. -/
theorem scores_ok : ∀ r, r < 6400 → ∀ q, 1 ≤ q → q ≤ 31 → ⊥ < colOf (Scores.allScores (F := Ideal) X U) r q := by
  intro r hr q _ hq
  rw [colOf_scores X U r q hr hq]
  exact ScoreValue.score_bot _ _

/-- Under a mask of ones the scores that the reference sorts are the kernel's. -/
theorem scoresR_eq (M : S128x50x32.Idx → Ideal .f32) (hM : ∀ i, M i = (1 : EReal)) :
    ScoreValue.scoresR X U M = sorted (Scores.allScores (F := Ideal) X U) := by
  funext j
  obtain ⟨b, h, p, rfl⟩ : ∃ (b : Fin 128) (h : Fin 50) (p : Fin 31), j = ix3 b h p := ⟨j 0, j 1, j 2, by
    funext a
    match a with
    | 0 => rfl
    | 1 => rfl
    | 2 => rfl⟩
  have hb := b.isLt
  have hh := h.isLt
  have hp := p.isLt
  refine (ScoreValue.scoresR_at X U M b h p).trans ?_
  rw [hM, mul_one]
  refine Eq.trans ?_ (colOf_scores X U (b.val * 50 + h.val) (p.val + 1) (by omega) (by omega)).symm
  have e0 : (⟨(b.val * 50 + h.val) / 50, by omega⟩ : Fin 128) = b := Fin.ext (by show (b.val * 50 + h.val) / 50 = b.val; omega)
  have e1 : (⟨(b.val * 50 + h.val) % 50, by omega⟩ : Fin 50) = h := Fin.ext (by show (b.val * 50 + h.val) % 50 = h.val; omega)
  have e2 : (⟨p.val + 1, by omega⟩ : Fin 32) = ScoreValue.next p := Fin.ext (Nat.add_comm _ _)
  rw [e0, e1, e2]

/-! ## The chosen tokens, as the reference gathers them -/

/-- The places with a negative one counted from the end. -/
def wrapped (J : IVec S128x50x5 32) : IVec S128x50x5x1 32 :=
  select (cmpi .slt (broadcastInDim S128x50x5x1 ![0, 1, 2] bcast_S128x50x5_S128x50x5x1_0_1_2 J) (broadcastInDim S128x50x5x1 ![] bcast_S_S128x50x5x1 (constantI S_ 32 0#32)))
    (addi (broadcastInDim S128x50x5x1 ![0, 1, 2] bcast_S128x50x5_S128x50x5x1_0_1_2 J) (broadcastInDim S128x50x5x1 ![] bcast_S_S128x50x5x1 (constantI S_ 32 32#32)))
    (broadcastInDim S128x50x5x1 ![0, 1, 2] bcast_S128x50x5_S128x50x5x1_0_1_2 J)

/-- Which of the places are places of tokens. -/
def within (I : IVec S128x50x5x1 32) : IVec S128x50x5 1 :=
  Host.reduce IntOp.andi (andi (cmpi .sge I (broadcastInDim S128x50x5x1 ![] bcast_S_S128x50x5x1 (constantI S_ 32 0#32)))
    (cmpi .sle I (broadcastInDim S128x50x5x1 ![0, 1, 2, 3] bcast_S1x1x1x1_S128x50x5x1_0_1_2_3 (broadcastInDim S1x1x1x1 ![3] bcast_S1_S1x1x1x1_3 (constantI S1 32 31#32)))))
    (constantI S_ 1 1#1) reducesTo_S128x50x5x1_S128x50x5_d3 h_S_

/-- The reference's first result, from the tokens' values, the places and the scores. -/
def weighted (K : FVec Ideal S128x50x32x128 .f32) (J : IVec S128x50x5 32) (S : FVec Ideal S128x50x5 .f32) : FVec Ideal S128x50x5x128 .f32 :=
  mulf (select (broadcastInDim S128x50x5x128 ![0, 1, 2] bcast_S128x50x5_S128x50x5x128_0_1_2 (within (wrapped J)))
      (Host.gather gather_S128x50x32x128_S128x50x5x1_S128x50x5x128_3_2_01_01_2_3_111128 K (wrapped J))
      (broadcastInDim S128x50x5x128 ![] bcast_S_S128x50x5x128 (constant S_ .f32 0x7FC00000#32)))
    (broadcastInDim S128x50x5x128 ![0, 1, 2, 3] bcast_S128x50x5x1_S128x50x5x128_0_1_2_3 (broadcastInDim S128x50x5x1 ![0, 1, 2] bcast_S128x50x5_S128x50x5x1_0_1_2
      (select (cmpf .olt S (broadcastInDim S128x50x5 ![] bcast_S_S128x50x5 (constant S_ .f32 0xFF800000#32))) (broadcastInDim S128x50x5 ![] bcast_S_S128x50x5 (constant S_ .f32 0x00000000#32)) S)))

theorem word_kept (v : BitVec 32) (h : v.toNat < 31) : IntOp.cmpi .slt v 0#32 = 0#1 := by
  have : BitVec.slt v 0#32 = false := by
    simp only [BitVec.slt_eq_decide, decide_eq_false_iff_not, BitVec.toInt_eq_toNat_cond, BitVec.toNat_ofNat, Nat.reducePow, Nat.reduceMod]
    omega
  simp only [IntOp.cmpi, this]
  rfl

theorem word_within (v : BitVec 32) (h : v.toNat < 31) : IntOp.andi (IntOp.cmpi .sge v 0#32) (IntOp.cmpi .sle v 31#32) = 1#1 := by
  have h0 : BitVec.sle 0#32 v = true := by
    simp only [BitVec.sle_eq_decide, decide_eq_true_eq, BitVec.toInt_eq_toNat_cond, BitVec.toNat_ofNat, Nat.reducePow, Nat.reduceMod]
    omega
  have h1 : BitVec.sle v 31#32 = true := by
    simp only [BitVec.sle_eq_decide, decide_eq_true_eq, BitVec.toInt_eq_toNat_cond, BitVec.toNat_ofNat, Nat.reducePow, Nat.reduceMod]
    omega
  simp only [IntOp.cmpi, h0, h1]
  rfl

theorem wrapped_eq (J : IVec S128x50x5 32) (hJ : ∀ i, (J i).toNat < 31) :
    wrapped J = broadcastInDim S128x50x5x1 ![0, 1, 2] bcast_S128x50x5_S128x50x5x1_0_1_2 J := by
  funext y
  show Scalar.select (IntOp.cmpi .slt (broadcastInDim S128x50x5x1 ![0, 1, 2] bcast_S128x50x5_S128x50x5x1_0_1_2 J y) 0#32) _ _ = _
  rw [word_kept (broadcastInDim S128x50x5x1 ![0, 1, 2] bcast_S128x50x5_S128x50x5x1_0_1_2 J y) (hJ _)]
  rfl

theorem foldl_ones {ι : Type} (l : List ι) (f : ι → BitVec 1) (hf : ∀ i, f i = 1#1) : l.foldl (fun r i => IntOp.andi r (f i)) 1#1 = 1#1 := by
  induction l with
  | nil => rfl
  | cons a l ih => rw [List.foldl_cons, hf a]; exact ih

theorem within_eq (I : IVec S128x50x5x1 32) (hI : ∀ i, (I i).toNat < 31) (i : S128x50x5.Idx) : within I i = 1#1 := by
  unfold within
  rw [Host.reduce_eq_foldl]
  exact foldl_ones _ _ fun z => word_within (I z) (hI z)

/-! ## One entry of the results -/

/-- The number, among the 32000 fetched rows, of the row that entry `y` of the result lies in. -/
def rowOf (b h k : ℕ) : ℕ := (b * 50 + h) * 5 + k

theorem flat_casts : Cert.KernelIdeal.S32x1000.ShapeCasts S128x50x5 := by decide

/-- An array of 32000 entries laid out as 32 rows of 1000, read through its layout as 128 × 50 × 5. -/
theorem cast_at {α : Type} (x : Cert.KernelIdeal.S32x1000.Idx → α) (i : S128x50x5.Idx) :
    shapeCast S128x50x5 x flat_casts i
      = x (cell (rowOf (i 0).val (i 1).val (i 2).val / 1000) (rowOf (i 0).val (i 1).val (i 2).val % 1000)) := by
  show x (Shape.reshapeEquiv _ i) = _
  congr 1
  apply Shape.reshapeEquiv_eq_of_rowMajor
  have h0 : (i 0).val < 128 := (i 0).isLt
  have h1 : (i 1).val < 50 := (i 1).isLt
  have h2 : (i 2).val < 5 := (i 2).isLt
  rw [Shape.rowMajor_val_two, Shape.rowMajor_val_three]
  show (rowOf _ _ _ / 1000) % 32 * 1000 + (rowOf _ _ _ % 1000) % 1000 = ((i 0).val * 50 + (i 1).val) * 5 + (i 2).val
  unfold rowOf
  omega

/-- Read at the cell of entry `i`, an array laid out from the columns is that of the columns at `i`. -/
theorem columns_at {α : Type} (x : Cert.KernelIdeal.S32x200x5.Idx → α) (h : Cert.KernelIdeal.S32x200x5.ShapeCasts Cert.KernelIdeal.S32x1000)
    (h' : Cert.KernelIdeal.S32x200x5.ShapeCasts S128x50x5) (i : S128x50x5.Idx) :
    shapeCast Cert.KernelIdeal.S32x1000 x h (cell (rowOf (i 0).val (i 1).val (i 2).val / 1000) (rowOf (i 0).val (i 1).val (i 2).val % 1000))
      = shapeCast S128x50x5 x h' i := by
  refine (cast_at _ i).symm.trans ?_
  rw [shapeCast_comp]

/-- An array of 32000 rows of 128, read through its layout as 128 × 50 × 5 × 128. -/
theorem rows_at {α : Type} (x : Cert.KernelIdeal.S32000x128.Idx → α) (h : Cert.KernelIdeal.S32000x128.ShapeCasts S128x50x5x128) (y : S128x50x5x128.Idx) :
    ∃ z : Cert.KernelIdeal.S32000x128.Idx, (z 0).val = rowOf (y 0).val (y 1).val (y 2).val ∧ (z 1).val = (y 3).val ∧ shapeCast S128x50x5x128 x h y = x z := by
  have h0 : (y 0).val < 128 := (y 0).isLt
  have h1 : (y 1).val < 50 := (y 1).isLt
  have h2 : (y 2).val < 5 := (y 2).isLt
  have h3 : (y 3).val < 128 := (y 3).isLt
  refine ⟨fun a => match a with
    | 0 => ⟨rowOf (y 0).val (y 1).val (y 2).val, by show _ < 32000; unfold rowOf; omega⟩
    | 1 => ⟨(y 3).val, h3⟩, rfl, rfl, ?_⟩
  show x (Shape.reshapeEquiv _ y) = _
  congr 1
  apply Shape.reshapeEquiv_eq_of_rowMajor
  rw [Shape.rowMajor_val_two, Shape.rowMajor_val_four]
  show rowOf _ _ _ * 128 + (y 3).val = (((y 0).val * 50 + (y 1).val) * 5 + (y 2).val) * 128 + (y 3).val
  rfl

/-- The index of the row number, and of the score, that entry `y` of the result uses. -/
def headOf (y : S128x50x5x128.Idx) : S128x50x5.Idx := fun a => match a with
  | 0 => y 0
  | 1 => y 1
  | 2 => y 2

/-- The same with a last axis of one. -/
def headOf1 (y : S128x50x5x128.Idx) : S128x50x5x1.Idx := fun a => match a with
  | 0 => y 0
  | 1 => y 1
  | 2 => y 2
  | 3 => ⟨0, by decide⟩

/-- A trailing axis of one put behind an array, read at an entry. -/
theorem bcast1_at {α : Type} (x : S128x50x5.Idx → α) (y : S128x50x5x128.Idx) :
    broadcastInDim S128x50x5x1 ![0, 1, 2] bcast_S128x50x5_S128x50x5x1_0_1_2 x (headOf1 y) = x (headOf y) := by
  unfold broadcastInDim
  congr 1
  funext a
  match a with
  | 0 => rfl
  | 1 => rfl
  | 2 => rfl

/-- The trailing axis of one repeated 128 times, read at an entry. -/
theorem bcast128_at {α : Type} (x : S128x50x5x1.Idx → α) (y : S128x50x5x128.Idx) :
    broadcastInDim S128x50x5x128 ![0, 1, 2, 3] bcast_S128x50x5x1_S128x50x5x128_0_1_2_3 x y = x (headOf1 y) := by
  unfold broadcastInDim
  congr 1
  funext a
  match a with
  | 0 => rfl
  | 1 => rfl
  | 2 => rfl
  | 3 => rfl

/-- The tokens laid out as one table of 204800 rows, read at the row of token `q` of history `(b, h)`. -/
theorem table_at {α : Type} (K : S128x50x32x128.Idx → α) (h' : S128x50x32x128.ShapeCasts Cert.KernelIdeal.S204800x128) (b : Fin 128) (h : Fin 50) (q : Fin 32) (k : Fin 128) :
    rowAt (shapeCast Cert.KernelIdeal.S204800x128 K h') ((b.val * 50 + h.val) * 32 + q.val) k.val = K (ix4 b h q k) := by
  have hb := b.isLt
  have hh := h.isLt
  have hq := q.isLt
  have hk := k.isLt
  unfold rowAt
  show K (Shape.reshapeEquiv _ _) = _
  congr 1
  apply Shape.reshapeEquiv_eq_of_rowMajor
  rw [Shape.rowMajor_val_two, Shape.rowMajor_val_four]
  show ((b.val * 50 + h.val) * 32 + q.val) * 128 + k.val = ((b.val * 50 + h.val) * 32 + q.val) % 204800 * 128 + k.val % 128
  omega

/-- The reference's gather at an entry whose place is one of 31: that token. -/
theorem gather_at {α : Type} (x : S128x50x32x128.Idx → α) (idx : IVec S128x50x5x1 32) (y : S128x50x5x128.Idx)
    (hr : (idx (headOf1 y)).toNat < 31) :
    Host.gather gather_S128x50x32x128_S128x50x5x1_S128x50x5x128_3_2_01_01_2_3_111128 x idx y
      = x (ix4 (y 0) (y 1) ⟨(idx (headOf1 y)).toNat, by omega⟩ (y 3)) := by
  unfold Host.gather
  congr 1
  funext a
  refine Fin.ext ?_
  generalize hd : gather_S128x50x32x128_S128x50x5x1_S128x50x5x128_3_2_01_01_2_3_111128 = d
  show d.start y idx a + d.batchCoord y a + d.offCoord y a = _
  subst hd
  have hs : ∀ a : Fin 4, a ≠ 2 → GatherDims.start gather_S128x50x32x128_S128x50x5x1_S128x50x5x128_3_2_01_01_2_3_111128 y idx a = 0 := fun a ha => by
    unfold GatherDims.start
    rw [dif_neg (show a ∉ gather_S128x50x32x128_S128x50x5x1_S128x50x5x128_3_2_01_01_2_3_111128.startIndexMap by
      show a ∉ [(2 : Fin 4)]; simpa using ha)]
  match a with
  | 0 =>
    rw [hs 0 (by decide), GatherDims.offCoord_eq_zero _ _ _ (fun h => ((GatherDims.mem_sKept _ _).mp h).2 (show (0 : Fin 4) ∈ [(0 : Fin 4), 1] by decide)),
      Nat.zero_add, Nat.add_zero]
    rfl
  | 1 =>
    rw [hs 1 (by decide), GatherDims.offCoord_eq_zero _ _ _ (fun h => ((GatherDims.mem_sKept _ _).mp h).2 (show (1 : Fin 4) ∈ [(0 : Fin 4), 1] by decide)),
      Nat.zero_add, Nat.add_zero]
    rfl
  | 2 =>
    rw [GatherDims.batchCoord_eq_zero _ _ _ (show (2 : Fin 4) ∉ [(0 : Fin 4), 1] by decide),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ gather_S128x50x32x128_S128x50x5x1_S128x50x5x128_3_2_01_01_2_3_111128.startIndexMap from List.mem_singleton.mpr rfl)]
    have hsi : gather_S128x50x32x128_S128x50x5x1_S128x50x5x128_3_2_01_01_2_3_111128.siIdx y
        ⟨List.idxOf (2 : Fin 4) gather_S128x50x32x128_S128x50x5x1_S128x50x5x128_3_2_01_01_2_3_111128.startIndexMap,
          List.idxOf_lt_length_iff.2 (List.mem_singleton.mpr rfl)⟩ = headOf1 y := by
      funext b; refine Fin.ext ?_
      match b with
      | 0 => rfl
      | 1 => rfl
      | 2 => rfl
      | 3 => rfl
    rw [hsi]
    have hi : (idx (headOf1 y)).toInt.toNat = (idx (headOf1 y)).toNat := by
      rw [BitVec.toInt_eq_toNat_cond]
      split
      · rfl
      · omega
    rw [hi]
    show min (idx (headOf1 y)).toNat (32 - 1) = (idx (headOf1 y)).toNat
    omega
  | 3 =>
    rw [hs 3 (by decide), GatherDims.batchCoord_eq_zero _ _ _ (show (3 : Fin 4) ∉ [(0 : Fin 4), 1] by decide), Nat.zero_add]
    rfl

/-- Nothing is less than minus infinity, so the reference's replacement of such scores leaves every score as it was. -/
theorem scores_kept (X : S128x50x5.Idx → Ideal .f32) :
    select (cmpf .olt X (broadcastInDim S128x50x5 ![] bcast_S_S128x50x5 (constant S_ .f32 0xFF800000#32)))
      (broadcastInDim S128x50x5 ![] bcast_S_S128x50x5 (constant S_ .f32 0x00000000#32)) X = X := by
  have hb : Ideal.ofBits .f32 0xFF800000#32 = ⊥ := by simp [Ideal.ofBits, Ideal.ieee]
  funext i
  show Scalar.select (Ideal.cmp .olt (X i) (Ideal.ofBits .f32 0xFF800000#32)) _ (X i) = X i
  rw [hb]
  have hc : Ideal.cmp .olt (X i) ⊥ = 0#1 := by
    show BitVec.ofBool (decide (X i < (⊥ : EReal))) = 0#1
    rw [decide_eq_false not_lt_bot]
    rfl
  rw [hc]
  rfl

/-- The reference's first result at an entry, where every place is one of 31. -/
theorem weighted_at (K : FVec Ideal S128x50x32x128 .f32) (J : IVec S128x50x5 32) (S : FVec Ideal S128x50x5 .f32) (hJ : ∀ i, (J i).toNat < 31)
    (y : S128x50x5x128.Idx) :
    weighted K J S y = FloatOps.mulf (K (ix4 (y 0) (y 1) ⟨(J (headOf y)).toNat, Nat.lt_of_lt_of_le (hJ (headOf y)) (by decide)⟩ (y 3))) (S (headOf y)) := by
  unfold weighted
  rw [scores_kept, wrapped_eq J hJ]
  have hw : within (broadcastInDim S128x50x5x1 ![0, 1, 2] bcast_S128x50x5_S128x50x5x1_0_1_2 J) = fun _ => 1#1 := funext fun i => within_eq _ (fun z => hJ _) i
  rw [hw]
  refine congrArg₂ FloatOps.mulf ?_ ((bcast128_at _ y).trans (bcast1_at S y))
  have hg := gather_at K (broadcastInDim S128x50x5x1 ![0, 1, 2] bcast_S128x50x5_S128x50x5x1_0_1_2 J) y (hJ _)
  refine Eq.trans (show _ = Host.gather _ K (broadcastInDim S128x50x5x1 ![0, 1, 2] bcast_S128x50x5_S128x50x5x1_0_1_2 J) y from rfl) (hg.trans ?_)
  have e := bcast1_at J y
  congr 2
  exact Fin.ext (congrArg BitVec.toNat e)

theorem row_word (n q : BitVec 32) (r : ℕ) (hr : r < 6400) (hn : n = BitVec.ofNat 32 r * 32#32 + q) (hq : q.toNat < 31) : n.toNat = r * 32 + q.toNat := by
  rw [hn]
  simp only [BitVec.toNat_add, BitVec.toNat_mul, BitVec.toNat_ofNat]
  omega

section rows
variable (A : Cert.KernelIdeal.S32x32x208.Idx → Ideal .f32) (hA : ∀ r, r < 6400 → ∀ q, 1 ≤ q → q ≤ 31 → ⊥ < colOf A r q)
include hA

/-- The scaled rows, laid out as the result, are the reference's first result. -/
theorem rows_eq (K : S128x50x32x128.Idx → Ideal .f32) (h : Cert.KernelIdeal.S32000x128.ShapeCasts S128x50x5x128)
    (h' : S128x50x32x128.ShapeCasts Cert.KernelIdeal.S204800x128) :
    shapeCast S128x50x5x128 (gathered (F := Ideal) (shapeCast Cert.KernelIdeal.S204800x128 K h') (outG A) (outS A)) h
      = weighted K (Host.topK S128x50x5 2 (FloatOps.cmpfTotal .gt) (sorted A) sliceFits_S128x50x31_S128x50x5).2
          (Host.topK S128x50x5 2 (FloatOps.cmpfTotal .gt) (sorted A) sliceFits_S128x50x31_S128x50x5).1 := by
  funext y
  have hJ := Best.places_lt A hA
  rw [weighted_at K _ _ hJ y]
  obtain ⟨z, hz0, hz1, hz⟩ := rows_at (gathered (F := Ideal) (shapeCast Cert.KernelIdeal.S204800x128 K h') (outG A) (outS A)) h y
  rw [hz]
  have hg : outG A (cell (rowOf (y 0).val (y 1).val (y 2).val / 1000) (rowOf (y 0).val (y 1).val (y 2).val % 1000)) = _ :=
    (columns_at (byColumn (allIdxs A)) _ Cert.KernelIdeal.Gen.shapeCasts_S32x200x5_S128x50x5 (headOf y)).trans (Best.idxs_eq A hA _ (headOf y))
  have hs : outS A (cell (rowOf (y 0).val (y 1).val (y 2).val / 1000) (rowOf (y 0).val (y 1).val (y 2).val % 1000)) = _ :=
    (columns_at (byColumn (allTops A)) _ Cert.KernelIdeal.Gen.shapeCasts_S32x200x5_S128x50x5 (headOf y)).trans (congrFun (Best.tops_eq A hA _) (headOf y))
  have hn := row_word _ _ _ (colNo_lt (headOf y)) hg (hJ (headOf y))
  unfold gathered
  rw [hz0, hz1, hs, hn]
  refine congrArg (FloatOps.mulf · _) ?_
  exact table_at K h' (y 0) (y 1) ⟨_, Nat.lt_of_lt_of_le (hJ (headOf y)) (by decide)⟩ (y 3)

end rows

/-! ## The two results -/

section results
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The scores as the reference computes them from its arguments. -/
abbrev refScores : S128x50x31.Idx → Ideal .f32 :=
  ScoreValue.scoresR (m' ((c.tc : Thread nD τ).loc main_arg0)) (m' ((c.tc : Thread nD τ).loc main_arg2)) (m' ((c.tc : Thread nD τ).loc main_arg3))

/-- The two memories agree on the arguments. -/
def Agree : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)
  ∧ m' ((c.tc : Thread nD τ).loc main_arg3) = m ((c.tc : Thread Cert.KernelIdeal.nD Cert.KernelIdeal.τ).loc Cert.KernelIdeal.main_arg3)

variable (heq : Agree m m' c)
  (hM : ∀ i : S128x50x32.Idx, (m ((c.tc : Thread Cert.KernelIdeal.nD Cert.KernelIdeal.τ).loc Cert.KernelIdeal.main_arg3) : S128x50x32.Idx → Ideal .f32) i = (1 : EReal))
include heq hM

theorem refScores_eq : refScores m' c = sorted (Whole.scores (F := Ideal) m c) := by
  unfold refScores
  rw [heq.1, heq.2.2.1, heq.2.2.2]
  exact scoresR_eq _ _ _ hM

/-- The second result: the places of the five best tokens of each history. -/
theorem result_places :
    (Host.topK S128x50x5 2 (FloatOps.cmpfTotal .gt) (refScores m' c) sliceFits_S128x50x31_S128x50x5).2 = outN (Whole.scores (F := Ideal) m c) := by
  rw [refScores_eq m m' c heq hM]
  exact (Best.kids_eq _ (scores_ok _ _) Cert.KernelIdeal.Gen.shapeCasts_S32x200x5_S128x50x5).symm

/-- The first result: the five best tokens of each history, each times its score. -/
theorem result_rows : Cert.ReferenceIdeal.Value.res_main_v26 m' c = Whole.out (F := Ideal) m c := by
  have e : Cert.ReferenceIdeal.Value.res_main_v26 m' c
      = weighted (m' ((c.tc : Thread nD τ).loc main_arg1))
          (Host.topK S128x50x5 2 (FloatOps.cmpfTotal .gt) (refScores m' c) sliceFits_S128x50x31_S128x50x5).2
          (Host.topK S128x50x5 2 (FloatOps.cmpfTotal .gt) (refScores m' c) sliceFits_S128x50x31_S128x50x5).1 := rfl
  rw [e, refScores_eq m m' c heq hM, heq.2.1]
  exact (rows_eq _ (scores_ok _ _) _ _ _).symm

end results

end Cert.Proof.Value

end
-- ==== Proof.FiveProg.lean ====
module

public import proofs.«01_k».proof.Defs
public import Idealize.ShloMosaic.Lib.SparseCore.Stream
public import proofs.«01_k».proof.Proof.Gen.TopKIdeal

@[expose] public section

set_option synthInstance.maxSize 4096

noncomputable section

namespace Cert.Proof.Five

open Cert.TopKIdeal Cert.TopKIdeal.Gen
open Idealize.ShloMosaic Idealize.SL.Sem

variable {F : FTy → Type} [FloatOps F]

/-- The programs of one vector subcore. -/
abbrev TProg (F : FTy → Type) (i : grid0.Coords) (α : Type) : Type 1 :=
  Prog (TpuEff nD τ sig (Elt F) Λ₀ (.scVector ((i 0).castLE hcore0) ((i 1).castLE hsub0))) α

/-- Sixteen scores. -/
abbrev Lanes (F : FTy → Type) : Type := FVec F S16 .f32

/-- Sixteen whole numbers. -/
abbrev Ints : Type := IVec S16 32

/-- The scratch arrays of a subcore: its scores, and its five best scores, their places in the row, and their rows. -/
structure Bufs where
  scs : Memref sig .scVector .vmem S32x208 .f32
  hscs : scs.IsWhole
  top : Memref sig .scVector .vmem S5x208 .f32
  htop : top.IsWhole
  kid : Memref sig .scVector .vmem S5x208 .i32
  hkid : kid.IsWhole
  idx : Memref sig .scVector .vmem S5x208 .i32
  hidx : idx.IsWhole

theorem inb_row {s st : ℕ} (hs : s < 32) (ht : st ≤ 192) : ∀ a, (![s, st] : Fin 2 → ℕ) a + S1x16.size a ≤ S32x208.size a := by
  intro a
  fin_cases a
  · show s + 1 ≤ 32; omega
  · show st + 16 ≤ 208; omega

theorem inb_best {k st : ℕ} (hk : k < 5) (ht : st ≤ 192) : ∀ a, (![k, st] : Fin 2 → ℕ) a + S1x16.size a ≤ S5x208.size a := by
  intro a
  fin_cases a
  · show k + 1 ≤ 5; omega
  · show st + 16 ≤ 208; omega

/-- Sixteen scores of row `s` are read, from column `st`. -/
def rd {α : Type} (i : grid0.Coords) (b : Bufs) {st : ℕ} (ht : st ≤ 192) {s : ℕ} (hs : s < 32) (k : Lanes F → TProg F i α) : TProg F i α :=
  Prog.lift (.load b.scs (Rect.unit (s := S32x208) ![s, st] S1x16.size (inb_row hs ht)).toLoadRect (View.loadsAt_vmem h_S1x16)) >>= fun v =>
  k (shapeCast S16 v shapeCasts_S1x16_S16)

/-- Rows of scores, each with its number. -/
abbrev Rows (F : FTy → Type) : Type := List (BitVec 32 × Lanes F)

/-- The rows from 3 to 31 are read, in order; `k` goes on with all from 1. -/
def readFrom3 {α : Type} (i : grid0.Coords) (b : Bufs) {st : ℕ} (ht : st ≤ 192) (r1 r2 : Lanes F) (k : Rows F → TProg F i α) : TProg F i α :=
  rd i b ht (s := 3) (by omega) fun r3 =>
  rd i b ht (s := 4) (by omega) fun r4 =>
  rd i b ht (s := 5) (by omega) fun r5 =>
  rd i b ht (s := 6) (by omega) fun r6 =>
  rd i b ht (s := 7) (by omega) fun r7 =>
  rd i b ht (s := 8) (by omega) fun r8 =>
  rd i b ht (s := 9) (by omega) fun r9 =>
  rd i b ht (s := 10) (by omega) fun r10 =>
  rd i b ht (s := 11) (by omega) fun r11 =>
  rd i b ht (s := 12) (by omega) fun r12 =>
  rd i b ht (s := 13) (by omega) fun r13 =>
  rd i b ht (s := 14) (by omega) fun r14 =>
  rd i b ht (s := 15) (by omega) fun r15 =>
  rd i b ht (s := 16) (by omega) fun r16 =>
  rd i b ht (s := 17) (by omega) fun r17 =>
  rd i b ht (s := 18) (by omega) fun r18 =>
  rd i b ht (s := 19) (by omega) fun r19 =>
  rd i b ht (s := 20) (by omega) fun r20 =>
  rd i b ht (s := 21) (by omega) fun r21 =>
  rd i b ht (s := 22) (by omega) fun r22 =>
  rd i b ht (s := 23) (by omega) fun r23 =>
  rd i b ht (s := 24) (by omega) fun r24 =>
  rd i b ht (s := 25) (by omega) fun r25 =>
  rd i b ht (s := 26) (by omega) fun r26 =>
  rd i b ht (s := 27) (by omega) fun r27 =>
  rd i b ht (s := 28) (by omega) fun r28 =>
  rd i b ht (s := 29) (by omega) fun r29 =>
  rd i b ht (s := 30) (by omega) fun r30 =>
  rd i b ht (s := 31) (by omega) fun r31 =>
  k [(1#32, r1), (2#32, r2), (3#32, r3), (4#32, r4), (5#32, r5), (6#32, r6), (7#32, r7), (8#32, r8), (9#32, r9), (10#32, r10), (11#32, r11), (12#32, r12), (13#32, r13), (14#32, r14), (15#32, r15), (16#32, r16), (17#32, r17), (18#32, r18), (19#32, r19), (20#32, r20), (21#32, r21), (22#32, r22), (23#32, r23), (24#32, r24), (25#32, r25), (26#32, r26), (27#32, r27), (28#32, r28), (29#32, r29), (30#32, r30), (31#32, r31)]

/-- The rows from 2 to 31 are read. -/
def readFrom2 {α : Type} (i : grid0.Coords) (b : Bufs) {st : ℕ} (ht : st ≤ 192) (r1 : Lanes F) (k : Rows F → TProg F i α) : TProg F i α :=
  rd i b ht (s := 2) (by omega) fun r2 => readFrom3 i b ht r1 r2 k

/-- The rows from 1 to 31 are read. -/
def readRows {α : Type} (i : grid0.Coords) (b : Bufs) {st : ℕ} (ht : st ≤ 192) (k : Rows F → TProg F i α) : TProg F i α :=
  rd i b ht (s := 1) (by omega) fun r1 => readFrom2 i b ht r1 k

/-- The greatest of the scores so far and which row it stands in, after the rows of the list. -/
def scan : Rows F → Lanes F → Ints → Lanes F × Ints
  | [], m, am => (m, am)
  | p :: l, m, am => scan l (maximumf (F := F) (φ := .f32) m p.2) (select (cmpf (F := F) (φ := .f32) .ogt p.2 m) (broadcast S16 p.1) am)

/-- The greatest of all the rows and which row it stands in: the first where several are the greatest. -/
def best : Rows F → Lanes F × Ints
  | [] => (broadcast S16 (Scalar.ofBits .f32 0xFF800000#32), broadcast S16 1#32)
  | p :: l => scan l p.2 (broadcast S16 p.1)

/-- The rows with the scores that were taken struck out. -/
def knock (am : Ints) : Rows F → Rows F
  | [] => []
  | p :: l => (p.1, select (cmpi .eq am (broadcast S16 p.1)) (broadcast S16 (Scalar.ofBits .f32 0xFF800000#32)) p.2) :: knock am l

/-- Sixteen places of row `k`, from column `st`, are read. -/
def look (i : grid0.Coords) {e : EltTy} (buf : Memref sig .scVector .vmem S5x208 e) {k st : ℕ} (hk : k < 5) (ht : st ≤ 192) : TProg F i (Vec F S1x16 e) :=
  Prog.lift (.load buf (Rect.unit (s := S5x208) ![k, st] S1x16.size (inb_best hk ht)).toLoadRect (View.loadsAt_vmem h_S1x16))

/-- Sixteen values are stored at row `k`, from column `st`. -/
def place (i : grid0.Coords) {e : EltTy} (buf : Memref sig .scVector .vmem S5x208 e) {k st : ℕ} (hk : k < 5) (ht : st ≤ 192)
    (he : e.bits = 32) (v : Vec F S1x16 e) : TProg F i PUnit :=
  Prog.lift (.store buf (Rect.unit (s := S5x208) ![k, st] S1x16.size (inb_best hk ht)) v
    Finset.univ (View.stores_vmem_bits_univ h_S1x16 he) (.inl rfl))

/-- Sixteen values are stored; their place is read before. -/
def put (i : grid0.Coords) {e : EltTy} (buf : Memref sig .scVector .vmem S5x208 e) {k st : ℕ} (hk : k < 5) (ht : st ≤ 192)
    (he : e.bits = 32) (v : Vec F S1x16 e) : TProg F i PUnit :=
  look i buf hk ht >>= fun _ => place i buf hk ht he v

/-- A round's three values are stored. -/
def putRound (i : grid0.Coords) (b : Bufs) {st : ℕ} (ht : st ≤ 192) (gb : Ints) {k : ℕ} (hk : k < 5) (m : Lanes F) (am : Ints) : TProg F i PUnit :=
  put i b.top hk ht rfl (shapeCast S1x16 m shapeCasts_S16_S1x16) >>= fun _ =>
  put i b.kid hk ht rfl (shapeCast S1x16 (subi am (broadcast S16 1#32)) shapeCasts_S16_S1x16) >>= fun _ =>
  put i b.idx hk ht rfl (shapeCast S1x16 (addi gb am) shapeCasts_S16_S1x16)

/-- One round over the rows, and what follows it. -/
def round {α : Type} (i : grid0.Coords) (b : Bufs) {st : ℕ} (ht : st ≤ 192) (gb : Ints) {k : ℕ} (hk : k < 5) (l : Rows F)
    (c : Rows F → TProg F i α) : TProg F i α :=
  putRound i b ht gb hk (best l).1 (best l).2 >>= fun _ => c (knock (best l).2 l)

/-- The number of the subcore. -/
def wid (i : grid0.Coords) : BitVec 32 := Scalar.addi (Scalar.muli (BitVec.ofNat 32 (i 1).val) 2#32) (BitVec.ofNat 32 (i 0).val)

/-- The numbers from 0 to 15. -/
def lanes : Ints := iota .scVector S16 32 [0] iota_S16_d0_w32_scVector

/-- The row before the first of each of the sixteen columns from `st`. -/
def gbase (w : BitVec 32) (io : Ints) (st : ℕ) : Ints :=
  subi (muli (addi (broadcast S16 (Scalar.addi (Scalar.muli w 200#32) (BitVec.ofNat 32 st))) io) (broadcast S16 32#32)) (broadcast S16 1#32)

/-- The first four rounds, and the fifth's choice. -/
def choose {α : Type} (i : grid0.Coords) (b : Bufs) {st : ℕ} (ht : st ≤ 192) (gb : Ints) (l : Rows F) (k : Lanes F → Ints → TProg F i α) : TProg F i α :=
  round i b ht gb (k := 0) (by omega) l fun l =>
  round i b ht gb (k := 1) (by omega) l fun l =>
  round i b ht gb (k := 2) (by omega) l fun l =>
  round i b ht gb (k := 3) (by omega) l fun l =>
  k (best l).1 (best l).2

/-- A group of sixteen columns up to the last round's choice. -/
def groupFront {α : Type} (i : grid0.Coords) (b : Bufs) {st : ℕ} (ht : st ≤ 192) (gb : Ints) (k : Lanes F → Ints → TProg F i α) : TProg F i α :=
  readRows i b ht fun l => choose i b ht gb l k

/-- A group of sixteen columns. -/
def group (i : grid0.Coords) (b : Bufs) {st : ℕ} (ht : st ≤ 192) : TProg F i PUnit :=
  groupFront i b ht (gbase (wid i) lanes st) fun m am => putRound i b ht (gbase (wid i) lanes st) (k := 4) (by omega) m am

/-- The copy of a subcore's scores into its scratch. -/
def copyIn (i : grid0.Coords) (b : Bufs) (src : Memref sig .scVector .hbm S32x32x208 .f32) (sem : DmaSems sig S_) : TProg F i PUnit :=
  Prog.lift (.enqueueDma ((src.slice (Rect.unit (s := S32x32x208) (k0_off1 i) S1x32x208.size (k0_off1_inb i)) (fun _ => rfl)).squeeze S32x208 squeezes_S1x32x208_S32x208)
    (.here b.scs) (.dma sem.sem) ((View.wordExact_bits rfl).reshape _ _) b.hscs.wordExact ⟨Or.inl rfl, trivial⟩) >>= fun _ =>
  Prog.lift (.waitDma2 sem.sem ((src.slice (Rect.unit (s := S32x32x208) (k0_off1 i) S1x32x208.size (k0_off1_inb i)) (fun _ => rfl)).squeeze S32x208 squeezes_S1x32x208_S32x208)
    b.scs ((View.wordExact_bits rfl).reshape _ _) b.hscs.wordExact)

/-- A scratch array of results sets out to the subcore's part of a result. -/
def sendOut (i : grid0.Coords) {e : EltTy} (he : e.bits = 32) (buf : Memref sig .scVector .vmem S5x208 e) (hbuf : buf.IsWhole)
    (dst : Memref sig .scVector .hbm S32x5x208 e) (sem : DmaSems sig S_) : TProg F i PUnit :=
  Prog.lift (.enqueueDma buf (.here ((dst.slice (Rect.unit (s := S32x5x208) (k0_off2 i) S1x5x208.size (k0_off2_inb i)) (fun _ => rfl)).squeeze S5x208 squeezes_S1x5x208_S5x208))
    (.dma sem.sem) hbuf.wordExact ((View.wordExact_bits he).reshape _ _) ⟨Or.inl rfl, trivial⟩)

/-- And its arrival is waited for. -/
def awaitOut (i : grid0.Coords) {e : EltTy} (he : e.bits = 32) (buf : Memref sig .scVector .vmem S5x208 e) (hbuf : buf.IsWhole)
    (dst : Memref sig .scVector .hbm S32x5x208 e) (sem : DmaSems sig S_) : TProg F i PUnit :=
  Prog.lift (.waitDma2 sem.sem buf ((dst.slice (Rect.unit (s := S32x5x208) (k0_off2 i) S1x5x208.size (k0_off2_inb i)) (fun _ => rfl)).squeeze S5x208 squeezes_S1x5x208_S5x208)
    hbuf.wordExact ((View.wordExact_bits he).reshape _ _))

/-- What one vector subcore does. -/
def tile (i : grid0.Coords) (b : Bufs) (src : Memref sig .scVector .hbm S32x32x208 .f32) (out3 : Memref sig .scVector .hbm S32x5x208 .f32)
    (out4 out5 : Memref sig .scVector .hbm S32x5x208 .i32) (r0 r1 r2 r3 : DmaSems sig S_) : TProg F i PUnit :=
  copyIn i b src r0 >>= fun _ =>
  group i b (st := 0) (by omega) >>= fun _ =>
  group i b (st := 16) (by omega) >>= fun _ =>
  group i b (st := 32) (by omega) >>= fun _ =>
  group i b (st := 48) (by omega) >>= fun _ =>
  group i b (st := 64) (by omega) >>= fun _ =>
  group i b (st := 80) (by omega) >>= fun _ =>
  group i b (st := 96) (by omega) >>= fun _ =>
  group i b (st := 112) (by omega) >>= fun _ =>
  group i b (st := 128) (by omega) >>= fun _ =>
  group i b (st := 144) (by omega) >>= fun _ =>
  group i b (st := 160) (by omega) >>= fun _ =>
  group i b (st := 176) (by omega) >>= fun _ =>
  group i b (st := 192) (by omega) >>= fun _ =>
  sendOut i rfl b.top b.htop out3 r1 >>= fun _ =>
  awaitOut i rfl b.top b.htop out3 r1 >>= fun _ =>
  sendOut i rfl b.kid b.hkid out4 r2 >>= fun _ =>
  awaitOut i rfl b.kid b.hkid out4 r2 >>= fun _ =>
  sendOut i rfl b.idx b.hidx out5 r3 >>= fun _ =>
  awaitOut i rfl b.idx b.hidx out5 r3 >>= fun _ =>
  pure ⟨⟩

end Cert.Proof.Five
-- ==== Proof.FiveTile.lean ====
module

public import proofs.«01_k».proof.Proof.FiveProg
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic

@[expose] public section

noncomputable section

namespace Cert.Proof.Five

open Cert.TopKIdeal Cert.TopKIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What is computed -/

/-- Row `s`, column `c` of a subcore's scores. -/
def spot (s c : ℕ) : S32x208.Idx := fun a => match a with
  | 0 => ⟨s % 32, Nat.mod_lt _ (by decide)⟩
  | 1 => ⟨c % 208, Nat.mod_lt _ (by decide)⟩

/-- Lane `n` of sixteen. -/
def lane (n : ℕ) : S16.Idx := fun a => match a with
  | 0 => ⟨n % 16, Nat.mod_lt _ (by decide)⟩

/-- Sixteen scores of row `s`, from column `st`. -/
def rowOf (X : S32x208.Idx → F .f32) (s st : ℕ) : Lanes F := fun j => X (spot s (st + (j 0).val))

/-- The rows from 1 to 31, each with its number. -/
def rowsAt (X : S32x208.Idx → F .f32) (st : ℕ) : Rows F := (List.range' 1 31).map fun s => (BitVec.ofNat 32 s, rowOf X s st)

/-- The rows after `k` rounds. -/
def after : ℕ → Rows F → Rows F
  | 0, l => l
  | k + 1, l => knock (best (after k l)).2 (after k l)

/-- What round `k` chooses at the columns from `st`. -/
def chosen (X : S32x208.Idx → F .f32) (k st : ℕ) : Lanes F × Ints := best (after k (rowsAt X st))

/-- The best scores of a column, -/
def tops (X : S32x208.Idx → F .f32) : S5x208.Idx → F .f32 := fun y =>
  (chosen X (y 0).val ((y 1).val / 16 * 16)).1 (lane ((y 1).val % 16))
/-- their places, -/
def kids (X : S32x208.Idx → F .f32) : S5x208.Idx → BitVec 32 := fun y =>
  (subi (chosen X (y 0).val ((y 1).val / 16 * 16)).2 (broadcast S16 1#32)) (lane ((y 1).val % 16))
/-- and their rows in the table, for the subcore of number `w`. -/
def idxs (w : BitVec 32) (X : S32x208.Idx → F .f32) : S5x208.Idx → BitVec 32 := fun y =>
  (addi (gbase w lanes ((y 1).val / 16 * 16)) (chosen X (y 0).val ((y 1).val / 16 * 16)).2) (lane ((y 1).val % 16))

/-! ## The resources -/

abbrev UH : Type := URounds (GSem nD τ sig) ℕ
abbrev UU : Type := UH × Counters

local notation "𝕄" => MT nD τ sig (HIx 1) (Elt F) ℕ UU ℕ

abbrev 𝒱₀ : Variants := Variants.none

/-- The thread of the vector subcore at the place `i`. -/
abbrev thr (d : Dev nD) (i : grid0.Coords) : Thread nD τ := V d ((i 0).castLE hcore0) ((i 1).castLE hsub0)

/-- The weakest precondition of a subcore's program. -/
abbrev tileWp {α : Type} (d : Dev nD) (i : grid0.Coords) (p : TProg F i α) (Q : α → sProp 𝕄) : sProp 𝕄 :=
  wp frame (wpE (defs₀ (F := F)) 𝒱₀ (thr d i) none) Set.univ p Q

/-- What is read through `b` of a share of it. -/
def shares {sp : Space} {s : Shape} {e : EltTy} (d : Dev nD) (i : grid0.Coords) (q : PosShare TreeShare) (b : Memref sig .scVector sp s e) (g : s.Idx → Elt F e) : sProp 𝕄 :=
  iprop(∃ f : Buf (Elt F) (b.view.loc (thr d i)), ⌜b.view.read (Elt F) f = g⌝ ∗ (b.view.loc (thr d i) ↦[b.view.set]{q} f))

/-- The entries of the columns below `st`, and of the sixteen columns from `st` those of the rows below `k`, are as they shall be. -/
def upTo {α : Type} (st k : ℕ) (g spec : S5x208.Idx → α) : Prop :=
  ∀ y : S5x208.Idx, ((y 1).val < st ∨ (y 1).val < st + 16 ∧ (y 0).val < k) → g y = spec y

/-- An array of results, filled so far. -/
def filled {e : EltTy} (d : Dev nD) (i : grid0.Coords) (b : Memref sig .scVector .vmem S5x208 e) (spec : S5x208.Idx → Elt F e) (st k : ℕ) : sProp 𝕄 :=
  iprop(∃ g : S5x208.Idx → Elt F e, ⌜upTo st k g spec⌝ ∗ shares d i fullShare b g)

/-- What comes after a part, from what the part leaves. -/
theorem wp_then {α β : Type} (d : Dev nD) (i : grid0.Coords) {p : TProg F i α} {k : α → TProg F i β} {P : sProp 𝕄} {R : α → sProp 𝕄} {Q : β → sProp 𝕄}
    (h : P ⊢ tileWp d i p R) : P ⊢ iprop((∀ x, R x -∗ tileWp d i (k x) Q) -∗ tileWp d i (p >>= k) Q) := by
  unfold tileWp at h ⊢
  rw [wp_bind]
  iintro H HK
  iapply (wp_wand_r frame (wpE (defs₀ (F := F)) 𝒱₀ (thr d i) none) Set.univ)
  isplitl [H]
  · iapply h; iexact H
  · iexact HK

/-! ## Reading -/

/-- Sixteen scores are read. -/
theorem wp_rd {α : Type} (d : Dev nD) (i : grid0.Coords) (b : Bufs) (X : S32x208.Idx → F .f32) {st : ℕ} (ht : st ≤ 192) {s : ℕ} (hs : s < 32)
    (Fr : sProp 𝕄) (k : Lanes F → TProg F i α) (Q : α → sProp 𝕄)
    (hk : iprop(shares d i fullShare b.scs X ∗ Fr) ⊢ tileWp d i (k (rowOf X s st)) Q) :
    iprop(shares d i fullShare b.scs X ∗ Fr) ⊢ tileWp d i (rd i b ht hs k) Q := by
  have hval : ∀ f : Buf (Elt F) (b.scs.view.loc (thr d i)), b.scs.view.read (Elt F) f = X →
      shapeCast S16 ((b.scs.access (Rect.unit (s := S32x208) ![s, st] S1x16.size (inb_row hs ht))).read (Elt F) f) shapeCasts_S1x16_S16 = rowOf X s st := by
    intro f hf
    funext j
    have hj : (j 0).val < 16 := (j 0).isLt
    have hr : Shape.reshapeEquiv (shapeCasts_S1x16_S16 : S16.numel = S1x16.numel) j = (fun a => match a with | 0 => (0 : Fin 1) | 1 => j 0 : S1x16.Idx) :=
      Shape.reshapeEquiv_eq_of_rowMajor _ (by rw [Shape.rowMajor_val_two, Shape.rowMajor_val_one]; show 0 * 16 + (j 0).val = (j 0).val; omega)
    show (b.scs.access (Rect.unit (s := S32x208) ![s, st] S1x16.size (inb_row hs ht))).read (Elt F) f (Shape.reshapeEquiv shapeCasts_S1x16_S16 j) = _
    rw [hr]
    unfold rowOf
    rw [← hf]
    show View.read (Elt F) b.scs.view f ((Rect.unit (s := S32x208) ![s, st] S1x16.size (inb_row hs ht)).emb _) = _
    congr 1
    funext a
    apply Fin.ext
    match a with
    | 0 => show s + 1 * 0 = s % 32; omega
    | 1 => show st + 1 * (j 0).val = (st + (j 0).val) % 208; omega
  unfold rd
  simp only [Prog.lift, Prog.bind]
  iintro ⟨H, HF⟩
  unfold shares at hk ⊢
  icases H with ⟨%f, %hf, H⟩
  have hsub : (b.scs.access (Rect.unit (s := S32x208) ![s, st] S1x16.size (inb_row hs ht))).set ⊆ b.scs.view.set := View.set_slice_subset _ _
  iapply (wp_load_rect 𝒱₀ (thr d i) none Set.univ hsub) $$ H
  iintro H
  have hk' := hk
  rw [← hval f hf] at hk'
  iapply hk'
  isplitl [H]
  · iexists f; isplitr
    · ipureintro; exact hf
    iexact H
  iexact HF

/-! ## Storing -/

theorem reshape_there (j : S1x16.Idx) :
    Shape.reshapeEquiv (shapeCasts_S16_S1x16 : S1x16.numel = S16.numel) j = lane (j 1).val := by
  have hj : (j 1).val < 16 := (j 1).isLt
  have hj0 : (j 0).val < 1 := (j 0).isLt
  refine Shape.reshapeEquiv_eq_of_rowMajor _ ?_
  rw [Shape.rowMajor_val_two, Shape.rowMajor_val_one]
  show (j 1).val % 16 = (j 0).val * 16 + (j 1).val
  omega

/-- Sixteen values are stored. -/
theorem wp_put (d : Dev nD) (i : grid0.Coords) {e : EltTy} (b : Memref sig .scVector .vmem S5x208 e) (spec : S5x208.Idx → Elt F e) {k st : ℕ} (hk : k < 5)
    (ht : st ≤ 192) (he : e.bits = 32) (v : S16.Idx → Elt F e)
    (hv : ∀ y : S5x208.Idx, (y 0).val = k → st ≤ (y 1).val → (y 1).val < st + 16 → v (lane ((y 1).val - st)) = spec y) :
    filled d i b spec st k ⊢ tileWp d i (put i b hk ht he (shapeCast S1x16 v shapeCasts_S16_S1x16)) fun _ => filled d i b spec st (k + 1) := by
  unfold filled put look place
  simp only [Prog.lift, Prog.bind]
  unfold shares
  iintro ⟨%g, %hg, %f, %hf, H⟩
  have hsub : (b.access (Rect.unit (s := S5x208) ![k, st] S1x16.size (inb_best hk ht))).set ⊆ b.view.set := View.set_slice_subset _ _
  iapply (wp_load_rect 𝒱₀ (thr d i) none Set.univ hsub) $$ H
  iintro H
  iapply (wp_store_writes₀ 𝒱₀ (thr d i) none Set.univ hsub) $$ H
  iintro H
  rw [wp_ret]; imodintro
  iexists _; isplitr
  swap
  · iexists _; isplitr
    swap; · iexact H
    ipureintro; rfl
  ipureintro
  intro y hy
  refine (View.read_writes_cons_unit (off' := ![k, st]) b.view f (inb_best hk ht) _ [] y rfl).trans ?_
  have hyy : (∀ a, (![k, st] : Fin 2 → ℕ) a ≤ (y a).val ∧ (y a).val < (![k, st] : Fin 2 → ℕ) a + S1x16.size a)
      ↔ ((y 0).val = k ∧ st ≤ (y 1).val ∧ (y 1).val < st + 16) := by
    rw [Fin.forall_fin_two]
    show (k ≤ (y 0).val ∧ (y 0).val < k + 1) ∧ (st ≤ (y 1).val ∧ (y 1).val < st + 16) ↔ _
    omega
  by_cases hin : (y 0).val = k ∧ st ≤ (y 1).val ∧ (y 1).val < st + 16
  · rw [dif_pos (hyy.mpr hin), ← hv y hin.1 hin.2.1 hin.2.2]
    show v (Shape.reshapeEquiv shapeCasts_S16_S1x16 _) = _
    rw [reshape_there]
    congr 2
  · rw [dif_neg (fun hc => hin (hyy.mp hc)), View.writes_nil, hf]
    exact hg y (by omega)

/-! ## Rounds -/

variable (d : Dev nD) (i : grid0.Coords) (b : Bufs) (X : S32x208.Idx → F .f32)

/-- A subcore's scratch in the middle of its work. -/
def state (st k : ℕ) : sProp 𝕄 :=
  iprop(shares d i fullShare b.scs X ∗ filled d i b.top (tops X) st k ∗ filled d i b.kid (kids X) st k ∗ filled d i b.idx (idxs (wid i) X) st k)

/-- A round's values are stored. -/
theorem wp_putRound {st k : ℕ} (ht : st ≤ 192) (ha : st % 16 = 0) (hk : k < 5) :
    state d i b X st k ⊢ tileWp d i (putRound i b ht (gbase (wid i) lanes st) hk (best (after k (rowsAt X st))).1 (best (after k (rowsAt X st))).2)
      fun _ => state d i b X st (k + 1) := by
  have hy : ∀ y : S5x208.Idx, st ≤ (y 1).val → (y 1).val < st + 16 → (y 1).val / 16 * 16 = st ∧ (y 1).val % 16 = (y 1).val - st := by
    intro y h1 h2; omega
  unfold state putRound
  iintro ⟨Hs, Ht, Hk, Hi⟩
  iapply (wp_then d i (wp_put d i b.top (tops X) hk ht rfl _ (fun y h0 h1 h2 => by
    unfold tops chosen; rw [(hy y h1 h2).1, (hy y h1 h2).2, h0]))) $$ Ht
  iintro %_ Ht
  iapply (wp_then d i (wp_put d i b.kid (kids X) hk ht rfl _ (fun y h0 h1 h2 => by
    unfold kids chosen; rw [(hy y h1 h2).1, (hy y h1 h2).2, h0]))) $$ Hk
  iintro %_ Hk
  unfold tileWp
  iapply (wp_wand_r frame (wpE (defs₀ (F := F)) 𝒱₀ (thr d i) none) Set.univ)
  isplitl [Hi]
  · iapply (wp_put d i b.idx (idxs (wid i) X) hk ht rfl _ (fun y h0 h1 h2 => by
      unfold idxs chosen; rw [(hy y h1 h2).1, (hy y h1 h2).2, h0])); iexact Hi
  iintro %_ Hi
  isplitl [Hs]; · iexact Hs
  isplitl [Ht]; · iexact Ht
  isplitl [Hk]; · iexact Hk
  iexact Hi

/-- A round, and what follows it. -/
theorem wp_round {α : Type} {st k : ℕ} (ht : st ≤ 192) (ha : st % 16 = 0) (hk : k < 5) (c : Rows F → TProg F i α) (Q : α → sProp 𝕄)
    (hc : state d i b X st (k + 1) ⊢ tileWp d i (c (after (k + 1) (rowsAt X st))) Q) :
    state d i b X st k ⊢ tileWp d i (round i b ht (gbase (wid i) lanes st) hk (after k (rowsAt X st)) c) Q := by
  unfold round
  iintro H
  iapply (wp_then d i (wp_putRound d i b X ht ha hk)) $$ H
  iintro %_ H
  iapply hc
  iexact H

/-- Five rounds fill sixteen columns. -/
theorem filled_next {e : EltTy} (B : Memref sig .scVector .vmem S5x208 e) (spec : S5x208.Idx → Elt F e) (st : ℕ) :
    filled d i B spec st 5 ⊢ (filled d i B spec (st + 16) 0 : sProp 𝕄) := by
  unfold filled
  iintro ⟨%g, %hg, H⟩
  iexists g; isplitr
  · ipureintro
    intro y hy
    have h0 : (y 0).val < 5 := (y 0).isLt
    exact hg y (by omega)
  iexact H

theorem state_next (st : ℕ) : state d i b X st 5 ⊢ (state d i b X (st + 16) 0 : sProp 𝕄) := by
  unfold state
  iintro ⟨Hs, Ht, Hk, Hi⟩
  isplitl [Hs]; · iexact Hs
  isplitl [Ht]; · iapply (filled_next d i b.top (tops X) st); iexact Ht
  isplitl [Hk]; · iapply (filled_next d i b.kid (kids X) st); iexact Hk
  iapply (filled_next d i b.idx (idxs (wid i) X) st); iexact Hi

/-- The five rounds. -/
theorem wp_rounds {st : ℕ} (ht : st ≤ 192) (ha : st % 16 = 0) :
    state d i b X st 0 ⊢ tileWp d i (choose i b ht (gbase (wid i) lanes st) (rowsAt X st) fun m am => putRound i b ht (gbase (wid i) lanes st) (k := 4) (by omega) m am)
      fun _ => state d i b X (st + 16) 0 := by
  unfold choose
  refine wp_round d i b X ht ha (k := 0) (by omega) _ _ ?_
  refine wp_round d i b X ht ha (k := 1) (by omega) _ _ ?_
  refine wp_round d i b X ht ha (k := 2) (by omega) _ _ ?_
  refine wp_round d i b X ht ha (k := 3) (by omega) _ _ ?_
  exact (wp_putRound d i b X ht ha (k := 4) (by omega)).trans (wp_mono frame _ _ fun _ => state_next d i b X st)

/-- A group of sixteen columns. -/
theorem wp_group {st : ℕ} (ht : st ≤ 192) (ha : st % 16 = 0) :
    state d i b X st 0 ⊢ tileWp d i (group i b ht) fun _ => state d i b X (st + 16) 0 := by
  have h := wp_rounds d i b X ht ha
  unfold group groupFront readRows readFrom2 readFrom3
  generalize hQ : (fun _ : PUnit => state d i b X (st + 16) 0) = Q at h ⊢
  unfold state at h ⊢
  iterate 31 refine wp_rd d i b X ht _ _ _ _ ?_
  exact h

end Cert.Proof.Five
-- ==== Proof.FiveCopy.lean ====
module

public import proofs.«01_k».proof.Proof.FiveTile

@[expose] public section

noncomputable section

namespace Cert.Proof.Five

open Cert.TopKIdeal Cert.TopKIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Copies waited for at once -/

/-- A transfer under way on a semaphore: when it is done, `R`. -/
def flying (d : Dev nD) (i : grid0.Coords) (sem : DmaSems sig S_) (N : ℕ) (R : sProp 𝕄) : sProp 𝕄 :=
  iprop(∃ D, Transfers.Flight countersEmb (thr d i) (.dma sem.sem) (none : HIx 1) N D ∗ (D -∗ R))

/-- What a subcore owes, having waited on some more of its own semaphores. -/
def owing (d : Dev nD) (i : grid0.Coords) (O : CellTallies nD τ sig (HIx 1)) (W : Waits sig (HIx 1)) : sProp 𝕄 :=
  iprop(∃ W' : Waits sig (HIx 1), ⌜∀ p ∈ W', p ∈ W ∨ p.2 = none⌝ ∗ owes (thr d i) O W')

/-- The semaphore at zero, and what is owed. -/
def idle (d : Dev nD) (i : grid0.Coords) (sem : DmaSems sig S_) : sProp 𝕄 := semVal (thr d i, SemLoc.dma sem.sem) 0

/-- A transfer under way, waited for. -/
theorem wp_land {α : Type} (d : Dev nD) (i : grid0.Coords) (O : CellTallies nD τ sig (HIx 1)) (W : Waits sig (HIx 1)) (sem : DmaSems sig S_)
    {κ' : Kind} {sp sp' : Space} {s s' : Shape} {e e' : EltTy} (srcw : Memref sig .scVector sp' s' e') (dstw : Memref sig κ' sp s e) (hsrc) (hdst)
    {N : ℕ} (hN : dstw.view.dmaCredit = N) (R : sProp 𝕄) {k : PUnit → TProg F i α} {Q : α → sProp 𝕄} :
    iprop(Transfers.MayWaits (thr d i) (none : HIx 1) O ∗ flying d i sem N R ∗ owing d i O W)
      ⊢ iprop((iprop(R ∗ idle d i sem ∗ owing d i O W) -∗ tileWp d i (k ⟨⟩) Q)
        -∗ tileWp d i (.op (.waitDma2 sem.sem srcw dstw hsrc hdst) k) Q) := by
  unfold flying owing idle
  iintro ⟨#HM, ⟨%D, Hfl, HD⟩, ⟨%W', %hW', HO⟩⟩ HK
  iapply (Transfers.wp_waitLocalO countersEmb 𝒱₀ (thr d i) none (none : HIx 1) hN) $$ [Hfl HO]
  · isplitl [Hfl]; · iexact Hfl
    isplitl [HO]; · iexact HO
    iapply (Transfers.MayWaits.elim (.dma sem.sem)); iexact HM
  iintro ⟨H, Hv, HO⟩
  iapply HK
  isplitl [H HD]
  · iapply HD; iexact H
  isplitl [Hv]; · iexact Hv
  iexists _
  isplitr
  swap
  · iexact HO
  · ipureintro
    intro p hp
    rcases Finset.mem_insert.mp hp with rfl | hp
    · exact Or.inr rfl
    · exact hW' p hp

/-- A local transfer and its wait. -/
theorem wp_copy (d : Dev nD) (i : grid0.Coords) (O : CellTallies nD τ sig (HIx 1)) (W : Waits sig (HIx 1)) (sem : DmaSems sig S_)
    {sp sp' : Space} {s : Shape} {e : EltTy} (src : Memref sig .scVector sp s e) (dst : Memref sig .scVector sp' s e) (hsrc) (hdst) (hsem) (hsrc') (hdst')
    (hpos : 0 < s.numel) (q : PosShare TreeShare) (fs : Buf (Elt F) (src.view.loc (thr d i))) (Sd : Finset (Idx (dst.view.loc (thr d i))))
    (hS : dst.view.set ⊆ Sd) (fd : Buf (Elt F) (dst.view.loc (thr d i))) :
    iprop(Transfers.MayWaits (thr d i) (none : HIx 1) O ∗ (src.view.loc (thr d i) ↦[src.view.set]{q} fs) ∗ (dst.view.loc (thr d i) ↦[Sd]{fullShare} fd)
        ∗ idle d i sem ∗ owing d i O W)
      ⊢ (tileWp d i (Prog.lift (.enqueueDma src (.here dst) (.dma sem.sem) hsrc hdst hsem) >>= fun _ => Prog.lift (.waitDma2 sem.sem src dst hsrc' hdst'))
          (fun _ => iprop((dst.view.loc (thr d i) ↦[Sd]{fullShare} dst.view.write (Elt F) fd (src.view.read (Elt F) fs) Finset.univ)
            ∗ (src.view.loc (thr d i) ↦[src.view.set]{q} fs) ∗ idle d i sem ∗ owing d i O W)) : sProp 𝕄) := by
  simp only [Prog.lift, Prog.bind]
  iintro ⟨#HM, Hs, Hd, Hi, HO⟩
  unfold idle
  iapply (Transfers.wp_dmaLocal countersEmb 𝒱₀ (thr d i) none (none : HIx 1) dst.view.dmaCredit rfl (View.dmaCredit_pos _ hpos) hS) $$ [Hs Hd Hi]
  · isplitl [Hs]; · iexact Hs
    isplitl [Hd]; · iexact Hd
    iexact Hi
  iintro Hfl
  iapply (wp_land d i O W sem src dst hsrc' hdst' (N := dst.view.dmaCredit) rfl
    iprop((dst.view.loc (thr d i) ↦[Sd]{fullShare} dst.view.write (Elt F) fd (src.view.read (Elt F) fs) Finset.univ)
      ∗ (src.view.loc (thr d i) ↦[src.view.set]{q} fs))) $$ [Hfl HO]
  · isplitr; · iexact HM
    isplitl [Hfl]
    · unfold flying
      iexists _
      isplitl [Hfl]; · iexact Hfl
      iintro H; iexact H
    · iexact HO
  iintro ⟨⟨Hd, Hs⟩, Hi, HO⟩
  unfold tileWp idle
  rw [wp_ret]
  imodintro
  isplitl [Hd]; · iexact Hd
  isplitl [Hs]; · iexact Hs
  isplitl [Hi]; · iexact Hi
  iexact HO

/-- Two contents read alike through a view agree on its elements. -/
theorem agree_of_read {sp : Space} {s : Shape} {e : EltTy} (v : View sig .scVector sp s e) {f f' : v.ty.Contents (Elt F)}
    (h : v.read (Elt F) f = v.read (Elt F) f') : ∀ j ∈ v.set, f j = f' j := by
  intro j hj
  obtain ⟨x, -, rfl⟩ := Finset.mem_map.mp hj
  have hx := congrFun h x
  rw [View.read_apply, View.read_apply] at hx
  exact (cast_inj _).mp hx

/-- One array copied into another, at a share of the one. -/
theorem wp_fill (d : Dev nD) (i : grid0.Coords) (O : CellTallies nD τ sig (HIx 1)) (W : Waits sig (HIx 1)) (sem : DmaSems sig S_)
    {sp sp' : Space} {s : Shape} {e : EltTy} (src : Memref sig .scVector sp s e) (dst : Memref sig .scVector sp' s e) (hsrc) (hdst) (hsem) (hsrc') (hdst')
    (hpos : 0 < s.numel) (q : PosShare TreeShare) (x : s.Idx → Elt F e) :
    iprop(Transfers.MayWaits (thr d i) (none : HIx 1) O ∗ shares d i q src x ∗ (∃ g, shares d i fullShare dst g) ∗ idle d i sem ∗ owing d i O W)
      ⊢ (tileWp d i (Prog.lift (.enqueueDma src (.here dst) (.dma sem.sem) hsrc hdst hsem) >>= fun _ => Prog.lift (.waitDma2 sem.sem src dst hsrc' hdst'))
          (fun _ => iprop(shares d i q src x ∗ shares d i fullShare dst x ∗ idle d i sem ∗ owing d i O W)) : sProp 𝕄) := by
  unfold shares
  iintro ⟨#HM, ⟨%fs, %hfs, Hs⟩, ⟨%g, %fd, %hfd, Hd⟩, Hi, HO⟩
  iapply (wp_wand_r frame (wpE (defs₀ (F := F)) 𝒱₀ (thr d i) none) Set.univ)
  isplitl [Hs Hd Hi HO]
  · iapply (wp_copy d i O W sem src dst hsrc hdst hsem hsrc' hdst' hpos q fs dst.view.set (Finset.Subset.refl _) fd)
    isplitr; · iexact HM
    isplitl [Hs]; · iexact Hs
    isplitl [Hd]; · iexact Hd
    isplitl [Hi]; · iexact Hi
    iexact HO
  iintro %_ ⟨Hd, Hs, Hi, HO⟩
  isplitl [Hs]
  · iexists fs; isplitr
    · ipureintro; exact hfs
    · iexact Hs
  isplitl [Hd]
  · iexists _
    isplitr
    swap
    · iexact Hd
    · ipureintro; rw [View.read_write_univ, hfs]
  isplitl [Hi]; · iexact Hi
  iexact HO

/-! ## A subcore's work -/

/-- The subcore's part of the scores, and of a result. -/
abbrev planeIn (i : grid0.Coords) (src : Memref sig .scVector .hbm S32x32x208 .f32) : Memref sig .scVector .hbm S32x208 .f32 :=
  (src.slice (Rect.unit (s := S32x32x208) (k0_off1 i) S1x32x208.size (k0_off1_inb i)) (fun _ => rfl)).squeeze S32x208 squeezes_S1x32x208_S32x208
abbrev planeOut (i : grid0.Coords) {e : EltTy} (dst : Memref sig .scVector .hbm S32x5x208 e) : Memref sig .scVector .hbm S5x208 e :=
  (dst.slice (Rect.unit (s := S32x5x208) (k0_off2 i) S1x5x208.size (k0_off2_inb i)) (fun _ => rfl)).squeeze S5x208 squeezes_S1x5x208_S5x208

/-- An array, whatever it holds. -/
def loose {sp : Space} {s : Shape} {e : EltTy} (d : Dev nD) (i : grid0.Coords) (b : Memref sig .scVector sp s e) : sProp 𝕄 :=
  iprop(∃ g : s.Idx → Elt F e, shares d i fullShare b g)

variable (d : Dev nD) (i : grid0.Coords) (O : CellTallies nD τ sig (HIx 1)) (W : Waits sig (HIx 1))

theorem filled_none {e : EltTy} (B : Memref sig .scVector .vmem S5x208 e) (spec : S5x208.Idx → Elt F e) :
    loose d i B ⊢ (filled d i B spec 0 0 : sProp 𝕄) := by
  unfold filled loose
  iintro ⟨%g, H⟩
  iexists g; isplitr
  · ipureintro
    intro y hy
    exfalso; omega
  iexact H

theorem filled_all {e : EltTy} (B : Memref sig .scVector .vmem S5x208 e) (spec : S5x208.Idx → Elt F e) :
    filled d i B spec 208 0 ⊢ (shares d i fullShare B spec : sProp 𝕄) := by
  unfold filled
  iintro ⟨%g, %hg, H⟩
  have h : g = spec := funext fun y => hg y (Or.inl (show (y 1).val < 208 from (y 1).isLt))
  subst h
  iexact H

/-- A scratch array of results goes out, and its arrival is waited for. -/
theorem wp_out {e : EltTy} (he : e.bits = 32) (buf : Memref sig .scVector .vmem S5x208 e) (hbuf : buf.IsWhole)
    (dst : Memref sig .scVector .hbm S32x5x208 e) (sem : DmaSems sig S_) (x : S5x208.Idx → Elt F e)
    (k : PUnit → TProg F i PUnit) (Q : PUnit → sProp 𝕄) :
    iprop(Transfers.MayWaits (thr d i) (none : HIx 1) O ∗ shares d i fullShare buf x ∗ loose d i (planeOut i dst) ∗ idle d i sem ∗ owing d i O W)
      ⊢ iprop((iprop(shares d i fullShare buf x ∗ shares d i fullShare (planeOut i dst) x ∗ idle d i sem ∗ owing d i O W) -∗ tileWp d i (k ⟨⟩) Q)
        -∗ tileWp d i (sendOut i he buf hbuf dst sem >>= fun _ => awaitOut i he buf hbuf dst sem >>= k) Q) := by
  rw [show (sendOut (F := F) i he buf hbuf dst sem >>= fun _ => awaitOut i he buf hbuf dst sem >>= k)
    = (sendOut i he buf hbuf dst sem >>= fun _ => awaitOut i he buf hbuf dst sem) >>= k from (Prog.bind_assoc _ _ _).symm]
  unfold loose
  iintro H HK
  iapply (wp_then d i (wp_fill d i O W sem buf (planeOut i dst) hbuf.wordExact ((View.wordExact_bits he).reshape _ _) ⟨Or.inl rfl, trivial⟩
    hbuf.wordExact ((View.wordExact_bits he).reshape _ _) (by decide) fullShare x)) $$ H
  iintro %_ H
  iapply HK
  iexact H

theorem wp_groupThen (b : Bufs) (X : S32x208.Idx → F .f32) {st : ℕ} (ht : st ≤ 192) (ha : st % 16 = 0)
    (k : PUnit → TProg F i PUnit) (Q : PUnit → sProp 𝕄) :
    state d i b X st 0 ⊢ iprop((state d i b X (st + 16) 0 -∗ tileWp d i (k ⟨⟩) Q) -∗ tileWp d i (group i b ht >>= k) Q) := by
  iintro H HK
  iapply (wp_then d i (wp_group d i b X ht ha)) $$ H
  iintro %_ H
  iapply HK
  iexact H

/-- What one vector subcore does. -/
theorem wp_tile (b : Bufs) (src : Memref sig .scVector .hbm S32x32x208 .f32) (out3 : Memref sig .scVector .hbm S32x5x208 .f32)
    (out4 out5 : Memref sig .scVector .hbm S32x5x208 .i32) (r0 r1 r2 r3 : DmaSems sig S_) (q : PosShare TreeShare) (X : S32x208.Idx → F .f32) :
    iprop(Transfers.MayWaits (thr d i) (none : HIx 1) O ∗ shares d i q (planeIn i src) X
        ∗ loose d i b.scs ∗ loose d i b.top ∗ loose d i b.kid ∗ loose d i b.idx
        ∗ loose d i (planeOut i out3) ∗ loose d i (planeOut i out4) ∗ loose d i (planeOut i out5)
        ∗ idle d i r0 ∗ idle d i r1 ∗ idle d i r2 ∗ idle d i r3 ∗ owing d i O W)
      ⊢ tileWp d i (tile i b src out3 out4 out5 r0 r1 r2 r3) fun _ =>
        iprop(shares d i q (planeIn i src) X
          ∗ loose d i b.scs ∗ loose d i b.top ∗ loose d i b.kid ∗ loose d i b.idx
          ∗ shares d i fullShare (planeOut i out3) (tops X) ∗ shares d i fullShare (planeOut i out4) (kids X)
          ∗ shares d i fullShare (planeOut i out5) (idxs (wid i) X)
          ∗ idle d i r0 ∗ idle d i r1 ∗ idle d i r2 ∗ idle d i r3 ∗ owing d i O W) := by
  unfold tile
  iintro ⟨#HM, Hx, Hs, Ht, Hk, Hi, O3, O4, O5, R0, R1, R2, R3, HO⟩
  iapply (wp_then d i (wp_fill d i O W r0 (planeIn i src) b.scs ((View.wordExact_bits rfl).reshape _ _) b.hscs.wordExact ⟨Or.inl rfl, trivial⟩
    ((View.wordExact_bits rfl).reshape _ _) b.hscs.wordExact (by decide) q X)) $$ [Hx Hs R0 HO]
  · isplitr; · iexact HM
    isplitl [Hx]; · iexact Hx
    isplitl [Hs]; · unfold loose; iexact Hs
    isplitl [R0]; · iexact R0
    iexact HO
  iintro %_ ⟨Hx, Hs, R0, HO⟩
  ihave HS : state d i b X 0 0 $$ [Hs Ht Hk Hi]
  · unfold state
    isplitl [Hs]; · iexact Hs
    isplitl [Ht]; · iapply (filled_none d i b.top (tops X)); iexact Ht
    isplitl [Hk]; · iapply (filled_none d i b.kid (kids X)); iexact Hk
    iapply (filled_none d i b.idx (idxs (wid i) X)); iexact Hi
  iapply (wp_groupThen d i b X (st := 0) _ (by decide)) $$ HS
  iintro HS
  iapply (wp_groupThen d i b X (st := 16) _ (by decide)) $$ HS
  iintro HS
  iapply (wp_groupThen d i b X (st := 32) _ (by decide)) $$ HS
  iintro HS
  iapply (wp_groupThen d i b X (st := 48) _ (by decide)) $$ HS
  iintro HS
  iapply (wp_groupThen d i b X (st := 64) _ (by decide)) $$ HS
  iintro HS
  iapply (wp_groupThen d i b X (st := 80) _ (by decide)) $$ HS
  iintro HS
  iapply (wp_groupThen d i b X (st := 96) _ (by decide)) $$ HS
  iintro HS
  iapply (wp_groupThen d i b X (st := 112) _ (by decide)) $$ HS
  iintro HS
  iapply (wp_groupThen d i b X (st := 128) _ (by decide)) $$ HS
  iintro HS
  iapply (wp_groupThen d i b X (st := 144) _ (by decide)) $$ HS
  iintro HS
  iapply (wp_groupThen d i b X (st := 160) _ (by decide)) $$ HS
  iintro HS
  iapply (wp_groupThen d i b X (st := 176) _ (by decide)) $$ HS
  iintro HS
  iapply (wp_groupThen d i b X (st := 192) _ (by decide)) $$ HS
  iintro HS
  unfold state
  icases HS with ⟨Hs, Ht, Hk, Hi⟩
  ihave Ht := (filled_all d i b.top (tops X)) $$ Ht
  ihave Hk := (filled_all d i b.kid (kids X)) $$ Hk
  ihave Hi := (filled_all d i b.idx (idxs (wid i) X)) $$ Hi
  iapply (wp_out d i O W rfl b.top b.htop out3 r1 (tops X)) $$ [Ht O3 R1 HO]
  · isplitr; · iexact HM
    isplitl [Ht]; · iexact Ht
    isplitl [O3]; · iexact O3
    isplitl [R1]; · iexact R1
    iexact HO
  iintro ⟨Ht, O3, R1, HO⟩
  iapply (wp_out d i O W rfl b.kid b.hkid out4 r2 (kids X)) $$ [Hk O4 R2 HO]
  · isplitr; · iexact HM
    isplitl [Hk]; · iexact Hk
    isplitl [O4]; · iexact O4
    isplitl [R2]; · iexact R2
    iexact HO
  iintro ⟨Hk, O4, R2, HO⟩
  iapply (wp_out d i O W rfl b.idx b.hidx out5 r3 (idxs (wid i) X)) $$ [Hi O5 R3 HO]
  · isplitr; · iexact HM
    isplitl [Hi]; · iexact Hi
    isplitl [O5]; · iexact O5
    isplitl [R3]; · iexact R3
    iexact HO
  iintro ⟨Hi, O5, R3, HO⟩
  unfold tileWp
  rw [wp_pure]
  imodintro
  isplitl [Hx]; · iexact Hx
  isplitl [Hs]; · unfold loose; iexists X; iexact Hs
  isplitl [Ht]; · unfold loose; iexists (tops X); iexact Ht
  isplitl [Hk]; · unfold loose; iexists (kids X); iexact Hk
  isplitl [Hi]; · unfold loose; iexists (idxs (wid i) X); iexact Hi
  isplitl [O3]; · iexact O3
  isplitl [O4]; · iexact O4
  isplitl [O5]; · iexact O5
  isplitl [R0]; · iexact R0
  isplitl [R1]; · iexact R1
  isplitl [R2]; · iexact R2
  isplitl [R3]; · iexact R3
  iexact HO

end Cert.Proof.Five
-- ==== Proof.FiveWin1.lean ====
module

public import proofs.«01_k».proof.Proof.FiveProg

@[expose] public section

set_option synthInstance.maxSize 4096

noncomputable section

namespace Cert.Proof.Five

open Cert.TopKIdeal Cert.TopKIdeal.Gen
open Idealize.ShloMosaic Idealize.SL.Sem

variable {F : FTy → Type} [FloatOps F]

set_option maxRecDepth 100000
set_option maxHeartbeats 0

/-- Part 1 of 7 of the printed body. -/
theorem win1 (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_)  : k0_part391 (F := F) i arg2 harg2 arg3 harg3 arg4 harg4 arg5 harg5 arg6 harg6 arg7 harg7 arg8 harg8 arg9 harg9 v16616_r0 v16616_r1 v16616_r2 v16616_r3  = (
  copyIn i ⟨arg6, harg6, arg7, harg7, arg8, harg8, arg9, harg9⟩ arg2 v16616_r0 >>= fun _ =>
  groupFront i ⟨arg6, harg6, arg7, harg7, arg8, harg8, arg9, harg9⟩ (st := 0) (by omega) (gbase (wid i) lanes 0) fun m am =>
  putRound i ⟨arg6, harg6, arg7, harg7, arg8, harg8, arg9, harg9⟩ (st := 0) (by omega) (gbase (wid i) lanes 0) (k := 4) (by omega) m am >>= fun _ =>
  groupFront i ⟨arg6, harg6, arg7, harg7, arg8, harg8, arg9, harg9⟩ (st := 16) (by omega) (gbase (wid i) lanes 16) fun m am =>
  put i arg7 (k := 4) (st := 16) (by omega) (by omega) rfl (shapeCast S1x16 m shapeCasts_S16_S1x16) >>= fun _ =>
  pure ⟨wid i, (gbase (wid i) lanes 16), am, 1#32⟩) := by
  unfold k0_part391 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 copyIn groupFront choose round putRound put
  simp (config := { iota := true, proj := true }) only [Prog.bind_assoc]
  exact rfl

end Cert.Proof.Five
-- ==== Proof.FiveWin2.lean ====
module

public import proofs.«01_k».proof.Proof.FiveProg

@[expose] public section

set_option synthInstance.maxSize 4096

noncomputable section

namespace Cert.Proof.Five

open Cert.TopKIdeal Cert.TopKIdeal.Gen
open Idealize.ShloMosaic Idealize.SL.Sem

variable {F : FTy → Type} [FloatOps F]

set_option maxRecDepth 100000
set_option maxHeartbeats 0

/-- Part 2 of 7 of the printed body. -/
theorem win2 (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (gb am : Ints) (one : BitVec 32) : k0_part392 (F := F) i arg2 harg2 arg3 harg3 arg4 harg4 arg5 harg5 arg6 harg6 arg7 harg7 arg8 harg8 arg9 harg9 v16616_r0 v16616_r1 v16616_r2 v16616_r3 v1 gb am one = (
  put i arg8 (k := 4) (st := 16) (by omega) (by omega) rfl (shapeCast S1x16 (subi am (broadcast S16 one)) shapeCasts_S16_S1x16) >>= fun _ =>
  put i arg9 (k := 4) (st := 16) (by omega) (by omega) rfl (shapeCast S1x16 (addi gb am) shapeCasts_S16_S1x16) >>= fun _ =>
  groupFront i ⟨arg6, harg6, arg7, harg7, arg8, harg8, arg9, harg9⟩ (st := 32) (by omega) (gbase v1 lanes 32) fun m am =>
  putRound i ⟨arg6, harg6, arg7, harg7, arg8, harg8, arg9, harg9⟩ (st := 32) (by omega) (gbase v1 lanes 32) (k := 4) (by omega) m am >>= fun _ =>
  groupFront i ⟨arg6, harg6, arg7, harg7, arg8, harg8, arg9, harg9⟩ (st := 48) (by omega) (gbase v1 lanes 48) fun m am =>
  put i arg7 (k := 4) (st := 48) (by omega) (by omega) rfl (shapeCast S1x16 m shapeCasts_S16_S1x16) >>= fun _ =>
  look i arg8 (k := 4) (st := 48) (by omega) (by omega) >>= fun old =>
  pure ⟨(gbase v1 lanes 48), am, subi am (broadcast S16 1#32), old⟩) := by
  unfold k0_part392 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 groupFront choose round putRound put
  simp (config := { iota := true, proj := true }) only [Prog.bind_assoc]
  exact rfl

end Cert.Proof.Five
-- ==== Proof.FiveWin3.lean ====
module

public import proofs.«01_k».proof.Proof.FiveProg

@[expose] public section

set_option synthInstance.maxSize 4096

noncomputable section

namespace Cert.Proof.Five

open Cert.TopKIdeal Cert.TopKIdeal.Gen
open Idealize.ShloMosaic Idealize.SL.Sem

variable {F : FTy → Type} [FloatOps F]

set_option maxRecDepth 100000
set_option maxHeartbeats 0

/-- Part 3 of 7 of the printed body. -/
theorem win3 (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (gb am kid : Ints) (old : Vec F S1x16 .i32) : k0_part393 (F := F) i arg2 harg2 arg3 harg3 arg4 harg4 arg5 harg5 arg6 harg6 arg7 harg7 arg8 harg8 arg9 harg9 v16616_r0 v16616_r1 v16616_r2 v16616_r3 v1 gb am kid old = (
  place i arg8 (k := 4) (st := 48) (by omega) (by omega) rfl (shapeCast S1x16 kid shapeCasts_S16_S1x16) >>= fun _ =>
  put i arg9 (k := 4) (st := 48) (by omega) (by omega) rfl (shapeCast S1x16 (addi gb am) shapeCasts_S16_S1x16) >>= fun _ =>
  groupFront i ⟨arg6, harg6, arg7, harg7, arg8, harg8, arg9, harg9⟩ (st := 64) (by omega) (gbase v1 lanes 64) fun m am =>
  putRound i ⟨arg6, harg6, arg7, harg7, arg8, harg8, arg9, harg9⟩ (st := 64) (by omega) (gbase v1 lanes 64) (k := 4) (by omega) m am >>= fun _ =>
  groupFront i ⟨arg6, harg6, arg7, harg7, arg8, harg8, arg9, harg9⟩ (st := 80) (by omega) (gbase v1 lanes 80) fun m am =>
  put i arg7 (k := 4) (st := 80) (by omega) (by omega) rfl (shapeCast S1x16 m shapeCasts_S16_S1x16) >>= fun _ =>
  put i arg8 (k := 4) (st := 80) (by omega) (by omega) rfl (shapeCast S1x16 (subi am (broadcast S16 1#32)) shapeCasts_S16_S1x16) >>= fun _ =>
  pure (addi (gbase v1 lanes 80) am)) := by
  unfold k0_part393 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180 groupFront choose round putRound put
  simp (config := { iota := true, proj := true }) only [Prog.bind_assoc]
  exact rfl

end Cert.Proof.Five
-- ==== Proof.FiveWin4.lean ====
module

public import proofs.«01_k».proof.Proof.FiveProg

@[expose] public section

set_option synthInstance.maxSize 4096

noncomputable section

namespace Cert.Proof.Five

open Cert.TopKIdeal Cert.TopKIdeal.Gen
open Idealize.ShloMosaic Idealize.SL.Sem

variable {F : FTy → Type} [FloatOps F]

set_option maxRecDepth 100000
set_option maxHeartbeats 0

/-- Part 4 of 7 of the printed body. -/
theorem win4 (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (x : Ints) : k0_part394 (F := F) i arg2 harg2 arg3 harg3 arg4 harg4 arg5 harg5 arg6 harg6 arg7 harg7 arg8 harg8 arg9 harg9 v16616_r0 v16616_r1 v16616_r2 v16616_r3 v1 x = (
  put i arg9 (k := 4) (st := 80) (by omega) (by omega) rfl (shapeCast S1x16 x shapeCasts_S16_S1x16) >>= fun _ =>
  groupFront i ⟨arg6, harg6, arg7, harg7, arg8, harg8, arg9, harg9⟩ (st := 96) (by omega) (gbase v1 lanes 96) fun m am =>
  putRound i ⟨arg6, harg6, arg7, harg7, arg8, harg8, arg9, harg9⟩ (st := 96) (by omega) (gbase v1 lanes 96) (k := 4) (by omega) m am >>= fun _ =>
  groupFront i ⟨arg6, harg6, arg7, harg7, arg8, harg8, arg9, harg9⟩ (st := 112) (by omega) (gbase v1 lanes 112) fun m am =>
  putRound i ⟨arg6, harg6, arg7, harg7, arg8, harg8, arg9, harg9⟩ (st := 112) (by omega) (gbase v1 lanes 112) (k := 4) (by omega) m am >>= fun _ =>
  pure lanes) := by
  unfold k0_part394 k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240 groupFront choose round putRound put
  simp (config := { iota := true, proj := true }) only [Prog.bind_assoc]
  exact rfl

end Cert.Proof.Five
-- ==== Proof.FiveWin5.lean ====
module

public import proofs.«01_k».proof.Proof.FiveProg

@[expose] public section

set_option synthInstance.maxSize 4096

noncomputable section

namespace Cert.Proof.Five

open Cert.TopKIdeal Cert.TopKIdeal.Gen
open Idealize.ShloMosaic Idealize.SL.Sem

variable {F : FTy → Type} [FloatOps F]

set_option maxRecDepth 100000
set_option maxHeartbeats 0

/-- Part 5 of 7 of the printed body. -/
theorem win5 (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (io : Ints) : k0_part395 (F := F) i arg2 harg2 arg3 harg3 arg4 harg4 arg5 harg5 arg6 harg6 arg7 harg7 arg8 harg8 arg9 harg9 v16616_r0 v16616_r1 v16616_r2 v16616_r3 v1 io = (
  groupFront i ⟨arg6, harg6, arg7, harg7, arg8, harg8, arg9, harg9⟩ (st := 128) (by omega) (gbase v1 io 128) fun m am =>
  putRound i ⟨arg6, harg6, arg7, harg7, arg8, harg8, arg9, harg9⟩ (st := 128) (by omega) (gbase v1 io 128) (k := 4) (by omega) m am >>= fun _ =>
  groupFront i ⟨arg6, harg6, arg7, harg7, arg8, harg8, arg9, harg9⟩ (st := 144) (by omega) (gbase v1 lanes 144) fun m am =>
  putRound i ⟨arg6, harg6, arg7, harg7, arg8, harg8, arg9, harg9⟩ (st := 144) (by omega) (gbase v1 lanes 144) (k := 4) (by omega) m am >>= fun _ =>
  rd i ⟨arg6, harg6, arg7, harg7, arg8, harg8, arg9, harg9⟩ (st := 160) (by omega) (s := 1) (by omega) fun r1 =>
  pure ⟨lanes, r1, 2#32⟩) := by
  unfold k0_part395 k0_part241 k0_part242 k0_part243 k0_part244 k0_part245 k0_part246 k0_part247 k0_part248 k0_part249 k0_part250 k0_part251 k0_part252 k0_part253 k0_part254 k0_part255 k0_part256 k0_part257 k0_part258 k0_part259 k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283 k0_part284 k0_part285 k0_part286 k0_part287 k0_part288 k0_part289 k0_part290 k0_part291 k0_part292 k0_part293 k0_part294 k0_part295 k0_part296 k0_part297 k0_part298 k0_part299 k0_part300 groupFront choose round putRound put
  simp (config := { iota := true, proj := true }) only [Prog.bind_assoc]
  exact rfl

end Cert.Proof.Five
-- ==== Proof.FiveWin6.lean ====
module

public import proofs.«01_k».proof.Proof.FiveProg

@[expose] public section

set_option synthInstance.maxSize 4096

noncomputable section

namespace Cert.Proof.Five

open Cert.TopKIdeal Cert.TopKIdeal.Gen
open Idealize.ShloMosaic Idealize.SL.Sem

variable {F : FTy → Type} [FloatOps F]

set_option maxRecDepth 100000
set_option maxHeartbeats 0

/-- Part 6 of 7 of the printed body. -/
theorem win6 (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (io : Ints) (r1 : Lanes F) (two : BitVec 32) : k0_part396 (F := F) i arg2 harg2 arg3 harg3 arg4 harg4 arg5 harg5 arg6 harg6 arg7 harg7 arg8 harg8 arg9 harg9 v16616_r0 v16616_r1 v16616_r2 v16616_r3 v1 io r1 two = (
  readFrom2 i ⟨arg6, harg6, arg7, harg7, arg8, harg8, arg9, harg9⟩ (st := 160) (by omega) r1 fun l =>
  choose i ⟨arg6, harg6, arg7, harg7, arg8, harg8, arg9, harg9⟩ (st := 160) (by omega) (gbase v1 io 160) l fun m am =>
  putRound i ⟨arg6, harg6, arg7, harg7, arg8, harg8, arg9, harg9⟩ (st := 160) (by omega) (gbase v1 io 160) (k := 4) (by omega) m am >>= fun _ =>
  groupFront i ⟨arg6, harg6, arg7, harg7, arg8, harg8, arg9, harg9⟩ (st := 176) (by omega) (gbase v1 lanes 176) fun m am =>
  putRound i ⟨arg6, harg6, arg7, harg7, arg8, harg8, arg9, harg9⟩ (st := 176) (by omega) (gbase v1 lanes 176) (k := 4) (by omega) m am >>= fun _ =>
  rd i ⟨arg6, harg6, arg7, harg7, arg8, harg8, arg9, harg9⟩ (st := 192) (by omega) (s := 1) (by omega) fun r1 =>
  rd i ⟨arg6, harg6, arg7, harg7, arg8, harg8, arg9, harg9⟩ (st := 192) (by omega) (s := 2) (by omega) fun r2 =>
  pure ⟨lanes, r1, r2⟩) := by
  unfold k0_part396 k0_part301 k0_part302 k0_part303 k0_part304 k0_part305 k0_part306 k0_part307 k0_part308 k0_part309 k0_part310 k0_part311 k0_part312 k0_part313 k0_part314 k0_part315 k0_part316 k0_part317 k0_part318 k0_part319 k0_part320 k0_part321 k0_part322 k0_part323 k0_part324 k0_part325 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357 k0_part358 k0_part359 k0_part360 groupFront choose round putRound put readFrom2
  simp (config := { iota := true, proj := true }) only [Prog.bind_assoc]
  exact rfl

end Cert.Proof.Five
-- ==== Proof.FiveWin7.lean ====
module

public import proofs.«01_k».proof.Proof.FiveProg

@[expose] public section

set_option synthInstance.maxSize 4096

noncomputable section

namespace Cert.Proof.Five

open Cert.TopKIdeal Cert.TopKIdeal.Gen
open Idealize.ShloMosaic Idealize.SL.Sem

variable {F : FTy → Type} [FloatOps F]

set_option maxRecDepth 100000
set_option maxHeartbeats 0

/-- Part 7 of 7 of the printed body. -/
theorem win7 (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) (v1 : BitVec 32) (io : Ints) (r1 r2 : Lanes F) : k0_part397 (F := F) i arg2 harg2 arg3 harg3 arg4 harg4 arg5 harg5 arg6 harg6 arg7 harg7 arg8 harg8 arg9 harg9 v16616_r0 v16616_r1 v16616_r2 v16616_r3 v1 io r1 r2 = (
  readFrom3 i ⟨arg6, harg6, arg7, harg7, arg8, harg8, arg9, harg9⟩ (st := 192) (by omega) r1 r2 fun l =>
  choose i ⟨arg6, harg6, arg7, harg7, arg8, harg8, arg9, harg9⟩ (st := 192) (by omega) (gbase v1 io 192) l fun m am =>
  putRound i ⟨arg6, harg6, arg7, harg7, arg8, harg8, arg9, harg9⟩ (st := 192) (by omega) (gbase v1 io 192) (k := 4) (by omega) m am >>= fun _ =>
  sendOut i rfl arg7 harg7 arg3 v16616_r1 >>= fun _ =>
  awaitOut i rfl arg7 harg7 arg3 v16616_r1 >>= fun _ =>
  sendOut i rfl arg8 harg8 arg4 v16616_r2 >>= fun _ =>
  awaitOut i rfl arg8 harg8 arg4 v16616_r2 >>= fun _ =>
  sendOut i rfl arg9 harg9 arg5 v16616_r3 >>= fun _ =>
  pure ⟨⟩) := by
  unfold k0_part397 k0_part361 k0_part362 k0_part363 k0_part364 k0_part365 k0_part366 k0_part367 k0_part368 k0_part369 k0_part370 k0_part371 k0_part372 k0_part373 k0_part374 k0_part375 k0_part376 k0_part377 k0_part378 k0_part379 k0_part380 k0_part381 k0_part382 k0_part383 k0_part384 k0_part385 k0_part386 k0_part387 k0_part388 k0_part389 k0_part390 choose round putRound put
  simp (config := { iota := true, proj := true }) only [Prog.bind_assoc]
  exact rfl

end Cert.Proof.Five
-- ==== Proof.FiveBody.lean ====
module

public import proofs.«01_k».proof.Proof.FiveWin1
public import proofs.«01_k».proof.Proof.FiveWin2
public import proofs.«01_k».proof.Proof.FiveWin3
public import proofs.«01_k».proof.Proof.FiveWin4
public import proofs.«01_k».proof.Proof.FiveWin5
public import proofs.«01_k».proof.Proof.FiveWin6
public import proofs.«01_k».proof.Proof.FiveWin7

@[expose] public section

set_option synthInstance.maxSize 4096

noncomputable section

namespace Cert.Proof.Five

open Cert.TopKIdeal Cert.TopKIdeal.Gen
open Idealize.ShloMosaic Idealize.SL.Sem

variable {F : FTy → Type} [FloatOps F]

section
variable {α β : Type} (i : grid0.Coords) (b : Bufs) {st : ℕ} (ht : st ≤ 192) (f : α → TProg F i β)

theorem rd_bind {s : ℕ} (hs : s < 32) (k : Lanes F → TProg F i α) : rd i b ht hs k >>= f = rd i b ht hs fun r => k r >>= f := by
  simp only [rd, Prog.bind_assoc]

theorem readFrom3_bind (r1 r2 : Lanes F) (k : Rows F → TProg F i α) : readFrom3 i b ht r1 r2 k >>= f = readFrom3 i b ht r1 r2 fun l => k l >>= f := by
  simp only [readFrom3, rd_bind]

theorem readFrom2_bind (r1 : Lanes F) (k : Rows F → TProg F i α) : readFrom2 i b ht r1 k >>= f = readFrom2 i b ht r1 fun l => k l >>= f := by
  simp only [readFrom2, rd_bind, readFrom3_bind]

theorem readRows_bind (k : Rows F → TProg F i α) : readRows i b ht k >>= f = readRows i b ht fun l => k l >>= f := by
  simp only [readRows, rd_bind, readFrom2_bind]

theorem choose_bind (gb : Ints) (l : Rows F) (k : Lanes F → Ints → TProg F i α) :
    choose i b ht gb l k >>= f = choose i b ht gb l fun m am => k m am >>= f := by
  simp only [choose, round, Prog.bind_assoc]

theorem groupFront_bind (gb : Ints) (k : Lanes F → Ints → TProg F i α) :
    groupFront i b ht gb k >>= f = groupFront i b ht gb fun m am => k m am >>= f := by
  simp only [groupFront, readRows_bind, choose_bind]

end

set_option maxRecDepth 100000 in
/-- The printed body is that program. -/
theorem body_eq (i : grid0.Coords) (arg2 : Memref sig .scVector .hbm S32x32x208 .f32) (harg2 : arg2.IsWhole) (arg3 : Memref sig .scVector .hbm S32x5x208 .f32) (harg3 : arg3.IsWhole) (arg4 : Memref sig .scVector .hbm S32x5x208 .i32) (harg4 : arg4.IsWhole) (arg5 : Memref sig .scVector .hbm S32x5x208 .i32) (harg5 : arg5.IsWhole) (arg6 : Memref sig .scVector .vmem S32x208 .f32) (harg6 : arg6.IsWhole) (arg7 : Memref sig .scVector .vmem S5x208 .f32) (harg7 : arg7.IsWhole) (arg8 : Memref sig .scVector .vmem S5x208 .i32) (harg8 : arg8.IsWhole) (arg9 : Memref sig .scVector .vmem S5x208 .i32) (harg9 : arg9.IsWhole) (v16616_r0 : DmaSems sig S_) (v16616_r1 : DmaSems sig S_) (v16616_r2 : DmaSems sig S_) (v16616_r3 : DmaSems sig S_) :
    cc0__sc_topk_body (F := F) i arg2 harg2 arg3 harg3 arg4 harg4 arg5 harg5 arg6 harg6 arg7 harg7 arg8 harg8 arg9 harg9 v16616_r0 v16616_r1 v16616_r2 v16616_r3 = tile i ⟨arg6, harg6, arg7, harg7, arg8, harg8, arg9, harg9⟩ arg2 arg3 arg4 arg5 v16616_r0 v16616_r1 v16616_r2 v16616_r3 := by
  unfold cc0__sc_topk_body tile group
  simp (config := { iota := true, proj := true }) only [win1, win2, win3, win4, win5, win6, win7, putRound, put, Prog.bind_assoc, pure_bind, rd_bind, readFrom3_bind, readFrom2_bind, choose_bind, groupFront_bind]
  rfl

end Cert.Proof.Five
-- ==== Proof.FiveTask.lean ====
module

public import proofs.«01_k».proof.Proof.FiveCopy
public import proofs.«01_k».proof.Proof.FiveBody
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Five

open Cert.TopKIdeal Cert.TopKIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and what the call makes of them -/

abbrev aLoc (d : Dev nD) : Loc nD τ sig := (SparseCore.T d).loc main_arg0
abbrev tLoc (d : Dev nD) : Loc nD τ sig := (SparseCore.T d).loc main_v0_0
abbrev kLoc (d : Dev nD) : Loc nD τ sig := (SparseCore.T d).loc main_v0_1
abbrev xLoc (d : Dev nD) : Loc nD τ sig := (SparseCore.T d).loc main_v0_2

/-- The scratch arrays of a subcore. -/
def bufs : Bufs where
  scs := Memref.whole cc0_scratch0
  hscs := Memref.isWhole_whole _
  top := Memref.whole cc0_scratch1
  htop := Memref.isWhole_whole _
  kid := Memref.whole cc0_scratch2
  hkid := Memref.isWhole_whole _
  idx := Memref.whole cc0_scratch3
  hidx := Memref.isWhole_whole _

/-- The scores and the three results, as a subcore names them. -/
abbrev mA : Memref sig .scVector .hbm S32x32x208 .f32 := Memref.whole main_arg0_scv
abbrev mT : Memref sig .scVector .hbm S32x5x208 .f32 := Memref.whole main_v0_0_scv
abbrev mK : Memref sig .scVector .hbm S32x5x208 .i32 := Memref.whole main_v0_1_scv
abbrev mX : Memref sig .scVector .hbm S32x5x208 .i32 := Memref.whole main_v0_2_scv

/-- Entry of plane `w` of the scores. -/
def at3 (w : ℕ) (x : S32x208.Idx) : S32x32x208.Idx := fun a => match a with
  | 0 => ⟨w % 32, Nat.mod_lt _ (by decide)⟩
  | 1 => x 0
  | 2 => x 1

/-- Plane `w` of the scores. -/
def plane {α : Type} (f : S32x32x208.Idx → α) (w : ℕ) : S32x208.Idx → α := fun x => f (at3 w x)

/-- The entry of a plane that an entry of a result is. -/
def inPlane (y : S32x5x208.Idx) : S5x208.Idx := fun a => match a with
  | 0 => y 1
  | 1 => y 2

/-- The three results of the call, plane by plane. -/
def allTops (f : S32x32x208.Idx → F .f32) : S32x5x208.Idx → F .f32 := fun y => tops (plane f (y 0).val) (inPlane y)
def allKids (f : S32x32x208.Idx → F .f32) : S32x5x208.Idx → BitVec 32 := fun y => kids (plane f (y 0).val) (inPlane y)
def allIdxs (f : S32x32x208.Idx → F .f32) : S32x5x208.Idx → BitVec 32 := fun y => idxs (BitVec.ofNat 32 (y 0).val) (plane f (y 0).val) (inPlane y)

/-- The number of a subcore. -/
def tileNo (c : Fin 2) (s : Fin 16) : Fin 32 := ⟨2 * s.val + c.val, by omega⟩

omit [FloatOps F] in
theorem wid_eq : ∀ i : grid0.Coords, wid i = BitVec.ofNat 32 (2 * (i 1).val + (i 0).val) := by decide +kernel

/-- The plane of a result that subcore `w` writes. -/
def planeOf (w : Fin 32) : Finset S32x5x208.Idx := Finset.univ.filter fun y => (y 0).val = w.val

omit [FloatOps F] in
/-- A subcore's plane of the scores, read as the subcore reads it. -/
theorem read_in (M : Memref sig .scVector .hbm S32x32x208 .f32) (i : grid0.Coords) (f : M.view.ty.Contents (Elt F)) :
    (planeIn i M).view.read (Elt F) f = plane (M.view.read (Elt F) f) (2 * (i 1).val + (i 0).val) := by
  have hi0 : (i 0).val < 2 := (i 0).isLt
  have hi1 : (i 1).val < 16 := (i 1).isLt
  funext x
  show M.view.readAt (Elt F) (Rect.unit (s := S32x32x208) (k0_off1 i) S1x32x208.size (k0_off1_inb i)).toLoadRect f
      (Shape.reshapeEquiv squeezes_S1x32x208_S32x208.numel_eq x) = _
  rw [show Shape.reshapeEquiv (squeezes_S1x32x208_S32x208.numel_eq : S32x208.numel = S1x32x208.numel) x
      = (fun a => match a with | 0 => (0 : Fin 1) | 1 => x 0 | 2 => x 1 : S1x32x208.Idx) from
    Shape.reshapeEquiv_eq_of_rowMajor _ (by
      rw [Shape.rowMajor_val_three, Shape.rowMajor_val_two]
      show (0 * 32 + (x 0).val) * 208 + (x 1).val = (x 0).val * 208 + (x 1).val; omega)]
  rw [View.readAt_apply]
  unfold plane
  refine congrArg (M.view.read (Elt F) f) (funext fun a => Fin.ext ?_)
  have ho := congrFun (k0_off1_eq i)
  match a with
  | 0 =>
    show k0_off1 i 0 + 1 * 0 = (2 * (i 1).val + (i 0).val) % 32
    rw [ho 0]; show 2 * (i 1).val + (i 0).val + 1 * 0 = _; omega
  | 1 =>
    show k0_off1 i 1 + 1 * (x 0).val = (x 0).val
    rw [ho 1]; show 0 + 1 * (x 0).val = _; omega
  | 2 =>
    show k0_off1 i 2 + 1 * (x 1).val = (x 1).val
    rw [ho 2]; show 0 + 1 * (x 1).val = _; omega

/-- The entry of a result that an entry of subcore `w`'s plane is. -/
def outAt (w : ℕ) (x : S5x208.Idx) : S32x5x208.Idx := fun a => match a with
  | 0 => ⟨w % 32, Nat.mod_lt _ (by decide)⟩
  | 1 => x 0
  | 2 => x 1

omit [FloatOps F] in
/-- And a subcore's plane of a result. -/
theorem read_out {e : EltTy} (M : Memref sig .scVector .hbm S32x5x208 e) (i : grid0.Coords) (f : M.view.ty.Contents (Elt F)) (x : S5x208.Idx) :
    (planeOut i M).view.read (Elt F) f x = M.view.read (Elt F) f (outAt (2 * (i 1).val + (i 0).val) x) := by
  have hi0 : (i 0).val < 2 := (i 0).isLt
  have hi1 : (i 1).val < 16 := (i 1).isLt
  show M.view.readAt (Elt F) (Rect.unit (s := S32x5x208) (k0_off2 i) S1x5x208.size (k0_off2_inb i)).toLoadRect f
      (Shape.reshapeEquiv squeezes_S1x5x208_S5x208.numel_eq x) = _
  rw [show Shape.reshapeEquiv (squeezes_S1x5x208_S5x208.numel_eq : S5x208.numel = S1x5x208.numel) x
      = (fun a => match a with | 0 => (0 : Fin 1) | 1 => x 0 | 2 => x 1 : S1x5x208.Idx) from
    Shape.reshapeEquiv_eq_of_rowMajor _ (by
      rw [Shape.rowMajor_val_three, Shape.rowMajor_val_two]
      show (0 * 5 + (x 0).val) * 208 + (x 1).val = (x 0).val * 208 + (x 1).val; omega)]
  rw [View.readAt_apply]
  refine congrArg (M.view.read (Elt F) f) (funext fun a => Fin.ext ?_)
  have ho := congrFun (k0_off2_eq i)
  match a with
  | 0 =>
    show k0_off2 i 0 + 1 * 0 = (2 * (i 1).val + (i 0).val) % 32
    rw [ho 0]; show 2 * (i 1).val + (i 0).val + 1 * 0 = _; omega
  | 1 =>
    show k0_off2 i 1 + 1 * (x 0).val = (x 0).val
    rw [ho 1]; show 0 + 1 * (x 0).val = _; omega
  | 2 =>
    show k0_off2 i 2 + 1 * (x 1).val = (x 1).val
    rw [ho 2]; show 0 + 1 * (x 1).val = _; omega

theorem block_set (i : grid0.Coords) (w : Fin 32) (hw : w.val = 2 * (i 1).val + (i 0).val) :
    (Rect.unit (s := S32x5x208) (k0_off2 i) S1x5x208.size (k0_off2_inb i)).set = planeOf w := by
  ext y
  unfold planeOf
  rw [Rect.mem_set_unit, Finset.mem_filter]
  have h1 : (y 1).val < 5 := (y 1).isLt
  have h2 : (y 2).val < 208 := (y 2).isLt
  rw [k0_off2_eq i]
  constructor
  · intro h
    refine ⟨Finset.mem_univ _, ?_⟩
    have hb : 2 * (i 1).val + (i 0).val ≤ (y 0).val ∧ (y 0).val < 2 * (i 1).val + (i 0).val + 1 := h 0
    omega
  · rintro ⟨-, h⟩ a
    match a with
    | 0 =>
      show 2 * (i 1).val + (i 0).val ≤ (y 0).val ∧ (y 0).val < 2 * (i 1).val + (i 0).val + 1
      omega
    | 1 => exact ⟨Nat.zero_le _, by show (y 1).val < 0 + 5; omega⟩
    | 2 => exact ⟨Nat.zero_le _, by show (y 2).val < 0 + 208; omega⟩

omit [FloatOps F] in
theorem set_T (i : grid0.Coords) (w : Fin 32) (hw : w.val = 2 * (i 1).val + (i 0).val) : (planeOut i mT).view.set = planeOf w := by
  refine (View.set_reshape _ _).trans ?_
  show ((View.whole (main_v0_0_scv : Ref sig .scVector)).slice (Rect.unit (s := S32x5x208) (k0_off2 i) S1x5x208.size (k0_off2_inb i))).set = _
  rw [View.set_slice]
  exact (Finset.map_refl (s := (Rect.unit (s := S32x5x208) (k0_off2 i) S1x5x208.size (k0_off2_inb i)).set)).trans (block_set i w hw)

omit [FloatOps F] in
theorem set_K (i : grid0.Coords) (w : Fin 32) (hw : w.val = 2 * (i 1).val + (i 0).val) : (planeOut i mK).view.set = planeOf w := by
  refine (View.set_reshape _ _).trans ?_
  show ((View.whole (main_v0_1_scv : Ref sig .scVector)).slice (Rect.unit (s := S32x5x208) (k0_off2 i) S1x5x208.size (k0_off2_inb i))).set = _
  rw [View.set_slice]
  exact (Finset.map_refl (s := (Rect.unit (s := S32x5x208) (k0_off2 i) S1x5x208.size (k0_off2_inb i)).set)).trans (block_set i w hw)

omit [FloatOps F] in
theorem set_X (i : grid0.Coords) (w : Fin 32) (hw : w.val = 2 * (i 1).val + (i 0).val) : (planeOut i mX).view.set = planeOf w := by
  refine (View.set_reshape _ _).trans ?_
  show ((View.whole (main_v0_2_scv : Ref sig .scVector)).slice (Rect.unit (s := S32x5x208) (k0_off2 i) S1x5x208.size (k0_off2_inb i))).set = _
  rw [View.set_slice]
  exact (Finset.map_refl (s := (Rect.unit (s := S32x5x208) (k0_off2 i) S1x5x208.size (k0_off2_inb i)).set)).trans (block_set i w hw)

/-! ## Whole buffers, and the subcore's own -/

/-- A buffer's contents at a share, read through a view of it: lent, and taken back unchanged. -/
theorem lend {sp : Space} {s : Shape} {e : EltTy} (d : Dev nD) (i : grid0.Coords) (q : PosShare TreeShare) (b : Memref sig .scVector sp s e)
    (f : Buf (Elt F) (b.view.loc (thr d i))) :
    (b.view.loc (thr d i) ↦{q} f : sProp 𝕄)
      ⊢ iprop(shares d i q b (b.view.read (Elt F) f) ∗ (shares d i q b (b.view.read (Elt F) f) -∗ (b.view.loc (thr d i) ↦{q} f))) := by
  iintro H
  ihave H' := (pointsTo_split_subset (q := q) (f := f) (S := Finset.univ) (Finset.subset_univ b.view.set)).1 $$ H
  icases H' with ⟨H, Hr⟩
  isplitl [H]
  · unfold shares; iexists f; isplitr
    · ipureintro; rfl
    iexact H
  unfold shares
  iintro ⟨%f', %hf, H⟩
  have hj : (b.view.loc (thr d i) ↦[b.view.set]{q} f' : sProp 𝕄) ⊢ (b.view.loc (thr d i) ↦[b.view.set]{q} f) :=
    Entails.of_eq (pointsTo_congr (agree_of_read b.view hf))
  iapply (pointsTo_split_subset (q := q) (f := f) (S := Finset.univ) (Finset.subset_univ b.view.set)).2
  isplitl [H]
  · iapply hj; iexact H
  iexact Hr

/-- A scratch buffer, whole, at whatever it holds. -/
theorem loose_eq {sp : Space} {s : Shape} {e : EltTy} (d : Dev nD) (i : grid0.Coords) (b : Memref sig .scVector sp s e) (hb : b.view.set = Finset.univ) :
    iprop(∃ f : Buf (Elt F) (b.view.loc (thr d i)), b.view.loc (thr d i) ↦{fullShare} f) = (iprop(∃ g : s.Idx → Elt F e, shares d i fullShare b g) : sProp 𝕄) := by
  have h1 : iprop(∃ f : Buf (Elt F) (b.view.loc (thr d i)), b.view.loc (thr d i) ↦{fullShare} f)
      ⊢ (iprop(∃ g : s.Idx → Elt F e, shares d i fullShare b g) : sProp 𝕄) := by
    unfold shares
    rw [hb]
    iintro ⟨%f, H⟩
    iexists (b.view.read (Elt F) f); iexists f
    isplitr
    · ipureintro; rfl
    iexact H
  have h2 : iprop(∃ g : s.Idx → Elt F e, shares d i fullShare b g)
      ⊢ (iprop(∃ f : Buf (Elt F) (b.view.loc (thr d i)), b.view.loc (thr d i) ↦{fullShare} f) : sProp 𝕄) := by
    unfold shares
    rw [hb]
    iintro ⟨%g, %f, -, H⟩
    iexists f; iexact H
  exact BI.Entails.antisymm h1 h2

theorem dma_scoped : ∀ k : Fin 4, (SemLoc.dma (k : DmaSem sig) : SemLoc sig).isScoped .scVector = true := by decide

/-- The subcore's four semaphores. -/
def ownSems (d : Dev nD) (i : grid0.Coords) : Finset (GSem nD τ sig) := (Finset.univ : Finset (Fin 4)).image fun k => (thr d i, SemLoc.dma (k : DmaSem sig))

theorem ownSems_eq (d : Dev nD) (i : grid0.Coords) :
    (bigSep (ownSems d i) (fun g => semVal g 0) : sProp 𝕄)
      = iprop(idle d i cc0_scoped0 ∗ idle d i cc0_scoped1 ∗ idle d i cc0_scoped2 ∗ idle d i cc0_scoped3) := by
  have hinj : Set.InjOn (fun k : Fin 4 => ((thr d i, SemLoc.dma (k : DmaSem sig)) : GSem nD τ sig)) (Finset.univ : Finset (Fin 4)) := by
    intro a _ b _ h
    have := congrArg Prod.snd h
    exact SemLoc.dma.inj this
  unfold ownSems
  rw [SparseCore.bigSep_image_of_injOn hinj,
    show (Finset.univ : Finset (Fin 4)) = {0, 1, 2, 3} by decide,
    SparseCore.bigSep_insert' (by decide), SparseCore.bigSep_insert' (by decide), SparseCore.bigSep_insert' (by decide),
    bigSep_singleton]
  unfold idle
  rfl

theorem ownSems_sub (d : Dev nD) (i : grid0.Coords) : ownSems d i ⊆ ownCells (thr d i) := by
  intro g hg
  obtain ⟨k, -, rfl⟩ := Finset.mem_image.mp hg
  exact mem_ownCells.mpr ⟨rfl, dma_scoped k⟩

theorem ownSems0_V (d : Dev nD) (i : grid0.Coords) :
    (ownSems0 (thr d i) : sProp 𝕄)
      = iprop((idle d i cc0_scoped0 ∗ idle d i cc0_scoped1 ∗ idle d i cc0_scoped2 ∗ idle d i cc0_scoped3)
        ∗ bigSep (ownCells (thr d i) \ ownSems d i) fun g => semVal g 0) := by
  unfold SparseCore.Cfg.ownSems0
  rw [SparseCore.bigSep_sdiff_split' (ownSems_sub d i), ownSems_eq]

/-- The subcore's four scratch buffers. -/
def ownScratch (i : grid0.Coords) : Finset (DevRef τ sig) :=
  {(Proc.scVector ((i 0).castLE hcore0) ((i 1).castLE hsub0)).devRef cc0_scratch0, (Proc.scVector ((i 0).castLE hcore0) ((i 1).castLE hsub0)).devRef cc0_scratch1,
    (Proc.scVector ((i 0).castLE hcore0) ((i 1).castLE hsub0)).devRef cc0_scratch2, (Proc.scVector ((i 0).castLE hcore0) ((i 1).castLE hsub0)).devRef cc0_scratch3}

theorem ownBufs_V (d : Dev nD) (i : grid0.Coords) :
    (ownBufs (thr d i) : sProp 𝕄)
      = iprop((loose d i bufs.scs ∗ loose d i bufs.top ∗ loose d i bufs.kid ∗ loose d i bufs.idx)
          ∗ bigSep (ownRefs (τ := τ) (thr d i).2 \ ownScratch i) fun b => iprop(∃ f, ((d, b) : Loc nD τ sig) ↦{fullShare} f)) := by
  unfold SparseCore.Cfg.ownBufs
  have hs : ownScratch i ⊆ ownRefs (τ := τ) (thr d i).2 := by
    intro b hb
    simp only [ownScratch, Finset.mem_insert, Finset.mem_singleton] at hb
    rcases hb with rfl | rfl | rfl | rfl <;> exact SparseCore.Cfg.mem_ownRefs_of_owner rfl
  rw [SparseCore.bigSep_sdiff_split' hs]
  congr 1
  have hne : ∀ {r r' : Ref sig .scVector}, r ≠ r' → (Proc.scVector ((i 0).castLE hcore0) ((i 1).castLE hsub0)).devRef r
      ≠ (Proc.scVector ((i 0).castLE hcore0) ((i 1).castLE hsub0)).devRef r' := fun h e => h (Proc.devRef_injective _ e)
  unfold ownScratch
  rw [SparseCore.bigSep_insert' (by
      simp only [Finset.mem_insert, Finset.mem_singleton, not_or]
      exact ⟨hne (by decide), hne (by decide), hne (by decide)⟩),
    SparseCore.bigSep_insert' (by
      simp only [Finset.mem_insert, Finset.mem_singleton, not_or]
      exact ⟨hne (by decide), hne (by decide)⟩),
    SparseCore.bigSep_insert' (by
      simp only [Finset.mem_singleton]
      exact hne (by decide)), bigSep_singleton]
  unfold loose
  have h0 := loose_eq (F := F) d i bufs.scs (View.set_whole _)
  have h1 := loose_eq (F := F) d i bufs.top (View.set_whole _)
  have h2 := loose_eq (F := F) d i bufs.kid (View.set_whole _)
  have h3 := loose_eq (F := F) d i bufs.idx (View.set_whole _)
  rw [← h0, ← h1, ← h2, ← h3]
  rfl

end Cert.Proof.Five
-- ==== Proof.FiveLaunch.lean ====
module

public import proofs.«01_k».proof.Proof.FiveTask

@[expose] public section

noncomputable section

namespace Cert.Proof.Five

open Cert.TopKIdeal Cert.TopKIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- The call's results. -/
def resT (d : Dev nD) : Buf (Elt F) (tLoc d) := (allTops (F := F) (m (aLoc d) : S32x32x208.Idx → F .f32) : S32x5x208.Idx → F .f32)
def resK (d : Dev nD) : Buf (Elt F) (kLoc d) := (allKids (F := F) (m (aLoc d) : S32x32x208.Idx → F .f32) : S32x5x208.Idx → BitVec 32)
def resX (d : Dev nD) : Buf (Elt F) (xLoc d) := (allIdxs (F := F) (m (aLoc d) : S32x32x208.Idx → F .f32) : S32x5x208.Idx → BitVec 32)

/-- The share of the scores that subcore `w` is lent. -/
abbrev tok (w : Fin 32) : PosShare TreeShare := Transfers.shareTok fullShare 32 w

/-- The scores, at a share. -/
abbrev lent (d : Dev nD) (q : PosShare TreeShare) : sProp 𝕄 := aLoc d ↦{q} m (aLoc d)

/-- Subcore `w`'s planes of the three results. -/
abbrev planes (d : Dev nD) (w : Fin 32) (f : Buf (Elt F) (tLoc d)) (g : Buf (Elt F) (kLoc d)) (h : Buf (Elt F) (xLoc d)) : sProp 𝕄 :=
  iprop((tLoc d ↦[planeOf w]{fullShare} f) ∗ (kLoc d ↦[planeOf w]{fullShare} g) ∗ (xLoc d ↦[planeOf w]{fullShare} h))

abbrev goes (d : Dev nD) (w : Fin 32) : sProp 𝕄 := iprop(lent m d (tok w) ∗ planes d w (m (tLoc d)) (m (kLoc d)) (m (xLoc d)))
abbrev comes (d : Dev nD) (w : Fin 32) : sProp 𝕄 := iprop(lent m d (tok w) ∗ planes d w (resT m d) (resK m d) (resX m d))

/-- The number of subcore `s` on SparseCore `c`. -/
abbrev no (c : Fin ((K (F := F)).nCore 0)) (s : Fin ((K (F := F)).nSub 0)) : Fin 32 := tileNo (Fin.cast nCore_zero c) (Fin.cast nSub_zero s)

/-- What the launch hands each SparseCore and each tile, and what it takes back. -/
def P : (K (F := F)).Pay (nD := nD) (Val := Elt F) (Name := ℕ) (U := UU) where
  st := fun q d c => match q with | 0 => bigSep Finset.univ fun s : Fin ((K (F := F)).nSub 0) => goes m d (no c s)
  dn := fun q d c => match q with | 0 => bigSep Finset.univ fun s : Fin ((K (F := F)).nSub 0) => comes m d (no c s)
  go := fun q d c s => match q with | 0 => goes m d (no c s)
  td := fun q d c s => match q with | 0 => comes m d (no c s)
  x := fun _ _ => iprop(emp)

instance P_storable : (P (F := F) m).IsStorable where
  st q d c := match q with
    | 0 => (inferInstance : BI.Storable (upEmb : UEmb _ 𝕄) (bigSep Finset.univ fun s : Fin ((K (F := F)).nSub 0) => goes m d (no c s)))
  dn q d c := match q with
    | 0 => (inferInstance : BI.Storable (upEmb : UEmb _ 𝕄) (bigSep Finset.univ fun s : Fin ((K (F := F)).nSub 0) => comes m d (no c s)))
  go q d c s := match q with | 0 => (inferInstance : BI.Storable (upEmb : UEmb _ 𝕄) (goes m d (no c s)))
  td q d c s := match q with | 0 => (inferInstance : BI.Storable (upEmb : UEmb _ 𝕄) (comes m d (no c s)))

/-! ## A subcore's task -/

omit [FloatOps F] in
theorem outAt_inPlane (y : S32x5x208.Idx) : outAt (y 0).val (inPlane y) = y := by
  have h0 : (y 0).val < 32 := (y 0).isLt
  funext a
  match a with
  | 0 => exact Fin.ext (Nat.mod_eq_of_lt h0)
  | 1 => rfl
  | 2 => rfl

theorem loose_T (d : Dev nD) (i : grid0.Coords) (w : Fin 32) (hw : w.val = 2 * (i 1).val + (i 0).val) (f : Buf (Elt F) (tLoc d)) :
    (tLoc d ↦[planeOf w]{fullShare} f : sProp 𝕄) ⊢ loose d i (planeOut i mT) := by
  unfold loose shares
  rw [set_T i w hw]
  iintro H
  iexists ((planeOut i mT).view.read (Elt F) f); iexists f
  isplitr
  · ipureintro; rfl
  iexact H

theorem back_T (d : Dev nD) (i : grid0.Coords) (w : Fin 32) (hw : w.val = 2 * (i 1).val + (i 0).val) :
    shares d i fullShare (planeOut i mT) (tops (plane (m (aLoc d) : S32x32x208.Idx → F .f32) w.val)) ⊢ (tLoc d ↦[planeOf w]{fullShare} resT m d : sProp 𝕄) := by
  unfold shares
  rw [set_T i w hw]
  iintro ⟨%f, %hf, H⟩
  have hj : ((planeOut i mT).view.loc (thr d i) ↦[planeOf w]{fullShare} f : sProp 𝕄) ⊢ (tLoc d ↦[planeOf w]{fullShare} resT m d) := by
    have key : ∀ y : S32x5x208.Idx, y ∈ planeOf w → (f : S32x5x208.Idx → F .f32) y = (resT m d : S32x5x208.Idx → F .f32) y := ?_
    · exact Entails.of_eq (pointsTo_congr key)
    intro y hy
    have hy' : (y 0).val = w.val := (Finset.mem_filter.mp hy).2
    have hh := congrFun hf (inPlane y)
    rw [read_out, ← hw, ← hy', outAt_inPlane] at hh
    rw [show mT.view.read (Elt F) f = f from View.read_whole _ _] at hh
    refine hh.trans ?_
    rfl
  iapply hj; iexact H

theorem loose_K (d : Dev nD) (i : grid0.Coords) (w : Fin 32) (hw : w.val = 2 * (i 1).val + (i 0).val) (f : Buf (Elt F) (kLoc d)) :
    (kLoc d ↦[planeOf w]{fullShare} f : sProp 𝕄) ⊢ loose d i (planeOut i mK) := by
  unfold loose shares
  rw [set_K i w hw]
  iintro H
  iexists ((planeOut i mK).view.read (Elt F) f); iexists f
  isplitr
  · ipureintro; rfl
  iexact H

theorem back_K (d : Dev nD) (i : grid0.Coords) (w : Fin 32) (hw : w.val = 2 * (i 1).val + (i 0).val) :
    shares d i fullShare (planeOut i mK) (kids (plane (m (aLoc d) : S32x32x208.Idx → F .f32) w.val)) ⊢ (kLoc d ↦[planeOf w]{fullShare} resK m d : sProp 𝕄) := by
  unfold shares
  rw [set_K i w hw]
  iintro ⟨%f, %hf, H⟩
  have hj : ((planeOut i mK).view.loc (thr d i) ↦[planeOf w]{fullShare} f : sProp 𝕄) ⊢ (kLoc d ↦[planeOf w]{fullShare} resK m d) := by
    have key : ∀ y : S32x5x208.Idx, y ∈ planeOf w → (f : S32x5x208.Idx → BitVec 32) y = (resK m d : S32x5x208.Idx → BitVec 32) y := ?_
    · exact Entails.of_eq (pointsTo_congr key)
    intro y hy
    have hy' : (y 0).val = w.val := (Finset.mem_filter.mp hy).2
    have hh := congrFun hf (inPlane y)
    rw [read_out, ← hw, ← hy', outAt_inPlane] at hh
    rw [show mK.view.read (Elt F) f = f from View.read_whole _ _] at hh
    refine hh.trans ?_
    rfl
  iapply hj; iexact H

theorem loose_X (d : Dev nD) (i : grid0.Coords) (w : Fin 32) (hw : w.val = 2 * (i 1).val + (i 0).val) (f : Buf (Elt F) (xLoc d)) :
    (xLoc d ↦[planeOf w]{fullShare} f : sProp 𝕄) ⊢ loose d i (planeOut i mX) := by
  unfold loose shares
  rw [set_X i w hw]
  iintro H
  iexists ((planeOut i mX).view.read (Elt F) f); iexists f
  isplitr
  · ipureintro; rfl
  iexact H

theorem back_X (d : Dev nD) (i : grid0.Coords) (w : Fin 32) (hw : w.val = 2 * (i 1).val + (i 0).val) :
    shares d i fullShare (planeOut i mX) (idxs (wid i) (plane (m (aLoc d) : S32x32x208.Idx → F .f32) w.val)) ⊢ (xLoc d ↦[planeOf w]{fullShare} resX m d : sProp 𝕄) := by
  unfold shares
  rw [set_X i w hw]
  iintro ⟨%f, %hf, H⟩
  have hj : ((planeOut i mX).view.loc (thr d i) ↦[planeOf w]{fullShare} f : sProp 𝕄) ⊢ (xLoc d ↦[planeOf w]{fullShare} resX m d) := by
    have key : ∀ y : S32x5x208.Idx, y ∈ planeOf w → (f : S32x5x208.Idx → BitVec 32) y = (resX m d : S32x5x208.Idx → BitVec 32) y := ?_
    · exact Entails.of_eq (pointsTo_congr key)
    intro y hy
    have hy' : (y 0).val = w.val := (Finset.mem_filter.mp hy).2
    have hh := congrFun hf (inPlane y)
    rw [read_out, ← hw, ← hy', outAt_inPlane] at hh
    rw [show mX.view.read (Elt F) f = f from View.read_whole _ _] at hh
    refine hh.trans ?_
    rw [wid_eq, ← hw, ← hy']
    rfl
  iapply hj; iexact H

/-- The task of the subcore at `i`: from its share of the scores and its planes of the results, those planes written. -/
theorem tile_body (hF : (K (F := F)).Facts) (d : Dev nD) (i : grid0.Coords) (w : Fin 32) (hw : w.val = 2 * (i 1).val + (i 0).val)
    (O : CellTallies nD τ sig (HIx 1)) (W : Waits sig (HIx 1)) (hO : ∀ g, O g none = 0) :
    iprop(levAts (K (F := F)).L (K (F := F)).lev ∗ emp ∗ goes m d w ∗ scopedBufs (thr d i) ∗ scopedSems0 (thr d i) ∗ owes (thr d i) O W)
      ⊢ wp frame (wpE (defs₀ (F := F)) 𝒱₀ (thr d i) none) Set.univ
          (cc0__sc_topk_body i (Memref.whole main_arg0_scv) (Memref.isWhole_whole _) (Memref.whole main_v0_0_scv) (Memref.isWhole_whole _)
            (Memref.whole main_v0_1_scv) (Memref.isWhole_whole _) (Memref.whole main_v0_2_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3)
          fun _ => iprop(comes m d w ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d _ _, SparseCore.Cfg.scopedSems0_V (Val := Elt F) d _ _, ownSems0_V, ownBufs_V]
  iintro ⟨#Hlv, -, ⟨Ha, Pt, Pk, Px⟩, ⟨⟨Hs, Ht, Hk, Hi⟩, Hbufs⟩, ⟨⟨R0, R1, R2, R3⟩, Hsems⟩, HO⟩
  ihave Hmw := (show levAts (K (F := F)).L (K (F := F)).lev ⊢ Transfers.MayWaits (thr d i) (none : HIx 1) O from
    (K (F := F)).mayWaits_none (thr := thr d i) hO) $$ Hlv
  have hX : (planeIn i mA).view.read (Elt F) (m (aLoc d)) = plane (m (aLoc d) : S32x32x208.Idx → F .f32) w.val := by
    rw [hw]
    exact (read_in mA i (m (aLoc d))).trans (congrArg (fun f => plane f (2 * (i 1).val + (i 0).val)) (View.read_whole _ _))
  have la : (aLoc d ↦{tok w} (m (aLoc d)) : sProp 𝕄) ⊢ iprop(shares d i (tok w) (planeIn i mA) (plane (m (aLoc d) : S32x32x208.Idx → F .f32) w.val)
      ∗ (shares d i (tok w) (planeIn i mA) (plane (m (aLoc d) : S32x32x208.Idx → F .f32) w.val) -∗ (aLoc d ↦{tok w} (m (aLoc d))))) := by
    rw [← hX]; exact lend d i (tok w) (planeIn i mA) (m (aLoc d))
  ihave Ha' := la $$ Ha
  icases Ha' with ⟨Ha, Hak⟩
  ihave Pt := (loose_T d i w hw (m (tLoc d))) $$ Pt
  ihave Pk := (loose_K d i w hw (m (kLoc d))) $$ Pk
  ihave Px := (loose_X d i w hw (m (xLoc d))) $$ Px
  iapply (wp_wand_r frame (wpE (defs₀ (F := F)) 𝒱₀ (thr d i) none) Set.univ)
  isplitl [Ha Hs Ht Hk Hi Pt Pk Px R0 R1 R2 R3 HO]
  · iapply (wp_tile d i O W bufs mA mT mK mX cc0_scoped0 cc0_scoped1 cc0_scoped2 cc0_scoped3 (tok w) (plane (m (aLoc d) : S32x32x208.Idx → F .f32) w.val))
    isplitr; · iexact Hmw
    isplitl [Ha]; · iexact Ha
    isplitl [Hs]; · iexact Hs
    isplitl [Ht]; · iexact Ht
    isplitl [Hk]; · iexact Hk
    isplitl [Hi]; · iexact Hi
    isplitl [Pt]; · iexact Pt
    isplitl [Pk]; · iexact Pk
    isplitl [Px]; · iexact Px
    isplitl [R0]; · iexact R0
    isplitl [R1]; · iexact R1
    isplitl [R2]; · iexact R2
    isplitl [R3]; · iexact R3
    unfold owing
    iexists W
    isplitr
    · ipureintro; exact fun p hp => .inl hp
    iexact HO
  iintro %_ ⟨Ha, Hs, Ht, Hk, Hi, Pt, Pk, Px, R0, R1, R2, R3, HO⟩
  isplitl [Ha Hak Pt Pk Px]
  · isplitl [Ha Hak]; · iapply Hak; iexact Ha
    isplitl [Pt]; · iapply (back_T m d i w hw); iexact Pt
    isplitl [Pk]; · iapply (back_K m d i w hw); iexact Pk
    iapply (back_X m d i w hw); iexact Px
  isplitl [Hs Ht Hk Hi Hbufs]
  · isplitr [Hbufs]
    · isplitl [Hs]; · iexact Hs
      isplitl [Ht]; · iexact Ht
      isplitl [Hk]; · iexact Hk
      iexact Hi
    iexact Hbufs
  isplitr [HO]
  · isplitr [Hsems]
    · isplitl [R0]; · iexact R0
      isplitl [R1]; · iexact R1
      isplitl [R2]; · iexact R2
      iexact R3
    iexact Hsems
  unfold owing
  iexact HO

end Cert.Proof.Five
-- ==== Proof.FiveRun.lean ====
module

public import proofs.«01_k».proof.Proof.FiveLaunch

@[expose] public section

noncomputable section

namespace Cert.Proof.Five

open Cert.TopKIdeal Cert.TopKIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq wp_seq held_sub_split held_congr)

variable {F : FTy → Type} [FloatOps F]

local notation "𝕄" => MT nD τ sig (HIx 1) (Elt F) ℕ UU ℕ
variable (m : (ℓ : Loc nD τ sig) → Buf (Elt F) ℓ) (ρ : Dev nD → PrngReg)

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_topk_body (coordsV c s)
          (Memref.whole main_arg0_scv) (Memref.isWhole_whole _) (Memref.whole main_v0_0_scv) (Memref.isWhole_whole _)
          (Memref.whole main_v0_1_scv) (Memref.isWhole_whole _) (Memref.whole main_v0_2_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3) ⟨⟩ c s := rfl

omit [FloatOps F] in
theorem more_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF d (coordsV ⟨_, hci.1⟩ ⟨_, hci.2⟩) (no c i) rfl O W hO).trans (wp_mono frame _ _ fun _ => more_waits)

/-- A SparseCore's share of the arrays is its tiles'. -/
theorem vecSplit : (K (F := F)).VecSplit' (P m) 0 := by
  intro d c
  show (bigSep Finset.univ fun s : Fin ((K (F := F)).nSub 0) => goes m d (no c s)) ⊢ |={Set.univ}=> iprop(
      (bigSep Finset.univ fun s : Fin ((K (F := F)).nSub 0) => goes m d (no c s))
      ∗ ((bigSep Finset.univ fun s : Fin ((K (F := F)).nSub 0) => comes m d (no c s))
        -∗ (bigSep Finset.univ fun s : Fin ((K (F := F)).nSub 0) => comes m d (no c s))))
  iintro H; imodintro
  isplitl [H]; · iexact H
  iintro H; iexact H

/-! ## The arrays dealt to the subcores -/

/-- The subcores, by SparseCore and subcore. -/
def tiles : Fin 2 × Fin 16 ≃ Fin 32 where
  toFun p := tileNo p.1 p.2
  invFun w := (⟨w.val % 2, Nat.mod_lt _ (by decide)⟩, ⟨w.val / 2, by omega⟩)
  left_inv p := by
    have h0 := p.1.isLt
    have h1 := p.2.isLt
    refine Prod.ext (Fin.ext ?_) (Fin.ext ?_)
    · show (2 * p.2.val + p.1.val) % 2 = p.1.val; omega
    · show (2 * p.2.val + p.1.val) / 2 = p.2.val; omega
  right_inv w := Fin.ext (show 2 * (w.val / 2) + w.val % 2 = w.val by omega)

theorem by_core (Φ : Fin 32 → sProp 𝕄) :
    (bigSep Finset.univ fun c : Fin ((K (F := F)).nCore 0) => bigSep Finset.univ fun s : Fin ((K (F := F)).nSub 0) => Φ (no c s)) = bigSep Finset.univ Φ := by
  rw [bigSep_univ_equiv tiles Φ, bigSep_univ_prod]
  rfl

theorem planeOf_disjoint : ∀ w ∈ (Finset.univ : Finset (Fin 32)), ∀ w' ∈ (Finset.univ : Finset (Fin 32)), w ≠ w' → Disjoint (planeOf w) (planeOf w') := by
  intro w _ w' _ h
  refine Finset.disjoint_left.mpr fun y hy hy' => h (Fin.ext ?_)
  exact (Finset.mem_filter.mp hy).2.symm.trans (Finset.mem_filter.mp hy').2

theorem planeOf_cover : (Finset.univ : Finset (Fin 32)).biUnion planeOf = Finset.univ := by
  ext y
  have h0 : (y 0).val < 32 := (y 0).isLt
  simp only [Finset.mem_biUnion, Finset.mem_univ, true_and, iff_true]
  exact ⟨⟨(y 0).val, h0⟩, Finset.mem_filter.mpr ⟨Finset.mem_univ _, rfl⟩⟩

theorem all_T (d : Dev nD) (f : Buf (Elt F) (tLoc d)) : (bigSep Finset.univ fun w : Fin 32 => (tLoc d ↦[planeOf w]{fullShare} f) : sProp 𝕄) = tLoc d ↦{fullShare} f := by
  have h := pointsTo_biUnion (Val := Elt F) (Name := ℕ) (U := UU) (Ix := HIx 1) (Lvl := ℕ) (q := fullShare) (f := f) Finset.univ (ℓ := tLoc d) planeOf planeOf_disjoint
  rw [← h, planeOf_cover]

theorem all_K (d : Dev nD) (f : Buf (Elt F) (kLoc d)) : (bigSep Finset.univ fun w : Fin 32 => (kLoc d ↦[planeOf w]{fullShare} f) : sProp 𝕄) = kLoc d ↦{fullShare} f := by
  have h := pointsTo_biUnion (Val := Elt F) (Name := ℕ) (U := UU) (Ix := HIx 1) (Lvl := ℕ) (q := fullShare) (f := f) Finset.univ (ℓ := kLoc d) planeOf planeOf_disjoint
  rw [← h, planeOf_cover]

theorem all_X (d : Dev nD) (f : Buf (Elt F) (xLoc d)) : (bigSep Finset.univ fun w : Fin 32 => (xLoc d ↦[planeOf w]{fullShare} f) : sProp 𝕄) = xLoc d ↦{fullShare} f := by
  have h := pointsTo_biUnion (Val := Elt F) (Name := ℕ) (U := UU) (Ix := HIx 1) (Lvl := ℕ) (q := fullShare) (f := f) Finset.univ (ℓ := xLoc d) planeOf planeOf_disjoint
  rw [← h, planeOf_cover]

/-- What stays with the TensorCore while the subcores run. -/
abbrev rest (d : Dev nD) : sProp 𝕄 := lent m d (Transfers.shareDrop fullShare 32)

theorem lent_all (d : Dev nD) : lent m d fullShare ⊣⊢ (iprop(rest m d ∗ bigSep Finset.univ fun w : Fin 32 => lent m d (tok w)) : sProp 𝕄) :=
  Transfers.pointsTo_toks (Val := Elt F) (Name := ℕ) (U := UU) (Ix := HIx 1) (Lvl := ℕ) (ℓ := aLoc d) (S := Finset.univ) (f := m (aLoc d)) fullShare 32

/-- What the call takes, -/
theorem starts_eq (d : Dev nD) : (bigSep Finset.univ fun c : Fin ((K (F := F)).nCore 0) => (P m).st 0 d c)
    = iprop((bigSep Finset.univ fun w : Fin 32 => lent m d (tok w)) ∗ (tLoc d ↦{fullShare} m (tLoc d)) ∗ (kLoc d ↦{fullShare} m (kLoc d)) ∗ xLoc d ↦{fullShare} m (xLoc d)) := by
  refine (by_core (F := F) fun w => goes m d w).trans ?_
  rw [bigSep_sep', bigSep_sep', bigSep_sep', all_T, all_K, all_X]
/-- and gives back. -/
theorem dones_eq (d : Dev nD) : (bigSep Finset.univ fun c : Fin ((K (F := F)).nCore 0) => (P m).dn 0 d c)
    = iprop((bigSep Finset.univ fun w : Fin 32 => lent m d (tok w)) ∗ (tLoc d ↦{fullShare} resT m d) ∗ (kLoc d ↦{fullShare} resK m d) ∗ xLoc d ↦{fullShare} resX m d) := by
  refine (by_core (F := F) fun w => comes m d w).trans ?_
  rw [bigSep_sep', bigSep_sep', bigSep_sep', all_T, all_K, all_X]

/-! ## The ghost state at the launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## The program on the TensorCore -/

abbrev a' : DevRef τ sig := Proc.devRef .tc (main_arg0 : Ref sig .tc)
abbrev t' : DevRef τ sig := Proc.devRef .tc (main_v0_0 : Ref sig .tc)
abbrev k' : DevRef τ sig := Proc.devRef .tc (main_v0_1 : Ref sig .tc)
abbrev x' : DevRef τ sig := Proc.devRef .tc (main_v0_2 : Ref sig .tc)

/-- The host's operations after the call. -/
abbrev ops : List (HloOp τ sig (Elt F)) :=
  [ StableHlo.unary main_v0_2 main_v1 ((extractStridedSlice S32x5x200 ![0, 0, 0] · slices_S32x5x208_S32x5x200_0_0_0) : (⟨S32x5x208, .i32⟩ : BufTy).Contents (Elt F) → (⟨S32x5x200, .i32⟩ : BufTy).Contents (Elt F)),
    StableHlo.unary main_v1 main_v2 ((transpose S32x200x5 [0, 2, 1] · transposes_S32x5x200_S32x200x5_0_2_1) : (⟨S32x5x200, .i32⟩ : BufTy).Contents (Elt F) → (⟨S32x200x5, .i32⟩ : BufTy).Contents (Elt F)),
    StableHlo.reshape main_v2 main_v3 (rfl : (.i32 : EltTy) = .i32) shapeCasts_S32x200x5_S32x1000,
    StableHlo.unary main_v0_0 main_v4 ((extractStridedSlice S32x5x200 ![0, 0, 0] · slices_S32x5x208_S32x5x200_0_0_0) : (⟨S32x5x208, .f32⟩ : BufTy).Contents (Elt F) → (⟨S32x5x200, .f32⟩ : BufTy).Contents (Elt F)),
    StableHlo.unary main_v4 main_v5 ((transpose S32x200x5 [0, 2, 1] · transposes_S32x5x200_S32x200x5_0_2_1) : (⟨S32x5x200, .f32⟩ : BufTy).Contents (Elt F) → (⟨S32x200x5, .f32⟩ : BufTy).Contents (Elt F)),
    StableHlo.reshape main_v5 main_v6 (rfl : (.f32 : EltTy) = .f32) shapeCasts_S32x200x5_S32x1000,
    StableHlo.unary main_v0_1 main_v7 ((extractStridedSlice S32x5x200 ![0, 0, 0] · slices_S32x5x208_S32x5x200_0_0_0) : (⟨S32x5x208, .i32⟩ : BufTy).Contents (Elt F) → (⟨S32x5x200, .i32⟩ : BufTy).Contents (Elt F)),
    StableHlo.unary main_v7 main_v8 ((transpose S32x200x5 [0, 2, 1] · transposes_S32x5x200_S32x200x5_0_2_1) : (⟨S32x5x200, .i32⟩ : BufTy).Contents (Elt F) → (⟨S32x200x5, .i32⟩ : BufTy).Contents (Elt F)),
    StableHlo.reshape main_v8 main_v9 (rfl : (.i32 : EltTy) = .i32) shapeCasts_S32x200x5_S128x50x5 ]

theorem main_eq (d : Dev nD) : main (F := F) d = (sc.run d 0 >>= fun _ => seq ops) := rfl

/-- A result without its padding, column by column. -/
def byColumn {α : Type} (f : S32x5x208.Idx → α) : S32x200x5.Idx → α :=
  transpose S32x200x5 [0, 2, 1] (extractStridedSlice S32x5x200 ![0, 0, 0] f slices_S32x5x208_S32x5x200_0_0_0) transposes_S32x5x200_S32x200x5_0_2_1

abbrev gLoc (d : Dev nD) : Loc nD τ sig := (SparseCore.T d).loc main_v3
abbrev sLoc (d : Dev nD) : Loc nD τ sig := (SparseCore.T d).loc main_v6
abbrev nLoc (d : Dev nD) : Loc nD τ sig := (SparseCore.T d).loc main_v9

/-- The program's three results: the rows, the scores, the places. -/
def outG (d : Dev nD) : Buf (Elt F) (gLoc d) :=
  (shapeCast S32x1000 (byColumn (allIdxs (F := F) (m (aLoc d) : S32x32x208.Idx → F .f32))) shapeCasts_S32x200x5_S32x1000 : S32x1000.Idx → BitVec 32)
def outS (d : Dev nD) : Buf (Elt F) (sLoc d) :=
  (shapeCast S32x1000 (byColumn (allTops (F := F) (m (aLoc d) : S32x32x208.Idx → F .f32))) shapeCasts_S32x200x5_S32x1000 : S32x1000.Idx → F .f32)
def outN (d : Dev nD) : Buf (Elt F) (nLoc d) :=
  (shapeCast S128x50x5 (byColumn (allKids (F := F) (m (aLoc d) : S32x32x208.Idx → F .f32))) shapeCasts_S32x200x5_S128x50x5 : S128x50x5.Idx → BitVec 32)

def V0 (d : Dev nD) : Valuation τ sig (Elt F) := fun b => m (d, b)
def V1 (d : Dev nD) : Valuation τ sig (Elt F) :=
  Function.update (Function.update (Function.update (V0 m d) t' (resT m d)) k' (resK m d)) x' (resX m d)

theorem V1_a (d : Dev nD) : V1 m d a' = m (aLoc d) :=
  (Function.update_of_ne (show a' ≠ x' by decide) _ _).trans ((Function.update_of_ne (show a' ≠ k' by decide) _ _).trans
    (Function.update_of_ne (show a' ≠ t' by decide) _ _))
theorem V1_t (d : Dev nD) : V1 m d t' = resT m d :=
  (Function.update_of_ne (show t' ≠ x' by decide) _ _).trans ((Function.update_of_ne (show t' ≠ k' by decide) _ _).trans
    (Function.update_self _ _ _))
theorem V1_k (d : Dev nD) : V1 m d k' = resK m d := (Function.update_of_ne (show k' ≠ x' by decide) _ _).trans (Function.update_self _ _ _)
theorem V1_x (d : Dev nD) : V1 m d x' = resX m d := Function.update_self _ _ _
theorem V1_other (d : Dev nD) (b : DevRef τ sig) (hb : b ∉ ({a', t', k', x'} : Finset (DevRef τ sig))) : V0 m d b = V1 m d b := by
  simp only [Finset.mem_insert, Finset.mem_singleton, not_or] at hb
  exact ((Function.update_of_ne hb.2.2.2 _ _).trans ((Function.update_of_ne hb.2.2.1 _ _).trans (Function.update_of_ne hb.2.1 _ _))).symm

theorem after_g (d : Dev nD) : StableHlo.after (ops (F := F)) (V1 m d) (Proc.devRef .tc main_v3) = outG m d := by
  have h : StableHlo.after (ops (F := F)) (V1 m d) (Proc.devRef .tc main_v3)
      = (shapeCast S32x1000 (byColumn (V1 m d x' : S32x5x208.Idx → BitVec 32)) shapeCasts_S32x200x5_S32x1000 : S32x1000.Idx → BitVec 32) := by
    unfold byColumn
    after_results <;> rfl
  rw [h, V1_x]; rfl
theorem after_s (d : Dev nD) : StableHlo.after (ops (F := F)) (V1 m d) (Proc.devRef .tc main_v6) = outS m d := by
  have h : StableHlo.after (ops (F := F)) (V1 m d) (Proc.devRef .tc main_v6)
      = (shapeCast S32x1000 (byColumn (V1 m d t' : S32x5x208.Idx → F .f32)) shapeCasts_S32x200x5_S32x1000 : S32x1000.Idx → F .f32) := by
    unfold byColumn
    after_results <;> rfl
  rw [h, V1_t]; rfl
theorem after_n (d : Dev nD) : StableHlo.after (ops (F := F)) (V1 m d) (Proc.devRef .tc main_v9) = outN m d := by
  have h : StableHlo.after (ops (F := F)) (V1 m d) (Proc.devRef .tc main_v9)
      = (shapeCast S128x50x5 (byColumn (V1 m d k' : S32x5x208.Idx → BitVec 32)) shapeCasts_S32x200x5_S128x50x5 : S128x50x5.Idx → BitVec 32) := by
    unfold byColumn
    after_results <;> rfl
  rw [h, V1_k]; rfl
theorem after_a (d : Dev nD) : StableHlo.after (ops (F := F)) (V1 m d) (Proc.devRef .tc main_arg0) = m (aLoc d) := by
  have h : StableHlo.after (ops (F := F)) (V1 m d) (Proc.devRef .tc main_arg0) = V1 m d a' := by
    after_results <;> rfl
  rw [h, V1_a]

/-- The arrays outside any kernel. -/
def mine : Finset (DevRef τ sig) := (Finset.univ.filter fun b : Ref sig .tc => ¬ b.isScoped).map ⟨Proc.devRef .tc, Proc.devRef_injective _⟩

theorem mem_mine (b : Ref sig .tc) (hb : b.isScoped = false) : (Proc.devRef .tc b : DevRef τ sig) ∈ mine :=
  Finset.mem_map_of_mem _ (Finset.mem_filter.mpr ⟨Finset.mem_univ _, by simp [hb]⟩)

theorem unscoped_held (d : Dev nD) (V : Valuation τ sig (Elt F)) :
    (unscopedBufs d (fun b => V (Proc.devRef .tc b)) : sProp 𝕄) = held (T d) mine V := by
  unfold unscopedBufs held mine
  rw [bigSep_map]
  rfl

theorem four_sub : ({a', t', k', x'} : Finset (DevRef τ sig)) ⊆ mine := by
  intro b hb
  simp only [Finset.mem_insert, Finset.mem_singleton] at hb
  rcases hb with rfl | rfl | rfl | rfl
  · exact mem_mine main_arg0 rfl
  · exact mem_mine main_v0_0 rfl
  · exact mem_mine main_v0_1 rfl
  · exact mem_mine main_v0_2 rfl

theorem held_four (d : Dev nD) (W : Valuation τ sig (Elt F)) :
    (held (T d) {a', t', k', x'} W : sProp 𝕄)
      = iprop((aLoc d ↦{fullShare} W a') ∗ (tLoc d ↦{fullShare} W t') ∗ (kLoc d ↦{fullShare} W k') ∗ xLoc d ↦{fullShare} W x') := by
  unfold held
  rw [SparseCore.bigSep_insert' (by decide), SparseCore.bigSep_insert' (by decide), SparseCore.bigSep_insert' (by decide), bigSep_singleton]

theorem pair_sub {a b : Ref sig .tc} (ha : a.isScoped = false) (hb : b.isScoped = false) :
    ({Proc.devRef .tc a, Proc.devRef .tc b} : Finset (DevRef τ sig)) ⊆ mine := by
  intro c hc
  simp only [Finset.mem_insert, Finset.mem_singleton] at hc
  rcases hc with rfl | rfl
  · exact mem_mine _ ha
  · exact mem_mine _ hb

theorem ops_sub : (ops : List (HloOp τ sig (Elt F))).Forall fun op => op.bufs ⊆ mine :=
  ⟨pair_sub rfl rfl, pair_sub rfl rfl, pair_sub rfl rfl, pair_sub rfl rfl, pair_sub rfl rfl, pair_sub rfl rfl, pair_sub rfl rfl,
    pair_sub rfl rfl, pair_sub rfl rfl⟩

theorem ops_fresh : ∀ op ∈ (ops : List (HloOp τ sig (Elt F))), op.fresh = ∅ := by
  intro _ h
  (repeat (cases h with | head => rfl | tail _ h => ?_)); exact nomatch h

/-- What the program leaves: every array as the host's operations left it. -/
abbrev FIN (d : Dev nD) : sProp 𝕄 := held (T d) mine (StableHlo.after (ops (F := F)) (V1 m d))

/-- The program on the TensorCore: the call, and the host's operations on its results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  have hsp : (unscopedBufs d (fun b => m ((SparseCore.T d).loc b)) : sProp 𝕄)
      ⊢ iprop(((aLoc d ↦{fullShare} m (aLoc d)) ∗ (tLoc d ↦{fullShare} m (tLoc d)) ∗ (kLoc d ↦{fullShare} m (kLoc d)) ∗ xLoc d ↦{fullShare} m (xLoc d))
        ∗ held (T d) (mine \ {a', t', k', x'}) (V1 m d)) := by
    have e : (unscopedBufs d (fun b => m ((SparseCore.T d).loc b)) : sProp 𝕄) = held (T d) mine (V0 m d) := unscoped_held d (V0 m d)
    rw [e, held_sub_split (T d) four_sub, held_four,
      held_congr (T d) (V := V0 m d) (V' := V1 m d) (S := mine \ {a', t', k', x'}) fun b hb => V1_other m d b (Finset.mem_sdiff.mp hb).2]
    exact Entails.of_eq rfl
  have hjoin : iprop(((aLoc d ↦{fullShare} m (aLoc d)) ∗ (tLoc d ↦{fullShare} resT m d) ∗ (kLoc d ↦{fullShare} resK m d) ∗ xLoc d ↦{fullShare} resX m d)
        ∗ held (T d) (mine \ {a', t', k', x'}) (V1 m d)) ⊢ (held (T d) mine (V1 m d) : sProp 𝕄) := by
    rw [held_sub_split (T d) four_sub, held_four, V1_a, V1_t, V1_k, V1_x]
  iintro ⟨#Hctx, Hst, ⟨Hb, Hbufs, Hts, -⟩, -⟩
  ihave Hbufs' := hsp $$ Hbufs
  icases Hbufs' with ⟨⟨Ha, Ht, Hk, Hx⟩, Hrest⟩
  ihave Hl := (lent_all m d).1 $$ Ha
  icases Hl with ⟨Hr, Hl⟩
  iapply ((K (F := F)).wp_run (D (F := F)) 𝒱 (EH := EH) (P := P m) κ d 0) $$ [Hst Hl Ht Hk Hx Hb Hts Hr Hrest]
  isplitr; · iexact Hctx
  isplitl [Hst]; · iexact Hst
  isplitl [Hl Ht Hk Hx]
  · rw [starts_eq]
    isplitl [Hl]; · iexact Hl
    isplitl [Ht]; · iexact Ht
    isplitl [Hk] <;> iassumption
  iintro ⟨Hst, Hdn⟩
  ihave Hdn' := (Entails.of_eq (dones_eq m d)) $$ Hdn
  icases Hdn' with ⟨Hl, Ht, Hk, Hx⟩
  ihave Ha := (lent_all m d).2 $$ [Hr Hl]
  · isplitl [Hr] <;> iassumption
  ihave Hheld := hjoin $$ [Ha Ht Hk Hx Hrest]
  · isplitr [Hrest]
    · isplitl [Ha]; · iexact Ha
      isplitl [Ht]; · iexact Ht
      isplitl [Hk] <;> iassumption
    iexact Hrest
  rw [show (seq (ops (F := F)) : Prog (TpuEff nD τ sig (Elt F) (SparseCore.Sig (Pipeline.Sig Λ₀ (Fin 0) fun p => (pcfgs (F := F) p).Adm) 1) .tc) PUnit)
    = (seq (ops (F := F)) >>= fun u => pure u) from (bind_pure _).symm]
  iapply (wp_seq 𝒱 none Set.univ d mine (fun u => pure u) (ops (F := F)) (List.forall_iff_forall_mem.1 ops_sub) ops_fresh (V1 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

/-! ## The run -/

def fq (d : Dev nD) (s' : Phys nD τ sig (Elt F)) : Prop :=
  s'.mem.mem (gLoc d) = outG m d ∧ s'.mem.mem (sLoc d) = outS m d ∧ s'.mem.mem (nLoc d) = outN m d ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) mine) $$ [HSI H]
  · isplitl [HSI]; · iexact HSI
    iexact H
  ipureintro
  exact ⟨(h _ (mem_mine main_v3 rfl)).trans (after_g m d), (h _ (mem_mine main_v6 rfl)).trans (after_s m d),
    (h _ (mem_mine main_v9 rfl)).trans (after_n m d), (h _ (mem_mine main_arg0 rfl)).trans (after_a m d)⟩

def QC : PUnit × MemSt nD τ sig (Elt F) → Prop := fun r =>
  (∀ c : Dev nD, r.2.mem (gLoc c) = outG m c ∧ r.2.mem (sLoc c) = outS m c ∧ r.2.mem (nLoc c) = outN m c ∧ r.2.mem (aLoc c) = m (aLoc c))
    ∧ r.2.sem = fun _ => 0

/-- Every run of the program ends, with the best five of every column as its results, its argument as it was and every semaphore at zero. -/
theorem run_main [∀ e, Nonempty (Elt F e)] :
    θ_run (Cert.TopKIdeal.defs (F := F)) (Cert.TopKIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Five
-- ==== Proof.FiveRounds.lean ====
module

public import proofs.«01_k».proof.Proof.FiveTile
public import proofs.«01_k».proof.Proof.BestColumn

@[expose] public section

noncomputable section

/-! # The rounds, lane by lane

Over the extended reals each lane of the sixteen goes through the rounds of its own column (`col`, `pick`). -/

namespace Cert.Proof.Five

open Cert.Proof.Best

open Cert.TopKIdeal Cert.TopKIdeal.Gen
open Idealize.ShloMosaic

/-- The rows 1 to 31 with their numbers. -/
def numbered (R : ℕ → Lanes Ideal) : Rows Ideal := (List.range' 1 31).map fun s => (BitVec.ofNat 32 s, R s)

theorem negInf_eq : Scalar.ofBits (F := Ideal) .f32 0xFF800000#32 = (⊥ : EReal) := by
  show Ideal.ofBits .f32 0xFF800000#32 = ⊥
  simp [Ideal.ofBits, Ideal.ieee]

/-- Having looked at the rows to `n + 1` and then at `len` more, the scan has the first of the greatest of them all. -/
theorem scan_rows (R : ℕ → Lanes Ideal) (j : S16.Idx) : ∀ (len n : ℕ) (m : Lanes Ideal) (am : Ints),
    m j = R (first (fun s => R s j) n) j → am j = BitVec.ofNat 32 (first (fun s => R s j) n) →
    (scan ((List.range' (n + 2) len).map fun s => (BitVec.ofNat 32 s, R s)) m am).1 j = R (first (fun s => R s j) (n + len)) j
    ∧ (scan ((List.range' (n + 2) len).map fun s => (BitVec.ofNat 32 s, R s)) m am).2 j = BitVec.ofNat 32 (first (fun s => R s j) (n + len))
  | 0, n, m, am, hm, ha => ⟨hm, ha⟩
  | len + 1, n, m, am, hm, ha => by
    rw [List.range'_succ, List.map_cons]
    have hstep : ∀ x : ℕ, first (fun s => R s j) (n + (x + 1)) = first (fun s => R s j) (n + 1 + x) := fun x => by
      rw [show n + (x + 1) = n + 1 + x by omega]
    rw [hstep]
    refine scan_rows R j len (n + 1) _ _ ?_ ?_
    · show max (m j : EReal) (R (n + 2) j) = _
      rw [hm]
      show max (R (first (fun s => R s j) n) j : EReal) (R (n + 2) j) = R (if (R (first (fun s => R s j) n) j : EReal) < R (n + 2) j then n + 2 else first (fun s => R s j) n) j
      split
      · next h => exact max_eq_right h.le
      · next h => exact max_eq_left (not_lt.mp h)
    · show Scalar.select (BitVec.ofBool (decide ((m j : EReal) < R (n + 2) j))) (BitVec.ofNat 32 (n + 2)) (am j) = _
      rw [hm, ha]
      show _ = BitVec.ofNat 32 (if (R (first (fun s => R s j) n) j : EReal) < R (n + 2) j then n + 2 else first (fun s => R s j) n)
      split
      · next h => rw [decide_eq_true h]; rfl
      · next h => rw [decide_eq_false h]; rfl

/-- The best of the rows, at one lane. -/
theorem best_rows (R : ℕ → Lanes Ideal) (j : S16.Idx) :
    (best (numbered R)).1 j = R (first (fun s => R s j) 30) j ∧ (best (numbered R)).2 j = BitVec.ofNat 32 (first (fun s => R s j) 30) := by
  have h := scan_rows R j 30 0 (R 1) (broadcast S16 (BitVec.ofNat 32 1)) rfl rfl
  rw [Nat.zero_add] at h
  exact h

/-- The rows with those of the numbers `am` struck out. -/
def struck (am : Ints) (R : ℕ → Lanes Ideal) (s : ℕ) : Lanes Ideal :=
  select (cmpi .eq am (broadcast S16 (BitVec.ofNat 32 s))) (broadcast S16 (Scalar.ofBits .f32 0xFF800000#32)) (R s)

theorem knock_map (am : Ints) (R : ℕ → Lanes Ideal) (l : List ℕ) :
    knock am (l.map fun s => (BitVec.ofNat 32 s, R s)) = l.map fun s => (BitVec.ofNat 32 s, struck am R s) := by
  induction l with
  | nil => rfl
  | cons a l ih => rw [List.map_cons, List.map_cons, ← ih]; rfl

theorem struck_at (am : Ints) (R : ℕ → Lanes Ideal) (s f : ℕ) (j : S16.Idx) (ha : am j = BitVec.ofNat 32 f) (hf : f < 2 ^ 32) (hs : s < 2 ^ 32) :
    struck am R s j = if s = f then (⊥ : EReal) else R s j := by
  show Scalar.select (BitVec.ofBool (am j == BitVec.ofNat 32 s)) (Scalar.ofBits (F := Ideal) .f32 0xFF800000#32) (R s j) = _
  rw [ha, negInf_eq]
  by_cases h : s = f
  · subst h
    rw [if_pos rfl, beq_self_eq_true]
    rfl
  · rw [if_neg h, show (BitVec.ofNat 32 f == BitVec.ofNat 32 s) = false from by
      rw [beq_eq_false_iff_ne]
      intro e
      have e' := congrArg BitVec.toNat e
      rw [BitVec.toNat_ofNat, BitVec.toNat_ofNat, Nat.mod_eq_of_lt hf, Nat.mod_eq_of_lt hs] at e'
      exact h e'.symm]
    rfl

theorem first_congr {C C' : ℕ → EReal} : ∀ n, (∀ q, 1 ≤ q → q ≤ n + 1 → C q = C' q) → first C n = first C' n
  | 0, _ => rfl
  | n + 1, h => by
    have ih := first_congr n fun q h1 h2 => h q h1 (by omega)
    obtain ⟨h1, h2, -⟩ := first_spec C' n
    unfold first
    rw [ih, h _ h1 (by omega), h (n + 2) (by omega) (by omega)]

/-- After `k` rounds every lane's column is as its own rounds leave it. -/
theorem after_rows (R : ℕ → Lanes Ideal) : ∀ k, ∃ R' : ℕ → Lanes Ideal, after k (numbered R) = numbered R'
    ∧ ∀ s j, s ≤ 31 → R' s j = col (fun s => R s j) k s
  | 0 => ⟨R, rfl, fun _ _ _ => rfl⟩
  | k + 1 => by
    obtain ⟨R', h, hR⟩ := after_rows R k
    refine ⟨struck (best (numbered R')).2 R', ?_, fun s j hs => ?_⟩
    · show knock (best (after k (numbered R))).2 (after k (numbered R)) = _
      rw [h]
      exact knock_map _ _ _
    · have hf : first (fun s => R' s j) 30 = pick (fun s => R s j) k := first_congr 30 fun q _ hq => hR q j (by omega)
      have hb := (best_rows R' j).2
      rw [hf] at hb
      have hp := pick_le (fun s => R s j) k
      rw [struck_at _ R' s _ j hb (by omega) (by omega), hR s j hs]
      rfl

/-- What round `k` chooses in a lane: the score and the number of the row its column's round `k` takes. -/
theorem chosen_at (X : S32x208.Idx → Ideal .f32) (k st : ℕ) (j : S16.Idx) (C : ℕ → EReal) (hC : ∀ s, X (spot s (st + (j 0).val)) = C s) :
    (chosen X k st).1 j = col C k (pick C k) ∧ (chosen X k st).2 j = BitVec.ofNat 32 (pick C k) := by
  obtain ⟨R', h, hR⟩ := after_rows (rowOf X · st) k
  have e : (fun s => rowOf X s st j) = C := funext hC
  unfold chosen
  rw [show rowsAt X st = numbered (rowOf X · st) from rfl, h]
  have hf : first (fun s => R' s j) 30 = pick C k := by
    rw [← e]
    exact first_congr 30 fun q _ hq => hR q j (by omega)
  have hb := best_rows R' j
  rw [hf, hR _ j (pick_le C k), e] at hb
  exact hb

end Cert.Proof.Five
-- ==== Proof.FiveValue.lean ====
module

public import proofs.«01_k».proof.Defs
public import proofs.«01_k».proof.Proof.FiveRun
public import proofs.«01_k».proof.Proof.FiveRounds
public import proofs.«01_k».proof.Proof.Gen.TopKReferenceIdeal.Run
public import proofs.«01_k».proof.Proof.Gen.Pre_scores_above
public import Idealize.ShloMosaic.Lib.Pointwise.Reshape

@[expose] public section

noncomputable section

/-! # What the reference computes

The three results of the rounds are known entry by entry. Here the reference's sort of each column is read at one entry, and the two are
seen to be the same functions of the scores. -/

namespace Cert.Proof.Five

open Cert.Proof.Best

open Idealize.ShloMosaic Idealize.SL.Sem
open Cert.TopKReferenceIdeal Cert.TopKReferenceIdeal.Gen

/-! ## The scores above minus infinity -/

/-- Column `r % 200` of plane `r / 200` of the scores. -/
def colOf (A : S32x32x208.Idx → Ideal .f32) (r : ℕ) : ℕ → EReal := fun s => A (at3 (r / 200) (spot s (r % 200)))

/-- The precondition says that every score of the rows 1 to 31 in the first 200 columns is above minus infinity. -/
theorem scores_ok {A : FVec Ideal S32x32x208 .f32} (h : Cert.Pre_scores_above.fn (F := Ideal) A = fun _ => 1#1) (r : ℕ) (hr : r < 6400) :
    ∀ q, 1 ≤ q → q ≤ 31 → ⊥ < colOf A r q := by
  intro q h1 h2
  have e := congrFun h fun a => match a with
    | 0 => ⟨r / 200, by show _ < 32; omega⟩
    | 1 => ⟨q - 1, by show _ < 31; omega⟩
    | 2 => ⟨r % 200, by show _ < 200; omega⟩
  have hb : Ideal.ofBits .f32 0xFF800000#32 = ⊥ := by simp [Ideal.ofBits, Ideal.ieee]
  have e' : BitVec.ofBool (decide (Ideal.ofBits .f32 0xFF800000#32 < colOf A r q)) = 1#1 := by
    refine Eq.trans (congrArg (fun x : EReal => BitVec.ofBool (decide (Ideal.ofBits .f32 0xFF800000#32 < x))) ?_) e
    unfold colOf
    refine congrArg A (funext fun a => Fin.ext ?_)
    match a with
    | 0 => show r / 200 % 32 = 0 + r / 200; omega
    | 1 => show q % 32 = 1 + (q - 1); omega
    | 2 => show r % 200 % 208 = 0 + r % 200; omega
  rw [hb] at e'
  cases hd : decide (⊥ < colOf A r q) with
  | true => exact of_decide_eq_true hd
  | false => rw [hd] at e'; exact absurd e' (by decide)

/-! ## The reference's entries -/

/-- The number of the column that entry `i` of a result belongs to. -/
def colNo (i : S128x50x5.Idx) : ℕ := (i 0).val * 50 + (i 1).val

theorem colNo_lt (i : S128x50x5.Idx) : colNo i < 6400 := by
  have h0 : (i 0).val < 128 := (i 0).isLt
  have h1 : (i 1).val < 50 := (i 1).isLt
  unfold colNo
  omega

/-- The scores as the reference sorts them. -/
def sorted (A : S32x32x208.Idx → Ideal .f32) : S128x50x31.Idx → Ideal .f32 :=
  shapeCast S128x50x31 (transpose S32x200x31 [0, 2, 1] (extractStridedSlice S32x31x200 ![0, 1, 0] A slices_S32x32x208_S32x31x200_0_1_0)
    transposes_S32x31x200_S32x200x31_0_2_1) shapeCasts_S32x200x31_S128x50x31

/-- The first two coordinates of `i`, and `p`. -/
def onAxis (i : S128x50x5.Idx) (p : Fin 31) : S128x50x31.Idx := fun a => match a with
  | 0 => i 0
  | 1 => i 1
  | 2 => p

theorem sorted_at (A : S32x32x208.Idx → Ideal .f32) (i : S128x50x5.Idx) (p : Fin 31) : sorted A (onAxis i p) = colOf A (colNo i) (p.val + 1) := by
  have h0 : (i 0).val < 128 := (i 0).isLt
  have h1 : (i 1).val < 50 := (i 1).isLt
  have hp : p.val < 31 := p.isLt
  have hr := colNo_lt i
  unfold sorted
  show transpose S32x200x31 [0, 2, 1] _ transposes_S32x31x200_S32x200x31_0_2_1 (Shape.reshapeEquiv _ (onAxis i p)) = _
  rw [show Shape.reshapeEquiv (shapeCasts_S32x200x31_S128x50x31 : S32x200x31.ShapeCasts S128x50x31) (onAxis i p)
      = (fun a => match a with
          | 0 => ⟨colNo i / 200, by show _ < 32; omega⟩
          | 1 => ⟨colNo i % 200, by show _ < 200; omega⟩
          | 2 => p : S32x200x31.Idx) from
    Shape.reshapeEquiv_eq_of_rowMajor _ (by
      rw [Shape.rowMajor_val_three, Shape.rowMajor_val_three]
      show (colNo i / 200 * 200 + colNo i % 200) * 31 + p.val = ((i 0).val * 50 + (i 1).val) * 31 + p.val
      unfold colNo
      omega)]
  unfold colOf
  refine congrArg A (funext fun a => Fin.ext ?_)
  match a with
  | 0 => show 0 + colNo i / 200 = colNo i / 200 % 32; omega
  | 1 => show 1 + p.val = (p.val + 1) % 32; omega
  | 2 => show 0 + colNo i % 200 = colNo i % 200 % 208; omega

/-- The two results of the sort, at one entry: the score that the entry's round takes, and its place. -/
theorem topK_at (A : S32x32x208.Idx → Ideal .f32) (i : S128x50x5.Idx) (hC : ∀ q, 1 ≤ q → q ≤ 31 → ⊥ < colOf A (colNo i) q) :
    (Host.topK S128x50x5 2 (FloatOps.cmpfTotal .gt) (sorted A) sliceFits_S128x50x31_S128x50x5).1 i
        = colOf A (colNo i) (pick (colOf A (colNo i)) (i 2).val)
    ∧ (Host.topK S128x50x5 2 (FloatOps.cmpfTotal .gt) (sorted A) sliceFits_S128x50x31_S128x50x5).2 i
        = BitVec.ofNat 32 (sel (colOf A (colNo i)) (i 2).val).val := by
  have h2 : (i 2).val < 5 := (i 2).isLt
  let k : Fin 31 := ⟨(i 2).val, by omega⟩
  let j : S128x50x31.Idx := fun a => ⟨0 + (i (a.cast rfl)).val, Nat.lt_of_lt_of_le (Nat.add_lt_add_left (i _).isLt _) (sliceFits_S128x50x31_S128x50x5.2 a)⟩
  have hj : ∀ p : Fin 31, j.along (2 : Fin 3) p = onAxis i p := fun p => funext fun a => by
    match a with
    | 0 => exact Fin.ext (Nat.zero_add _)
    | 1 => exact Fin.ext (Nat.zero_add _)
    | 2 => exact Function.update_self _ _ _
  have hk : j 2 = k := Fin.ext (Nat.zero_add _)
  have hfun : (fun p q : Fin 31 => FloatOps.cmpfTotal (F := Ideal) (φ := .f32) .gt (sorted A (j.along (2 : Fin 3) p)) (sorted A (j.along (2 : Fin 3) q)) == 1#1)
      = fun p q : Fin 31 => Ideal.cmpTotal .gt (colOf A (colNo i) (p.val + 1)) (colOf A (colNo i) (q.val + 1)) == 1#1 := by
    funext p q
    rw [hj, hj, sorted_at, sorted_at]
    rfl
  have hs : sortedFrom (fun p q : Fin 31 => FloatOps.cmpfTotal (F := Ideal) (φ := .f32) .gt (sorted A (j.along (2 : Fin 3) p)) (sorted A (j.along (2 : Fin 3) q)) == 1#1) (j 2)
      = sel (colOf A (colNo i)) (i 2).val := by
    rw [hfun, hk]
    exact sorted_sel hC k
  constructor
  · refine (congrArg (fun q : Fin 31 => sorted A (j.along (2 : Fin 3) q)) hs).trans ?_
    refine (congrArg (sorted A) (hj _)).trans ((sorted_at A i _).trans ?_)
    rw [sel_succ]
  · exact (congrArg (fun q : Fin 31 => BitVec.ofNat 32 ((j.along (2 : Fin 3) q) 2).val) hs).trans
      (congrArg (fun x : S128x50x31.Idx => BitVec.ofNat 32 (x 2).val) (hj _))

/-! ## The rounds' entries -/

/-- A result without its padding, column by column, read through the layout of the reference's. -/
theorem byColumn_at {α : Type} (f : Cert.TopKIdeal.S32x5x208.Idx → α) (h : Cert.TopKIdeal.S32x200x5.ShapeCasts S128x50x5) (i : S128x50x5.Idx) :
    shapeCast S128x50x5 (byColumn f) h i = f (fun a => match a with
      | 0 => ⟨colNo i / 200, by have := colNo_lt i; show _ < 32; omega⟩
      | 1 => i 2
      | 2 => ⟨colNo i % 200, by show _ < 208; omega⟩) := by
  have h0 : (i 0).val < 128 := (i 0).isLt
  have h1 : (i 1).val < 50 := (i 1).isLt
  have h2 : (i 2).val < 5 := (i 2).isLt
  have hr := colNo_lt i
  show byColumn f (Shape.reshapeEquiv _ i) = _
  rw [show Shape.reshapeEquiv h i
      = (fun a => match a with
          | 0 => ⟨colNo i / 200, by show _ < 32; omega⟩
          | 1 => ⟨colNo i % 200, by show _ < 200; omega⟩
          | 2 => i 2 : Cert.TopKIdeal.S32x200x5.Idx) from
    Shape.reshapeEquiv_eq_of_rowMajor _ (by
      rw [Shape.rowMajor_val_three, Shape.rowMajor_val_three]
      show (colNo i / 200 * 200 + colNo i % 200) * 5 + (i 2).val = ((i 0).val * 50 + (i 1).val) * 5 + (i 2).val
      unfold colNo
      omega)]
  unfold byColumn
  refine congrArg f (funext fun a => Fin.ext ?_)
  match a with
  | 0 => exact Nat.zero_add _
  | 1 => exact Nat.zero_add _
  | 2 => exact Nat.zero_add _

/-- What a round chooses for entry `i`. -/
theorem chosen_col (A : S32x32x208.Idx → Ideal .f32) (r k : ℕ) (hr : r < 6400) :
    (chosen (plane A (r / 200)) k (r % 200 / 16 * 16)).1 (lane (r % 200 % 16)) = col (colOf A r) k (pick (colOf A r) k)
    ∧ (chosen (plane A (r / 200)) k (r % 200 / 16 * 16)).2 (lane (r % 200 % 16)) = BitVec.ofNat 32 (pick (colOf A r) k) := by
  refine chosen_at _ _ _ _ _ fun s => ?_
  show A (at3 (r / 200) (spot s (r % 200 / 16 * 16 + r % 200 % 16 % 16))) = A (at3 (r / 200) (spot s (r % 200)))
  rw [show r % 200 / 16 * 16 + r % 200 % 16 % 16 = r % 200 by omega]

theorem sub_one (p : ℕ) (h1 : 1 ≤ p) (h2 : p ≤ 31) : BitVec.ofNat 32 p - 1#32 = BitVec.ofNat 32 (p - 1) := by
  apply BitVec.eq_of_toNat_eq
  simp only [BitVec.toNat_sub, BitVec.toNat_ofNat]
  omega

/-- The number of a row in the table, as a subcore reckons it. -/
theorem row_no (r p : ℕ) (hr : r < 6400) (h1 : 1 ≤ p) (h2 : p ≤ 31) :
    (BitVec.ofNat 32 (r / 200) * 200#32 + BitVec.ofNat 32 (r % 200 / 16 * 16) + BitVec.ofNat 32 (r % 200 % 16)) * 32#32 - 1#32 + BitVec.ofNat 32 p
      = BitVec.ofNat 32 r * 32#32 + BitVec.ofNat 32 (p - 1) := by
  apply BitVec.eq_of_toNat_eq
  simp only [BitVec.toNat_sub, BitVec.toNat_add, BitVec.toNat_mul, BitVec.toNat_ofNat]
  omega

theorem lanes_at (n : ℕ) : lanes (lane n) = BitVec.ofNat 32 (n % 16) := by
  show BitVec.ofNat 32 (0 * 16 + n % 16) = _
  rw [Nat.zero_mul, Nat.zero_add]

variable (A : S32x32x208.Idx → Ideal .f32) (hA : ∀ r, r < 6400 → ∀ q, 1 ≤ q → q ≤ 31 → ⊥ < colOf A r q)
include hA

/-- The scores are the reference's, -/
theorem tops_eq (h : Cert.TopKIdeal.S32x200x5.ShapeCasts S128x50x5) :
    shapeCast S128x50x5 (byColumn (allTops A)) h
      = (Host.topK S128x50x5 2 (FloatOps.cmpfTotal .gt) (sorted A) sliceFits_S128x50x31_S128x50x5).1 := by
  funext i
  have h2 : (i 2).val < 5 := (i 2).isLt
  rw [byColumn_at, (topK_at A i (hA _ (colNo_lt i))).1, ← col_pick (hA _ (colNo_lt i)) (show (i 2).val < 31 by omega)]
  exact (chosen_col A (colNo i) (i 2).val (colNo_lt i)).1

/-- the places are, -/
theorem kids_eq (h : Cert.TopKIdeal.S32x200x5.ShapeCasts S128x50x5) :
    shapeCast S128x50x5 (byColumn (allKids A)) h
      = (Host.topK S128x50x5 2 (FloatOps.cmpfTotal .gt) (sorted A) sliceFits_S128x50x31_S128x50x5).2 := by
  funext i
  rw [byColumn_at, (topK_at A i (hA _ (colNo_lt i))).2]
  show (chosen (plane A (colNo i / 200)) (i 2).val (colNo i % 200 / 16 * 16)).2 (lane (colNo i % 200 % 16)) - 1#32 = _
  rw [(chosen_col A (colNo i) (i 2).val (colNo_lt i)).2]
  exact sub_one _ (pick_pos _ _) (pick_le _ _)

/-- and so are the rows. -/
theorem idxs_eq (h : Cert.TopKIdeal.S32x200x5.ShapeCasts S128x50x5) :
    shapeCast S128x50x5 (byColumn (allIdxs A)) h
      = addi (broadcastInDim S128x50x5 ![0, 1, 2] bcast_S128x50x1_S128x50x5_0_1_2 (muli (broadcastInDim S128x50x1 ![0, 1] bcast_S128x50_S128x50x1_0_1
          (shapeCast S128x50 (iotaInDim S6400 32 0) shapeCasts_S6400_S128x50)) (broadcastInDim S128x50x1 ![] bcast_S_S128x50x1 (constantI S_ 32 32#32))))
        (Host.topK S128x50x5 2 (FloatOps.cmpfTotal .gt) (sorted A) sliceFits_S128x50x31_S128x50x5).2 := by
  funext i
  rw [byColumn_at]
  show (BitVec.ofNat 32 (colNo i / 200) * 200#32 + BitVec.ofNat 32 (colNo i % 200 / 16 * 16) + lanes (lane (colNo i % 200 % 16))) * 32#32 - 1#32
      + (chosen (plane A (colNo i / 200)) (i 2).val (colNo i % 200 / 16 * 16)).2 (lane (colNo i % 200 % 16))
    = (broadcastInDim S128x50x1 ![0, 1] bcast_S128x50_S128x50x1_0_1 (shapeCast S128x50 (iotaInDim S6400 32 0) shapeCasts_S6400_S128x50)
        (fun a => match a with | 0 => i 0 | 1 => i 1 | 2 => ⟨0, by decide⟩)) * 32#32
      + (Host.topK S128x50x5 2 (FloatOps.cmpfTotal .gt) (sorted A) sliceFits_S128x50x31_S128x50x5).2 i
  rw [(topK_at A i (hA _ (colNo_lt i))).2, (chosen_col A (colNo i) (i 2).val (colNo_lt i)).2, lanes_at, Nat.mod_mod]
  have hio : broadcastInDim S128x50x1 ![0, 1] bcast_S128x50_S128x50x1_0_1 (shapeCast S128x50 (iotaInDim S6400 32 0) shapeCasts_S6400_S128x50)
        (fun a => match a with | 0 => i 0 | 1 => i 1 | 2 => ⟨0, by decide⟩) = BitVec.ofNat 32 (colNo i) := by
    show iotaInDim S6400 32 0 (Shape.reshapeEquiv _ (fun a => match a with | 0 => i 0 | 1 => i 1 : S128x50.Idx)) = _
    rw [show Shape.reshapeEquiv (shapeCasts_S6400_S128x50 : S6400.ShapeCasts S128x50) (fun a => match a with | 0 => i 0 | 1 => i 1 : S128x50.Idx)
        = (fun a => match a with | 0 => ⟨colNo i, colNo_lt i⟩ : S6400.Idx) from
      Shape.reshapeEquiv_eq_of_rowMajor _ (by
        rw [Shape.rowMajor_val_one, Shape.rowMajor_val_two]
        rfl)]
    rfl
  rw [hio]
  exact row_no _ _ (colNo_lt i) (pick_pos _ _) (pick_le _ _)

omit hA in
/-- An array laid out in one step or in two. -/
theorem in_two {α : Type} (x : Cert.TopKIdeal.S32x200x5.Idx → α) (h : Cert.TopKIdeal.S32x200x5.ShapeCasts S32x1000)
    (h₁ : Cert.TopKIdeal.S32x200x5.ShapeCasts S128x50x5) (h₂ : S128x50x5.ShapeCasts S32x1000) :
    shapeCast S32x1000 x h = shapeCast S32x1000 (shapeCast S128x50x5 x h₁) h₂ := (shapeCast_comp x h₁ h₂).symm

end Cert.Proof.Five

namespace Cert.Proof.Five

open Cert.Proof.Best

open Idealize.ShloMosaic Idealize.SL.Sem
open Cert.TopKReferenceIdeal Cert.TopKReferenceIdeal.Gen

variable (m : (ℓ : Loc Cert.TopKIdeal.nD Cert.TopKIdeal.τ Cert.TopKIdeal.sig) → Buf (Elt Ideal) ℓ) (d : Dev Cert.TopKIdeal.nD)

/-- The scores at the start. -/
abbrev scoresOf : S32x32x208.Idx → Ideal .f32 := m (aLoc d)

variable (hA : ∀ r, r < 6400 → ∀ q, 1 ≤ q → q ≤ 31 → ⊥ < colOf (scoresOf m d) r q)
include hA

theorem outG_eq : outG (F := Ideal) m d
    = shapeCast S32x1000 (addi (broadcastInDim S128x50x5 ![0, 1, 2] bcast_S128x50x1_S128x50x5_0_1_2 (muli (broadcastInDim S128x50x1 ![0, 1] bcast_S128x50_S128x50x1_0_1
          (shapeCast S128x50 (iotaInDim S6400 32 0) shapeCasts_S6400_S128x50)) (broadcastInDim S128x50x1 ![] bcast_S_S128x50x1 (constantI S_ 32 32#32))))
        (Host.topK S128x50x5 2 (FloatOps.cmpfTotal .gt) (sorted (scoresOf m d)) sliceFits_S128x50x31_S128x50x5).2) shapeCasts_S128x50x5_S32x1000 := by
  rw [← idxs_eq (scoresOf m d) hA Cert.TopKIdeal.Gen.shapeCasts_S32x200x5_S128x50x5]
  exact in_two _ _ _ _

theorem outS_eq : outS (F := Ideal) m d
    = shapeCast S32x1000 (Host.topK S128x50x5 2 (FloatOps.cmpfTotal .gt) (sorted (scoresOf m d)) sliceFits_S128x50x31_S128x50x5).1 shapeCasts_S128x50x5_S32x1000 := by
  rw [← tops_eq (scoresOf m d) hA Cert.TopKIdeal.Gen.shapeCasts_S32x200x5_S128x50x5]
  exact in_two _ _ _ _

theorem outN_eq : outN (F := Ideal) m d
    = (Host.topK S128x50x5 2 (FloatOps.cmpfTotal .gt) (sorted (scoresOf m d)) sliceFits_S128x50x31_S128x50x5).2 :=
  kids_eq (scoresOf m d) hA Cert.TopKIdeal.Gen.shapeCasts_S32x200x5_S128x50x5

end Cert.Proof.Five
-- ==== Proof.lean ====
/- The whole kernel: the scores on the TensorCore, the choice of the five best of each column and the gather of their rows on the
   SparseCore, and the host's operations between them.
   * `Scores.call` (Proof/ScoresRun.lean) is the run of the first kernel over its grid.
   * `Best.tile_body` (Proof/BestTask.lean) is a subcore's share of the choice, `Gather.tile_body` (Proof/TileRun.lean, Proof/Task.lean) its
     share of the gather.
   * `Whole.run_main` (Proof/Whole.lean) is the run of the whole program, over any float values and with no precondition: it ends, its two
     results are the values computed, its arguments are as they were, and every semaphore is at zero. All the frames are read off it.
   * `ScoreValue.allScores_at` and `ScoreValue.scoresR_at` (Proof/ScoreValue.lean) say that the kernel's scores and the reference's are the
     same cosines, and `ScoreValue.score_bot` that none is minus infinity.
   * `Best.sorted_sel` (Proof/BestColumn.lean) says that repeated "take the first greatest and strike it out" is the stable sort;
     `Best.kids_eq` (Proof/BestValue.lean) that the places chosen are the reference's.
   * `Value.rows_eq` (Proof/Value.lean) says that the gathered and scaled rows are the reference's.
   And the choice of the five best alone, as a program of its own, on whatever scores it is given.
   * `Five.run_main` (Proof/FiveRun.lean) is the run of that program, over any float values and with no precondition.
   * `Five.tops_eq`, `Five.kids_eq` and `Five.idxs_eq` (Proof/FiveValue.lean) say that on scores above minus infinity its three results are
     the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_mask_of_ones
public import proofs.«01_k».proof.Proof.Gen.Pre_scores_above
public import proofs.«01_k».proof.Proof.Gen.TopK
public import proofs.«01_k».proof.Proof.Gen.TopKIdeal
public import proofs.«01_k».proof.Proof.Gen.TopKReferenceIdeal
public import proofs.«01_k».proof.Proof.Gen.TopKReferenceIdeal.Run
public import proofs.«01_k».proof.Proof.Whole
public import proofs.«01_k».proof.Proof.Value
public import proofs.«01_k».proof.Proof.FiveValue

@[expose] public section

noncomputable section

namespace Cert.Proof

open Idealize.ShloMosaic Idealize.SL.Sem

/-- The two printed programs have the same bodies, -/
theorem bodies_eq : Cert.Kernel.defs₀ (F := Bits) = Cert.KernelIdeal.defs₀ (F := Bits) := by
  funext p l a
  rcases p with _ | c | ⟨c, s⟩ <;> rcases l with ⟨_ | _ | _ | l, h⟩ <;> rfl

/-- and so the same table of them. -/
theorem defs_eq : Cert.Kernel.defs (F := Bits) = Cert.KernelIdeal.defs (F := Bits) :=
  congrArg (fun d => (Cert.Kernel.sc (F := Bits)).defs (Pipeline.defs (Cert.Kernel.pcfgs (F := Bits)) d)) bodies_eq

/-- The kernel over floats as words runs to its end, its arguments unchanged and every semaphore at zero. -/
theorem frame_kernel : Cert.quiescent_Kernel := fun m ρ _ => by
  rw [defs_eq]
  exact (θ_run Cert.KernelIdeal.defs Cert.KernelIdeal.threads _).mono (fun _ h => ⟨fun c => (h.1 c).2.2, h.2⟩) (Whole.run_main (F := Bits) m ρ)

/-- The same of the kernel over the extended reals, -/
theorem frame_ideal : Cert.quiescent_KernelIdeal := fun m ρ _ =>
  (θ_run Cert.KernelIdeal.defs _ _).mono (fun _ h => ⟨fun c => (h.1 c).2.2, h.2⟩) (Whole.run_main (F := Ideal) m ρ)

/-- and so under a mask of ones. -/
theorem frame_ideal_ones : Cert.quiescent_KernelIdeal_pre_mask_of_ones := fun m ρ _ =>
  (θ_run Cert.KernelIdeal.defs _ _).mono (fun _ h => ⟨fun c => (h.1 c).2.2, h.2⟩) (Whole.run_main (F := Ideal) m ρ)

/-- The reference runs to its end with its arguments unchanged; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_ones : Cert.quiescent_ReferenceIdeal_pre_mask_of_ones := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Under a mask of ones the kernel and the reference end at the same two results. -/
theorem value : Cert.algebraic_KernelIdeal_ReferenceIdeal_pre_mask_of_ones := fun m g m' g' hpre heq => by
  refine ⟨Whole.out (F := Ideal) m, fun c => Best.outN (Whole.scores (F := Ideal) m c),
    (θ_run Cert.KernelIdeal.defs _ _).mono (fun _ h c => h.1 c) (Whole.run_main (F := Ideal) m g), ?_⟩
  refine (θ_run Cert.ReferenceIdeal.defs _ _).mono (fun r h c => ⟨(h c).1.trans ?_, (h c).2.1.trans ?_, (h c).2.2⟩)
    (Cert.ReferenceIdeal.Value.run (F := Ideal) m' g')
  · exact Value.result_rows m m' c (heq c) (Value.mask_ok (hpre c))
  · exact Value.result_places m m' c (heq c) (Value.mask_ok (hpre c))

/-- The choice of the best five over floats as words runs to its end, its argument unchanged and every semaphore at zero. -/
theorem frame_topk : Cert.quiescent_TopK := fun m ρ _ =>
  (θ_run Cert.TopKIdeal.defs _ _).mono (fun _ h => ⟨fun c => (h.1 c).2.2.2, h.2⟩) (Five.run_main (F := Bits) m ρ)

/-- The same over the extended reals, -/
theorem frame_topk_ideal : Cert.quiescent_TopKIdeal := fun m ρ _ =>
  (θ_run Cert.TopKIdeal.defs _ _).mono (fun _ h => ⟨fun c => (h.1 c).2.2.2, h.2⟩) (Five.run_main (F := Ideal) m ρ)

/-- and so on scores above minus infinity. -/
theorem frame_topk_above : Cert.quiescent_TopKIdeal_pre_scores_above := fun m ρ _ =>
  (θ_run Cert.TopKIdeal.defs _ _).mono (fun _ h => ⟨fun c => (h.1 c).2.2.2, h.2⟩) (Five.run_main (F := Ideal) m ρ)

/-- Its reference runs to its end with its argument unchanged; it has no semaphore. -/
theorem frame_sort : Cert.quiescent_TopKReferenceIdeal := fun m ρ _ =>
  (θ_run Cert.TopKReferenceIdeal.defs _ _).mono (fun r h => ⟨fun c => (h c).2.2.2, sem_eq_zero_of_no_sems (by decide) r.2⟩)
    (Cert.TopKReferenceIdeal.Value.run (F := Ideal) m ρ)

theorem frame_sort_above : Cert.quiescent_TopKReferenceIdeal_pre_scores_above := fun m ρ _ =>
  (θ_run Cert.TopKReferenceIdeal.defs _ _).mono (fun r h => ⟨fun c => (h c).2.2.2, sem_eq_zero_of_no_sems (by decide) r.2⟩)
    (Cert.TopKReferenceIdeal.Value.run (F := Ideal) m ρ)

/-- On scores above minus infinity the choice of the best five and its reference end at the same three results. -/
theorem value_topk : Cert.algebraic_TopKIdeal_TopKReferenceIdeal_pre_scores_above := fun m g m' g' hpre heq => by
  refine ⟨Five.outG (F := Ideal) m, Five.outS (F := Ideal) m, Five.outN (F := Ideal) m,
    (θ_run Cert.TopKIdeal.defs _ _).mono (fun _ h c => h.1 c) (Five.run_main (F := Ideal) m g), ?_⟩
  refine (θ_run Cert.TopKReferenceIdeal.defs _ _).mono (fun r h c =>
    ⟨(h c).1.trans ?_, (h c).2.1.trans ?_, (h c).2.2.1.trans ?_, (h c).2.2.2⟩) (Cert.TopKReferenceIdeal.Value.run (F := Ideal) m' g')
  · rw [heq c]
    exact (Five.outG_eq m c fun r hr => Five.scores_ok (hpre c) r hr).symm
  · rw [heq c]
    exact (Five.outS_eq m c fun r hr => Five.scores_ok (hpre c) r hr).symm
  · rw [heq c]
    exact (Five.outN_eq m c fun r hr => Five.scores_ok (hpre c) r hr).symm

theorem claim : Cert.Claim :=
  ⟨Cert.Kernel.Gen.facts, Cert.KernelIdeal.Gen.facts, Cert.ReferenceIdeal.Gen.facts, Cert.TopK.Gen.facts, Cert.TopKIdeal.Gen.facts,
    Cert.TopKReferenceIdeal.Gen.facts, Cert.Pre_mask_of_ones.Gen.facts, Cert.Pre_scores_above.Gen.facts,
    frame_kernel, frame_ideal, frame_ideal_ones, frame_reference, frame_reference_ones,
    frame_topk, frame_topk_ideal, frame_topk_above, frame_sort, frame_sort_above, trivial, value, trivial, value_topk⟩

end Cert.Proof

end
